-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Dwin3 (m : (ℓ : Loc Cert.Dwin3.nD Cert.Dwin3.τ Cert.Dwin3.sig) → Buf (Elt Bits) ℓ) : Prop :=
  True

def Pre_Dwin3Ideal (m : (ℓ : Loc Cert.Dwin3Ideal.nD Cert.Dwin3Ideal.τ Cert.Dwin3Ideal.sig) → Buf (Elt Ideal) ℓ) : Prop :=
  True

def Pre_Dwin3RefIdeal (m : (ℓ : Loc Cert.Dwin3RefIdeal.nD Cert.Dwin3RefIdeal.τ Cert.Dwin3RefIdeal.sig) → Buf (Elt Ideal) ℓ) : Prop :=
  True

def Pre_Dwin1 (m : (ℓ : Loc Cert.Dwin1.nD Cert.Dwin1.τ Cert.Dwin1.sig) → Buf (Elt Bits) ℓ) : Prop :=
  True

def Pre_Dwin1Ideal (m : (ℓ : Loc Cert.Dwin1Ideal.nD Cert.Dwin1Ideal.τ Cert.Dwin1Ideal.sig) → Buf (Elt Ideal) ℓ) : Prop :=
  True

def Pre_Dwin1RefIdeal (m : (ℓ : Loc Cert.Dwin1RefIdeal.nD Cert.Dwin1RefIdeal.τ Cert.Dwin1RefIdeal.sig) → Buf (Elt Ideal) ℓ) : Prop :=
  True

def Pre_Dwin0 (m : (ℓ : Loc Cert.Dwin0.nD Cert.Dwin0.τ Cert.Dwin0.sig) → Buf (Elt Bits) ℓ) : Prop :=
  True

def Pre_Dwin0Ideal (m : (ℓ : Loc Cert.Dwin0Ideal.nD Cert.Dwin0Ideal.τ Cert.Dwin0Ideal.sig) → Buf (Elt Ideal) ℓ) : Prop :=
  True

def Pre_Dwin0RefIdeal (m : (ℓ : Loc Cert.Dwin0RefIdeal.nD Cert.Dwin0RefIdeal.τ Cert.Dwin0RefIdeal.sig) → Buf (Elt Ideal) ℓ) : Prop :=
  True

def Pre_Dwin2 (m : (ℓ : Loc Cert.Dwin2.nD Cert.Dwin2.τ Cert.Dwin2.sig) → Buf (Elt Bits) ℓ) : Prop :=
  True

def Pre_Dwin2Ideal (m : (ℓ : Loc Cert.Dwin2Ideal.nD Cert.Dwin2Ideal.τ Cert.Dwin2Ideal.sig) → Buf (Elt Ideal) ℓ) : Prop :=
  True

def Pre_Dwin2RefIdeal (m : (ℓ : Loc Cert.Dwin2RefIdeal.nD Cert.Dwin2RefIdeal.τ Cert.Dwin2RefIdeal.sig) → Buf (Elt Ideal) ℓ) : Prop :=
  True

def Pre_Dh3 (m : (ℓ : Loc Cert.Dh3.nD Cert.Dh3.τ Cert.Dh3.sig) → Buf (Elt Bits) ℓ) : Prop :=
  True

def Pre_Dh3Ideal (m : (ℓ : Loc Cert.Dh3Ideal.nD Cert.Dh3Ideal.τ Cert.Dh3Ideal.sig) → Buf (Elt Ideal) ℓ) : Prop :=
  True

def Pre_Dh3RefIdeal (m : (ℓ : Loc Cert.Dh3RefIdeal.nD Cert.Dh3RefIdeal.τ Cert.Dh3RefIdeal.sig) → Buf (Elt Ideal) ℓ) : Prop :=
  True

def Pre_Dh1 (m : (ℓ : Loc Cert.Dh1.nD Cert.Dh1.τ Cert.Dh1.sig) → Buf (Elt Bits) ℓ) : Prop :=
  True

def Pre_Dh1Ideal (m : (ℓ : Loc Cert.Dh1Ideal.nD Cert.Dh1Ideal.τ Cert.Dh1Ideal.sig) → Buf (Elt Ideal) ℓ) : Prop :=
  True

def Pre_Dh1RefIdeal (m : (ℓ : Loc Cert.Dh1RefIdeal.nD Cert.Dh1RefIdeal.τ Cert.Dh1RefIdeal.sig) → Buf (Elt Ideal) ℓ) : Prop :=
  True

def Pre_Dh0 (m : (ℓ : Loc Cert.Dh0.nD Cert.Dh0.τ Cert.Dh0.sig) → Buf (Elt Bits) ℓ) : Prop :=
  True

def Pre_Dh0Ideal (m : (ℓ : Loc Cert.Dh0Ideal.nD Cert.Dh0Ideal.τ Cert.Dh0Ideal.sig) → Buf (Elt Ideal) ℓ) : Prop :=
  True

def Pre_Dh0RefIdeal (m : (ℓ : Loc Cert.Dh0RefIdeal.nD Cert.Dh0RefIdeal.τ Cert.Dh0RefIdeal.sig) → Buf (Elt Ideal) ℓ) : Prop :=
  True

def Pre_Dh2 (m : (ℓ : Loc Cert.Dh2.nD Cert.Dh2.τ Cert.Dh2.sig) → Buf (Elt Bits) ℓ) : Prop :=
  True

def Pre_Dh2Ideal (m : (ℓ : Loc Cert.Dh2Ideal.nD Cert.Dh2Ideal.τ Cert.Dh2Ideal.sig) → Buf (Elt Ideal) ℓ) : Prop :=
  True

def Pre_Dh2RefIdeal (m : (ℓ : Loc Cert.Dh2RefIdeal.nD Cert.Dh2RefIdeal.τ Cert.Dh2RefIdeal.sig) → Buf (Elt Ideal) ℓ) : Prop :=
  True

def Pre_Proj3 (m : (ℓ : Loc Cert.Proj3.nD Cert.Proj3.τ Cert.Proj3.sig) → Buf (Elt Bits) ℓ) : Prop :=
  True

def Pre_Proj3Ideal (m : (ℓ : Loc Cert.Proj3Ideal.nD Cert.Proj3Ideal.τ Cert.Proj3Ideal.sig) → Buf (Elt Ideal) ℓ) : Prop :=
  True

def Pre_Proj3RefIdeal (m : (ℓ : Loc Cert.Proj3RefIdeal.nD Cert.Proj3RefIdeal.τ Cert.Proj3RefIdeal.sig) → Buf (Elt Ideal) ℓ) : Prop :=
  True

def Pre_Proj1 (m : (ℓ : Loc Cert.Proj1.nD Cert.Proj1.τ Cert.Proj1.sig) → Buf (Elt Bits) ℓ) : Prop :=
  True

def Pre_Proj1Ideal (m : (ℓ : Loc Cert.Proj1Ideal.nD Cert.Proj1Ideal.τ Cert.Proj1Ideal.sig) → Buf (Elt Ideal) ℓ) : Prop :=
  True

def Pre_Proj1RefIdeal (m : (ℓ : Loc Cert.Proj1RefIdeal.nD Cert.Proj1RefIdeal.τ Cert.Proj1RefIdeal.sig) → Buf (Elt Ideal) ℓ) : Prop :=
  True

def Pre_Proj0 (m : (ℓ : Loc Cert.Proj0.nD Cert.Proj0.τ Cert.Proj0.sig) → Buf (Elt Bits) ℓ) : Prop :=
  True

def Pre_Proj0Ideal (m : (ℓ : Loc Cert.Proj0Ideal.nD Cert.Proj0Ideal.τ Cert.Proj0Ideal.sig) → Buf (Elt Ideal) ℓ) : Prop :=
  True

def Pre_Proj0RefIdeal (m : (ℓ : Loc Cert.Proj0RefIdeal.nD Cert.Proj0RefIdeal.τ Cert.Proj0RefIdeal.sig) → Buf (Elt Ideal) ℓ) : Prop :=
  True

def Pre_Proj2 (m : (ℓ : Loc Cert.Proj2.nD Cert.Proj2.τ Cert.Proj2.sig) → Buf (Elt Bits) ℓ) : Prop :=
  True

def Pre_Proj2Ideal (m : (ℓ : Loc Cert.Proj2Ideal.nD Cert.Proj2Ideal.τ Cert.Proj2Ideal.sig) → Buf (Elt Ideal) ℓ) : Prop :=
  True

def Pre_Proj2RefIdeal (m : (ℓ : Loc Cert.Proj2RefIdeal.nD Cert.Proj2RefIdeal.τ Cert.Proj2RefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_GateFwd (m : (ℓ : Loc Cert.GateFwd.nD Cert.GateFwd.τ Cert.GateFwd.sig) → Buf (Elt Bits) ℓ) : Prop :=
  True

def Pre_GateFwdIdeal (m : (ℓ : Loc Cert.GateFwdIdeal.nD Cert.GateFwdIdeal.τ Cert.GateFwdIdeal.sig) → Buf (Elt Ideal) ℓ) : Prop :=
  True

def Pre_GateFwdRefIdeal (m : (ℓ : Loc Cert.GateFwdRefIdeal.nD Cert.GateFwdRefIdeal.τ Cert.GateFwdRefIdeal.sig) → Buf (Elt Ideal) ℓ) : Prop :=
  True

def Pre_PostBwd (m : (ℓ : Loc Cert.PostBwd.nD Cert.PostBwd.τ Cert.PostBwd.sig) → Buf (Elt Bits) ℓ) : Prop :=
  True

def Pre_PostBwdIdeal (m : (ℓ : Loc Cert.PostBwdIdeal.nD Cert.PostBwdIdeal.τ Cert.PostBwdIdeal.sig) → Buf (Elt Ideal) ℓ) : Prop :=
  True

def Pre_PostBwdRefIdeal (m : (ℓ : Loc Cert.PostBwdRefIdeal.nD Cert.PostBwdRefIdeal.τ Cert.PostBwdRefIdeal.sig) → Buf (Elt Ideal) ℓ) : Prop :=
  True

def Pre_PostFwd (m : (ℓ : Loc Cert.PostFwd.nD Cert.PostFwd.τ Cert.PostFwd.sig) → Buf (Elt Bits) ℓ) : Prop :=
  True

def Pre_PostFwdIdeal (m : (ℓ : Loc Cert.PostFwdIdeal.nD Cert.PostFwdIdeal.τ Cert.PostFwdIdeal.sig) → Buf (Elt Ideal) ℓ) : Prop :=
  True

def Pre_PostFwdRefIdeal (m : (ℓ : Loc Cert.PostFwdRefIdeal.nD Cert.PostFwdRefIdeal.τ Cert.PostFwdRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamBranch (m : (ℓ : Loc Cert.AdamBranch.nD Cert.AdamBranch.τ Cert.AdamBranch.sig) → Buf (Elt Bits) ℓ) : Prop :=
  True

def Pre_AdamBranchIdeal (m : (ℓ : Loc Cert.AdamBranchIdeal.nD Cert.AdamBranchIdeal.τ Cert.AdamBranchIdeal.sig) → Buf (Elt Ideal) ℓ) : Prop :=
  True

def Pre_AdamBranchRefIdeal (m : (ℓ : Loc Cert.AdamBranchRefIdeal.nD Cert.AdamBranchRefIdeal.τ Cert.AdamBranchRefIdeal.sig) → Buf (Elt Ideal) ℓ) : Prop :=
  True

def Pre_AdamKv (m : (ℓ : Loc Cert.AdamKv.nD Cert.AdamKv.τ Cert.AdamKv.sig) → Buf (Elt Bits) ℓ) : Prop :=
  True

def Pre_AdamKvIdeal (m : (ℓ : Loc Cert.AdamKvIdeal.nD Cert.AdamKvIdeal.τ Cert.AdamKvIdeal.sig) → Buf (Elt Ideal) ℓ) : Prop :=
  True

def Pre_AdamKvRefIdeal (m : (ℓ : Loc Cert.AdamKvRefIdeal.nD Cert.AdamKvRefIdeal.τ Cert.AdamKvRefIdeal.sig) → Buf (Elt Ideal) ℓ) : Prop :=
  True

def Pre_AdamGlu (m : (ℓ : Loc Cert.AdamGlu.nD Cert.AdamGlu.τ Cert.AdamGlu.sig) → Buf (Elt Bits) ℓ) : Prop :=
  True

def Pre_AdamGluIdeal (m : (ℓ : Loc Cert.AdamGluIdeal.nD Cert.AdamGluIdeal.τ Cert.AdamGluIdeal.sig) → Buf (Elt Ideal) ℓ) : Prop :=
  True

def Pre_AdamGluRefIdeal (m : (ℓ : Loc Cert.AdamGluRefIdeal.nD Cert.AdamGluRefIdeal.τ Cert.AdamGluRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Dwin3 [hDwin3 : Cert.Dwin3.Facts] : Prop :=
  ∀ (m : (ℓ : Loc Cert.Dwin3.nD Cert.Dwin3.τ Cert.Dwin3.sig) → Buf (Elt Bits) ℓ) (g : Dev Cert.Dwin3.nD → PrngReg), Pre_Dwin3 m →
    θ_run (Cert.Dwin3.defs (F := Bits)) (onTc (τ := Cert.Dwin3.τ) (Cert.Dwin3.main (F := Bits))) ⟨m, fun _ => 0, g⟩ (fun r => (∀ c : Dev Cert.Dwin3.nD,
      r.2.mem ((c.tc : Thread Cert.Dwin3.nD Cert.Dwin3.τ).loc Cert.Dwin3.main_arg0) = m ((c.tc : Thread Cert.Dwin3.nD Cert.Dwin3.τ).loc Cert.Dwin3.main_arg0)
      ∧ r.2.mem ((c.tc : Thread Cert.Dwin3.nD Cert.Dwin3.τ).loc Cert.Dwin3.main_arg1) = m ((c.tc : Thread Cert.Dwin3.nD Cert.Dwin3.τ).loc Cert.Dwin3.main_arg1))
      ∧ r.2.sem = fun _ => 0)

def quiescent_Dwin3Ideal [hDwin3Ideal : Cert.Dwin3Ideal.Facts] : Prop :=
  ∀ (m : (ℓ : Loc Cert.Dwin3Ideal.nD Cert.Dwin3Ideal.τ Cert.Dwin3Ideal.sig) → Buf (Elt Ideal) ℓ) (g : Dev Cert.Dwin3Ideal.nD → PrngReg), Pre_Dwin3Ideal m →
    θ_run (Cert.Dwin3Ideal.defs (F := Ideal)) (onTc (τ := Cert.Dwin3Ideal.τ) (Cert.Dwin3Ideal.main (F := Ideal))) ⟨m, fun _ => 0, g⟩ (fun r => (∀ c : Dev Cert.Dwin3Ideal.nD,
      r.2.mem ((c.tc : Thread Cert.Dwin3Ideal.nD Cert.Dwin3Ideal.τ).loc Cert.Dwin3Ideal.main_arg0) = m ((c.tc : Thread Cert.Dwin3Ideal.nD Cert.Dwin3Ideal.τ).loc Cert.Dwin3Ideal.main_arg0)
      ∧ r.2.mem ((c.tc : Thread Cert.Dwin3Ideal.nD Cert.Dwin3Ideal.τ).loc Cert.Dwin3Ideal.main_arg1) = m ((c.tc : Thread Cert.Dwin3Ideal.nD Cert.Dwin3Ideal.τ).loc Cert.Dwin3Ideal.main_arg1))
      ∧ r.2.sem = fun _ => 0)

def quiescent_Dwin3RefIdeal [hDwin3RefIdeal : Cert.Dwin3RefIdeal.Facts] : Prop :=
  ∀ (m : (ℓ : Loc Cert.Dwin3RefIdeal.nD Cert.Dwin3RefIdeal.τ Cert.Dwin3RefIdeal.sig) → Buf (Elt Ideal) ℓ) (g : Dev Cert.Dwin3RefIdeal.nD → PrngReg), Pre_Dwin3RefIdeal m →
    θ_run (Cert.Dwin3RefIdeal.defs (F := Ideal)) (onTc (τ := Cert.Dwin3RefIdeal.τ) (Cert.Dwin3RefIdeal.main (F := Ideal))) ⟨m, fun _ => 0, g⟩ (fun r => (∀ c : Dev Cert.Dwin3RefIdeal.nD,
      r.2.mem ((c.tc : Thread Cert.Dwin3RefIdeal.nD Cert.Dwin3RefIdeal.τ).loc Cert.Dwin3RefIdeal.main_arg0) = m ((c.tc : Thread Cert.Dwin3RefIdeal.nD Cert.Dwin3RefIdeal.τ).loc Cert.Dwin3RefIdeal.main_arg0)
      ∧ r.2.mem ((c.tc : Thread Cert.Dwin3RefIdeal.nD Cert.Dwin3RefIdeal.τ).loc Cert.Dwin3RefIdeal.main_arg1) = m ((c.tc : Thread Cert.Dwin3RefIdeal.nD Cert.Dwin3RefIdeal.τ).loc Cert.Dwin3RefIdeal.main_arg1))
      ∧ r.2.sem = fun _ => 0)

def quiescent_Dwin1 [hDwin1 : Cert.Dwin1.Facts] : Prop :=
  ∀ (m : (ℓ : Loc Cert.Dwin1.nD Cert.Dwin1.τ Cert.Dwin1.sig) → Buf (Elt Bits) ℓ) (g : Dev Cert.Dwin1.nD → PrngReg), Pre_Dwin1 m →
    θ_run (Cert.Dwin1.defs (F := Bits)) (onTc (τ := Cert.Dwin1.τ) (Cert.Dwin1.main (F := Bits))) ⟨m, fun _ => 0, g⟩ (fun r => (∀ c : Dev Cert.Dwin1.nD,
      r.2.mem ((c.tc : Thread Cert.Dwin1.nD Cert.Dwin1.τ).loc Cert.Dwin1.main_arg0) = m ((c.tc : Thread Cert.Dwin1.nD Cert.Dwin1.τ).loc Cert.Dwin1.main_arg0)
      ∧ r.2.mem ((c.tc : Thread Cert.Dwin1.nD Cert.Dwin1.τ).loc Cert.Dwin1.main_arg1) = m ((c.tc : Thread Cert.Dwin1.nD Cert.Dwin1.τ).loc Cert.Dwin1.main_arg1))
      ∧ r.2.sem = fun _ => 0)

def quiescent_Dwin1Ideal [hDwin1Ideal : Cert.Dwin1Ideal.Facts] : Prop :=
  ∀ (m : (ℓ : Loc Cert.Dwin1Ideal.nD Cert.Dwin1Ideal.τ Cert.Dwin1Ideal.sig) → Buf (Elt Ideal) ℓ) (g : Dev Cert.Dwin1Ideal.nD → PrngReg), Pre_Dwin1Ideal m →
    θ_run (Cert.Dwin1Ideal.defs (F := Ideal)) (onTc (τ := Cert.Dwin1Ideal.τ) (Cert.Dwin1Ideal.main (F := Ideal))) ⟨m, fun _ => 0, g⟩ (fun r => (∀ c : Dev Cert.Dwin1Ideal.nD,
      r.2.mem ((c.tc : Thread Cert.Dwin1Ideal.nD Cert.Dwin1Ideal.τ).loc Cert.Dwin1Ideal.main_arg0) = m ((c.tc : Thread Cert.Dwin1Ideal.nD Cert.Dwin1Ideal.τ).loc Cert.Dwin1Ideal.main_arg0)
      ∧ r.2.mem ((c.tc : Thread Cert.Dwin1Ideal.nD Cert.Dwin1Ideal.τ).loc Cert.Dwin1Ideal.main_arg1) = m ((c.tc : Thread Cert.Dwin1Ideal.nD Cert.Dwin1Ideal.τ).loc Cert.Dwin1Ideal.main_arg1))
      ∧ r.2.sem = fun _ => 0)

def quiescent_Dwin1RefIdeal [hDwin1RefIdeal : Cert.Dwin1RefIdeal.Facts] : Prop :=
  ∀ (m : (ℓ : Loc Cert.Dwin1RefIdeal.nD Cert.Dwin1RefIdeal.τ Cert.Dwin1RefIdeal.sig) → Buf (Elt Ideal) ℓ) (g : Dev Cert.Dwin1RefIdeal.nD → PrngReg), Pre_Dwin1RefIdeal m →
    θ_run (Cert.Dwin1RefIdeal.defs (F := Ideal)) (onTc (τ := Cert.Dwin1RefIdeal.τ) (Cert.Dwin1RefIdeal.main (F := Ideal))) ⟨m, fun _ => 0, g⟩ (fun r => (∀ c : Dev Cert.Dwin1RefIdeal.nD,
      r.2.mem ((c.tc : Thread Cert.Dwin1RefIdeal.nD Cert.Dwin1RefIdeal.τ).loc Cert.Dwin1RefIdeal.main_arg0) = m ((c.tc : Thread Cert.Dwin1RefIdeal.nD Cert.Dwin1RefIdeal.τ).loc Cert.Dwin1RefIdeal.main_arg0)
      ∧ r.2.mem ((c.tc : Thread Cert.Dwin1RefIdeal.nD Cert.Dwin1RefIdeal.τ).loc Cert.Dwin1RefIdeal.main_arg1) = m ((c.tc : Thread Cert.Dwin1RefIdeal.nD Cert.Dwin1RefIdeal.τ).loc Cert.Dwin1RefIdeal.main_arg1))
      ∧ r.2.sem = fun _ => 0)

def quiescent_Dwin0 [hDwin0 : Cert.Dwin0.Facts] : Prop :=
  ∀ (m : (ℓ : Loc Cert.Dwin0.nD Cert.Dwin0.τ Cert.Dwin0.sig) → Buf (Elt Bits) ℓ) (g : Dev Cert.Dwin0.nD → PrngReg), Pre_Dwin0 m →
    θ_run (Cert.Dwin0.defs (F := Bits)) (onTc (τ := Cert.Dwin0.τ) (Cert.Dwin0.main (F := Bits))) ⟨m, fun _ => 0, g⟩ (fun r => (∀ c : Dev Cert.Dwin0.nD,
      r.2.mem ((c.tc : Thread Cert.Dwin0.nD Cert.Dwin0.τ).loc Cert.Dwin0.main_arg0) = m ((c.tc : Thread Cert.Dwin0.nD Cert.Dwin0.τ).loc Cert.Dwin0.main_arg0)
      ∧ r.2.mem ((c.tc : Thread Cert.Dwin0.nD Cert.Dwin0.τ).loc Cert.Dwin0.main_arg1) = m ((c.tc : Thread Cert.Dwin0.nD Cert.Dwin0.τ).loc Cert.Dwin0.main_arg1))
      ∧ r.2.sem = fun _ => 0)

def quiescent_Dwin0Ideal [hDwin0Ideal : Cert.Dwin0Ideal.Facts] : Prop :=
  ∀ (m : (ℓ : Loc Cert.Dwin0Ideal.nD Cert.Dwin0Ideal.τ Cert.Dwin0Ideal.sig) → Buf (Elt Ideal) ℓ) (g : Dev Cert.Dwin0Ideal.nD → PrngReg), Pre_Dwin0Ideal m →
    θ_run (Cert.Dwin0Ideal.defs (F := Ideal)) (onTc (τ := Cert.Dwin0Ideal.τ) (Cert.Dwin0Ideal.main (F := Ideal))) ⟨m, fun _ => 0, g⟩ (fun r => (∀ c : Dev Cert.Dwin0Ideal.nD,
      r.2.mem ((c.tc : Thread Cert.Dwin0Ideal.nD Cert.Dwin0Ideal.τ).loc Cert.Dwin0Ideal.main_arg0) = m ((c.tc : Thread Cert.Dwin0Ideal.nD Cert.Dwin0Ideal.τ).loc Cert.Dwin0Ideal.main_arg0)
      ∧ r.2.mem ((c.tc : Thread Cert.Dwin0Ideal.nD Cert.Dwin0Ideal.τ).loc Cert.Dwin0Ideal.main_arg1) = m ((c.tc : Thread Cert.Dwin0Ideal.nD Cert.Dwin0Ideal.τ).loc Cert.Dwin0Ideal.main_arg1))
      ∧ r.2.sem = fun _ => 0)

def quiescent_Dwin0RefIdeal [hDwin0RefIdeal : Cert.Dwin0RefIdeal.Facts] : Prop :=
  ∀ (m : (ℓ : Loc Cert.Dwin0RefIdeal.nD Cert.Dwin0RefIdeal.τ Cert.Dwin0RefIdeal.sig) → Buf (Elt Ideal) ℓ) (g : Dev Cert.Dwin0RefIdeal.nD → PrngReg), Pre_Dwin0RefIdeal m →
    θ_run (Cert.Dwin0RefIdeal.defs (F := Ideal)) (onTc (τ := Cert.Dwin0RefIdeal.τ) (Cert.Dwin0RefIdeal.main (F := Ideal))) ⟨m, fun _ => 0, g⟩ (fun r => (∀ c : Dev Cert.Dwin0RefIdeal.nD,
      r.2.mem ((c.tc : Thread Cert.Dwin0RefIdeal.nD Cert.Dwin0RefIdeal.τ).loc Cert.Dwin0RefIdeal.main_arg0) = m ((c.tc : Thread Cert.Dwin0RefIdeal.nD Cert.Dwin0RefIdeal.τ).loc Cert.Dwin0RefIdeal.main_arg0)
      ∧ r.2.mem ((c.tc : Thread Cert.Dwin0RefIdeal.nD Cert.Dwin0RefIdeal.τ).loc Cert.Dwin0RefIdeal.main_arg1) = m ((c.tc : Thread Cert.Dwin0RefIdeal.nD Cert.Dwin0RefIdeal.τ).loc Cert.Dwin0RefIdeal.main_arg1))
      ∧ r.2.sem = fun _ => 0)

def quiescent_Dwin2 [hDwin2 : Cert.Dwin2.Facts] : Prop :=
  ∀ (m : (ℓ : Loc Cert.Dwin2.nD Cert.Dwin2.τ Cert.Dwin2.sig) → Buf (Elt Bits) ℓ) (g : Dev Cert.Dwin2.nD → PrngReg), Pre_Dwin2 m →
    θ_run (Cert.Dwin2.defs (F := Bits)) (onTc (τ := Cert.Dwin2.τ) (Cert.Dwin2.main (F := Bits))) ⟨m, fun _ => 0, g⟩ (fun r => (∀ c : Dev Cert.Dwin2.nD,
      r.2.mem ((c.tc : Thread Cert.Dwin2.nD Cert.Dwin2.τ).loc Cert.Dwin2.main_arg0) = m ((c.tc : Thread Cert.Dwin2.nD Cert.Dwin2.τ).loc Cert.Dwin2.main_arg0)
      ∧ r.2.mem ((c.tc : Thread Cert.Dwin2.nD Cert.Dwin2.τ).loc Cert.Dwin2.main_arg1) = m ((c.tc : Thread Cert.Dwin2.nD Cert.Dwin2.τ).loc Cert.Dwin2.main_arg1))
      ∧ r.2.sem = fun _ => 0)

def quiescent_Dwin2Ideal [hDwin2Ideal : Cert.Dwin2Ideal.Facts] : Prop :=
  ∀ (m : (ℓ : Loc Cert.Dwin2Ideal.nD Cert.Dwin2Ideal.τ Cert.Dwin2Ideal.sig) → Buf (Elt Ideal) ℓ) (g : Dev Cert.Dwin2Ideal.nD → PrngReg), Pre_Dwin2Ideal m →
    θ_run (Cert.Dwin2Ideal.defs (F := Ideal)) (onTc (τ := Cert.Dwin2Ideal.τ) (Cert.Dwin2Ideal.main (F := Ideal))) ⟨m, fun _ => 0, g⟩ (fun r => (∀ c : Dev Cert.Dwin2Ideal.nD,
      r.2.mem ((c.tc : Thread Cert.Dwin2Ideal.nD Cert.Dwin2Ideal.τ).loc Cert.Dwin2Ideal.main_arg0) = m ((c.tc : Thread Cert.Dwin2Ideal.nD Cert.Dwin2Ideal.τ).loc Cert.Dwin2Ideal.main_arg0)
      ∧ r.2.mem ((c.tc : Thread Cert.Dwin2Ideal.nD Cert.Dwin2Ideal.τ).loc Cert.Dwin2Ideal.main_arg1) = m ((c.tc : Thread Cert.Dwin2Ideal.nD Cert.Dwin2Ideal.τ).loc Cert.Dwin2Ideal.main_arg1))
      ∧ r.2.sem = fun _ => 0)

def quiescent_Dwin2RefIdeal [hDwin2RefIdeal : Cert.Dwin2RefIdeal.Facts] : Prop :=
  ∀ (m : (ℓ : Loc Cert.Dwin2RefIdeal.nD Cert.Dwin2RefIdeal.τ Cert.Dwin2RefIdeal.sig) → Buf (Elt Ideal) ℓ) (g : Dev Cert.Dwin2RefIdeal.nD → PrngReg), Pre_Dwin2RefIdeal m →
    θ_run (Cert.Dwin2RefIdeal.defs (F := Ideal)) (onTc (τ := Cert.Dwin2RefIdeal.τ) (Cert.Dwin2RefIdeal.main (F := Ideal))) ⟨m, fun _ => 0, g⟩ (fun r => (∀ c : Dev Cert.Dwin2RefIdeal.nD,
      r.2.mem ((c.tc : Thread Cert.Dwin2RefIdeal.nD Cert.Dwin2RefIdeal.τ).loc Cert.Dwin2RefIdeal.main_arg0) = m ((c.tc : Thread Cert.Dwin2RefIdeal.nD Cert.Dwin2RefIdeal.τ).loc Cert.Dwin2RefIdeal.main_arg0)
      ∧ r.2.mem ((c.tc : Thread Cert.Dwin2RefIdeal.nD Cert.Dwin2RefIdeal.τ).loc Cert.Dwin2RefIdeal.main_arg1) = m ((c.tc : Thread Cert.Dwin2RefIdeal.nD Cert.Dwin2RefIdeal.τ).loc Cert.Dwin2RefIdeal.main_arg1))
      ∧ r.2.sem = fun _ => 0)

def quiescent_Dh3 [hDh3 : Cert.Dh3.Facts] : Prop :=
  ∀ (m : (ℓ : Loc Cert.Dh3.nD Cert.Dh3.τ Cert.Dh3.sig) → Buf (Elt Bits) ℓ) (g : Dev Cert.Dh3.nD → PrngReg), Pre_Dh3 m →
    θ_run (Cert.Dh3.defs (F := Bits)) (onTc (τ := Cert.Dh3.τ) (Cert.Dh3.main (F := Bits))) ⟨m, fun _ => 0, g⟩ (fun r => (∀ c : Dev Cert.Dh3.nD,
      r.2.mem ((c.tc : Thread Cert.Dh3.nD Cert.Dh3.τ).loc Cert.Dh3.main_arg0) = m ((c.tc : Thread Cert.Dh3.nD Cert.Dh3.τ).loc Cert.Dh3.main_arg0)
      ∧ r.2.mem ((c.tc : Thread Cert.Dh3.nD Cert.Dh3.τ).loc Cert.Dh3.main_arg1) = m ((c.tc : Thread Cert.Dh3.nD Cert.Dh3.τ).loc Cert.Dh3.main_arg1)
      ∧ r.2.mem ((c.tc : Thread Cert.Dh3.nD Cert.Dh3.τ).loc Cert.Dh3.main_arg2) = m ((c.tc : Thread Cert.Dh3.nD Cert.Dh3.τ).loc Cert.Dh3.main_arg2))
      ∧ r.2.sem = fun _ => 0)

def quiescent_Dh3Ideal [hDh3Ideal : Cert.Dh3Ideal.Facts] : Prop :=
  ∀ (m : (ℓ : Loc Cert.Dh3Ideal.nD Cert.Dh3Ideal.τ Cert.Dh3Ideal.sig) → Buf (Elt Ideal) ℓ) (g : Dev Cert.Dh3Ideal.nD → PrngReg), Pre_Dh3Ideal m →
    θ_run (Cert.Dh3Ideal.defs (F := Ideal)) (onTc (τ := Cert.Dh3Ideal.τ) (Cert.Dh3Ideal.main (F := Ideal))) ⟨m, fun _ => 0, g⟩ (fun r => (∀ c : Dev Cert.Dh3Ideal.nD,
      r.2.mem ((c.tc : Thread Cert.Dh3Ideal.nD Cert.Dh3Ideal.τ).loc Cert.Dh3Ideal.main_arg0) = m ((c.tc : Thread Cert.Dh3Ideal.nD Cert.Dh3Ideal.τ).loc Cert.Dh3Ideal.main_arg0)
      ∧ r.2.mem ((c.tc : Thread Cert.Dh3Ideal.nD Cert.Dh3Ideal.τ).loc Cert.Dh3Ideal.main_arg1) = m ((c.tc : Thread Cert.Dh3Ideal.nD Cert.Dh3Ideal.τ).loc Cert.Dh3Ideal.main_arg1)
      ∧ r.2.mem ((c.tc : Thread Cert.Dh3Ideal.nD Cert.Dh3Ideal.τ).loc Cert.Dh3Ideal.main_arg2) = m ((c.tc : Thread Cert.Dh3Ideal.nD Cert.Dh3Ideal.τ).loc Cert.Dh3Ideal.main_arg2))
      ∧ r.2.sem = fun _ => 0)

def quiescent_Dh3RefIdeal [hDh3RefIdeal : Cert.Dh3RefIdeal.Facts] : Prop :=
  ∀ (m : (ℓ : Loc Cert.Dh3RefIdeal.nD Cert.Dh3RefIdeal.τ Cert.Dh3RefIdeal.sig) → Buf (Elt Ideal) ℓ) (g : Dev Cert.Dh3RefIdeal.nD → PrngReg), Pre_Dh3RefIdeal m →
    θ_run (Cert.Dh3RefIdeal.defs (F := Ideal)) (onTc (τ := Cert.Dh3RefIdeal.τ) (Cert.Dh3RefIdeal.main (F := Ideal))) ⟨m, fun _ => 0, g⟩ (fun r => (∀ c : Dev Cert.Dh3RefIdeal.nD,
      r.2.mem ((c.tc : Thread Cert.Dh3RefIdeal.nD Cert.Dh3RefIdeal.τ).loc Cert.Dh3RefIdeal.main_arg0) = m ((c.tc : Thread Cert.Dh3RefIdeal.nD Cert.Dh3RefIdeal.τ).loc Cert.Dh3RefIdeal.main_arg0)
      ∧ r.2.mem ((c.tc : Thread Cert.Dh3RefIdeal.nD Cert.Dh3RefIdeal.τ).loc Cert.Dh3RefIdeal.main_arg1) = m ((c.tc : Thread Cert.Dh3RefIdeal.nD Cert.Dh3RefIdeal.τ).loc Cert.Dh3RefIdeal.main_arg1)
      ∧ r.2.mem ((c.tc : Thread Cert.Dh3RefIdeal.nD Cert.Dh3RefIdeal.τ).loc Cert.Dh3RefIdeal.main_arg2) = m ((c.tc : Thread Cert.Dh3RefIdeal.nD Cert.Dh3RefIdeal.τ).loc Cert.Dh3RefIdeal.main_arg2))
      ∧ r.2.sem = fun _ => 0)

def quiescent_Dh1 [hDh1 : Cert.Dh1.Facts] : Prop :=
  ∀ (m : (ℓ : Loc Cert.Dh1.nD Cert.Dh1.τ Cert.Dh1.sig) → Buf (Elt Bits) ℓ) (g : Dev Cert.Dh1.nD → PrngReg), Pre_Dh1 m →
    θ_run (Cert.Dh1.defs (F := Bits)) (onTc (τ := Cert.Dh1.τ) (Cert.Dh1.main (F := Bits))) ⟨m, fun _ => 0, g⟩ (fun r => (∀ c : Dev Cert.Dh1.nD,
      r.2.mem ((c.tc : Thread Cert.Dh1.nD Cert.Dh1.τ).loc Cert.Dh1.main_arg0) = m ((c.tc : Thread Cert.Dh1.nD Cert.Dh1.τ).loc Cert.Dh1.main_arg0)
      ∧ r.2.mem ((c.tc : Thread Cert.Dh1.nD Cert.Dh1.τ).loc Cert.Dh1.main_arg1) = m ((c.tc : Thread Cert.Dh1.nD Cert.Dh1.τ).loc Cert.Dh1.main_arg1)
      ∧ r.2.mem ((c.tc : Thread Cert.Dh1.nD Cert.Dh1.τ).loc Cert.Dh1.main_arg2) = m ((c.tc : Thread Cert.Dh1.nD Cert.Dh1.τ).loc Cert.Dh1.main_arg2))
      ∧ r.2.sem = fun _ => 0)

def quiescent_Dh1Ideal [hDh1Ideal : Cert.Dh1Ideal.Facts] : Prop :=
  ∀ (m : (ℓ : Loc Cert.Dh1Ideal.nD Cert.Dh1Ideal.τ Cert.Dh1Ideal.sig) → Buf (Elt Ideal) ℓ) (g : Dev Cert.Dh1Ideal.nD → PrngReg), Pre_Dh1Ideal m →
    θ_run (Cert.Dh1Ideal.defs (F := Ideal)) (onTc (τ := Cert.Dh1Ideal.τ) (Cert.Dh1Ideal.main (F := Ideal))) ⟨m, fun _ => 0, g⟩ (fun r => (∀ c : Dev Cert.Dh1Ideal.nD,
      r.2.mem ((c.tc : Thread Cert.Dh1Ideal.nD Cert.Dh1Ideal.τ).loc Cert.Dh1Ideal.main_arg0) = m ((c.tc : Thread Cert.Dh1Ideal.nD Cert.Dh1Ideal.τ).loc Cert.Dh1Ideal.main_arg0)
      ∧ r.2.mem ((c.tc : Thread Cert.Dh1Ideal.nD Cert.Dh1Ideal.τ).loc Cert.Dh1Ideal.main_arg1) = m ((c.tc : Thread Cert.Dh1Ideal.nD Cert.Dh1Ideal.τ).loc Cert.Dh1Ideal.main_arg1)
      ∧ r.2.mem ((c.tc : Thread Cert.Dh1Ideal.nD Cert.Dh1Ideal.τ).loc Cert.Dh1Ideal.main_arg2) = m ((c.tc : Thread Cert.Dh1Ideal.nD Cert.Dh1Ideal.τ).loc Cert.Dh1Ideal.main_arg2))
      ∧ r.2.sem = fun _ => 0)

def quiescent_Dh1RefIdeal [hDh1RefIdeal : Cert.Dh1RefIdeal.Facts] : Prop :=
  ∀ (m : (ℓ : Loc Cert.Dh1RefIdeal.nD Cert.Dh1RefIdeal.τ Cert.Dh1RefIdeal.sig) → Buf (Elt Ideal) ℓ) (g : Dev Cert.Dh1RefIdeal.nD → PrngReg), Pre_Dh1RefIdeal m →
    θ_run (Cert.Dh1RefIdeal.defs (F := Ideal)) (onTc (τ := Cert.Dh1RefIdeal.τ) (Cert.Dh1RefIdeal.main (F := Ideal))) ⟨m, fun _ => 0, g⟩ (fun r => (∀ c : Dev Cert.Dh1RefIdeal.nD,
      r.2.mem ((c.tc : Thread Cert.Dh1RefIdeal.nD Cert.Dh1RefIdeal.τ).loc Cert.Dh1RefIdeal.main_arg0) = m ((c.tc : Thread Cert.Dh1RefIdeal.nD Cert.Dh1RefIdeal.τ).loc Cert.Dh1RefIdeal.main_arg0)
      ∧ r.2.mem ((c.tc : Thread Cert.Dh1RefIdeal.nD Cert.Dh1RefIdeal.τ).loc Cert.Dh1RefIdeal.main_arg1) = m ((c.tc : Thread Cert.Dh1RefIdeal.nD Cert.Dh1RefIdeal.τ).loc Cert.Dh1RefIdeal.main_arg1)
      ∧ r.2.mem ((c.tc : Thread Cert.Dh1RefIdeal.nD Cert.Dh1RefIdeal.τ).loc Cert.Dh1RefIdeal.main_arg2) = m ((c.tc : Thread Cert.Dh1RefIdeal.nD Cert.Dh1RefIdeal.τ).loc Cert.Dh1RefIdeal.main_arg2))
      ∧ r.2.sem = fun _ => 0)

def quiescent_Dh0 [hDh0 : Cert.Dh0.Facts] : Prop :=
  ∀ (m : (ℓ : Loc Cert.Dh0.nD Cert.Dh0.τ Cert.Dh0.sig) → Buf (Elt Bits) ℓ) (g : Dev Cert.Dh0.nD → PrngReg), Pre_Dh0 m →
    θ_run (Cert.Dh0.defs (F := Bits)) (onTc (τ := Cert.Dh0.τ) (Cert.Dh0.main (F := Bits))) ⟨m, fun _ => 0, g⟩ (fun r => (∀ c : Dev Cert.Dh0.nD,
      r.2.mem ((c.tc : Thread Cert.Dh0.nD Cert.Dh0.τ).loc Cert.Dh0.main_arg0) = m ((c.tc : Thread Cert.Dh0.nD Cert.Dh0.τ).loc Cert.Dh0.main_arg0)
      ∧ r.2.mem ((c.tc : Thread Cert.Dh0.nD Cert.Dh0.τ).loc Cert.Dh0.main_arg1) = m ((c.tc : Thread Cert.Dh0.nD Cert.Dh0.τ).loc Cert.Dh0.main_arg1))
      ∧ r.2.sem = fun _ => 0)

def quiescent_Dh0Ideal [hDh0Ideal : Cert.Dh0Ideal.Facts] : Prop :=
  ∀ (m : (ℓ : Loc Cert.Dh0Ideal.nD Cert.Dh0Ideal.τ Cert.Dh0Ideal.sig) → Buf (Elt Ideal) ℓ) (g : Dev Cert.Dh0Ideal.nD → PrngReg), Pre_Dh0Ideal m →
    θ_run (Cert.Dh0Ideal.defs (F := Ideal)) (onTc (τ := Cert.Dh0Ideal.τ) (Cert.Dh0Ideal.main (F := Ideal))) ⟨m, fun _ => 0, g⟩ (fun r => (∀ c : Dev Cert.Dh0Ideal.nD,
      r.2.mem ((c.tc : Thread Cert.Dh0Ideal.nD Cert.Dh0Ideal.τ).loc Cert.Dh0Ideal.main_arg0) = m ((c.tc : Thread Cert.Dh0Ideal.nD Cert.Dh0Ideal.τ).loc Cert.Dh0Ideal.main_arg0)
      ∧ r.2.mem ((c.tc : Thread Cert.Dh0Ideal.nD Cert.Dh0Ideal.τ).loc Cert.Dh0Ideal.main_arg1) = m ((c.tc : Thread Cert.Dh0Ideal.nD Cert.Dh0Ideal.τ).loc Cert.Dh0Ideal.main_arg1))
      ∧ r.2.sem = fun _ => 0)

def quiescent_Dh0RefIdeal [hDh0RefIdeal : Cert.Dh0RefIdeal.Facts] : Prop :=
  ∀ (m : (ℓ : Loc Cert.Dh0RefIdeal.nD Cert.Dh0RefIdeal.τ Cert.Dh0RefIdeal.sig) → Buf (Elt Ideal) ℓ) (g : Dev Cert.Dh0RefIdeal.nD → PrngReg), Pre_Dh0RefIdeal m →
    θ_run (Cert.Dh0RefIdeal.defs (F := Ideal)) (onTc (τ := Cert.Dh0RefIdeal.τ) (Cert.Dh0RefIdeal.main (F := Ideal))) ⟨m, fun _ => 0, g⟩ (fun r => (∀ c : Dev Cert.Dh0RefIdeal.nD,
      r.2.mem ((c.tc : Thread Cert.Dh0RefIdeal.nD Cert.Dh0RefIdeal.τ).loc Cert.Dh0RefIdeal.main_arg0) = m ((c.tc : Thread Cert.Dh0RefIdeal.nD Cert.Dh0RefIdeal.τ).loc Cert.Dh0RefIdeal.main_arg0)
      ∧ r.2.mem ((c.tc : Thread Cert.Dh0RefIdeal.nD Cert.Dh0RefIdeal.τ).loc Cert.Dh0RefIdeal.main_arg1) = m ((c.tc : Thread Cert.Dh0RefIdeal.nD Cert.Dh0RefIdeal.τ).loc Cert.Dh0RefIdeal.main_arg1))
      ∧ r.2.sem = fun _ => 0)

def quiescent_Dh2 [hDh2 : Cert.Dh2.Facts] : Prop :=
  ∀ (m : (ℓ : Loc Cert.Dh2.nD Cert.Dh2.τ Cert.Dh2.sig) → Buf (Elt Bits) ℓ) (g : Dev Cert.Dh2.nD → PrngReg), Pre_Dh2 m →
    θ_run (Cert.Dh2.defs (F := Bits)) (onTc (τ := Cert.Dh2.τ) (Cert.Dh2.main (F := Bits))) ⟨m, fun _ => 0, g⟩ (fun r => (∀ c : Dev Cert.Dh2.nD,
      r.2.mem ((c.tc : Thread Cert.Dh2.nD Cert.Dh2.τ).loc Cert.Dh2.main_arg0) = m ((c.tc : Thread Cert.Dh2.nD Cert.Dh2.τ).loc Cert.Dh2.main_arg0)
      ∧ r.2.mem ((c.tc : Thread Cert.Dh2.nD Cert.Dh2.τ).loc Cert.Dh2.main_arg1) = m ((c.tc : Thread Cert.Dh2.nD Cert.Dh2.τ).loc Cert.Dh2.main_arg1)
      ∧ r.2.mem ((c.tc : Thread Cert.Dh2.nD Cert.Dh2.τ).loc Cert.Dh2.main_arg2) = m ((c.tc : Thread Cert.Dh2.nD Cert.Dh2.τ).loc Cert.Dh2.main_arg2))
      ∧ r.2.sem = fun _ => 0)

def quiescent_Dh2Ideal [hDh2Ideal : Cert.Dh2Ideal.Facts] : Prop :=
  ∀ (m : (ℓ : Loc Cert.Dh2Ideal.nD Cert.Dh2Ideal.τ Cert.Dh2Ideal.sig) → Buf (Elt Ideal) ℓ) (g : Dev Cert.Dh2Ideal.nD → PrngReg), Pre_Dh2Ideal m →
    θ_run (Cert.Dh2Ideal.defs (F := Ideal)) (onTc (τ := Cert.Dh2Ideal.τ) (Cert.Dh2Ideal.main (F := Ideal))) ⟨m, fun _ => 0, g⟩ (fun r => (∀ c : Dev Cert.Dh2Ideal.nD,
      r.2.mem ((c.tc : Thread Cert.Dh2Ideal.nD Cert.Dh2Ideal.τ).loc Cert.Dh2Ideal.main_arg0) = m ((c.tc : Thread Cert.Dh2Ideal.nD Cert.Dh2Ideal.τ).loc Cert.Dh2Ideal.main_arg0)
      ∧ r.2.mem ((c.tc : Thread Cert.Dh2Ideal.nD Cert.Dh2Ideal.τ).loc Cert.Dh2Ideal.main_arg1) = m ((c.tc : Thread Cert.Dh2Ideal.nD Cert.Dh2Ideal.τ).loc Cert.Dh2Ideal.main_arg1)
      ∧ r.2.mem ((c.tc : Thread Cert.Dh2Ideal.nD Cert.Dh2Ideal.τ).loc Cert.Dh2Ideal.main_arg2) = m ((c.tc : Thread Cert.Dh2Ideal.nD Cert.Dh2Ideal.τ).loc Cert.Dh2Ideal.main_arg2))
      ∧ r.2.sem = fun _ => 0)

def quiescent_Dh2RefIdeal [hDh2RefIdeal : Cert.Dh2RefIdeal.Facts] : Prop :=
  ∀ (m : (ℓ : Loc Cert.Dh2RefIdeal.nD Cert.Dh2RefIdeal.τ Cert.Dh2RefIdeal.sig) → Buf (Elt Ideal) ℓ) (g : Dev Cert.Dh2RefIdeal.nD → PrngReg), Pre_Dh2RefIdeal m →
    θ_run (Cert.Dh2RefIdeal.defs (F := Ideal)) (onTc (τ := Cert.Dh2RefIdeal.τ) (Cert.Dh2RefIdeal.main (F := Ideal))) ⟨m, fun _ => 0, g⟩ (fun r => (∀ c : Dev Cert.Dh2RefIdeal.nD,
      r.2.mem ((c.tc : Thread Cert.Dh2RefIdeal.nD Cert.Dh2RefIdeal.τ).loc Cert.Dh2RefIdeal.main_arg0) = m ((c.tc : Thread Cert.Dh2RefIdeal.nD Cert.Dh2RefIdeal.τ).loc Cert.Dh2RefIdeal.main_arg0)
      ∧ r.2.mem ((c.tc : Thread Cert.Dh2RefIdeal.nD Cert.Dh2RefIdeal.τ).loc Cert.Dh2RefIdeal.main_arg1) = m ((c.tc : Thread Cert.Dh2RefIdeal.nD Cert.Dh2RefIdeal.τ).loc Cert.Dh2RefIdeal.main_arg1)
      ∧ r.2.mem ((c.tc : Thread Cert.Dh2RefIdeal.nD Cert.Dh2RefIdeal.τ).loc Cert.Dh2RefIdeal.main_arg2) = m ((c.tc : Thread Cert.Dh2RefIdeal.nD Cert.Dh2RefIdeal.τ).loc Cert.Dh2RefIdeal.main_arg2))
      ∧ r.2.sem = fun _ => 0)

def quiescent_Proj3 [hProj3 : Cert.Proj3.Facts] : Prop :=
  ∀ (m : (ℓ : Loc Cert.Proj3.nD Cert.Proj3.τ Cert.Proj3.sig) → Buf (Elt Bits) ℓ) (g : Dev Cert.Proj3.nD → PrngReg), Pre_Proj3 m →
    θ_run (Cert.Proj3.defs (F := Bits)) (onTc (τ := Cert.Proj3.τ) (Cert.Proj3.main (F := Bits))) ⟨m, fun _ => 0, g⟩ (fun r => (∀ c : Dev Cert.Proj3.nD,
      r.2.mem ((c.tc : Thread Cert.Proj3.nD Cert.Proj3.τ).loc Cert.Proj3.main_arg0) = m ((c.tc : Thread Cert.Proj3.nD Cert.Proj3.τ).loc Cert.Proj3.main_arg0)
      ∧ r.2.mem ((c.tc : Thread Cert.Proj3.nD Cert.Proj3.τ).loc Cert.Proj3.main_arg1) = m ((c.tc : Thread Cert.Proj3.nD Cert.Proj3.τ).loc Cert.Proj3.main_arg1))
      ∧ r.2.sem = fun _ => 0)

def quiescent_Proj3Ideal [hProj3Ideal : Cert.Proj3Ideal.Facts] : Prop :=
  ∀ (m : (ℓ : Loc Cert.Proj3Ideal.nD Cert.Proj3Ideal.τ Cert.Proj3Ideal.sig) → Buf (Elt Ideal) ℓ) (g : Dev Cert.Proj3Ideal.nD → PrngReg), Pre_Proj3Ideal m →
    θ_run (Cert.Proj3Ideal.defs (F := Ideal)) (onTc (τ := Cert.Proj3Ideal.τ) (Cert.Proj3Ideal.main (F := Ideal))) ⟨m, fun _ => 0, g⟩ (fun r => (∀ c : Dev Cert.Proj3Ideal.nD,
      r.2.mem ((c.tc : Thread Cert.Proj3Ideal.nD Cert.Proj3Ideal.τ).loc Cert.Proj3Ideal.main_arg0) = m ((c.tc : Thread Cert.Proj3Ideal.nD Cert.Proj3Ideal.τ).loc Cert.Proj3Ideal.main_arg0)
      ∧ r.2.mem ((c.tc : Thread Cert.Proj3Ideal.nD Cert.Proj3Ideal.τ).loc Cert.Proj3Ideal.main_arg1) = m ((c.tc : Thread Cert.Proj3Ideal.nD Cert.Proj3Ideal.τ).loc Cert.Proj3Ideal.main_arg1))
      ∧ r.2.sem = fun _ => 0)

def quiescent_Proj3RefIdeal [hProj3RefIdeal : Cert.Proj3RefIdeal.Facts] : Prop :=
  ∀ (m : (ℓ : Loc Cert.Proj3RefIdeal.nD Cert.Proj3RefIdeal.τ Cert.Proj3RefIdeal.sig) → Buf (Elt Ideal) ℓ) (g : Dev Cert.Proj3RefIdeal.nD → PrngReg), Pre_Proj3RefIdeal m →
    θ_run (Cert.Proj3RefIdeal.defs (F := Ideal)) (onTc (τ := Cert.Proj3RefIdeal.τ) (Cert.Proj3RefIdeal.main (F := Ideal))) ⟨m, fun _ => 0, g⟩ (fun r => (∀ c : Dev Cert.Proj3RefIdeal.nD,
      r.2.mem ((c.tc : Thread Cert.Proj3RefIdeal.nD Cert.Proj3RefIdeal.τ).loc Cert.Proj3RefIdeal.main_arg0) = m ((c.tc : Thread Cert.Proj3RefIdeal.nD Cert.Proj3RefIdeal.τ).loc Cert.Proj3RefIdeal.main_arg0)
      ∧ r.2.mem ((c.tc : Thread Cert.Proj3RefIdeal.nD Cert.Proj3RefIdeal.τ).loc Cert.Proj3RefIdeal.main_arg1) = m ((c.tc : Thread Cert.Proj3RefIdeal.nD Cert.Proj3RefIdeal.τ).loc Cert.Proj3RefIdeal.main_arg1))
      ∧ r.2.sem = fun _ => 0)

def quiescent_Proj1 [hProj1 : Cert.Proj1.Facts] : Prop :=
  ∀ (m : (ℓ : Loc Cert.Proj1.nD Cert.Proj1.τ Cert.Proj1.sig) → Buf (Elt Bits) ℓ) (g : Dev Cert.Proj1.nD → PrngReg), Pre_Proj1 m →
    θ_run (Cert.Proj1.defs (F := Bits)) (onTc (τ := Cert.Proj1.τ) (Cert.Proj1.main (F := Bits))) ⟨m, fun _ => 0, g⟩ (fun r => (∀ c : Dev Cert.Proj1.nD,
      r.2.mem ((c.tc : Thread Cert.Proj1.nD Cert.Proj1.τ).loc Cert.Proj1.main_arg0) = m ((c.tc : Thread Cert.Proj1.nD Cert.Proj1.τ).loc Cert.Proj1.main_arg0)
      ∧ r.2.mem ((c.tc : Thread Cert.Proj1.nD Cert.Proj1.τ).loc Cert.Proj1.main_arg1) = m ((c.tc : Thread Cert.Proj1.nD Cert.Proj1.τ).loc Cert.Proj1.main_arg1))
      ∧ r.2.sem = fun _ => 0)

def quiescent_Proj1Ideal [hProj1Ideal : Cert.Proj1Ideal.Facts] : Prop :=
  ∀ (m : (ℓ : Loc Cert.Proj1Ideal.nD Cert.Proj1Ideal.τ Cert.Proj1Ideal.sig) → Buf (Elt Ideal) ℓ) (g : Dev Cert.Proj1Ideal.nD → PrngReg), Pre_Proj1Ideal m →
    θ_run (Cert.Proj1Ideal.defs (F := Ideal)) (onTc (τ := Cert.Proj1Ideal.τ) (Cert.Proj1Ideal.main (F := Ideal))) ⟨m, fun _ => 0, g⟩ (fun r => (∀ c : Dev Cert.Proj1Ideal.nD,
      r.2.mem ((c.tc : Thread Cert.Proj1Ideal.nD Cert.Proj1Ideal.τ).loc Cert.Proj1Ideal.main_arg0) = m ((c.tc : Thread Cert.Proj1Ideal.nD Cert.Proj1Ideal.τ).loc Cert.Proj1Ideal.main_arg0)
      ∧ r.2.mem ((c.tc : Thread Cert.Proj1Ideal.nD Cert.Proj1Ideal.τ).loc Cert.Proj1Ideal.main_arg1) = m ((c.tc : Thread Cert.Proj1Ideal.nD Cert.Proj1Ideal.τ).loc Cert.Proj1Ideal.main_arg1))
      ∧ r.2.sem = fun _ => 0)

def quiescent_Proj1RefIdeal [hProj1RefIdeal : Cert.Proj1RefIdeal.Facts] : Prop :=
  ∀ (m : (ℓ : Loc Cert.Proj1RefIdeal.nD Cert.Proj1RefIdeal.τ Cert.Proj1RefIdeal.sig) → Buf (Elt Ideal) ℓ) (g : Dev Cert.Proj1RefIdeal.nD → PrngReg), Pre_Proj1RefIdeal m →
    θ_run (Cert.Proj1RefIdeal.defs (F := Ideal)) (onTc (τ := Cert.Proj1RefIdeal.τ) (Cert.Proj1RefIdeal.main (F := Ideal))) ⟨m, fun _ => 0, g⟩ (fun r => (∀ c : Dev Cert.Proj1RefIdeal.nD,
      r.2.mem ((c.tc : Thread Cert.Proj1RefIdeal.nD Cert.Proj1RefIdeal.τ).loc Cert.Proj1RefIdeal.main_arg0) = m ((c.tc : Thread Cert.Proj1RefIdeal.nD Cert.Proj1RefIdeal.τ).loc Cert.Proj1RefIdeal.main_arg0)
      ∧ r.2.mem ((c.tc : Thread Cert.Proj1RefIdeal.nD Cert.Proj1RefIdeal.τ).loc Cert.Proj1RefIdeal.main_arg1) = m ((c.tc : Thread Cert.Proj1RefIdeal.nD Cert.Proj1RefIdeal.τ).loc Cert.Proj1RefIdeal.main_arg1))
      ∧ r.2.sem = fun _ => 0)

def quiescent_Proj0 [hProj0 : Cert.Proj0.Facts] : Prop :=
  ∀ (m : (ℓ : Loc Cert.Proj0.nD Cert.Proj0.τ Cert.Proj0.sig) → Buf (Elt Bits) ℓ) (g : Dev Cert.Proj0.nD → PrngReg), Pre_Proj0 m →
    θ_run (Cert.Proj0.defs (F := Bits)) (onTc (τ := Cert.Proj0.τ) (Cert.Proj0.main (F := Bits))) ⟨m, fun _ => 0, g⟩ (fun r => (∀ c : Dev Cert.Proj0.nD,
      r.2.mem ((c.tc : Thread Cert.Proj0.nD Cert.Proj0.τ).loc Cert.Proj0.main_arg0) = m ((c.tc : Thread Cert.Proj0.nD Cert.Proj0.τ).loc Cert.Proj0.main_arg0)
      ∧ r.2.mem ((c.tc : Thread Cert.Proj0.nD Cert.Proj0.τ).loc Cert.Proj0.main_arg1) = m ((c.tc : Thread Cert.Proj0.nD Cert.Proj0.τ).loc Cert.Proj0.main_arg1))
      ∧ r.2.sem = fun _ => 0)

def quiescent_Proj0Ideal [hProj0Ideal : Cert.Proj0Ideal.Facts] : Prop :=
  ∀ (m : (ℓ : Loc Cert.Proj0Ideal.nD Cert.Proj0Ideal.τ Cert.Proj0Ideal.sig) → Buf (Elt Ideal) ℓ) (g : Dev Cert.Proj0Ideal.nD → PrngReg), Pre_Proj0Ideal m →
    θ_run (Cert.Proj0Ideal.defs (F := Ideal)) (onTc (τ := Cert.Proj0Ideal.τ) (Cert.Proj0Ideal.main (F := Ideal))) ⟨m, fun _ => 0, g⟩ (fun r => (∀ c : Dev Cert.Proj0Ideal.nD,
      r.2.mem ((c.tc : Thread Cert.Proj0Ideal.nD Cert.Proj0Ideal.τ).loc Cert.Proj0Ideal.main_arg0) = m ((c.tc : Thread Cert.Proj0Ideal.nD Cert.Proj0Ideal.τ).loc Cert.Proj0Ideal.main_arg0)
      ∧ r.2.mem ((c.tc : Thread Cert.Proj0Ideal.nD Cert.Proj0Ideal.τ).loc Cert.Proj0Ideal.main_arg1) = m ((c.tc : Thread Cert.Proj0Ideal.nD Cert.Proj0Ideal.τ).loc Cert.Proj0Ideal.main_arg1))
      ∧ r.2.sem = fun _ => 0)

def quiescent_Proj0RefIdeal [hProj0RefIdeal : Cert.Proj0RefIdeal.Facts] : Prop :=
  ∀ (m : (ℓ : Loc Cert.Proj0RefIdeal.nD Cert.Proj0RefIdeal.τ Cert.Proj0RefIdeal.sig) → Buf (Elt Ideal) ℓ) (g : Dev Cert.Proj0RefIdeal.nD → PrngReg), Pre_Proj0RefIdeal m →
    θ_run (Cert.Proj0RefIdeal.defs (F := Ideal)) (onTc (τ := Cert.Proj0RefIdeal.τ) (Cert.Proj0RefIdeal.main (F := Ideal))) ⟨m, fun _ => 0, g⟩ (fun r => (∀ c : Dev Cert.Proj0RefIdeal.nD,
      r.2.mem ((c.tc : Thread Cert.Proj0RefIdeal.nD Cert.Proj0RefIdeal.τ).loc Cert.Proj0RefIdeal.main_arg0) = m ((c.tc : Thread Cert.Proj0RefIdeal.nD Cert.Proj0RefIdeal.τ).loc Cert.Proj0RefIdeal.main_arg0)
      ∧ r.2.mem ((c.tc : Thread Cert.Proj0RefIdeal.nD Cert.Proj0RefIdeal.τ).loc Cert.Proj0RefIdeal.main_arg1) = m ((c.tc : Thread Cert.Proj0RefIdeal.nD Cert.Proj0RefIdeal.τ).loc Cert.Proj0RefIdeal.main_arg1))
      ∧ r.2.sem = fun _ => 0)

def quiescent_Proj2 [hProj2 : Cert.Proj2.Facts] : Prop :=
  ∀ (m : (ℓ : Loc Cert.Proj2.nD Cert.Proj2.τ Cert.Proj2.sig) → Buf (Elt Bits) ℓ) (g : Dev Cert.Proj2.nD → PrngReg), Pre_Proj2 m →
    θ_run (Cert.Proj2.defs (F := Bits)) (onTc (τ := Cert.Proj2.τ) (Cert.Proj2.main (F := Bits))) ⟨m, fun _ => 0, g⟩ (fun r => (∀ c : Dev Cert.Proj2.nD,
      r.2.mem ((c.tc : Thread Cert.Proj2.nD Cert.Proj2.τ).loc Cert.Proj2.main_arg0) = m ((c.tc : Thread Cert.Proj2.nD Cert.Proj2.τ).loc Cert.Proj2.main_arg0)
      ∧ r.2.mem ((c.tc : Thread Cert.Proj2.nD Cert.Proj2.τ).loc Cert.Proj2.main_arg1) = m ((c.tc : Thread Cert.Proj2.nD Cert.Proj2.τ).loc Cert.Proj2.main_arg1))
      ∧ r.2.sem = fun _ => 0)

def quiescent_Proj2Ideal [hProj2Ideal : Cert.Proj2Ideal.Facts] : Prop :=
  ∀ (m : (ℓ : Loc Cert.Proj2Ideal.nD Cert.Proj2Ideal.τ Cert.Proj2Ideal.sig) → Buf (Elt Ideal) ℓ) (g : Dev Cert.Proj2Ideal.nD → PrngReg), Pre_Proj2Ideal m →
    θ_run (Cert.Proj2Ideal.defs (F := Ideal)) (onTc (τ := Cert.Proj2Ideal.τ) (Cert.Proj2Ideal.main (F := Ideal))) ⟨m, fun _ => 0, g⟩ (fun r => (∀ c : Dev Cert.Proj2Ideal.nD,
      r.2.mem ((c.tc : Thread Cert.Proj2Ideal.nD Cert.Proj2Ideal.τ).loc Cert.Proj2Ideal.main_arg0) = m ((c.tc : Thread Cert.Proj2Ideal.nD Cert.Proj2Ideal.τ).loc Cert.Proj2Ideal.main_arg0)
      ∧ r.2.mem ((c.tc : Thread Cert.Proj2Ideal.nD Cert.Proj2Ideal.τ).loc Cert.Proj2Ideal.main_arg1) = m ((c.tc : Thread Cert.Proj2Ideal.nD Cert.Proj2Ideal.τ).loc Cert.Proj2Ideal.main_arg1))
      ∧ r.2.sem = fun _ => 0)

def quiescent_Proj2RefIdeal [hProj2RefIdeal : Cert.Proj2RefIdeal.Facts] : Prop :=
  ∀ (m : (ℓ : Loc Cert.Proj2RefIdeal.nD Cert.Proj2RefIdeal.τ Cert.Proj2RefIdeal.sig) → Buf (Elt Ideal) ℓ) (g : Dev Cert.Proj2RefIdeal.nD → PrngReg), Pre_Proj2RefIdeal m →
    θ_run (Cert.Proj2RefIdeal.defs (F := Ideal)) (onTc (τ := Cert.Proj2RefIdeal.τ) (Cert.Proj2RefIdeal.main (F := Ideal))) ⟨m, fun _ => 0, g⟩ (fun r => (∀ c : Dev Cert.Proj2RefIdeal.nD,
      r.2.mem ((c.tc : Thread Cert.Proj2RefIdeal.nD Cert.Proj2RefIdeal.τ).loc Cert.Proj2RefIdeal.main_arg0) = m ((c.tc : Thread Cert.Proj2RefIdeal.nD Cert.Proj2RefIdeal.τ).loc Cert.Proj2RefIdeal.main_arg0)
      ∧ r.2.mem ((c.tc : Thread Cert.Proj2RefIdeal.nD Cert.Proj2RefIdeal.τ).loc Cert.Proj2RefIdeal.main_arg1) = m ((c.tc : Thread Cert.Proj2RefIdeal.nD Cert.Proj2RefIdeal.τ).loc Cert.Proj2RefIdeal.main_arg1))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1))
      ∧ r.2.sem = fun _ => 0)

def quiescent_GateFwd [hGateFwd : Cert.GateFwd.Facts] : Prop :=
  ∀ (m : (ℓ : Loc Cert.GateFwd.nD Cert.GateFwd.τ Cert.GateFwd.sig) → Buf (Elt Bits) ℓ) (g : Dev Cert.GateFwd.nD → PrngReg), Pre_GateFwd m →
    θ_run (Cert.GateFwd.defs (F := Bits)) (onTc (τ := Cert.GateFwd.τ) (Cert.GateFwd.main (F := Bits))) ⟨m, fun _ => 0, g⟩ (fun r => (∀ c : Dev Cert.GateFwd.nD,
      r.2.mem ((c.tc : Thread Cert.GateFwd.nD Cert.GateFwd.τ).loc Cert.GateFwd.main_arg0) = m ((c.tc : Thread Cert.GateFwd.nD Cert.GateFwd.τ).loc Cert.GateFwd.main_arg0)
      ∧ r.2.mem ((c.tc : Thread Cert.GateFwd.nD Cert.GateFwd.τ).loc Cert.GateFwd.main_arg1) = m ((c.tc : Thread Cert.GateFwd.nD Cert.GateFwd.τ).loc Cert.GateFwd.main_arg1)
      ∧ r.2.mem ((c.tc : Thread Cert.GateFwd.nD Cert.GateFwd.τ).loc Cert.GateFwd.main_arg2) = m ((c.tc : Thread Cert.GateFwd.nD Cert.GateFwd.τ).loc Cert.GateFwd.main_arg2)
      ∧ r.2.mem ((c.tc : Thread Cert.GateFwd.nD Cert.GateFwd.τ).loc Cert.GateFwd.main_arg3) = m ((c.tc : Thread Cert.GateFwd.nD Cert.GateFwd.τ).loc Cert.GateFwd.main_arg3)
      ∧ r.2.mem ((c.tc : Thread Cert.GateFwd.nD Cert.GateFwd.τ).loc Cert.GateFwd.main_arg4) = m ((c.tc : Thread Cert.GateFwd.nD Cert.GateFwd.τ).loc Cert.GateFwd.main_arg4)
      ∧ r.2.mem ((c.tc : Thread Cert.GateFwd.nD Cert.GateFwd.τ).loc Cert.GateFwd.main_arg5) = m ((c.tc : Thread Cert.GateFwd.nD Cert.GateFwd.τ).loc Cert.GateFwd.main_arg5)
      ∧ r.2.mem ((c.tc : Thread Cert.GateFwd.nD Cert.GateFwd.τ).loc Cert.GateFwd.main_arg6) = m ((c.tc : Thread Cert.GateFwd.nD Cert.GateFwd.τ).loc Cert.GateFwd.main_arg6))
      ∧ r.2.sem = fun _ => 0)

def quiescent_GateFwdIdeal [hGateFwdIdeal : Cert.GateFwdIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg), Pre_GateFwdIdeal m →
    θ_run (Cert.GateFwdIdeal.defs (F := Ideal)) (onTc (τ := Cert.GateFwdIdeal.τ) (Cert.GateFwdIdeal.main (F := Ideal))) ⟨m, fun _ => 0, g⟩ (fun r => (∀ c : Dev Cert.GateFwdIdeal.nD,
      r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
      ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
      ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2)
      ∧ r.2.mem ((c.tc : Thread Cert.GateFwdIdeal.nD Cert.GateFwdIdeal.τ).loc Cert.GateFwdIdeal.main_arg3) = m ((c.tc : Thread Cert.GateFwdIdeal.nD Cert.GateFwdIdeal.τ).loc Cert.GateFwdIdeal.main_arg3)
      ∧ r.2.mem ((c.tc : Thread Cert.GateFwdIdeal.nD Cert.GateFwdIdeal.τ).loc Cert.GateFwdIdeal.main_arg4) = m ((c.tc : Thread Cert.GateFwdIdeal.nD Cert.GateFwdIdeal.τ).loc Cert.GateFwdIdeal.main_arg4)
      ∧ r.2.mem ((c.tc : Thread Cert.GateFwdIdeal.nD Cert.GateFwdIdeal.τ).loc Cert.GateFwdIdeal.main_arg5) = m ((c.tc : Thread Cert.GateFwdIdeal.nD Cert.GateFwdIdeal.τ).loc Cert.GateFwdIdeal.main_arg5)
      ∧ r.2.mem ((c.tc : Thread Cert.GateFwdIdeal.nD Cert.GateFwdIdeal.τ).loc Cert.GateFwdIdeal.main_arg6) = m ((c.tc : Thread Cert.GateFwdIdeal.nD Cert.GateFwdIdeal.τ).loc Cert.GateFwdIdeal.main_arg6))
      ∧ r.2.sem = fun _ => 0)

def quiescent_GateFwdRefIdeal [hGateFwdRefIdeal : Cert.GateFwdRefIdeal.Facts] : Prop :=
  ∀ (m : (ℓ : Loc Cert.GateFwdRefIdeal.nD Cert.GateFwdRefIdeal.τ Cert.GateFwdRefIdeal.sig) → Buf (Elt Ideal) ℓ) (g : Dev Cert.GateFwdRefIdeal.nD → PrngReg), Pre_GateFwdRefIdeal m →
    θ_run (Cert.GateFwdRefIdeal.defs (F := Ideal)) (onTc (τ := Cert.GateFwdRefIdeal.τ) (Cert.GateFwdRefIdeal.main (F := Ideal))) ⟨m, fun _ => 0, g⟩ (fun r => (∀ c : Dev Cert.GateFwdRefIdeal.nD,
      r.2.mem ((c.tc : Thread Cert.GateFwdRefIdeal.nD Cert.GateFwdRefIdeal.τ).loc Cert.GateFwdRefIdeal.main_arg0) = m ((c.tc : Thread Cert.GateFwdRefIdeal.nD Cert.GateFwdRefIdeal.τ).loc Cert.GateFwdRefIdeal.main_arg0)
      ∧ r.2.mem ((c.tc : Thread Cert.GateFwdRefIdeal.nD Cert.GateFwdRefIdeal.τ).loc Cert.GateFwdRefIdeal.main_arg1) = m ((c.tc : Thread Cert.GateFwdRefIdeal.nD Cert.GateFwdRefIdeal.τ).loc Cert.GateFwdRefIdeal.main_arg1)
      ∧ r.2.mem ((c.tc : Thread Cert.GateFwdRefIdeal.nD Cert.GateFwdRefIdeal.τ).loc Cert.GateFwdRefIdeal.main_arg2) = m ((c.tc : Thread Cert.GateFwdRefIdeal.nD Cert.GateFwdRefIdeal.τ).loc Cert.GateFwdRefIdeal.main_arg2)
      ∧ r.2.mem ((c.tc : Thread Cert.GateFwdRefIdeal.nD Cert.GateFwdRefIdeal.τ).loc Cert.GateFwdRefIdeal.main_arg3) = m ((c.tc : Thread Cert.GateFwdRefIdeal.nD Cert.GateFwdRefIdeal.τ).loc Cert.GateFwdRefIdeal.main_arg3)
      ∧ r.2.mem ((c.tc : Thread Cert.GateFwdRefIdeal.nD Cert.GateFwdRefIdeal.τ).loc Cert.GateFwdRefIdeal.main_arg4) = m ((c.tc : Thread Cert.GateFwdRefIdeal.nD Cert.GateFwdRefIdeal.τ).loc Cert.GateFwdRefIdeal.main_arg4)
      ∧ r.2.mem ((c.tc : Thread Cert.GateFwdRefIdeal.nD Cert.GateFwdRefIdeal.τ).loc Cert.GateFwdRefIdeal.main_arg5) = m ((c.tc : Thread Cert.GateFwdRefIdeal.nD Cert.GateFwdRefIdeal.τ).loc Cert.GateFwdRefIdeal.main_arg5)
      ∧ r.2.mem ((c.tc : Thread Cert.GateFwdRefIdeal.nD Cert.GateFwdRefIdeal.τ).loc Cert.GateFwdRefIdeal.main_arg6) = m ((c.tc : Thread Cert.GateFwdRefIdeal.nD Cert.GateFwdRefIdeal.τ).loc Cert.GateFwdRefIdeal.main_arg6))
      ∧ r.2.sem = fun _ => 0)

def quiescent_PostBwd [hPostBwd : Cert.PostBwd.Facts] : Prop :=
  ∀ (m : (ℓ : Loc Cert.PostBwd.nD Cert.PostBwd.τ Cert.PostBwd.sig) → Buf (Elt Bits) ℓ) (g : Dev Cert.PostBwd.nD → PrngReg), Pre_PostBwd m →
    θ_run (Cert.PostBwd.defs (F := Bits)) (onTc (τ := Cert.PostBwd.τ) (Cert.PostBwd.main (F := Bits))) ⟨m, fun _ => 0, g⟩ (fun r => (∀ c : Dev Cert.PostBwd.nD,
      r.2.mem ((c.tc : Thread Cert.PostBwd.nD Cert.PostBwd.τ).loc Cert.PostBwd.main_arg0) = m ((c.tc : Thread Cert.PostBwd.nD Cert.PostBwd.τ).loc Cert.PostBwd.main_arg0)
      ∧ r.2.mem ((c.tc : Thread Cert.PostBwd.nD Cert.PostBwd.τ).loc Cert.PostBwd.main_arg1) = m ((c.tc : Thread Cert.PostBwd.nD Cert.PostBwd.τ).loc Cert.PostBwd.main_arg1)
      ∧ r.2.mem ((c.tc : Thread Cert.PostBwd.nD Cert.PostBwd.τ).loc Cert.PostBwd.main_arg2) = m ((c.tc : Thread Cert.PostBwd.nD Cert.PostBwd.τ).loc Cert.PostBwd.main_arg2)
      ∧ r.2.mem ((c.tc : Thread Cert.PostBwd.nD Cert.PostBwd.τ).loc Cert.PostBwd.main_arg3) = m ((c.tc : Thread Cert.PostBwd.nD Cert.PostBwd.τ).loc Cert.PostBwd.main_arg3)
      ∧ r.2.mem ((c.tc : Thread Cert.PostBwd.nD Cert.PostBwd.τ).loc Cert.PostBwd.main_arg4) = m ((c.tc : Thread Cert.PostBwd.nD Cert.PostBwd.τ).loc Cert.PostBwd.main_arg4)
      ∧ r.2.mem ((c.tc : Thread Cert.PostBwd.nD Cert.PostBwd.τ).loc Cert.PostBwd.main_arg5) = m ((c.tc : Thread Cert.PostBwd.nD Cert.PostBwd.τ).loc Cert.PostBwd.main_arg5))
      ∧ r.2.sem = fun _ => 0)

def quiescent_PostBwdIdeal [hPostBwdIdeal : Cert.PostBwdIdeal.Facts] : Prop :=
  ∀ (m : (ℓ : Loc Cert.PostBwdIdeal.nD Cert.PostBwdIdeal.τ Cert.PostBwdIdeal.sig) → Buf (Elt Ideal) ℓ) (g : Dev Cert.PostBwdIdeal.nD → PrngReg), Pre_PostBwdIdeal m →
    θ_run (Cert.PostBwdIdeal.defs (F := Ideal)) (onTc (τ := Cert.PostBwdIdeal.τ) (Cert.PostBwdIdeal.main (F := Ideal))) ⟨m, fun _ => 0, g⟩ (fun r => (∀ c : Dev Cert.PostBwdIdeal.nD,
      r.2.mem ((c.tc : Thread Cert.PostBwdIdeal.nD Cert.PostBwdIdeal.τ).loc Cert.PostBwdIdeal.main_arg0) = m ((c.tc : Thread Cert.PostBwdIdeal.nD Cert.PostBwdIdeal.τ).loc Cert.PostBwdIdeal.main_arg0)
      ∧ r.2.mem ((c.tc : Thread Cert.PostBwdIdeal.nD Cert.PostBwdIdeal.τ).loc Cert.PostBwdIdeal.main_arg1) = m ((c.tc : Thread Cert.PostBwdIdeal.nD Cert.PostBwdIdeal.τ).loc Cert.PostBwdIdeal.main_arg1)
      ∧ r.2.mem ((c.tc : Thread Cert.PostBwdIdeal.nD Cert.PostBwdIdeal.τ).loc Cert.PostBwdIdeal.main_arg2) = m ((c.tc : Thread Cert.PostBwdIdeal.nD Cert.PostBwdIdeal.τ).loc Cert.PostBwdIdeal.main_arg2)
      ∧ r.2.mem ((c.tc : Thread Cert.PostBwdIdeal.nD Cert.PostBwdIdeal.τ).loc Cert.PostBwdIdeal.main_arg3) = m ((c.tc : Thread Cert.PostBwdIdeal.nD Cert.PostBwdIdeal.τ).loc Cert.PostBwdIdeal.main_arg3)
      ∧ r.2.mem ((c.tc : Thread Cert.PostBwdIdeal.nD Cert.PostBwdIdeal.τ).loc Cert.PostBwdIdeal.main_arg4) = m ((c.tc : Thread Cert.PostBwdIdeal.nD Cert.PostBwdIdeal.τ).loc Cert.PostBwdIdeal.main_arg4)
      ∧ r.2.mem ((c.tc : Thread Cert.PostBwdIdeal.nD Cert.PostBwdIdeal.τ).loc Cert.PostBwdIdeal.main_arg5) = m ((c.tc : Thread Cert.PostBwdIdeal.nD Cert.PostBwdIdeal.τ).loc Cert.PostBwdIdeal.main_arg5))
      ∧ r.2.sem = fun _ => 0)

def quiescent_PostBwdRefIdeal [hPostBwdRefIdeal : Cert.PostBwdRefIdeal.Facts] : Prop :=
  ∀ (m : (ℓ : Loc Cert.PostBwdRefIdeal.nD Cert.PostBwdRefIdeal.τ Cert.PostBwdRefIdeal.sig) → Buf (Elt Ideal) ℓ) (g : Dev Cert.PostBwdRefIdeal.nD → PrngReg), Pre_PostBwdRefIdeal m →
    θ_run (Cert.PostBwdRefIdeal.defs (F := Ideal)) (onTc (τ := Cert.PostBwdRefIdeal.τ) (Cert.PostBwdRefIdeal.main (F := Ideal))) ⟨m, fun _ => 0, g⟩ (fun r => (∀ c : Dev Cert.PostBwdRefIdeal.nD,
      r.2.mem ((c.tc : Thread Cert.PostBwdRefIdeal.nD Cert.PostBwdRefIdeal.τ).loc Cert.PostBwdRefIdeal.main_arg0) = m ((c.tc : Thread Cert.PostBwdRefIdeal.nD Cert.PostBwdRefIdeal.τ).loc Cert.PostBwdRefIdeal.main_arg0)
      ∧ r.2.mem ((c.tc : Thread Cert.PostBwdRefIdeal.nD Cert.PostBwdRefIdeal.τ).loc Cert.PostBwdRefIdeal.main_arg1) = m ((c.tc : Thread Cert.PostBwdRefIdeal.nD Cert.PostBwdRefIdeal.τ).loc Cert.PostBwdRefIdeal.main_arg1)
      ∧ r.2.mem ((c.tc : Thread Cert.PostBwdRefIdeal.nD Cert.PostBwdRefIdeal.τ).loc Cert.PostBwdRefIdeal.main_arg2) = m ((c.tc : Thread Cert.PostBwdRefIdeal.nD Cert.PostBwdRefIdeal.τ).loc Cert.PostBwdRefIdeal.main_arg2)
      ∧ r.2.mem ((c.tc : Thread Cert.PostBwdRefIdeal.nD Cert.PostBwdRefIdeal.τ).loc Cert.PostBwdRefIdeal.main_arg3) = m ((c.tc : Thread Cert.PostBwdRefIdeal.nD Cert.PostBwdRefIdeal.τ).loc Cert.PostBwdRefIdeal.main_arg3)
      ∧ r.2.mem ((c.tc : Thread Cert.PostBwdRefIdeal.nD Cert.PostBwdRefIdeal.τ).loc Cert.PostBwdRefIdeal.main_arg4) = m ((c.tc : Thread Cert.PostBwdRefIdeal.nD Cert.PostBwdRefIdeal.τ).loc Cert.PostBwdRefIdeal.main_arg4)
      ∧ r.2.mem ((c.tc : Thread Cert.PostBwdRefIdeal.nD Cert.PostBwdRefIdeal.τ).loc Cert.PostBwdRefIdeal.main_arg5) = m ((c.tc : Thread Cert.PostBwdRefIdeal.nD Cert.PostBwdRefIdeal.τ).loc Cert.PostBwdRefIdeal.main_arg5))
      ∧ r.2.sem = fun _ => 0)

def quiescent_PostFwd [hPostFwd : Cert.PostFwd.Facts] : Prop :=
  ∀ (m : (ℓ : Loc Cert.PostFwd.nD Cert.PostFwd.τ Cert.PostFwd.sig) → Buf (Elt Bits) ℓ) (g : Dev Cert.PostFwd.nD → PrngReg), Pre_PostFwd m →
    θ_run (Cert.PostFwd.defs (F := Bits)) (onTc (τ := Cert.PostFwd.τ) (Cert.PostFwd.main (F := Bits))) ⟨m, fun _ => 0, g⟩ (fun r => (∀ c : Dev Cert.PostFwd.nD,
      r.2.mem ((c.tc : Thread Cert.PostFwd.nD Cert.PostFwd.τ).loc Cert.PostFwd.main_arg0) = m ((c.tc : Thread Cert.PostFwd.nD Cert.PostFwd.τ).loc Cert.PostFwd.main_arg0)
      ∧ r.2.mem ((c.tc : Thread Cert.PostFwd.nD Cert.PostFwd.τ).loc Cert.PostFwd.main_arg1) = m ((c.tc : Thread Cert.PostFwd.nD Cert.PostFwd.τ).loc Cert.PostFwd.main_arg1)
      ∧ r.2.mem ((c.tc : Thread Cert.PostFwd.nD Cert.PostFwd.τ).loc Cert.PostFwd.main_arg2) = m ((c.tc : Thread Cert.PostFwd.nD Cert.PostFwd.τ).loc Cert.PostFwd.main_arg2)
      ∧ r.2.mem ((c.tc : Thread Cert.PostFwd.nD Cert.PostFwd.τ).loc Cert.PostFwd.main_arg3) = m ((c.tc : Thread Cert.PostFwd.nD Cert.PostFwd.τ).loc Cert.PostFwd.main_arg3)
      ∧ r.2.mem ((c.tc : Thread Cert.PostFwd.nD Cert.PostFwd.τ).loc Cert.PostFwd.main_arg4) = m ((c.tc : Thread Cert.PostFwd.nD Cert.PostFwd.τ).loc Cert.PostFwd.main_arg4))
      ∧ r.2.sem = fun _ => 0)

def quiescent_PostFwdIdeal [hPostFwdIdeal : Cert.PostFwdIdeal.Facts] : Prop :=
  ∀ (m : (ℓ : Loc Cert.PostFwdIdeal.nD Cert.PostFwdIdeal.τ Cert.PostFwdIdeal.sig) → Buf (Elt Ideal) ℓ) (g : Dev Cert.PostFwdIdeal.nD → PrngReg), Pre_PostFwdIdeal m →
    θ_run (Cert.PostFwdIdeal.defs (F := Ideal)) (onTc (τ := Cert.PostFwdIdeal.τ) (Cert.PostFwdIdeal.main (F := Ideal))) ⟨m, fun _ => 0, g⟩ (fun r => (∀ c : Dev Cert.PostFwdIdeal.nD,
      r.2.mem ((c.tc : Thread Cert.PostFwdIdeal.nD Cert.PostFwdIdeal.τ).loc Cert.PostFwdIdeal.main_arg0) = m ((c.tc : Thread Cert.PostFwdIdeal.nD Cert.PostFwdIdeal.τ).loc Cert.PostFwdIdeal.main_arg0)
      ∧ r.2.mem ((c.tc : Thread Cert.PostFwdIdeal.nD Cert.PostFwdIdeal.τ).loc Cert.PostFwdIdeal.main_arg1) = m ((c.tc : Thread Cert.PostFwdIdeal.nD Cert.PostFwdIdeal.τ).loc Cert.PostFwdIdeal.main_arg1)
      ∧ r.2.mem ((c.tc : Thread Cert.PostFwdIdeal.nD Cert.PostFwdIdeal.τ).loc Cert.PostFwdIdeal.main_arg2) = m ((c.tc : Thread Cert.PostFwdIdeal.nD Cert.PostFwdIdeal.τ).loc Cert.PostFwdIdeal.main_arg2)
      ∧ r.2.mem ((c.tc : Thread Cert.PostFwdIdeal.nD Cert.PostFwdIdeal.τ).loc Cert.PostFwdIdeal.main_arg3) = m ((c.tc : Thread Cert.PostFwdIdeal.nD Cert.PostFwdIdeal.τ).loc Cert.PostFwdIdeal.main_arg3)
      ∧ r.2.mem ((c.tc : Thread Cert.PostFwdIdeal.nD Cert.PostFwdIdeal.τ).loc Cert.PostFwdIdeal.main_arg4) = m ((c.tc : Thread Cert.PostFwdIdeal.nD Cert.PostFwdIdeal.τ).loc Cert.PostFwdIdeal.main_arg4))
      ∧ r.2.sem = fun _ => 0)

def quiescent_PostFwdRefIdeal [hPostFwdRefIdeal : Cert.PostFwdRefIdeal.Facts] : Prop :=
  ∀ (m : (ℓ : Loc Cert.PostFwdRefIdeal.nD Cert.PostFwdRefIdeal.τ Cert.PostFwdRefIdeal.sig) → Buf (Elt Ideal) ℓ) (g : Dev Cert.PostFwdRefIdeal.nD → PrngReg), Pre_PostFwdRefIdeal m →
    θ_run (Cert.PostFwdRefIdeal.defs (F := Ideal)) (onTc (τ := Cert.PostFwdRefIdeal.τ) (Cert.PostFwdRefIdeal.main (F := Ideal))) ⟨m, fun _ => 0, g⟩ (fun r => (∀ c : Dev Cert.PostFwdRefIdeal.nD,
      r.2.mem ((c.tc : Thread Cert.PostFwdRefIdeal.nD Cert.PostFwdRefIdeal.τ).loc Cert.PostFwdRefIdeal.main_arg0) = m ((c.tc : Thread Cert.PostFwdRefIdeal.nD Cert.PostFwdRefIdeal.τ).loc Cert.PostFwdRefIdeal.main_arg0)
      ∧ r.2.mem ((c.tc : Thread Cert.PostFwdRefIdeal.nD Cert.PostFwdRefIdeal.τ).loc Cert.PostFwdRefIdeal.main_arg1) = m ((c.tc : Thread Cert.PostFwdRefIdeal.nD Cert.PostFwdRefIdeal.τ).loc Cert.PostFwdRefIdeal.main_arg1)
      ∧ r.2.mem ((c.tc : Thread Cert.PostFwdRefIdeal.nD Cert.PostFwdRefIdeal.τ).loc Cert.PostFwdRefIdeal.main_arg2) = m ((c.tc : Thread Cert.PostFwdRefIdeal.nD Cert.PostFwdRefIdeal.τ).loc Cert.PostFwdRefIdeal.main_arg2)
      ∧ r.2.mem ((c.tc : Thread Cert.PostFwdRefIdeal.nD Cert.PostFwdRefIdeal.τ).loc Cert.PostFwdRefIdeal.main_arg3) = m ((c.tc : Thread Cert.PostFwdRefIdeal.nD Cert.PostFwdRefIdeal.τ).loc Cert.PostFwdRefIdeal.main_arg3)
      ∧ r.2.mem ((c.tc : Thread Cert.PostFwdRefIdeal.nD Cert.PostFwdRefIdeal.τ).loc Cert.PostFwdRefIdeal.main_arg4) = m ((c.tc : Thread Cert.PostFwdRefIdeal.nD Cert.PostFwdRefIdeal.τ).loc Cert.PostFwdRefIdeal.main_arg4))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4))
      ∧ r.2.sem = fun _ => 0)

def quiescent_AdamBranch [hAdamBranch : Cert.AdamBranch.Facts] : Prop :=
  ∀ (m : (ℓ : Loc Cert.AdamBranch.nD Cert.AdamBranch.τ Cert.AdamBranch.sig) → Buf (Elt Bits) ℓ) (g : Dev Cert.AdamBranch.nD → PrngReg), Pre_AdamBranch m →
    θ_run (Cert.AdamBranch.defs (F := Bits)) (onTc (τ := Cert.AdamBranch.τ) (Cert.AdamBranch.main (F := Bits))) ⟨m, fun _ => 0, g⟩ (fun r => (∀ c : Dev Cert.AdamBranch.nD,
      r.2.mem ((c.tc : Thread Cert.AdamBranch.nD Cert.AdamBranch.τ).loc Cert.AdamBranch.main_arg0) = m ((c.tc : Thread Cert.AdamBranch.nD Cert.AdamBranch.τ).loc Cert.AdamBranch.main_arg0)
      ∧ r.2.mem ((c.tc : Thread Cert.AdamBranch.nD Cert.AdamBranch.τ).loc Cert.AdamBranch.main_arg1) = m ((c.tc : Thread Cert.AdamBranch.nD Cert.AdamBranch.τ).loc Cert.AdamBranch.main_arg1)
      ∧ r.2.mem ((c.tc : Thread Cert.AdamBranch.nD Cert.AdamBranch.τ).loc Cert.AdamBranch.main_arg2) = m ((c.tc : Thread Cert.AdamBranch.nD Cert.AdamBranch.τ).loc Cert.AdamBranch.main_arg2)
      ∧ r.2.mem ((c.tc : Thread Cert.AdamBranch.nD Cert.AdamBranch.τ).loc Cert.AdamBranch.main_arg3) = m ((c.tc : Thread Cert.AdamBranch.nD Cert.AdamBranch.τ).loc Cert.AdamBranch.main_arg3)
      ∧ r.2.mem ((c.tc : Thread Cert.AdamBranch.nD Cert.AdamBranch.τ).loc Cert.AdamBranch.main_arg4) = m ((c.tc : Thread Cert.AdamBranch.nD Cert.AdamBranch.τ).loc Cert.AdamBranch.main_arg4))
      ∧ r.2.sem = fun _ => 0)

def quiescent_AdamBranchIdeal [hAdamBranchIdeal : Cert.AdamBranchIdeal.Facts] : Prop :=
  ∀ (m : (ℓ : Loc Cert.AdamBranchIdeal.nD Cert.AdamBranchIdeal.τ Cert.AdamBranchIdeal.sig) → Buf (Elt Ideal) ℓ) (g : Dev Cert.AdamBranchIdeal.nD → PrngReg), Pre_AdamBranchIdeal m →
    θ_run (Cert.AdamBranchIdeal.defs (F := Ideal)) (onTc (τ := Cert.AdamBranchIdeal.τ) (Cert.AdamBranchIdeal.main (F := Ideal))) ⟨m, fun _ => 0, g⟩ (fun r => (∀ c : Dev Cert.AdamBranchIdeal.nD,
      r.2.mem ((c.tc : Thread Cert.AdamBranchIdeal.nD Cert.AdamBranchIdeal.τ).loc Cert.AdamBranchIdeal.main_arg0) = m ((c.tc : Thread Cert.AdamBranchIdeal.nD Cert.AdamBranchIdeal.τ).loc Cert.AdamBranchIdeal.main_arg0)
      ∧ r.2.mem ((c.tc : Thread Cert.AdamBranchIdeal.nD Cert.AdamBranchIdeal.τ).loc Cert.AdamBranchIdeal.main_arg1) = m ((c.tc : Thread Cert.AdamBranchIdeal.nD Cert.AdamBranchIdeal.τ).loc Cert.AdamBranchIdeal.main_arg1)
      ∧ r.2.mem ((c.tc : Thread Cert.AdamBranchIdeal.nD Cert.AdamBranchIdeal.τ).loc Cert.AdamBranchIdeal.main_arg2) = m ((c.tc : Thread Cert.AdamBranchIdeal.nD Cert.AdamBranchIdeal.τ).loc Cert.AdamBranchIdeal.main_arg2)
      ∧ r.2.mem ((c.tc : Thread Cert.AdamBranchIdeal.nD Cert.AdamBranchIdeal.τ).loc Cert.AdamBranchIdeal.main_arg3) = m ((c.tc : Thread Cert.AdamBranchIdeal.nD Cert.AdamBranchIdeal.τ).loc Cert.AdamBranchIdeal.main_arg3)
      ∧ r.2.mem ((c.tc : Thread Cert.AdamBranchIdeal.nD Cert.AdamBranchIdeal.τ).loc Cert.AdamBranchIdeal.main_arg4) = m ((c.tc : Thread Cert.AdamBranchIdeal.nD Cert.AdamBranchIdeal.τ).loc Cert.AdamBranchIdeal.main_arg4))
      ∧ r.2.sem = fun _ => 0)

def quiescent_AdamBranchRefIdeal [hAdamBranchRefIdeal : Cert.AdamBranchRefIdeal.Facts] : Prop :=
  ∀ (m : (ℓ : Loc Cert.AdamBranchRefIdeal.nD Cert.AdamBranchRefIdeal.τ Cert.AdamBranchRefIdeal.sig) → Buf (Elt Ideal) ℓ) (g : Dev Cert.AdamBranchRefIdeal.nD → PrngReg), Pre_AdamBranchRefIdeal m →
    θ_run (Cert.AdamBranchRefIdeal.defs (F := Ideal)) (onTc (τ := Cert.AdamBranchRefIdeal.τ) (Cert.AdamBranchRefIdeal.main (F := Ideal))) ⟨m, fun _ => 0, g⟩ (fun r => (∀ c : Dev Cert.AdamBranchRefIdeal.nD,
      r.2.mem ((c.tc : Thread Cert.AdamBranchRefIdeal.nD Cert.AdamBranchRefIdeal.τ).loc Cert.AdamBranchRefIdeal.main_arg0) = m ((c.tc : Thread Cert.AdamBranchRefIdeal.nD Cert.AdamBranchRefIdeal.τ).loc Cert.AdamBranchRefIdeal.main_arg0)
      ∧ r.2.mem ((c.tc : Thread Cert.AdamBranchRefIdeal.nD Cert.AdamBranchRefIdeal.τ).loc Cert.AdamBranchRefIdeal.main_arg1) = m ((c.tc : Thread Cert.AdamBranchRefIdeal.nD Cert.AdamBranchRefIdeal.τ).loc Cert.AdamBranchRefIdeal.main_arg1)
      ∧ r.2.mem ((c.tc : Thread Cert.AdamBranchRefIdeal.nD Cert.AdamBranchRefIdeal.τ).loc Cert.AdamBranchRefIdeal.main_arg2) = m ((c.tc : Thread Cert.AdamBranchRefIdeal.nD Cert.AdamBranchRefIdeal.τ).loc Cert.AdamBranchRefIdeal.main_arg2)
      ∧ r.2.mem ((c.tc : Thread Cert.AdamBranchRefIdeal.nD Cert.AdamBranchRefIdeal.τ).loc Cert.AdamBranchRefIdeal.main_arg3) = m ((c.tc : Thread Cert.AdamBranchRefIdeal.nD Cert.AdamBranchRefIdeal.τ).loc Cert.AdamBranchRefIdeal.main_arg3)
      ∧ r.2.mem ((c.tc : Thread Cert.AdamBranchRefIdeal.nD Cert.AdamBranchRefIdeal.τ).loc Cert.AdamBranchRefIdeal.main_arg4) = m ((c.tc : Thread Cert.AdamBranchRefIdeal.nD Cert.AdamBranchRefIdeal.τ).loc Cert.AdamBranchRefIdeal.main_arg4))
      ∧ r.2.sem = fun _ => 0)

def quiescent_AdamKv [hAdamKv : Cert.AdamKv.Facts] : Prop :=
  ∀ (m : (ℓ : Loc Cert.AdamKv.nD Cert.AdamKv.τ Cert.AdamKv.sig) → Buf (Elt Bits) ℓ) (g : Dev Cert.AdamKv.nD → PrngReg), Pre_AdamKv m →
    θ_run (Cert.AdamKv.defs (F := Bits)) (onTc (τ := Cert.AdamKv.τ) (Cert.AdamKv.main (F := Bits))) ⟨m, fun _ => 0, g⟩ (fun r => (∀ c : Dev Cert.AdamKv.nD,
      r.2.mem ((c.tc : Thread Cert.AdamKv.nD Cert.AdamKv.τ).loc Cert.AdamKv.main_arg0) = m ((c.tc : Thread Cert.AdamKv.nD Cert.AdamKv.τ).loc Cert.AdamKv.main_arg0)
      ∧ r.2.mem ((c.tc : Thread Cert.AdamKv.nD Cert.AdamKv.τ).loc Cert.AdamKv.main_arg1) = m ((c.tc : Thread Cert.AdamKv.nD Cert.AdamKv.τ).loc Cert.AdamKv.main_arg1)
      ∧ r.2.mem ((c.tc : Thread Cert.AdamKv.nD Cert.AdamKv.τ).loc Cert.AdamKv.main_arg2) = m ((c.tc : Thread Cert.AdamKv.nD Cert.AdamKv.τ).loc Cert.AdamKv.main_arg2)
      ∧ r.2.mem ((c.tc : Thread Cert.AdamKv.nD Cert.AdamKv.τ).loc Cert.AdamKv.main_arg3) = m ((c.tc : Thread Cert.AdamKv.nD Cert.AdamKv.τ).loc Cert.AdamKv.main_arg3)
      ∧ r.2.mem ((c.tc : Thread Cert.AdamKv.nD Cert.AdamKv.τ).loc Cert.AdamKv.main_arg4) = m ((c.tc : Thread Cert.AdamKv.nD Cert.AdamKv.τ).loc Cert.AdamKv.main_arg4))
      ∧ r.2.sem = fun _ => 0)

def quiescent_AdamKvIdeal [hAdamKvIdeal : Cert.AdamKvIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg), Pre_AdamKvIdeal m →
    θ_run (Cert.AdamKvIdeal.defs (F := Ideal)) (onTc (τ := Cert.AdamKvIdeal.τ) (Cert.AdamKvIdeal.main (F := Ideal))) ⟨m, fun _ => 0, g⟩ (fun r => (∀ c : Dev Cert.AdamKvIdeal.nD,
      r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
      ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
      ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
      ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3)
      ∧ r.2.mem ((c.tc : Thread Cert.AdamKvIdeal.nD Cert.AdamKvIdeal.τ).loc Cert.AdamKvIdeal.main_arg4) = m ((c.tc : Thread Cert.AdamKvIdeal.nD Cert.AdamKvIdeal.τ).loc Cert.AdamKvIdeal.main_arg4))
      ∧ r.2.sem = fun _ => 0)

def quiescent_AdamKvRefIdeal [hAdamKvRefIdeal : Cert.AdamKvRefIdeal.Facts] : Prop :=
  ∀ (m : (ℓ : Loc Cert.AdamKvRefIdeal.nD Cert.AdamKvRefIdeal.τ Cert.AdamKvRefIdeal.sig) → Buf (Elt Ideal) ℓ) (g : Dev Cert.AdamKvRefIdeal.nD → PrngReg), Pre_AdamKvRefIdeal m →
    θ_run (Cert.AdamKvRefIdeal.defs (F := Ideal)) (onTc (τ := Cert.AdamKvRefIdeal.τ) (Cert.AdamKvRefIdeal.main (F := Ideal))) ⟨m, fun _ => 0, g⟩ (fun r => (∀ c : Dev Cert.AdamKvRefIdeal.nD,
      r.2.mem ((c.tc : Thread Cert.AdamKvRefIdeal.nD Cert.AdamKvRefIdeal.τ).loc Cert.AdamKvRefIdeal.main_arg0) = m ((c.tc : Thread Cert.AdamKvRefIdeal.nD Cert.AdamKvRefIdeal.τ).loc Cert.AdamKvRefIdeal.main_arg0)
      ∧ r.2.mem ((c.tc : Thread Cert.AdamKvRefIdeal.nD Cert.AdamKvRefIdeal.τ).loc Cert.AdamKvRefIdeal.main_arg1) = m ((c.tc : Thread Cert.AdamKvRefIdeal.nD Cert.AdamKvRefIdeal.τ).loc Cert.AdamKvRefIdeal.main_arg1)
      ∧ r.2.mem ((c.tc : Thread Cert.AdamKvRefIdeal.nD Cert.AdamKvRefIdeal.τ).loc Cert.AdamKvRefIdeal.main_arg2) = m ((c.tc : Thread Cert.AdamKvRefIdeal.nD Cert.AdamKvRefIdeal.τ).loc Cert.AdamKvRefIdeal.main_arg2)
      ∧ r.2.mem ((c.tc : Thread Cert.AdamKvRefIdeal.nD Cert.AdamKvRefIdeal.τ).loc Cert.AdamKvRefIdeal.main_arg3) = m ((c.tc : Thread Cert.AdamKvRefIdeal.nD Cert.AdamKvRefIdeal.τ).loc Cert.AdamKvRefIdeal.main_arg3)
      ∧ r.2.mem ((c.tc : Thread Cert.AdamKvRefIdeal.nD Cert.AdamKvRefIdeal.τ).loc Cert.AdamKvRefIdeal.main_arg4) = m ((c.tc : Thread Cert.AdamKvRefIdeal.nD Cert.AdamKvRefIdeal.τ).loc Cert.AdamKvRefIdeal.main_arg4))
      ∧ r.2.sem = fun _ => 0)

def quiescent_AdamGlu [hAdamGlu : Cert.AdamGlu.Facts] : Prop :=
  ∀ (m : (ℓ : Loc Cert.AdamGlu.nD Cert.AdamGlu.τ Cert.AdamGlu.sig) → Buf (Elt Bits) ℓ) (g : Dev Cert.AdamGlu.nD → PrngReg), Pre_AdamGlu m →
    θ_run (Cert.AdamGlu.defs (F := Bits)) (onTc (τ := Cert.AdamGlu.τ) (Cert.AdamGlu.main (F := Bits))) ⟨m, fun _ => 0, g⟩ (fun r => (∀ c : Dev Cert.AdamGlu.nD,
      r.2.mem ((c.tc : Thread Cert.AdamGlu.nD Cert.AdamGlu.τ).loc Cert.AdamGlu.main_arg0) = m ((c.tc : Thread Cert.AdamGlu.nD Cert.AdamGlu.τ).loc Cert.AdamGlu.main_arg0)
      ∧ r.2.mem ((c.tc : Thread Cert.AdamGlu.nD Cert.AdamGlu.τ).loc Cert.AdamGlu.main_arg1) = m ((c.tc : Thread Cert.AdamGlu.nD Cert.AdamGlu.τ).loc Cert.AdamGlu.main_arg1)
      ∧ r.2.mem ((c.tc : Thread Cert.AdamGlu.nD Cert.AdamGlu.τ).loc Cert.AdamGlu.main_arg2) = m ((c.tc : Thread Cert.AdamGlu.nD Cert.AdamGlu.τ).loc Cert.AdamGlu.main_arg2)
      ∧ r.2.mem ((c.tc : Thread Cert.AdamGlu.nD Cert.AdamGlu.τ).loc Cert.AdamGlu.main_arg3) = m ((c.tc : Thread Cert.AdamGlu.nD Cert.AdamGlu.τ).loc Cert.AdamGlu.main_arg3)
      ∧ r.2.mem ((c.tc : Thread Cert.AdamGlu.nD Cert.AdamGlu.τ).loc Cert.AdamGlu.main_arg4) = m ((c.tc : Thread Cert.AdamGlu.nD Cert.AdamGlu.τ).loc Cert.AdamGlu.main_arg4))
      ∧ r.2.sem = fun _ => 0)

def quiescent_AdamGluIdeal [hAdamGluIdeal : Cert.AdamGluIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg), Pre_AdamGluIdeal m →
    θ_run (Cert.AdamGluIdeal.defs (F := Ideal)) (onTc (τ := Cert.AdamGluIdeal.τ) (Cert.AdamGluIdeal.main (F := Ideal))) ⟨m, fun _ => 0, g⟩ (fun r => (∀ c : Dev Cert.AdamGluIdeal.nD,
      r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
      ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
      ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
      ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3)
      ∧ r.2.mem ((c.tc : Thread Cert.AdamGluIdeal.nD Cert.AdamGluIdeal.τ).loc Cert.AdamGluIdeal.main_arg4) = m ((c.tc : Thread Cert.AdamGluIdeal.nD Cert.AdamGluIdeal.τ).loc Cert.AdamGluIdeal.main_arg4))
      ∧ r.2.sem = fun _ => 0)

def quiescent_AdamGluRefIdeal [hAdamGluRefIdeal : Cert.AdamGluRefIdeal.Facts] : Prop :=
  ∀ (m : (ℓ : Loc Cert.AdamGluRefIdeal.nD Cert.AdamGluRefIdeal.τ Cert.AdamGluRefIdeal.sig) → Buf (Elt Ideal) ℓ) (g : Dev Cert.AdamGluRefIdeal.nD → PrngReg), Pre_AdamGluRefIdeal m →
    θ_run (Cert.AdamGluRefIdeal.defs (F := Ideal)) (onTc (τ := Cert.AdamGluRefIdeal.τ) (Cert.AdamGluRefIdeal.main (F := Ideal))) ⟨m, fun _ => 0, g⟩ (fun r => (∀ c : Dev Cert.AdamGluRefIdeal.nD,
      r.2.mem ((c.tc : Thread Cert.AdamGluRefIdeal.nD Cert.AdamGluRefIdeal.τ).loc Cert.AdamGluRefIdeal.main_arg0) = m ((c.tc : Thread Cert.AdamGluRefIdeal.nD Cert.AdamGluRefIdeal.τ).loc Cert.AdamGluRefIdeal.main_arg0)
      ∧ r.2.mem ((c.tc : Thread Cert.AdamGluRefIdeal.nD Cert.AdamGluRefIdeal.τ).loc Cert.AdamGluRefIdeal.main_arg1) = m ((c.tc : Thread Cert.AdamGluRefIdeal.nD Cert.AdamGluRefIdeal.τ).loc Cert.AdamGluRefIdeal.main_arg1)
      ∧ r.2.mem ((c.tc : Thread Cert.AdamGluRefIdeal.nD Cert.AdamGluRefIdeal.τ).loc Cert.AdamGluRefIdeal.main_arg2) = m ((c.tc : Thread Cert.AdamGluRefIdeal.nD Cert.AdamGluRefIdeal.τ).loc Cert.AdamGluRefIdeal.main_arg2)
      ∧ r.2.mem ((c.tc : Thread Cert.AdamGluRefIdeal.nD Cert.AdamGluRefIdeal.τ).loc Cert.AdamGluRefIdeal.main_arg3) = m ((c.tc : Thread Cert.AdamGluRefIdeal.nD Cert.AdamGluRefIdeal.τ).loc Cert.AdamGluRefIdeal.main_arg3)
      ∧ r.2.mem ((c.tc : Thread Cert.AdamGluRefIdeal.nD Cert.AdamGluRefIdeal.τ).loc Cert.AdamGluRefIdeal.main_arg4) = m ((c.tc : Thread Cert.AdamGluRefIdeal.nD Cert.AdamGluRefIdeal.τ).loc Cert.AdamGluRefIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)) (v5 : (c : Dev Cert.KernelIdeal.nD) → Buf (Elt Ideal) ((c.tc : Thread Cert.KernelIdeal.nD Cert.KernelIdeal.τ).loc Cert.KernelIdeal.main_v2_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_v2_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_v71) = v2 c
          ∧ r.2.mem ((c.tc : Thread Cert.ReferenceIdeal.nD Cert.ReferenceIdeal.τ).loc Cert.ReferenceIdeal.main_v91) = v3 c
          ∧ r.2.mem ((c.tc : Thread Cert.ReferenceIdeal.nD Cert.ReferenceIdeal.τ).loc Cert.ReferenceIdeal.main_v85) = v4 c
          ∧ r.2.mem ((c.tc : Thread Cert.ReferenceIdeal.nD Cert.ReferenceIdeal.τ).loc Cert.ReferenceIdeal.main_v56) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Dwin3_Dwin3Ideal : Prop :=
  True

def algebraic_Dwin3Ideal_Dwin3RefIdeal [hDwin3Ideal : Cert.Dwin3Ideal.Facts] [hDwin3RefIdeal : Cert.Dwin3RefIdeal.Facts] : Prop :=
  ∀ (m : (ℓ : Loc Cert.Dwin3Ideal.nD Cert.Dwin3Ideal.τ Cert.Dwin3Ideal.sig) → Buf (Elt Ideal) ℓ) (g : Dev Cert.Dwin3Ideal.nD → PrngReg)
    (m' : (ℓ : Loc Cert.Dwin3RefIdeal.nD Cert.Dwin3RefIdeal.τ Cert.Dwin3RefIdeal.sig) → Buf (Elt Ideal) ℓ) (g' : Dev Cert.Dwin3RefIdeal.nD → PrngReg), Pre_Dwin3Ideal m →
    (∀ c : Dev Cert.Dwin3Ideal.nD,
      m' ((c.tc : Thread Cert.Dwin3RefIdeal.nD Cert.Dwin3RefIdeal.τ).loc Cert.Dwin3RefIdeal.main_arg0) = m ((c.tc : Thread Cert.Dwin3Ideal.nD Cert.Dwin3Ideal.τ).loc Cert.Dwin3Ideal.main_arg0)
      ∧ m' ((c.tc : Thread Cert.Dwin3RefIdeal.nD Cert.Dwin3RefIdeal.τ).loc Cert.Dwin3RefIdeal.main_arg1) = m ((c.tc : Thread Cert.Dwin3Ideal.nD Cert.Dwin3Ideal.τ).loc Cert.Dwin3Ideal.main_arg1)) →
    ∃ (v0 : (c : Dev Cert.Dwin3Ideal.nD) → Buf (Elt Ideal) ((c.tc : Thread Cert.Dwin3Ideal.nD Cert.Dwin3Ideal.τ).loc Cert.Dwin3Ideal.main_v0)),
      θ_run (Cert.Dwin3Ideal.defs (F := Ideal)) (onTc (τ := Cert.Dwin3Ideal.τ) (Cert.Dwin3Ideal.main (F := Ideal))) ⟨m, fun _ => 0, g⟩ (fun r => ∀ c : Dev Cert.Dwin3Ideal.nD,
          r.2.mem ((c.tc : Thread Cert.Dwin3Ideal.nD Cert.Dwin3Ideal.τ).loc Cert.Dwin3Ideal.main_v0) = v0 c
          ∧ r.2.mem ((c.tc : Thread Cert.Dwin3Ideal.nD Cert.Dwin3Ideal.τ).loc Cert.Dwin3Ideal.main_arg0) = m ((c.tc : Thread Cert.Dwin3Ideal.nD Cert.Dwin3Ideal.τ).loc Cert.Dwin3Ideal.main_arg0)
          ∧ r.2.mem ((c.tc : Thread Cert.Dwin3Ideal.nD Cert.Dwin3Ideal.τ).loc Cert.Dwin3Ideal.main_arg1) = m ((c.tc : Thread Cert.Dwin3Ideal.nD Cert.Dwin3Ideal.τ).loc Cert.Dwin3Ideal.main_arg1))
      ∧ θ_run (Cert.Dwin3RefIdeal.defs (F := Ideal)) (onTc (τ := Cert.Dwin3RefIdeal.τ) (Cert.Dwin3RefIdeal.main (F := Ideal))) ⟨m', fun _ => 0, g'⟩ (fun r => ∀ c : Dev Cert.Dwin3RefIdeal.nD,
          r.2.mem ((c.tc : Thread Cert.Dwin3RefIdeal.nD Cert.Dwin3RefIdeal.τ).loc Cert.Dwin3RefIdeal.main_v3) = v0 c
          ∧ r.2.mem ((c.tc : Thread Cert.Dwin3RefIdeal.nD Cert.Dwin3RefIdeal.τ).loc Cert.Dwin3RefIdeal.main_arg0) = m' ((c.tc : Thread Cert.Dwin3RefIdeal.nD Cert.Dwin3RefIdeal.τ).loc Cert.Dwin3RefIdeal.main_arg0)
          ∧ r.2.mem ((c.tc : Thread Cert.Dwin3RefIdeal.nD Cert.Dwin3RefIdeal.τ).loc Cert.Dwin3RefIdeal.main_arg1) = m' ((c.tc : Thread Cert.Dwin3RefIdeal.nD Cert.Dwin3RefIdeal.τ).loc Cert.Dwin3RefIdeal.main_arg1))

def preserves_Dwin1_Dwin1Ideal : Prop :=
  True

def algebraic_Dwin1Ideal_Dwin1RefIdeal [hDwin1Ideal : Cert.Dwin1Ideal.Facts] [hDwin1RefIdeal : Cert.Dwin1RefIdeal.Facts] : Prop :=
  ∀ (m : (ℓ : Loc Cert.Dwin1Ideal.nD Cert.Dwin1Ideal.τ Cert.Dwin1Ideal.sig) → Buf (Elt Ideal) ℓ) (g : Dev Cert.Dwin1Ideal.nD → PrngReg)
    (m' : (ℓ : Loc Cert.Dwin1RefIdeal.nD Cert.Dwin1RefIdeal.τ Cert.Dwin1RefIdeal.sig) → Buf (Elt Ideal) ℓ) (g' : Dev Cert.Dwin1RefIdeal.nD → PrngReg), Pre_Dwin1Ideal m →
    (∀ c : Dev Cert.Dwin1Ideal.nD,
      m' ((c.tc : Thread Cert.Dwin1RefIdeal.nD Cert.Dwin1RefIdeal.τ).loc Cert.Dwin1RefIdeal.main_arg0) = m ((c.tc : Thread Cert.Dwin1Ideal.nD Cert.Dwin1Ideal.τ).loc Cert.Dwin1Ideal.main_arg0)
      ∧ m' ((c.tc : Thread Cert.Dwin1RefIdeal.nD Cert.Dwin1RefIdeal.τ).loc Cert.Dwin1RefIdeal.main_arg1) = m ((c.tc : Thread Cert.Dwin1Ideal.nD Cert.Dwin1Ideal.τ).loc Cert.Dwin1Ideal.main_arg1)) →
    ∃ (v0 : (c : Dev Cert.Dwin1Ideal.nD) → Buf (Elt Ideal) ((c.tc : Thread Cert.Dwin1Ideal.nD Cert.Dwin1Ideal.τ).loc Cert.Dwin1Ideal.main_v0)),
      θ_run (Cert.Dwin1Ideal.defs (F := Ideal)) (onTc (τ := Cert.Dwin1Ideal.τ) (Cert.Dwin1Ideal.main (F := Ideal))) ⟨m, fun _ => 0, g⟩ (fun r => ∀ c : Dev Cert.Dwin1Ideal.nD,
          r.2.mem ((c.tc : Thread Cert.Dwin1Ideal.nD Cert.Dwin1Ideal.τ).loc Cert.Dwin1Ideal.main_v0) = v0 c
          ∧ r.2.mem ((c.tc : Thread Cert.Dwin1Ideal.nD Cert.Dwin1Ideal.τ).loc Cert.Dwin1Ideal.main_arg0) = m ((c.tc : Thread Cert.Dwin1Ideal.nD Cert.Dwin1Ideal.τ).loc Cert.Dwin1Ideal.main_arg0)
          ∧ r.2.mem ((c.tc : Thread Cert.Dwin1Ideal.nD Cert.Dwin1Ideal.τ).loc Cert.Dwin1Ideal.main_arg1) = m ((c.tc : Thread Cert.Dwin1Ideal.nD Cert.Dwin1Ideal.τ).loc Cert.Dwin1Ideal.main_arg1))
      ∧ θ_run (Cert.Dwin1RefIdeal.defs (F := Ideal)) (onTc (τ := Cert.Dwin1RefIdeal.τ) (Cert.Dwin1RefIdeal.main (F := Ideal))) ⟨m', fun _ => 0, g'⟩ (fun r => ∀ c : Dev Cert.Dwin1RefIdeal.nD,
          r.2.mem ((c.tc : Thread Cert.Dwin1RefIdeal.nD Cert.Dwin1RefIdeal.τ).loc Cert.Dwin1RefIdeal.main_v3) = v0 c
          ∧ r.2.mem ((c.tc : Thread Cert.Dwin1RefIdeal.nD Cert.Dwin1RefIdeal.τ).loc Cert.Dwin1RefIdeal.main_arg0) = m' ((c.tc : Thread Cert.Dwin1RefIdeal.nD Cert.Dwin1RefIdeal.τ).loc Cert.Dwin1RefIdeal.main_arg0)
          ∧ r.2.mem ((c.tc : Thread Cert.Dwin1RefIdeal.nD Cert.Dwin1RefIdeal.τ).loc Cert.Dwin1RefIdeal.main_arg1) = m' ((c.tc : Thread Cert.Dwin1RefIdeal.nD Cert.Dwin1RefIdeal.τ).loc Cert.Dwin1RefIdeal.main_arg1))

def preserves_Dwin0_Dwin0Ideal : Prop :=
  True

def algebraic_Dwin0Ideal_Dwin0RefIdeal [hDwin0Ideal : Cert.Dwin0Ideal.Facts] [hDwin0RefIdeal : Cert.Dwin0RefIdeal.Facts] : Prop :=
  ∀ (m : (ℓ : Loc Cert.Dwin0Ideal.nD Cert.Dwin0Ideal.τ Cert.Dwin0Ideal.sig) → Buf (Elt Ideal) ℓ) (g : Dev Cert.Dwin0Ideal.nD → PrngReg)
    (m' : (ℓ : Loc Cert.Dwin0RefIdeal.nD Cert.Dwin0RefIdeal.τ Cert.Dwin0RefIdeal.sig) → Buf (Elt Ideal) ℓ) (g' : Dev Cert.Dwin0RefIdeal.nD → PrngReg), Pre_Dwin0Ideal m →
    (∀ c : Dev Cert.Dwin0Ideal.nD,
      m' ((c.tc : Thread Cert.Dwin0RefIdeal.nD Cert.Dwin0RefIdeal.τ).loc Cert.Dwin0RefIdeal.main_arg0) = m ((c.tc : Thread Cert.Dwin0Ideal.nD Cert.Dwin0Ideal.τ).loc Cert.Dwin0Ideal.main_arg0)
      ∧ m' ((c.tc : Thread Cert.Dwin0RefIdeal.nD Cert.Dwin0RefIdeal.τ).loc Cert.Dwin0RefIdeal.main_arg1) = m ((c.tc : Thread Cert.Dwin0Ideal.nD Cert.Dwin0Ideal.τ).loc Cert.Dwin0Ideal.main_arg1)) →
    ∃ (v0 : (c : Dev Cert.Dwin0Ideal.nD) → Buf (Elt Ideal) ((c.tc : Thread Cert.Dwin0Ideal.nD Cert.Dwin0Ideal.τ).loc Cert.Dwin0Ideal.main_v0)),
      θ_run (Cert.Dwin0Ideal.defs (F := Ideal)) (onTc (τ := Cert.Dwin0Ideal.τ) (Cert.Dwin0Ideal.main (F := Ideal))) ⟨m, fun _ => 0, g⟩ (fun r => ∀ c : Dev Cert.Dwin0Ideal.nD,
          r.2.mem ((c.tc : Thread Cert.Dwin0Ideal.nD Cert.Dwin0Ideal.τ).loc Cert.Dwin0Ideal.main_v0) = v0 c
          ∧ r.2.mem ((c.tc : Thread Cert.Dwin0Ideal.nD Cert.Dwin0Ideal.τ).loc Cert.Dwin0Ideal.main_arg0) = m ((c.tc : Thread Cert.Dwin0Ideal.nD Cert.Dwin0Ideal.τ).loc Cert.Dwin0Ideal.main_arg0)
          ∧ r.2.mem ((c.tc : Thread Cert.Dwin0Ideal.nD Cert.Dwin0Ideal.τ).loc Cert.Dwin0Ideal.main_arg1) = m ((c.tc : Thread Cert.Dwin0Ideal.nD Cert.Dwin0Ideal.τ).loc Cert.Dwin0Ideal.main_arg1))
      ∧ θ_run (Cert.Dwin0RefIdeal.defs (F := Ideal)) (onTc (τ := Cert.Dwin0RefIdeal.τ) (Cert.Dwin0RefIdeal.main (F := Ideal))) ⟨m', fun _ => 0, g'⟩ (fun r => ∀ c : Dev Cert.Dwin0RefIdeal.nD,
          r.2.mem ((c.tc : Thread Cert.Dwin0RefIdeal.nD Cert.Dwin0RefIdeal.τ).loc Cert.Dwin0RefIdeal.main_v3) = v0 c
          ∧ r.2.mem ((c.tc : Thread Cert.Dwin0RefIdeal.nD Cert.Dwin0RefIdeal.τ).loc Cert.Dwin0RefIdeal.main_arg0) = m' ((c.tc : Thread Cert.Dwin0RefIdeal.nD Cert.Dwin0RefIdeal.τ).loc Cert.Dwin0RefIdeal.main_arg0)
          ∧ r.2.mem ((c.tc : Thread Cert.Dwin0RefIdeal.nD Cert.Dwin0RefIdeal.τ).loc Cert.Dwin0RefIdeal.main_arg1) = m' ((c.tc : Thread Cert.Dwin0RefIdeal.nD Cert.Dwin0RefIdeal.τ).loc Cert.Dwin0RefIdeal.main_arg1))

def preserves_Dwin2_Dwin2Ideal : Prop :=
  True

def algebraic_Dwin2Ideal_Dwin2RefIdeal [hDwin2Ideal : Cert.Dwin2Ideal.Facts] [hDwin2RefIdeal : Cert.Dwin2RefIdeal.Facts] : Prop :=
  ∀ (m : (ℓ : Loc Cert.Dwin2Ideal.nD Cert.Dwin2Ideal.τ Cert.Dwin2Ideal.sig) → Buf (Elt Ideal) ℓ) (g : Dev Cert.Dwin2Ideal.nD → PrngReg)
    (m' : (ℓ : Loc Cert.Dwin2RefIdeal.nD Cert.Dwin2RefIdeal.τ Cert.Dwin2RefIdeal.sig) → Buf (Elt Ideal) ℓ) (g' : Dev Cert.Dwin2RefIdeal.nD → PrngReg), Pre_Dwin2Ideal m →
    (∀ c : Dev Cert.Dwin2Ideal.nD,
      m' ((c.tc : Thread Cert.Dwin2RefIdeal.nD Cert.Dwin2RefIdeal.τ).loc Cert.Dwin2RefIdeal.main_arg0) = m ((c.tc : Thread Cert.Dwin2Ideal.nD Cert.Dwin2Ideal.τ).loc Cert.Dwin2Ideal.main_arg0)
      ∧ m' ((c.tc : Thread Cert.Dwin2RefIdeal.nD Cert.Dwin2RefIdeal.τ).loc Cert.Dwin2RefIdeal.main_arg1) = m ((c.tc : Thread Cert.Dwin2Ideal.nD Cert.Dwin2Ideal.τ).loc Cert.Dwin2Ideal.main_arg1)) →
    ∃ (v0 : (c : Dev Cert.Dwin2Ideal.nD) → Buf (Elt Ideal) ((c.tc : Thread Cert.Dwin2Ideal.nD Cert.Dwin2Ideal.τ).loc Cert.Dwin2Ideal.main_v0)),
      θ_run (Cert.Dwin2Ideal.defs (F := Ideal)) (onTc (τ := Cert.Dwin2Ideal.τ) (Cert.Dwin2Ideal.main (F := Ideal))) ⟨m, fun _ => 0, g⟩ (fun r => ∀ c : Dev Cert.Dwin2Ideal.nD,
          r.2.mem ((c.tc : Thread Cert.Dwin2Ideal.nD Cert.Dwin2Ideal.τ).loc Cert.Dwin2Ideal.main_v0) = v0 c
          ∧ r.2.mem ((c.tc : Thread Cert.Dwin2Ideal.nD Cert.Dwin2Ideal.τ).loc Cert.Dwin2Ideal.main_arg0) = m ((c.tc : Thread Cert.Dwin2Ideal.nD Cert.Dwin2Ideal.τ).loc Cert.Dwin2Ideal.main_arg0)
          ∧ r.2.mem ((c.tc : Thread Cert.Dwin2Ideal.nD Cert.Dwin2Ideal.τ).loc Cert.Dwin2Ideal.main_arg1) = m ((c.tc : Thread Cert.Dwin2Ideal.nD Cert.Dwin2Ideal.τ).loc Cert.Dwin2Ideal.main_arg1))
      ∧ θ_run (Cert.Dwin2RefIdeal.defs (F := Ideal)) (onTc (τ := Cert.Dwin2RefIdeal.τ) (Cert.Dwin2RefIdeal.main (F := Ideal))) ⟨m', fun _ => 0, g'⟩ (fun r => ∀ c : Dev Cert.Dwin2RefIdeal.nD,
          r.2.mem ((c.tc : Thread Cert.Dwin2RefIdeal.nD Cert.Dwin2RefIdeal.τ).loc Cert.Dwin2RefIdeal.main_v2) = v0 c
          ∧ r.2.mem ((c.tc : Thread Cert.Dwin2RefIdeal.nD Cert.Dwin2RefIdeal.τ).loc Cert.Dwin2RefIdeal.main_arg0) = m' ((c.tc : Thread Cert.Dwin2RefIdeal.nD Cert.Dwin2RefIdeal.τ).loc Cert.Dwin2RefIdeal.main_arg0)
          ∧ r.2.mem ((c.tc : Thread Cert.Dwin2RefIdeal.nD Cert.Dwin2RefIdeal.τ).loc Cert.Dwin2RefIdeal.main_arg1) = m' ((c.tc : Thread Cert.Dwin2RefIdeal.nD Cert.Dwin2RefIdeal.τ).loc Cert.Dwin2RefIdeal.main_arg1))

def preserves_Dh3_Dh3Ideal : Prop :=
  True

def algebraic_Dh3Ideal_Dh3RefIdeal [hDh3Ideal : Cert.Dh3Ideal.Facts] [hDh3RefIdeal : Cert.Dh3RefIdeal.Facts] : Prop :=
  ∀ (m : (ℓ : Loc Cert.Dh3Ideal.nD Cert.Dh3Ideal.τ Cert.Dh3Ideal.sig) → Buf (Elt Ideal) ℓ) (g : Dev Cert.Dh3Ideal.nD → PrngReg)
    (m' : (ℓ : Loc Cert.Dh3RefIdeal.nD Cert.Dh3RefIdeal.τ Cert.Dh3RefIdeal.sig) → Buf (Elt Ideal) ℓ) (g' : Dev Cert.Dh3RefIdeal.nD → PrngReg), Pre_Dh3Ideal m →
    (∀ c : Dev Cert.Dh3Ideal.nD,
      m' ((c.tc : Thread Cert.Dh3RefIdeal.nD Cert.Dh3RefIdeal.τ).loc Cert.Dh3RefIdeal.main_arg0) = m ((c.tc : Thread Cert.Dh3Ideal.nD Cert.Dh3Ideal.τ).loc Cert.Dh3Ideal.main_arg0)
      ∧ m' ((c.tc : Thread Cert.Dh3RefIdeal.nD Cert.Dh3RefIdeal.τ).loc Cert.Dh3RefIdeal.main_arg1) = m ((c.tc : Thread Cert.Dh3Ideal.nD Cert.Dh3Ideal.τ).loc Cert.Dh3Ideal.main_arg1)
      ∧ m' ((c.tc : Thread Cert.Dh3RefIdeal.nD Cert.Dh3RefIdeal.τ).loc Cert.Dh3RefIdeal.main_arg2) = m ((c.tc : Thread Cert.Dh3Ideal.nD Cert.Dh3Ideal.τ).loc Cert.Dh3Ideal.main_arg2)) →
    ∃ (v0 : (c : Dev Cert.Dh3Ideal.nD) → Buf (Elt Ideal) ((c.tc : Thread Cert.Dh3Ideal.nD Cert.Dh3Ideal.τ).loc Cert.Dh3Ideal.main_v0)),
      θ_run (Cert.Dh3Ideal.defs (F := Ideal)) (onTc (τ := Cert.Dh3Ideal.τ) (Cert.Dh3Ideal.main (F := Ideal))) ⟨m, fun _ => 0, g⟩ (fun r => ∀ c : Dev Cert.Dh3Ideal.nD,
          r.2.mem ((c.tc : Thread Cert.Dh3Ideal.nD Cert.Dh3Ideal.τ).loc Cert.Dh3Ideal.main_v0) = v0 c
          ∧ r.2.mem ((c.tc : Thread Cert.Dh3Ideal.nD Cert.Dh3Ideal.τ).loc Cert.Dh3Ideal.main_arg0) = m ((c.tc : Thread Cert.Dh3Ideal.nD Cert.Dh3Ideal.τ).loc Cert.Dh3Ideal.main_arg0)
          ∧ r.2.mem ((c.tc : Thread Cert.Dh3Ideal.nD Cert.Dh3Ideal.τ).loc Cert.Dh3Ideal.main_arg1) = m ((c.tc : Thread Cert.Dh3Ideal.nD Cert.Dh3Ideal.τ).loc Cert.Dh3Ideal.main_arg1)
          ∧ r.2.mem ((c.tc : Thread Cert.Dh3Ideal.nD Cert.Dh3Ideal.τ).loc Cert.Dh3Ideal.main_arg2) = m ((c.tc : Thread Cert.Dh3Ideal.nD Cert.Dh3Ideal.τ).loc Cert.Dh3Ideal.main_arg2))
      ∧ θ_run (Cert.Dh3RefIdeal.defs (F := Ideal)) (onTc (τ := Cert.Dh3RefIdeal.τ) (Cert.Dh3RefIdeal.main (F := Ideal))) ⟨m', fun _ => 0, g'⟩ (fun r => ∀ c : Dev Cert.Dh3RefIdeal.nD,
          r.2.mem ((c.tc : Thread Cert.Dh3RefIdeal.nD Cert.Dh3RefIdeal.τ).loc Cert.Dh3RefIdeal.main_v4) = v0 c
          ∧ r.2.mem ((c.tc : Thread Cert.Dh3RefIdeal.nD Cert.Dh3RefIdeal.τ).loc Cert.Dh3RefIdeal.main_arg0) = m' ((c.tc : Thread Cert.Dh3RefIdeal.nD Cert.Dh3RefIdeal.τ).loc Cert.Dh3RefIdeal.main_arg0)
          ∧ r.2.mem ((c.tc : Thread Cert.Dh3RefIdeal.nD Cert.Dh3RefIdeal.τ).loc Cert.Dh3RefIdeal.main_arg1) = m' ((c.tc : Thread Cert.Dh3RefIdeal.nD Cert.Dh3RefIdeal.τ).loc Cert.Dh3RefIdeal.main_arg1)
          ∧ r.2.mem ((c.tc : Thread Cert.Dh3RefIdeal.nD Cert.Dh3RefIdeal.τ).loc Cert.Dh3RefIdeal.main_arg2) = m' ((c.tc : Thread Cert.Dh3RefIdeal.nD Cert.Dh3RefIdeal.τ).loc Cert.Dh3RefIdeal.main_arg2))

def preserves_Dh1_Dh1Ideal : Prop :=
  True

def algebraic_Dh1Ideal_Dh1RefIdeal [hDh1Ideal : Cert.Dh1Ideal.Facts] [hDh1RefIdeal : Cert.Dh1RefIdeal.Facts] : Prop :=
  ∀ (m : (ℓ : Loc Cert.Dh1Ideal.nD Cert.Dh1Ideal.τ Cert.Dh1Ideal.sig) → Buf (Elt Ideal) ℓ) (g : Dev Cert.Dh1Ideal.nD → PrngReg)
    (m' : (ℓ : Loc Cert.Dh1RefIdeal.nD Cert.Dh1RefIdeal.τ Cert.Dh1RefIdeal.sig) → Buf (Elt Ideal) ℓ) (g' : Dev Cert.Dh1RefIdeal.nD → PrngReg), Pre_Dh1Ideal m →
    (∀ c : Dev Cert.Dh1Ideal.nD,
      m' ((c.tc : Thread Cert.Dh1RefIdeal.nD Cert.Dh1RefIdeal.τ).loc Cert.Dh1RefIdeal.main_arg0) = m ((c.tc : Thread Cert.Dh1Ideal.nD Cert.Dh1Ideal.τ).loc Cert.Dh1Ideal.main_arg0)
      ∧ m' ((c.tc : Thread Cert.Dh1RefIdeal.nD Cert.Dh1RefIdeal.τ).loc Cert.Dh1RefIdeal.main_arg1) = m ((c.tc : Thread Cert.Dh1Ideal.nD Cert.Dh1Ideal.τ).loc Cert.Dh1Ideal.main_arg1)
      ∧ m' ((c.tc : Thread Cert.Dh1RefIdeal.nD Cert.Dh1RefIdeal.τ).loc Cert.Dh1RefIdeal.main_arg2) = m ((c.tc : Thread Cert.Dh1Ideal.nD Cert.Dh1Ideal.τ).loc Cert.Dh1Ideal.main_arg2)) →
    ∃ (v0 : (c : Dev Cert.Dh1Ideal.nD) → Buf (Elt Ideal) ((c.tc : Thread Cert.Dh1Ideal.nD Cert.Dh1Ideal.τ).loc Cert.Dh1Ideal.main_v0)),
      θ_run (Cert.Dh1Ideal.defs (F := Ideal)) (onTc (τ := Cert.Dh1Ideal.τ) (Cert.Dh1Ideal.main (F := Ideal))) ⟨m, fun _ => 0, g⟩ (fun r => ∀ c : Dev Cert.Dh1Ideal.nD,
          r.2.mem ((c.tc : Thread Cert.Dh1Ideal.nD Cert.Dh1Ideal.τ).loc Cert.Dh1Ideal.main_v0) = v0 c
          ∧ r.2.mem ((c.tc : Thread Cert.Dh1Ideal.nD Cert.Dh1Ideal.τ).loc Cert.Dh1Ideal.main_arg0) = m ((c.tc : Thread Cert.Dh1Ideal.nD Cert.Dh1Ideal.τ).loc Cert.Dh1Ideal.main_arg0)
          ∧ r.2.mem ((c.tc : Thread Cert.Dh1Ideal.nD Cert.Dh1Ideal.τ).loc Cert.Dh1Ideal.main_arg1) = m ((c.tc : Thread Cert.Dh1Ideal.nD Cert.Dh1Ideal.τ).loc Cert.Dh1Ideal.main_arg1)
          ∧ r.2.mem ((c.tc : Thread Cert.Dh1Ideal.nD Cert.Dh1Ideal.τ).loc Cert.Dh1Ideal.main_arg2) = m ((c.tc : Thread Cert.Dh1Ideal.nD Cert.Dh1Ideal.τ).loc Cert.Dh1Ideal.main_arg2))
      ∧ θ_run (Cert.Dh1RefIdeal.defs (F := Ideal)) (onTc (τ := Cert.Dh1RefIdeal.τ) (Cert.Dh1RefIdeal.main (F := Ideal))) ⟨m', fun _ => 0, g'⟩ (fun r => ∀ c : Dev Cert.Dh1RefIdeal.nD,
          r.2.mem ((c.tc : Thread Cert.Dh1RefIdeal.nD Cert.Dh1RefIdeal.τ).loc Cert.Dh1RefIdeal.main_v4) = v0 c
          ∧ r.2.mem ((c.tc : Thread Cert.Dh1RefIdeal.nD Cert.Dh1RefIdeal.τ).loc Cert.Dh1RefIdeal.main_arg0) = m' ((c.tc : Thread Cert.Dh1RefIdeal.nD Cert.Dh1RefIdeal.τ).loc Cert.Dh1RefIdeal.main_arg0)
          ∧ r.2.mem ((c.tc : Thread Cert.Dh1RefIdeal.nD Cert.Dh1RefIdeal.τ).loc Cert.Dh1RefIdeal.main_arg1) = m' ((c.tc : Thread Cert.Dh1RefIdeal.nD Cert.Dh1RefIdeal.τ).loc Cert.Dh1RefIdeal.main_arg1)
          ∧ r.2.mem ((c.tc : Thread Cert.Dh1RefIdeal.nD Cert.Dh1RefIdeal.τ).loc Cert.Dh1RefIdeal.main_arg2) = m' ((c.tc : Thread Cert.Dh1RefIdeal.nD Cert.Dh1RefIdeal.τ).loc Cert.Dh1RefIdeal.main_arg2))

def preserves_Dh0_Dh0Ideal : Prop :=
  True

def algebraic_Dh0Ideal_Dh0RefIdeal [hDh0Ideal : Cert.Dh0Ideal.Facts] [hDh0RefIdeal : Cert.Dh0RefIdeal.Facts] : Prop :=
  ∀ (m : (ℓ : Loc Cert.Dh0Ideal.nD Cert.Dh0Ideal.τ Cert.Dh0Ideal.sig) → Buf (Elt Ideal) ℓ) (g : Dev Cert.Dh0Ideal.nD → PrngReg)
    (m' : (ℓ : Loc Cert.Dh0RefIdeal.nD Cert.Dh0RefIdeal.τ Cert.Dh0RefIdeal.sig) → Buf (Elt Ideal) ℓ) (g' : Dev Cert.Dh0RefIdeal.nD → PrngReg), Pre_Dh0Ideal m →
    (∀ c : Dev Cert.Dh0Ideal.nD,
      m' ((c.tc : Thread Cert.Dh0RefIdeal.nD Cert.Dh0RefIdeal.τ).loc Cert.Dh0RefIdeal.main_arg0) = m ((c.tc : Thread Cert.Dh0Ideal.nD Cert.Dh0Ideal.τ).loc Cert.Dh0Ideal.main_arg0)
      ∧ m' ((c.tc : Thread Cert.Dh0RefIdeal.nD Cert.Dh0RefIdeal.τ).loc Cert.Dh0RefIdeal.main_arg1) = m ((c.tc : Thread Cert.Dh0Ideal.nD Cert.Dh0Ideal.τ).loc Cert.Dh0Ideal.main_arg1)) →
    ∃ (v0 : (c : Dev Cert.Dh0Ideal.nD) → Buf (Elt Ideal) ((c.tc : Thread Cert.Dh0Ideal.nD Cert.Dh0Ideal.τ).loc Cert.Dh0Ideal.main_v0)),
      θ_run (Cert.Dh0Ideal.defs (F := Ideal)) (onTc (τ := Cert.Dh0Ideal.τ) (Cert.Dh0Ideal.main (F := Ideal))) ⟨m, fun _ => 0, g⟩ (fun r => ∀ c : Dev Cert.Dh0Ideal.nD,
          r.2.mem ((c.tc : Thread Cert.Dh0Ideal.nD Cert.Dh0Ideal.τ).loc Cert.Dh0Ideal.main_v0) = v0 c
          ∧ r.2.mem ((c.tc : Thread Cert.Dh0Ideal.nD Cert.Dh0Ideal.τ).loc Cert.Dh0Ideal.main_arg0) = m ((c.tc : Thread Cert.Dh0Ideal.nD Cert.Dh0Ideal.τ).loc Cert.Dh0Ideal.main_arg0)
          ∧ r.2.mem ((c.tc : Thread Cert.Dh0Ideal.nD Cert.Dh0Ideal.τ).loc Cert.Dh0Ideal.main_arg1) = m ((c.tc : Thread Cert.Dh0Ideal.nD Cert.Dh0Ideal.τ).loc Cert.Dh0Ideal.main_arg1))
      ∧ θ_run (Cert.Dh0RefIdeal.defs (F := Ideal)) (onTc (τ := Cert.Dh0RefIdeal.τ) (Cert.Dh0RefIdeal.main (F := Ideal))) ⟨m', fun _ => 0, g'⟩ (fun r => ∀ c : Dev Cert.Dh0RefIdeal.nD,
          r.2.mem ((c.tc : Thread Cert.Dh0RefIdeal.nD Cert.Dh0RefIdeal.τ).loc Cert.Dh0RefIdeal.main_v3) = v0 c
          ∧ r.2.mem ((c.tc : Thread Cert.Dh0RefIdeal.nD Cert.Dh0RefIdeal.τ).loc Cert.Dh0RefIdeal.main_arg0) = m' ((c.tc : Thread Cert.Dh0RefIdeal.nD Cert.Dh0RefIdeal.τ).loc Cert.Dh0RefIdeal.main_arg0)
          ∧ r.2.mem ((c.tc : Thread Cert.Dh0RefIdeal.nD Cert.Dh0RefIdeal.τ).loc Cert.Dh0RefIdeal.main_arg1) = m' ((c.tc : Thread Cert.Dh0RefIdeal.nD Cert.Dh0RefIdeal.τ).loc Cert.Dh0RefIdeal.main_arg1))

def preserves_Dh2_Dh2Ideal : Prop :=
  True

def algebraic_Dh2Ideal_Dh2RefIdeal [hDh2Ideal : Cert.Dh2Ideal.Facts] [hDh2RefIdeal : Cert.Dh2RefIdeal.Facts] : Prop :=
  ∀ (m : (ℓ : Loc Cert.Dh2Ideal.nD Cert.Dh2Ideal.τ Cert.Dh2Ideal.sig) → Buf (Elt Ideal) ℓ) (g : Dev Cert.Dh2Ideal.nD → PrngReg)
    (m' : (ℓ : Loc Cert.Dh2RefIdeal.nD Cert.Dh2RefIdeal.τ Cert.Dh2RefIdeal.sig) → Buf (Elt Ideal) ℓ) (g' : Dev Cert.Dh2RefIdeal.nD → PrngReg), Pre_Dh2Ideal m →
    (∀ c : Dev Cert.Dh2Ideal.nD,
      m' ((c.tc : Thread Cert.Dh2RefIdeal.nD Cert.Dh2RefIdeal.τ).loc Cert.Dh2RefIdeal.main_arg0) = m ((c.tc : Thread Cert.Dh2Ideal.nD Cert.Dh2Ideal.τ).loc Cert.Dh2Ideal.main_arg0)
      ∧ m' ((c.tc : Thread Cert.Dh2RefIdeal.nD Cert.Dh2RefIdeal.τ).loc Cert.Dh2RefIdeal.main_arg1) = m ((c.tc : Thread Cert.Dh2Ideal.nD Cert.Dh2Ideal.τ).loc Cert.Dh2Ideal.main_arg1)
      ∧ m' ((c.tc : Thread Cert.Dh2RefIdeal.nD Cert.Dh2RefIdeal.τ).loc Cert.Dh2RefIdeal.main_arg2) = m ((c.tc : Thread Cert.Dh2Ideal.nD Cert.Dh2Ideal.τ).loc Cert.Dh2Ideal.main_arg2)) →
    ∃ (v0 : (c : Dev Cert.Dh2Ideal.nD) → Buf (Elt Ideal) ((c.tc : Thread Cert.Dh2Ideal.nD Cert.Dh2Ideal.τ).loc Cert.Dh2Ideal.main_v0)),
      θ_run (Cert.Dh2Ideal.defs (F := Ideal)) (onTc (τ := Cert.Dh2Ideal.τ) (Cert.Dh2Ideal.main (F := Ideal))) ⟨m, fun _ => 0, g⟩ (fun r => ∀ c : Dev Cert.Dh2Ideal.nD,
          r.2.mem ((c.tc : Thread Cert.Dh2Ideal.nD Cert.Dh2Ideal.τ).loc Cert.Dh2Ideal.main_v0) = v0 c
          ∧ r.2.mem ((c.tc : Thread Cert.Dh2Ideal.nD Cert.Dh2Ideal.τ).loc Cert.Dh2Ideal.main_arg0) = m ((c.tc : Thread Cert.Dh2Ideal.nD Cert.Dh2Ideal.τ).loc Cert.Dh2Ideal.main_arg0)
          ∧ r.2.mem ((c.tc : Thread Cert.Dh2Ideal.nD Cert.Dh2Ideal.τ).loc Cert.Dh2Ideal.main_arg1) = m ((c.tc : Thread Cert.Dh2Ideal.nD Cert.Dh2Ideal.τ).loc Cert.Dh2Ideal.main_arg1)
          ∧ r.2.mem ((c.tc : Thread Cert.Dh2Ideal.nD Cert.Dh2Ideal.τ).loc Cert.Dh2Ideal.main_arg2) = m ((c.tc : Thread Cert.Dh2Ideal.nD Cert.Dh2Ideal.τ).loc Cert.Dh2Ideal.main_arg2))
      ∧ θ_run (Cert.Dh2RefIdeal.defs (F := Ideal)) (onTc (τ := Cert.Dh2RefIdeal.τ) (Cert.Dh2RefIdeal.main (F := Ideal))) ⟨m', fun _ => 0, g'⟩ (fun r => ∀ c : Dev Cert.Dh2RefIdeal.nD,
          r.2.mem ((c.tc : Thread Cert.Dh2RefIdeal.nD Cert.Dh2RefIdeal.τ).loc Cert.Dh2RefIdeal.main_v3) = v0 c
          ∧ r.2.mem ((c.tc : Thread Cert.Dh2RefIdeal.nD Cert.Dh2RefIdeal.τ).loc Cert.Dh2RefIdeal.main_arg0) = m' ((c.tc : Thread Cert.Dh2RefIdeal.nD Cert.Dh2RefIdeal.τ).loc Cert.Dh2RefIdeal.main_arg0)
          ∧ r.2.mem ((c.tc : Thread Cert.Dh2RefIdeal.nD Cert.Dh2RefIdeal.τ).loc Cert.Dh2RefIdeal.main_arg1) = m' ((c.tc : Thread Cert.Dh2RefIdeal.nD Cert.Dh2RefIdeal.τ).loc Cert.Dh2RefIdeal.main_arg1)
          ∧ r.2.mem ((c.tc : Thread Cert.Dh2RefIdeal.nD Cert.Dh2RefIdeal.τ).loc Cert.Dh2RefIdeal.main_arg2) = m' ((c.tc : Thread Cert.Dh2RefIdeal.nD Cert.Dh2RefIdeal.τ).loc Cert.Dh2RefIdeal.main_arg2))

def preserves_Proj3_Proj3Ideal : Prop :=
  True

def algebraic_Proj3Ideal_Proj3RefIdeal [hProj3Ideal : Cert.Proj3Ideal.Facts] [hProj3RefIdeal : Cert.Proj3RefIdeal.Facts] : Prop :=
  ∀ (m : (ℓ : Loc Cert.Proj3Ideal.nD Cert.Proj3Ideal.τ Cert.Proj3Ideal.sig) → Buf (Elt Ideal) ℓ) (g : Dev Cert.Proj3Ideal.nD → PrngReg)
    (m' : (ℓ : Loc Cert.Proj3RefIdeal.nD Cert.Proj3RefIdeal.τ Cert.Proj3RefIdeal.sig) → Buf (Elt Ideal) ℓ) (g' : Dev Cert.Proj3RefIdeal.nD → PrngReg), Pre_Proj3Ideal m →
    (∀ c : Dev Cert.Proj3Ideal.nD,
      m' ((c.tc : Thread Cert.Proj3RefIdeal.nD Cert.Proj3RefIdeal.τ).loc Cert.Proj3RefIdeal.main_arg0) = m ((c.tc : Thread Cert.Proj3Ideal.nD Cert.Proj3Ideal.τ).loc Cert.Proj3Ideal.main_arg0)
      ∧ m' ((c.tc : Thread Cert.Proj3RefIdeal.nD Cert.Proj3RefIdeal.τ).loc Cert.Proj3RefIdeal.main_arg1) = m ((c.tc : Thread Cert.Proj3Ideal.nD Cert.Proj3Ideal.τ).loc Cert.Proj3Ideal.main_arg1)) →
    ∃ (v0 : (c : Dev Cert.Proj3Ideal.nD) → Buf (Elt Ideal) ((c.tc : Thread Cert.Proj3Ideal.nD Cert.Proj3Ideal.τ).loc Cert.Proj3Ideal.main_v0)),
      θ_run (Cert.Proj3Ideal.defs (F := Ideal)) (onTc (τ := Cert.Proj3Ideal.τ) (Cert.Proj3Ideal.main (F := Ideal))) ⟨m, fun _ => 0, g⟩ (fun r => ∀ c : Dev Cert.Proj3Ideal.nD,
          r.2.mem ((c.tc : Thread Cert.Proj3Ideal.nD Cert.Proj3Ideal.τ).loc Cert.Proj3Ideal.main_v0) = v0 c
          ∧ r.2.mem ((c.tc : Thread Cert.Proj3Ideal.nD Cert.Proj3Ideal.τ).loc Cert.Proj3Ideal.main_arg0) = m ((c.tc : Thread Cert.Proj3Ideal.nD Cert.Proj3Ideal.τ).loc Cert.Proj3Ideal.main_arg0)
          ∧ r.2.mem ((c.tc : Thread Cert.Proj3Ideal.nD Cert.Proj3Ideal.τ).loc Cert.Proj3Ideal.main_arg1) = m ((c.tc : Thread Cert.Proj3Ideal.nD Cert.Proj3Ideal.τ).loc Cert.Proj3Ideal.main_arg1))
      ∧ θ_run (Cert.Proj3RefIdeal.defs (F := Ideal)) (onTc (τ := Cert.Proj3RefIdeal.τ) (Cert.Proj3RefIdeal.main (F := Ideal))) ⟨m', fun _ => 0, g'⟩ (fun r => ∀ c : Dev Cert.Proj3RefIdeal.nD,
          r.2.mem ((c.tc : Thread Cert.Proj3RefIdeal.nD Cert.Proj3RefIdeal.τ).loc Cert.Proj3RefIdeal.main_v3) = v0 c
          ∧ r.2.mem ((c.tc : Thread Cert.Proj3RefIdeal.nD Cert.Proj3RefIdeal.τ).loc Cert.Proj3RefIdeal.main_arg0) = m' ((c.tc : Thread Cert.Proj3RefIdeal.nD Cert.Proj3RefIdeal.τ).loc Cert.Proj3RefIdeal.main_arg0)
          ∧ r.2.mem ((c.tc : Thread Cert.Proj3RefIdeal.nD Cert.Proj3RefIdeal.τ).loc Cert.Proj3RefIdeal.main_arg1) = m' ((c.tc : Thread Cert.Proj3RefIdeal.nD Cert.Proj3RefIdeal.τ).loc Cert.Proj3RefIdeal.main_arg1))

def preserves_Proj1_Proj1Ideal : Prop :=
  True

def algebraic_Proj1Ideal_Proj1RefIdeal [hProj1Ideal : Cert.Proj1Ideal.Facts] [hProj1RefIdeal : Cert.Proj1RefIdeal.Facts] : Prop :=
  ∀ (m : (ℓ : Loc Cert.Proj1Ideal.nD Cert.Proj1Ideal.τ Cert.Proj1Ideal.sig) → Buf (Elt Ideal) ℓ) (g : Dev Cert.Proj1Ideal.nD → PrngReg)
    (m' : (ℓ : Loc Cert.Proj1RefIdeal.nD Cert.Proj1RefIdeal.τ Cert.Proj1RefIdeal.sig) → Buf (Elt Ideal) ℓ) (g' : Dev Cert.Proj1RefIdeal.nD → PrngReg), Pre_Proj1Ideal m →
    (∀ c : Dev Cert.Proj1Ideal.nD,
      m' ((c.tc : Thread Cert.Proj1RefIdeal.nD Cert.Proj1RefIdeal.τ).loc Cert.Proj1RefIdeal.main_arg0) = m ((c.tc : Thread Cert.Proj1Ideal.nD Cert.Proj1Ideal.τ).loc Cert.Proj1Ideal.main_arg0)
      ∧ m' ((c.tc : Thread Cert.Proj1RefIdeal.nD Cert.Proj1RefIdeal.τ).loc Cert.Proj1RefIdeal.main_arg1) = m ((c.tc : Thread Cert.Proj1Ideal.nD Cert.Proj1Ideal.τ).loc Cert.Proj1Ideal.main_arg1)) →
    ∃ (v0 : (c : Dev Cert.Proj1Ideal.nD) → Buf (Elt Ideal) ((c.tc : Thread Cert.Proj1Ideal.nD Cert.Proj1Ideal.τ).loc Cert.Proj1Ideal.main_v0)),
      θ_run (Cert.Proj1Ideal.defs (F := Ideal)) (onTc (τ := Cert.Proj1Ideal.τ) (Cert.Proj1Ideal.main (F := Ideal))) ⟨m, fun _ => 0, g⟩ (fun r => ∀ c : Dev Cert.Proj1Ideal.nD,
          r.2.mem ((c.tc : Thread Cert.Proj1Ideal.nD Cert.Proj1Ideal.τ).loc Cert.Proj1Ideal.main_v0) = v0 c
          ∧ r.2.mem ((c.tc : Thread Cert.Proj1Ideal.nD Cert.Proj1Ideal.τ).loc Cert.Proj1Ideal.main_arg0) = m ((c.tc : Thread Cert.Proj1Ideal.nD Cert.Proj1Ideal.τ).loc Cert.Proj1Ideal.main_arg0)
          ∧ r.2.mem ((c.tc : Thread Cert.Proj1Ideal.nD Cert.Proj1Ideal.τ).loc Cert.Proj1Ideal.main_arg1) = m ((c.tc : Thread Cert.Proj1Ideal.nD Cert.Proj1Ideal.τ).loc Cert.Proj1Ideal.main_arg1))
      ∧ θ_run (Cert.Proj1RefIdeal.defs (F := Ideal)) (onTc (τ := Cert.Proj1RefIdeal.τ) (Cert.Proj1RefIdeal.main (F := Ideal))) ⟨m', fun _ => 0, g'⟩ (fun r => ∀ c : Dev Cert.Proj1RefIdeal.nD,
          r.2.mem ((c.tc : Thread Cert.Proj1RefIdeal.nD Cert.Proj1RefIdeal.τ).loc Cert.Proj1RefIdeal.main_v3) = v0 c
          ∧ r.2.mem ((c.tc : Thread Cert.Proj1RefIdeal.nD Cert.Proj1RefIdeal.τ).loc Cert.Proj1RefIdeal.main_arg0) = m' ((c.tc : Thread Cert.Proj1RefIdeal.nD Cert.Proj1RefIdeal.τ).loc Cert.Proj1RefIdeal.main_arg0)
          ∧ r.2.mem ((c.tc : Thread Cert.Proj1RefIdeal.nD Cert.Proj1RefIdeal.τ).loc Cert.Proj1RefIdeal.main_arg1) = m' ((c.tc : Thread Cert.Proj1RefIdeal.nD Cert.Proj1RefIdeal.τ).loc Cert.Proj1RefIdeal.main_arg1))

def preserves_Proj0_Proj0Ideal : Prop :=
  True

def algebraic_Proj0Ideal_Proj0RefIdeal [hProj0Ideal : Cert.Proj0Ideal.Facts] [hProj0RefIdeal : Cert.Proj0RefIdeal.Facts] : Prop :=
  ∀ (m : (ℓ : Loc Cert.Proj0Ideal.nD Cert.Proj0Ideal.τ Cert.Proj0Ideal.sig) → Buf (Elt Ideal) ℓ) (g : Dev Cert.Proj0Ideal.nD → PrngReg)
    (m' : (ℓ : Loc Cert.Proj0RefIdeal.nD Cert.Proj0RefIdeal.τ Cert.Proj0RefIdeal.sig) → Buf (Elt Ideal) ℓ) (g' : Dev Cert.Proj0RefIdeal.nD → PrngReg), Pre_Proj0Ideal m →
    (∀ c : Dev Cert.Proj0Ideal.nD,
      m' ((c.tc : Thread Cert.Proj0RefIdeal.nD Cert.Proj0RefIdeal.τ).loc Cert.Proj0RefIdeal.main_arg0) = m ((c.tc : Thread Cert.Proj0Ideal.nD Cert.Proj0Ideal.τ).loc Cert.Proj0Ideal.main_arg0)
      ∧ m' ((c.tc : Thread Cert.Proj0RefIdeal.nD Cert.Proj0RefIdeal.τ).loc Cert.Proj0RefIdeal.main_arg1) = m ((c.tc : Thread Cert.Proj0Ideal.nD Cert.Proj0Ideal.τ).loc Cert.Proj0Ideal.main_arg1)) →
    ∃ (v0 : (c : Dev Cert.Proj0Ideal.nD) → Buf (Elt Ideal) ((c.tc : Thread Cert.Proj0Ideal.nD Cert.Proj0Ideal.τ).loc Cert.Proj0Ideal.main_v0)),
      θ_run (Cert.Proj0Ideal.defs (F := Ideal)) (onTc (τ := Cert.Proj0Ideal.τ) (Cert.Proj0Ideal.main (F := Ideal))) ⟨m, fun _ => 0, g⟩ (fun r => ∀ c : Dev Cert.Proj0Ideal.nD,
          r.2.mem ((c.tc : Thread Cert.Proj0Ideal.nD Cert.Proj0Ideal.τ).loc Cert.Proj0Ideal.main_v0) = v0 c
          ∧ r.2.mem ((c.tc : Thread Cert.Proj0Ideal.nD Cert.Proj0Ideal.τ).loc Cert.Proj0Ideal.main_arg0) = m ((c.tc : Thread Cert.Proj0Ideal.nD Cert.Proj0Ideal.τ).loc Cert.Proj0Ideal.main_arg0)
          ∧ r.2.mem ((c.tc : Thread Cert.Proj0Ideal.nD Cert.Proj0Ideal.τ).loc Cert.Proj0Ideal.main_arg1) = m ((c.tc : Thread Cert.Proj0Ideal.nD Cert.Proj0Ideal.τ).loc Cert.Proj0Ideal.main_arg1))
      ∧ θ_run (Cert.Proj0RefIdeal.defs (F := Ideal)) (onTc (τ := Cert.Proj0RefIdeal.τ) (Cert.Proj0RefIdeal.main (F := Ideal))) ⟨m', fun _ => 0, g'⟩ (fun r => ∀ c : Dev Cert.Proj0RefIdeal.nD,
          r.2.mem ((c.tc : Thread Cert.Proj0RefIdeal.nD Cert.Proj0RefIdeal.τ).loc Cert.Proj0RefIdeal.main_v3) = v0 c
          ∧ r.2.mem ((c.tc : Thread Cert.Proj0RefIdeal.nD Cert.Proj0RefIdeal.τ).loc Cert.Proj0RefIdeal.main_arg0) = m' ((c.tc : Thread Cert.Proj0RefIdeal.nD Cert.Proj0RefIdeal.τ).loc Cert.Proj0RefIdeal.main_arg0)
          ∧ r.2.mem ((c.tc : Thread Cert.Proj0RefIdeal.nD Cert.Proj0RefIdeal.τ).loc Cert.Proj0RefIdeal.main_arg1) = m' ((c.tc : Thread Cert.Proj0RefIdeal.nD Cert.Proj0RefIdeal.τ).loc Cert.Proj0RefIdeal.main_arg1))

def preserves_Proj2_Proj2Ideal : Prop :=
  True

def algebraic_Proj2Ideal_Proj2RefIdeal [hProj2Ideal : Cert.Proj2Ideal.Facts] [hProj2RefIdeal : Cert.Proj2RefIdeal.Facts] : Prop :=
  ∀ (m : (ℓ : Loc Cert.Proj2Ideal.nD Cert.Proj2Ideal.τ Cert.Proj2Ideal.sig) → Buf (Elt Ideal) ℓ) (g : Dev Cert.Proj2Ideal.nD → PrngReg)
    (m' : (ℓ : Loc Cert.Proj2RefIdeal.nD Cert.Proj2RefIdeal.τ Cert.Proj2RefIdeal.sig) → Buf (Elt Ideal) ℓ) (g' : Dev Cert.Proj2RefIdeal.nD → PrngReg), Pre_Proj2Ideal m →
    (∀ c : Dev Cert.Proj2Ideal.nD,
      m' ((c.tc : Thread Cert.Proj2RefIdeal.nD Cert.Proj2RefIdeal.τ).loc Cert.Proj2RefIdeal.main_arg0) = m ((c.tc : Thread Cert.Proj2Ideal.nD Cert.Proj2Ideal.τ).loc Cert.Proj2Ideal.main_arg0)
      ∧ m' ((c.tc : Thread Cert.Proj2RefIdeal.nD Cert.Proj2RefIdeal.τ).loc Cert.Proj2RefIdeal.main_arg1) = m ((c.tc : Thread Cert.Proj2Ideal.nD Cert.Proj2Ideal.τ).loc Cert.Proj2Ideal.main_arg1)) →
    ∃ (v0 : (c : Dev Cert.Proj2Ideal.nD) → Buf (Elt Ideal) ((c.tc : Thread Cert.Proj2Ideal.nD Cert.Proj2Ideal.τ).loc Cert.Proj2Ideal.main_v0)),
      θ_run (Cert.Proj2Ideal.defs (F := Ideal)) (onTc (τ := Cert.Proj2Ideal.τ) (Cert.Proj2Ideal.main (F := Ideal))) ⟨m, fun _ => 0, g⟩ (fun r => ∀ c : Dev Cert.Proj2Ideal.nD,
          r.2.mem ((c.tc : Thread Cert.Proj2Ideal.nD Cert.Proj2Ideal.τ).loc Cert.Proj2Ideal.main_v0) = v0 c
          ∧ r.2.mem ((c.tc : Thread Cert.Proj2Ideal.nD Cert.Proj2Ideal.τ).loc Cert.Proj2Ideal.main_arg0) = m ((c.tc : Thread Cert.Proj2Ideal.nD Cert.Proj2Ideal.τ).loc Cert.Proj2Ideal.main_arg0)
          ∧ r.2.mem ((c.tc : Thread Cert.Proj2Ideal.nD Cert.Proj2Ideal.τ).loc Cert.Proj2Ideal.main_arg1) = m ((c.tc : Thread Cert.Proj2Ideal.nD Cert.Proj2Ideal.τ).loc Cert.Proj2Ideal.main_arg1))
      ∧ θ_run (Cert.Proj2RefIdeal.defs (F := Ideal)) (onTc (τ := Cert.Proj2RefIdeal.τ) (Cert.Proj2RefIdeal.main (F := Ideal))) ⟨m', fun _ => 0, g'⟩ (fun r => ∀ c : Dev Cert.Proj2RefIdeal.nD,
          r.2.mem ((c.tc : Thread Cert.Proj2RefIdeal.nD Cert.Proj2RefIdeal.τ).loc Cert.Proj2RefIdeal.main_v3) = v0 c
          ∧ r.2.mem ((c.tc : Thread Cert.Proj2RefIdeal.nD Cert.Proj2RefIdeal.τ).loc Cert.Proj2RefIdeal.main_arg0) = m' ((c.tc : Thread Cert.Proj2RefIdeal.nD Cert.Proj2RefIdeal.τ).loc Cert.Proj2RefIdeal.main_arg0)
          ∧ r.2.mem ((c.tc : Thread Cert.Proj2RefIdeal.nD Cert.Proj2RefIdeal.τ).loc Cert.Proj2RefIdeal.main_arg1) = m' ((c.tc : Thread Cert.Proj2RefIdeal.nD Cert.Proj2RefIdeal.τ).loc Cert.Proj2RefIdeal.main_arg1))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v1_0)) (v1 : (c : Dev Cert.NormBwdIdeal.nD) → Buf (Elt Ideal) ((c.tc : Thread Cert.NormBwdIdeal.nD Cert.NormBwdIdeal.τ).loc Cert.NormBwdIdeal.main_v1_1)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v1_0) = v0 c
          ∧ r.2.mem ((c.tc : Thread Cert.NormBwdIdeal.nD Cert.NormBwdIdeal.τ).loc Cert.NormBwdIdeal.main_v1_1) = v1 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v36) = v0 c
          ∧ r.2.mem ((c.tc : Thread Cert.NormBwdRefIdeal.nD Cert.NormBwdRefIdeal.τ).loc Cert.NormBwdRefIdeal.main_v37) = v1 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v1)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v1) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v13) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1))

def preserves_GateFwd_GateFwdIdeal : Prop :=
  True

def algebraic_GateFwdIdeal_GateFwdRefIdeal [hGateFwdIdeal : Cert.GateFwdIdeal.Facts] [hGateFwdRefIdeal : Cert.GateFwdRefIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg)
    (m' : (ℓ : Loc Cert.GateFwdRefIdeal.nD Cert.GateFwdRefIdeal.τ Cert.GateFwdRefIdeal.sig) → Buf (Elt Ideal) ℓ) (g' : Dev Cert.GateFwdRefIdeal.nD → PrngReg), Pre_GateFwdIdeal m →
    (∀ c : Dev Cert.GateFwdIdeal.nD,
      m' ((c.tc : Thread Cert.GateFwdRefIdeal.nD Cert.GateFwdRefIdeal.τ).loc Cert.GateFwdRefIdeal.main_arg0) = m ((c.tc : Thread Cert.GateFwdIdeal.nD Cert.GateFwdIdeal.τ).loc Cert.GateFwdIdeal.main_arg0)
      ∧ m' ((c.tc : Thread Cert.GateFwdRefIdeal.nD Cert.GateFwdRefIdeal.τ).loc Cert.GateFwdRefIdeal.main_arg1) = m ((c.tc : Thread Cert.GateFwdIdeal.nD Cert.GateFwdIdeal.τ).loc Cert.GateFwdIdeal.main_arg1)
      ∧ m' ((c.tc : Thread Cert.GateFwdRefIdeal.nD Cert.GateFwdRefIdeal.τ).loc Cert.GateFwdRefIdeal.main_arg2) = m ((c.tc : Thread Cert.GateFwdIdeal.nD Cert.GateFwdIdeal.τ).loc Cert.GateFwdIdeal.main_arg2)
      ∧ m' ((c.tc : Thread Cert.GateFwdRefIdeal.nD Cert.GateFwdRefIdeal.τ).loc Cert.GateFwdRefIdeal.main_arg3) = m ((c.tc : Thread Cert.GateFwdIdeal.nD Cert.GateFwdIdeal.τ).loc Cert.GateFwdIdeal.main_arg3)
      ∧ m' ((c.tc : Thread Cert.GateFwdRefIdeal.nD Cert.GateFwdRefIdeal.τ).loc Cert.GateFwdRefIdeal.main_arg4) = m ((c.tc : Thread Cert.GateFwdIdeal.nD Cert.GateFwdIdeal.τ).loc Cert.GateFwdIdeal.main_arg4)
      ∧ m' ((c.tc : Thread Cert.GateFwdRefIdeal.nD Cert.GateFwdRefIdeal.τ).loc Cert.GateFwdRefIdeal.main_arg5) = m ((c.tc : Thread Cert.GateFwdIdeal.nD Cert.GateFwdIdeal.τ).loc Cert.GateFwdIdeal.main_arg5)
      ∧ m' ((c.tc : Thread Cert.GateFwdRefIdeal.nD Cert.GateFwdRefIdeal.τ).loc Cert.GateFwdRefIdeal.main_arg6) = m ((c.tc : Thread Cert.GateFwdIdeal.nD Cert.GateFwdIdeal.τ).loc Cert.GateFwdIdeal.main_arg6)) →
    ∃ (v0 : (c : Dev Cert.GateFwdIdeal.nD) → Buf (Elt Ideal) ((c.tc : Thread Cert.GateFwdIdeal.nD Cert.GateFwdIdeal.τ).loc Cert.GateFwdIdeal.main_v2)),
      θ_run (Cert.GateFwdIdeal.defs (F := Ideal)) (onTc (τ := Cert.GateFwdIdeal.τ) (Cert.GateFwdIdeal.main (F := Ideal))) ⟨m, fun _ => 0, g⟩ (fun r => ∀ c : Dev Cert.GateFwdIdeal.nD,
          r.2.mem ((c.tc : Thread Cert.GateFwdIdeal.nD Cert.GateFwdIdeal.τ).loc Cert.GateFwdIdeal.main_v2) = v0 c
          ∧ r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
          ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
          ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2)
          ∧ r.2.mem ((c.tc : Thread Cert.GateFwdIdeal.nD Cert.GateFwdIdeal.τ).loc Cert.GateFwdIdeal.main_arg3) = m ((c.tc : Thread Cert.GateFwdIdeal.nD Cert.GateFwdIdeal.τ).loc Cert.GateFwdIdeal.main_arg3)
          ∧ r.2.mem ((c.tc : Thread Cert.GateFwdIdeal.nD Cert.GateFwdIdeal.τ).loc Cert.GateFwdIdeal.main_arg4) = m ((c.tc : Thread Cert.GateFwdIdeal.nD Cert.GateFwdIdeal.τ).loc Cert.GateFwdIdeal.main_arg4)
          ∧ r.2.mem ((c.tc : Thread Cert.GateFwdIdeal.nD Cert.GateFwdIdeal.τ).loc Cert.GateFwdIdeal.main_arg5) = m ((c.tc : Thread Cert.GateFwdIdeal.nD Cert.GateFwdIdeal.τ).loc Cert.GateFwdIdeal.main_arg5)
          ∧ r.2.mem ((c.tc : Thread Cert.GateFwdIdeal.nD Cert.GateFwdIdeal.τ).loc Cert.GateFwdIdeal.main_arg6) = m ((c.tc : Thread Cert.GateFwdIdeal.nD Cert.GateFwdIdeal.τ).loc Cert.GateFwdIdeal.main_arg6))
      ∧ θ_run (Cert.GateFwdRefIdeal.defs (F := Ideal)) (onTc (τ := Cert.GateFwdRefIdeal.τ) (Cert.GateFwdRefIdeal.main (F := Ideal))) ⟨m', fun _ => 0, g'⟩ (fun r => ∀ c : Dev Cert.GateFwdRefIdeal.nD,
          r.2.mem ((c.tc : Thread Cert.GateFwdRefIdeal.nD Cert.GateFwdRefIdeal.τ).loc Cert.GateFwdRefIdeal.main_v46) = v0 c
          ∧ r.2.mem ((c.tc : Thread Cert.GateFwdRefIdeal.nD Cert.GateFwdRefIdeal.τ).loc Cert.GateFwdRefIdeal.main_arg0) = m' ((c.tc : Thread Cert.GateFwdRefIdeal.nD Cert.GateFwdRefIdeal.τ).loc Cert.GateFwdRefIdeal.main_arg0)
          ∧ r.2.mem ((c.tc : Thread Cert.GateFwdRefIdeal.nD Cert.GateFwdRefIdeal.τ).loc Cert.GateFwdRefIdeal.main_arg1) = m' ((c.tc : Thread Cert.GateFwdRefIdeal.nD Cert.GateFwdRefIdeal.τ).loc Cert.GateFwdRefIdeal.main_arg1)
          ∧ r.2.mem ((c.tc : Thread Cert.GateFwdRefIdeal.nD Cert.GateFwdRefIdeal.τ).loc Cert.GateFwdRefIdeal.main_arg2) = m' ((c.tc : Thread Cert.GateFwdRefIdeal.nD Cert.GateFwdRefIdeal.τ).loc Cert.GateFwdRefIdeal.main_arg2)
          ∧ r.2.mem ((c.tc : Thread Cert.GateFwdRefIdeal.nD Cert.GateFwdRefIdeal.τ).loc Cert.GateFwdRefIdeal.main_arg3) = m' ((c.tc : Thread Cert.GateFwdRefIdeal.nD Cert.GateFwdRefIdeal.τ).loc Cert.GateFwdRefIdeal.main_arg3)
          ∧ r.2.mem ((c.tc : Thread Cert.GateFwdRefIdeal.nD Cert.GateFwdRefIdeal.τ).loc Cert.GateFwdRefIdeal.main_arg4) = m' ((c.tc : Thread Cert.GateFwdRefIdeal.nD Cert.GateFwdRefIdeal.τ).loc Cert.GateFwdRefIdeal.main_arg4)
          ∧ r.2.mem ((c.tc : Thread Cert.GateFwdRefIdeal.nD Cert.GateFwdRefIdeal.τ).loc Cert.GateFwdRefIdeal.main_arg5) = m' ((c.tc : Thread Cert.GateFwdRefIdeal.nD Cert.GateFwdRefIdeal.τ).loc Cert.GateFwdRefIdeal.main_arg5)
          ∧ r.2.mem ((c.tc : Thread Cert.GateFwdRefIdeal.nD Cert.GateFwdRefIdeal.τ).loc Cert.GateFwdRefIdeal.main_arg6) = m' ((c.tc : Thread Cert.GateFwdRefIdeal.nD Cert.GateFwdRefIdeal.τ).loc Cert.GateFwdRefIdeal.main_arg6))

def preserves_PostBwd_PostBwdIdeal : Prop :=
  True

def algebraic_PostBwdIdeal_PostBwdRefIdeal [hPostBwdIdeal : Cert.PostBwdIdeal.Facts] [hPostBwdRefIdeal : Cert.PostBwdRefIdeal.Facts] : Prop :=
  ∀ (m : (ℓ : Loc Cert.PostBwdIdeal.nD Cert.PostBwdIdeal.τ Cert.PostBwdIdeal.sig) → Buf (Elt Ideal) ℓ) (g : Dev Cert.PostBwdIdeal.nD → PrngReg)
    (m' : (ℓ : Loc Cert.PostBwdRefIdeal.nD Cert.PostBwdRefIdeal.τ Cert.PostBwdRefIdeal.sig) → Buf (Elt Ideal) ℓ) (g' : Dev Cert.PostBwdRefIdeal.nD → PrngReg), Pre_PostBwdIdeal m →
    (∀ c : Dev Cert.PostBwdIdeal.nD,
      m' ((c.tc : Thread Cert.PostBwdRefIdeal.nD Cert.PostBwdRefIdeal.τ).loc Cert.PostBwdRefIdeal.main_arg0) = m ((c.tc : Thread Cert.PostBwdIdeal.nD Cert.PostBwdIdeal.τ).loc Cert.PostBwdIdeal.main_arg0)
      ∧ m' ((c.tc : Thread Cert.PostBwdRefIdeal.nD Cert.PostBwdRefIdeal.τ).loc Cert.PostBwdRefIdeal.main_arg1) = m ((c.tc : Thread Cert.PostBwdIdeal.nD Cert.PostBwdIdeal.τ).loc Cert.PostBwdIdeal.main_arg1)
      ∧ m' ((c.tc : Thread Cert.PostBwdRefIdeal.nD Cert.PostBwdRefIdeal.τ).loc Cert.PostBwdRefIdeal.main_arg2) = m ((c.tc : Thread Cert.PostBwdIdeal.nD Cert.PostBwdIdeal.τ).loc Cert.PostBwdIdeal.main_arg2)
      ∧ m' ((c.tc : Thread Cert.PostBwdRefIdeal.nD Cert.PostBwdRefIdeal.τ).loc Cert.PostBwdRefIdeal.main_arg3) = m ((c.tc : Thread Cert.PostBwdIdeal.nD Cert.PostBwdIdeal.τ).loc Cert.PostBwdIdeal.main_arg3)
      ∧ m' ((c.tc : Thread Cert.PostBwdRefIdeal.nD Cert.PostBwdRefIdeal.τ).loc Cert.PostBwdRefIdeal.main_arg4) = m ((c.tc : Thread Cert.PostBwdIdeal.nD Cert.PostBwdIdeal.τ).loc Cert.PostBwdIdeal.main_arg4)
      ∧ m' ((c.tc : Thread Cert.PostBwdRefIdeal.nD Cert.PostBwdRefIdeal.τ).loc Cert.PostBwdRefIdeal.main_arg5) = m ((c.tc : Thread Cert.PostBwdIdeal.nD Cert.PostBwdIdeal.τ).loc Cert.PostBwdIdeal.main_arg5)) →
    ∃ (v0 : (c : Dev Cert.PostBwdIdeal.nD) → Buf (Elt Ideal) ((c.tc : Thread Cert.PostBwdIdeal.nD Cert.PostBwdIdeal.τ).loc Cert.PostBwdIdeal.main_v3_0)) (v1 : (c : Dev Cert.PostBwdIdeal.nD) → Buf (Elt Ideal) ((c.tc : Thread Cert.PostBwdIdeal.nD Cert.PostBwdIdeal.τ).loc Cert.PostBwdIdeal.main_v3_1)) (v2 : (c : Dev Cert.PostBwdIdeal.nD) → Buf (Elt Ideal) ((c.tc : Thread Cert.PostBwdIdeal.nD Cert.PostBwdIdeal.τ).loc Cert.PostBwdIdeal.main_v3_2)) (v3 : (c : Dev Cert.PostBwdIdeal.nD) → Buf (Elt Ideal) ((c.tc : Thread Cert.PostBwdIdeal.nD Cert.PostBwdIdeal.τ).loc Cert.PostBwdIdeal.main_v3_3)) (v4 : (c : Dev Cert.PostBwdIdeal.nD) → Buf (Elt Ideal) ((c.tc : Thread Cert.PostBwdIdeal.nD Cert.PostBwdIdeal.τ).loc Cert.PostBwdIdeal.main_v3_4)),
      θ_run (Cert.PostBwdIdeal.defs (F := Ideal)) (onTc (τ := Cert.PostBwdIdeal.τ) (Cert.PostBwdIdeal.main (F := Ideal))) ⟨m, fun _ => 0, g⟩ (fun r => ∀ c : Dev Cert.PostBwdIdeal.nD,
          r.2.mem ((c.tc : Thread Cert.PostBwdIdeal.nD Cert.PostBwdIdeal.τ).loc Cert.PostBwdIdeal.main_v3_0) = v0 c
          ∧ r.2.mem ((c.tc : Thread Cert.PostBwdIdeal.nD Cert.PostBwdIdeal.τ).loc Cert.PostBwdIdeal.main_v3_1) = v1 c
          ∧ r.2.mem ((c.tc : Thread Cert.PostBwdIdeal.nD Cert.PostBwdIdeal.τ).loc Cert.PostBwdIdeal.main_v3_2) = v2 c
          ∧ r.2.mem ((c.tc : Thread Cert.PostBwdIdeal.nD Cert.PostBwdIdeal.τ).loc Cert.PostBwdIdeal.main_v3_3) = v3 c
          ∧ r.2.mem ((c.tc : Thread Cert.PostBwdIdeal.nD Cert.PostBwdIdeal.τ).loc Cert.PostBwdIdeal.main_v3_4) = v4 c
          ∧ r.2.mem ((c.tc : Thread Cert.PostBwdIdeal.nD Cert.PostBwdIdeal.τ).loc Cert.PostBwdIdeal.main_arg0) = m ((c.tc : Thread Cert.PostBwdIdeal.nD Cert.PostBwdIdeal.τ).loc Cert.PostBwdIdeal.main_arg0)
          ∧ r.2.mem ((c.tc : Thread Cert.PostBwdIdeal.nD Cert.PostBwdIdeal.τ).loc Cert.PostBwdIdeal.main_arg1) = m ((c.tc : Thread Cert.PostBwdIdeal.nD Cert.PostBwdIdeal.τ).loc Cert.PostBwdIdeal.main_arg1)
          ∧ r.2.mem ((c.tc : Thread Cert.PostBwdIdeal.nD Cert.PostBwdIdeal.τ).loc Cert.PostBwdIdeal.main_arg2) = m ((c.tc : Thread Cert.PostBwdIdeal.nD Cert.PostBwdIdeal.τ).loc Cert.PostBwdIdeal.main_arg2)
          ∧ r.2.mem ((c.tc : Thread Cert.PostBwdIdeal.nD Cert.PostBwdIdeal.τ).loc Cert.PostBwdIdeal.main_arg3) = m ((c.tc : Thread Cert.PostBwdIdeal.nD Cert.PostBwdIdeal.τ).loc Cert.PostBwdIdeal.main_arg3)
          ∧ r.2.mem ((c.tc : Thread Cert.PostBwdIdeal.nD Cert.PostBwdIdeal.τ).loc Cert.PostBwdIdeal.main_arg4) = m ((c.tc : Thread Cert.PostBwdIdeal.nD Cert.PostBwdIdeal.τ).loc Cert.PostBwdIdeal.main_arg4)
          ∧ r.2.mem ((c.tc : Thread Cert.PostBwdIdeal.nD Cert.PostBwdIdeal.τ).loc Cert.PostBwdIdeal.main_arg5) = m ((c.tc : Thread Cert.PostBwdIdeal.nD Cert.PostBwdIdeal.τ).loc Cert.PostBwdIdeal.main_arg5))
      ∧ θ_run (Cert.PostBwdRefIdeal.defs (F := Ideal)) (onTc (τ := Cert.PostBwdRefIdeal.τ) (Cert.PostBwdRefIdeal.main (F := Ideal))) ⟨m', fun _ => 0, g'⟩ (fun r => ∀ c : Dev Cert.PostBwdRefIdeal.nD,
          r.2.mem ((c.tc : Thread Cert.PostBwdRefIdeal.nD Cert.PostBwdRefIdeal.τ).loc Cert.PostBwdRefIdeal.main_v60) = v0 c
          ∧ r.2.mem ((c.tc : Thread Cert.PostBwdRefIdeal.nD Cert.PostBwdRefIdeal.τ).loc Cert.PostBwdRefIdeal.main_v62) = v1 c
          ∧ r.2.mem ((c.tc : Thread Cert.PostBwdRefIdeal.nD Cert.PostBwdRefIdeal.τ).loc Cert.PostBwdRefIdeal.main_v46) = v2 c
          ∧ r.2.mem ((c.tc : Thread Cert.PostBwdRefIdeal.nD Cert.PostBwdRefIdeal.τ).loc Cert.PostBwdRefIdeal.main_v67) = v3 c
          ∧ r.2.mem ((c.tc : Thread Cert.PostBwdRefIdeal.nD Cert.PostBwdRefIdeal.τ).loc Cert.PostBwdRefIdeal.main_v68) = v4 c
          ∧ r.2.mem ((c.tc : Thread Cert.PostBwdRefIdeal.nD Cert.PostBwdRefIdeal.τ).loc Cert.PostBwdRefIdeal.main_arg0) = m' ((c.tc : Thread Cert.PostBwdRefIdeal.nD Cert.PostBwdRefIdeal.τ).loc Cert.PostBwdRefIdeal.main_arg0)
          ∧ r.2.mem ((c.tc : Thread Cert.PostBwdRefIdeal.nD Cert.PostBwdRefIdeal.τ).loc Cert.PostBwdRefIdeal.main_arg1) = m' ((c.tc : Thread Cert.PostBwdRefIdeal.nD Cert.PostBwdRefIdeal.τ).loc Cert.PostBwdRefIdeal.main_arg1)
          ∧ r.2.mem ((c.tc : Thread Cert.PostBwdRefIdeal.nD Cert.PostBwdRefIdeal.τ).loc Cert.PostBwdRefIdeal.main_arg2) = m' ((c.tc : Thread Cert.PostBwdRefIdeal.nD Cert.PostBwdRefIdeal.τ).loc Cert.PostBwdRefIdeal.main_arg2)
          ∧ r.2.mem ((c.tc : Thread Cert.PostBwdRefIdeal.nD Cert.PostBwdRefIdeal.τ).loc Cert.PostBwdRefIdeal.main_arg3) = m' ((c.tc : Thread Cert.PostBwdRefIdeal.nD Cert.PostBwdRefIdeal.τ).loc Cert.PostBwdRefIdeal.main_arg3)
          ∧ r.2.mem ((c.tc : Thread Cert.PostBwdRefIdeal.nD Cert.PostBwdRefIdeal.τ).loc Cert.PostBwdRefIdeal.main_arg4) = m' ((c.tc : Thread Cert.PostBwdRefIdeal.nD Cert.PostBwdRefIdeal.τ).loc Cert.PostBwdRefIdeal.main_arg4)
          ∧ r.2.mem ((c.tc : Thread Cert.PostBwdRefIdeal.nD Cert.PostBwdRefIdeal.τ).loc Cert.PostBwdRefIdeal.main_arg5) = m' ((c.tc : Thread Cert.PostBwdRefIdeal.nD Cert.PostBwdRefIdeal.τ).loc Cert.PostBwdRefIdeal.main_arg5))

def preserves_PostFwd_PostFwdIdeal : Prop :=
  True

def algebraic_PostFwdIdeal_PostFwdRefIdeal [hPostFwdIdeal : Cert.PostFwdIdeal.Facts] [hPostFwdRefIdeal : Cert.PostFwdRefIdeal.Facts] : Prop :=
  ∀ (m : (ℓ : Loc Cert.PostFwdIdeal.nD Cert.PostFwdIdeal.τ Cert.PostFwdIdeal.sig) → Buf (Elt Ideal) ℓ) (g : Dev Cert.PostFwdIdeal.nD → PrngReg)
    (m' : (ℓ : Loc Cert.PostFwdRefIdeal.nD Cert.PostFwdRefIdeal.τ Cert.PostFwdRefIdeal.sig) → Buf (Elt Ideal) ℓ) (g' : Dev Cert.PostFwdRefIdeal.nD → PrngReg), Pre_PostFwdIdeal m →
    (∀ c : Dev Cert.PostFwdIdeal.nD,
      m' ((c.tc : Thread Cert.PostFwdRefIdeal.nD Cert.PostFwdRefIdeal.τ).loc Cert.PostFwdRefIdeal.main_arg0) = m ((c.tc : Thread Cert.PostFwdIdeal.nD Cert.PostFwdIdeal.τ).loc Cert.PostFwdIdeal.main_arg0)
      ∧ m' ((c.tc : Thread Cert.PostFwdRefIdeal.nD Cert.PostFwdRefIdeal.τ).loc Cert.PostFwdRefIdeal.main_arg1) = m ((c.tc : Thread Cert.PostFwdIdeal.nD Cert.PostFwdIdeal.τ).loc Cert.PostFwdIdeal.main_arg1)
      ∧ m' ((c.tc : Thread Cert.PostFwdRefIdeal.nD Cert.PostFwdRefIdeal.τ).loc Cert.PostFwdRefIdeal.main_arg2) = m ((c.tc : Thread Cert.PostFwdIdeal.nD Cert.PostFwdIdeal.τ).loc Cert.PostFwdIdeal.main_arg2)
      ∧ m' ((c.tc : Thread Cert.PostFwdRefIdeal.nD Cert.PostFwdRefIdeal.τ).loc Cert.PostFwdRefIdeal.main_arg3) = m ((c.tc : Thread Cert.PostFwdIdeal.nD Cert.PostFwdIdeal.τ).loc Cert.PostFwdIdeal.main_arg3)
      ∧ m' ((c.tc : Thread Cert.PostFwdRefIdeal.nD Cert.PostFwdRefIdeal.τ).loc Cert.PostFwdRefIdeal.main_arg4) = m ((c.tc : Thread Cert.PostFwdIdeal.nD Cert.PostFwdIdeal.τ).loc Cert.PostFwdIdeal.main_arg4)) →
    ∃ (v0 : (c : Dev Cert.PostFwdIdeal.nD) → Buf (Elt Ideal) ((c.tc : Thread Cert.PostFwdIdeal.nD Cert.PostFwdIdeal.τ).loc Cert.PostFwdIdeal.main_v3)),
      θ_run (Cert.PostFwdIdeal.defs (F := Ideal)) (onTc (τ := Cert.PostFwdIdeal.τ) (Cert.PostFwdIdeal.main (F := Ideal))) ⟨m, fun _ => 0, g⟩ (fun r => ∀ c : Dev Cert.PostFwdIdeal.nD,
          r.2.mem ((c.tc : Thread Cert.PostFwdIdeal.nD Cert.PostFwdIdeal.τ).loc Cert.PostFwdIdeal.main_v3) = v0 c
          ∧ r.2.mem ((c.tc : Thread Cert.PostFwdIdeal.nD Cert.PostFwdIdeal.τ).loc Cert.PostFwdIdeal.main_arg0) = m ((c.tc : Thread Cert.PostFwdIdeal.nD Cert.PostFwdIdeal.τ).loc Cert.PostFwdIdeal.main_arg0)
          ∧ r.2.mem ((c.tc : Thread Cert.PostFwdIdeal.nD Cert.PostFwdIdeal.τ).loc Cert.PostFwdIdeal.main_arg1) = m ((c.tc : Thread Cert.PostFwdIdeal.nD Cert.PostFwdIdeal.τ).loc Cert.PostFwdIdeal.main_arg1)
          ∧ r.2.mem ((c.tc : Thread Cert.PostFwdIdeal.nD Cert.PostFwdIdeal.τ).loc Cert.PostFwdIdeal.main_arg2) = m ((c.tc : Thread Cert.PostFwdIdeal.nD Cert.PostFwdIdeal.τ).loc Cert.PostFwdIdeal.main_arg2)
          ∧ r.2.mem ((c.tc : Thread Cert.PostFwdIdeal.nD Cert.PostFwdIdeal.τ).loc Cert.PostFwdIdeal.main_arg3) = m ((c.tc : Thread Cert.PostFwdIdeal.nD Cert.PostFwdIdeal.τ).loc Cert.PostFwdIdeal.main_arg3)
          ∧ r.2.mem ((c.tc : Thread Cert.PostFwdIdeal.nD Cert.PostFwdIdeal.τ).loc Cert.PostFwdIdeal.main_arg4) = m ((c.tc : Thread Cert.PostFwdIdeal.nD Cert.PostFwdIdeal.τ).loc Cert.PostFwdIdeal.main_arg4))
      ∧ θ_run (Cert.PostFwdRefIdeal.defs (F := Ideal)) (onTc (τ := Cert.PostFwdRefIdeal.τ) (Cert.PostFwdRefIdeal.main (F := Ideal))) ⟨m', fun _ => 0, g'⟩ (fun r => ∀ c : Dev Cert.PostFwdRefIdeal.nD,
          r.2.mem ((c.tc : Thread Cert.PostFwdRefIdeal.nD Cert.PostFwdRefIdeal.τ).loc Cert.PostFwdRefIdeal.main_v27) = v0 c
          ∧ r.2.mem ((c.tc : Thread Cert.PostFwdRefIdeal.nD Cert.PostFwdRefIdeal.τ).loc Cert.PostFwdRefIdeal.main_arg0) = m' ((c.tc : Thread Cert.PostFwdRefIdeal.nD Cert.PostFwdRefIdeal.τ).loc Cert.PostFwdRefIdeal.main_arg0)
          ∧ r.2.mem ((c.tc : Thread Cert.PostFwdRefIdeal.nD Cert.PostFwdRefIdeal.τ).loc Cert.PostFwdRefIdeal.main_arg1) = m' ((c.tc : Thread Cert.PostFwdRefIdeal.nD Cert.PostFwdRefIdeal.τ).loc Cert.PostFwdRefIdeal.main_arg1)
          ∧ r.2.mem ((c.tc : Thread Cert.PostFwdRefIdeal.nD Cert.PostFwdRefIdeal.τ).loc Cert.PostFwdRefIdeal.main_arg2) = m' ((c.tc : Thread Cert.PostFwdRefIdeal.nD Cert.PostFwdRefIdeal.τ).loc Cert.PostFwdRefIdeal.main_arg2)
          ∧ r.2.mem ((c.tc : Thread Cert.PostFwdRefIdeal.nD Cert.PostFwdRefIdeal.τ).loc Cert.PostFwdRefIdeal.main_arg3) = m' ((c.tc : Thread Cert.PostFwdRefIdeal.nD Cert.PostFwdRefIdeal.τ).loc Cert.PostFwdRefIdeal.main_arg3)
          ∧ r.2.mem ((c.tc : Thread Cert.PostFwdRefIdeal.nD Cert.PostFwdRefIdeal.τ).loc Cert.PostFwdRefIdeal.main_arg4) = m' ((c.tc : Thread Cert.PostFwdRefIdeal.nD Cert.PostFwdRefIdeal.τ).loc Cert.PostFwdRefIdeal.main_arg4))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)
      ∧ m' ((c.tc : Thread Cert.AdamOutRefIdeal.nD Cert.AdamOutRefIdeal.τ).loc Cert.AdamOutRefIdeal.main_arg4) = m ((c.tc : Thread Cert.AdamOutIdeal.nD Cert.AdamOutIdeal.τ).loc Cert.AdamOutIdeal.main_arg4)) →
    ∃ (v0 : (c : Dev Cert.AdamOutIdeal.nD) → Buf (Elt Ideal) ((c.tc : Thread Cert.AdamOutIdeal.nD Cert.AdamOutIdeal.τ).loc Cert.AdamOutIdeal.main_v3_0)) (v1 : (c : Dev Cert.AdamOutIdeal.nD) → Buf (Elt Ideal) ((c.tc : Thread Cert.AdamOutIdeal.nD Cert.AdamOutIdeal.τ).loc Cert.AdamOutIdeal.main_v3_1)) (v2 : (c : Dev Cert.AdamOutIdeal.nD) → Buf (Elt Ideal) ((c.tc : Thread Cert.AdamOutIdeal.nD Cert.AdamOutIdeal.τ).loc Cert.AdamOutIdeal.main_v3_2)) (v3 : (c : Dev Cert.AdamOutIdeal.nD) → Buf (Elt Ideal) ((c.tc : Thread Cert.AdamOutIdeal.nD Cert.AdamOutIdeal.τ).loc Cert.AdamOutIdeal.main_v3_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v3_0) = v0 c
          ∧ r.2.mem ((c.tc : Thread Cert.AdamOutIdeal.nD Cert.AdamOutIdeal.τ).loc Cert.AdamOutIdeal.main_v3_1) = v1 c
          ∧ r.2.mem ((c.tc : Thread Cert.AdamOutIdeal.nD Cert.AdamOutIdeal.τ).loc Cert.AdamOutIdeal.main_v3_2) = v2 c
          ∧ r.2.mem ((c.tc : Thread Cert.AdamOutIdeal.nD Cert.AdamOutIdeal.τ).loc Cert.AdamOutIdeal.main_v3_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v31) = v0 c
          ∧ r.2.mem ((c.tc : Thread Cert.AdamOutRefIdeal.nD Cert.AdamOutRefIdeal.τ).loc Cert.AdamOutRefIdeal.main_v32) = v1 c
          ∧ r.2.mem ((c.tc : Thread Cert.AdamOutRefIdeal.nD Cert.AdamOutRefIdeal.τ).loc Cert.AdamOutRefIdeal.main_v33) = v2 c
          ∧ r.2.mem ((c.tc : Thread Cert.AdamOutRefIdeal.nD Cert.AdamOutRefIdeal.τ).loc Cert.AdamOutRefIdeal.main_v34) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
          ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4))

def preserves_AdamBranch_AdamBranchIdeal : Prop :=
  True

def algebraic_AdamBranchIdeal_AdamBranchRefIdeal [hAdamBranchIdeal : Cert.AdamBranchIdeal.Facts] [hAdamBranchRefIdeal : Cert.AdamBranchRefIdeal.Facts] : Prop :=
  ∀ (m : (ℓ : Loc Cert.AdamBranchIdeal.nD Cert.AdamBranchIdeal.τ Cert.AdamBranchIdeal.sig) → Buf (Elt Ideal) ℓ) (g : Dev Cert.AdamBranchIdeal.nD → PrngReg)
    (m' : (ℓ : Loc Cert.AdamBranchRefIdeal.nD Cert.AdamBranchRefIdeal.τ Cert.AdamBranchRefIdeal.sig) → Buf (Elt Ideal) ℓ) (g' : Dev Cert.AdamBranchRefIdeal.nD → PrngReg), Pre_AdamBranchIdeal m →
    (∀ c : Dev Cert.AdamBranchIdeal.nD,
      m' ((c.tc : Thread Cert.AdamBranchRefIdeal.nD Cert.AdamBranchRefIdeal.τ).loc Cert.AdamBranchRefIdeal.main_arg0) = m ((c.tc : Thread Cert.AdamBranchIdeal.nD Cert.AdamBranchIdeal.τ).loc Cert.AdamBranchIdeal.main_arg0)
      ∧ m' ((c.tc : Thread Cert.AdamBranchRefIdeal.nD Cert.AdamBranchRefIdeal.τ).loc Cert.AdamBranchRefIdeal.main_arg1) = m ((c.tc : Thread Cert.AdamBranchIdeal.nD Cert.AdamBranchIdeal.τ).loc Cert.AdamBranchIdeal.main_arg1)
      ∧ m' ((c.tc : Thread Cert.AdamBranchRefIdeal.nD Cert.AdamBranchRefIdeal.τ).loc Cert.AdamBranchRefIdeal.main_arg2) = m ((c.tc : Thread Cert.AdamBranchIdeal.nD Cert.AdamBranchIdeal.τ).loc Cert.AdamBranchIdeal.main_arg2)
      ∧ m' ((c.tc : Thread Cert.AdamBranchRefIdeal.nD Cert.AdamBranchRefIdeal.τ).loc Cert.AdamBranchRefIdeal.main_arg3) = m ((c.tc : Thread Cert.AdamBranchIdeal.nD Cert.AdamBranchIdeal.τ).loc Cert.AdamBranchIdeal.main_arg3)
      ∧ m' ((c.tc : Thread Cert.AdamBranchRefIdeal.nD Cert.AdamBranchRefIdeal.τ).loc Cert.AdamBranchRefIdeal.main_arg4) = m ((c.tc : Thread Cert.AdamBranchIdeal.nD Cert.AdamBranchIdeal.τ).loc Cert.AdamBranchIdeal.main_arg4)) →
    ∃ (v0 : (c : Dev Cert.AdamBranchIdeal.nD) → Buf (Elt Ideal) ((c.tc : Thread Cert.AdamBranchIdeal.nD Cert.AdamBranchIdeal.τ).loc Cert.AdamBranchIdeal.main_v3_0)) (v1 : (c : Dev Cert.AdamBranchIdeal.nD) → Buf (Elt Ideal) ((c.tc : Thread Cert.AdamBranchIdeal.nD Cert.AdamBranchIdeal.τ).loc Cert.AdamBranchIdeal.main_v3_1)) (v2 : (c : Dev Cert.AdamBranchIdeal.nD) → Buf (Elt Ideal) ((c.tc : Thread Cert.AdamBranchIdeal.nD Cert.AdamBranchIdeal.τ).loc Cert.AdamBranchIdeal.main_v3_2)) (v3 : (c : Dev Cert.AdamBranchIdeal.nD) → Buf (Elt Ideal) ((c.tc : Thread Cert.AdamBranchIdeal.nD Cert.AdamBranchIdeal.τ).loc Cert.AdamBranchIdeal.main_v3_3)),
      θ_run (Cert.AdamBranchIdeal.defs (F := Ideal)) (onTc (τ := Cert.AdamBranchIdeal.τ) (Cert.AdamBranchIdeal.main (F := Ideal))) ⟨m, fun _ => 0, g⟩ (fun r => ∀ c : Dev Cert.AdamBranchIdeal.nD,
          r.2.mem ((c.tc : Thread Cert.AdamBranchIdeal.nD Cert.AdamBranchIdeal.τ).loc Cert.AdamBranchIdeal.main_v3_0) = v0 c
          ∧ r.2.mem ((c.tc : Thread Cert.AdamBranchIdeal.nD Cert.AdamBranchIdeal.τ).loc Cert.AdamBranchIdeal.main_v3_1) = v1 c
          ∧ r.2.mem ((c.tc : Thread Cert.AdamBranchIdeal.nD Cert.AdamBranchIdeal.τ).loc Cert.AdamBranchIdeal.main_v3_2) = v2 c
          ∧ r.2.mem ((c.tc : Thread Cert.AdamBranchIdeal.nD Cert.AdamBranchIdeal.τ).loc Cert.AdamBranchIdeal.main_v3_3) = v3 c
          ∧ r.2.mem ((c.tc : Thread Cert.AdamBranchIdeal.nD Cert.AdamBranchIdeal.τ).loc Cert.AdamBranchIdeal.main_arg0) = m ((c.tc : Thread Cert.AdamBranchIdeal.nD Cert.AdamBranchIdeal.τ).loc Cert.AdamBranchIdeal.main_arg0)
          ∧ r.2.mem ((c.tc : Thread Cert.AdamBranchIdeal.nD Cert.AdamBranchIdeal.τ).loc Cert.AdamBranchIdeal.main_arg1) = m ((c.tc : Thread Cert.AdamBranchIdeal.nD Cert.AdamBranchIdeal.τ).loc Cert.AdamBranchIdeal.main_arg1)
          ∧ r.2.mem ((c.tc : Thread Cert.AdamBranchIdeal.nD Cert.AdamBranchIdeal.τ).loc Cert.AdamBranchIdeal.main_arg2) = m ((c.tc : Thread Cert.AdamBranchIdeal.nD Cert.AdamBranchIdeal.τ).loc Cert.AdamBranchIdeal.main_arg2)
          ∧ r.2.mem ((c.tc : Thread Cert.AdamBranchIdeal.nD Cert.AdamBranchIdeal.τ).loc Cert.AdamBranchIdeal.main_arg3) = m ((c.tc : Thread Cert.AdamBranchIdeal.nD Cert.AdamBranchIdeal.τ).loc Cert.AdamBranchIdeal.main_arg3)
          ∧ r.2.mem ((c.tc : Thread Cert.AdamBranchIdeal.nD Cert.AdamBranchIdeal.τ).loc Cert.AdamBranchIdeal.main_arg4) = m ((c.tc : Thread Cert.AdamBranchIdeal.nD Cert.AdamBranchIdeal.τ).loc Cert.AdamBranchIdeal.main_arg4))
      ∧ θ_run (Cert.AdamBranchRefIdeal.defs (F := Ideal)) (onTc (τ := Cert.AdamBranchRefIdeal.τ) (Cert.AdamBranchRefIdeal.main (F := Ideal))) ⟨m', fun _ => 0, g'⟩ (fun r => ∀ c : Dev Cert.AdamBranchRefIdeal.nD,
          r.2.mem ((c.tc : Thread Cert.AdamBranchRefIdeal.nD Cert.AdamBranchRefIdeal.τ).loc Cert.AdamBranchRefIdeal.main_v31) = v0 c
          ∧ r.2.mem ((c.tc : Thread Cert.AdamBranchRefIdeal.nD Cert.AdamBranchRefIdeal.τ).loc Cert.AdamBranchRefIdeal.main_v32) = v1 c
          ∧ r.2.mem ((c.tc : Thread Cert.AdamBranchRefIdeal.nD Cert.AdamBranchRefIdeal.τ).loc Cert.AdamBranchRefIdeal.main_v33) = v2 c
          ∧ r.2.mem ((c.tc : Thread Cert.AdamBranchRefIdeal.nD Cert.AdamBranchRefIdeal.τ).loc Cert.AdamBranchRefIdeal.main_v34) = v3 c
          ∧ r.2.mem ((c.tc : Thread Cert.AdamBranchRefIdeal.nD Cert.AdamBranchRefIdeal.τ).loc Cert.AdamBranchRefIdeal.main_arg0) = m' ((c.tc : Thread Cert.AdamBranchRefIdeal.nD Cert.AdamBranchRefIdeal.τ).loc Cert.AdamBranchRefIdeal.main_arg0)
          ∧ r.2.mem ((c.tc : Thread Cert.AdamBranchRefIdeal.nD Cert.AdamBranchRefIdeal.τ).loc Cert.AdamBranchRefIdeal.main_arg1) = m' ((c.tc : Thread Cert.AdamBranchRefIdeal.nD Cert.AdamBranchRefIdeal.τ).loc Cert.AdamBranchRefIdeal.main_arg1)
          ∧ r.2.mem ((c.tc : Thread Cert.AdamBranchRefIdeal.nD Cert.AdamBranchRefIdeal.τ).loc Cert.AdamBranchRefIdeal.main_arg2) = m' ((c.tc : Thread Cert.AdamBranchRefIdeal.nD Cert.AdamBranchRefIdeal.τ).loc Cert.AdamBranchRefIdeal.main_arg2)
          ∧ r.2.mem ((c.tc : Thread Cert.AdamBranchRefIdeal.nD Cert.AdamBranchRefIdeal.τ).loc Cert.AdamBranchRefIdeal.main_arg3) = m' ((c.tc : Thread Cert.AdamBranchRefIdeal.nD Cert.AdamBranchRefIdeal.τ).loc Cert.AdamBranchRefIdeal.main_arg3)
          ∧ r.2.mem ((c.tc : Thread Cert.AdamBranchRefIdeal.nD Cert.AdamBranchRefIdeal.τ).loc Cert.AdamBranchRefIdeal.main_arg4) = m' ((c.tc : Thread Cert.AdamBranchRefIdeal.nD Cert.AdamBranchRefIdeal.τ).loc Cert.AdamBranchRefIdeal.main_arg4))

def preserves_AdamKv_AdamKvIdeal : Prop :=
  True

def algebraic_AdamKvIdeal_AdamKvRefIdeal [hAdamKvIdeal : Cert.AdamKvIdeal.Facts] [hAdamKvRefIdeal : Cert.AdamKvRefIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg)
    (m' : (ℓ : Loc Cert.AdamKvRefIdeal.nD Cert.AdamKvRefIdeal.τ Cert.AdamKvRefIdeal.sig) → Buf (Elt Ideal) ℓ) (g' : Dev Cert.AdamKvRefIdeal.nD → PrngReg), Pre_AdamKvIdeal m →
    (∀ c : Dev Cert.AdamKvIdeal.nD,
      m' ((c.tc : Thread Cert.AdamKvRefIdeal.nD Cert.AdamKvRefIdeal.τ).loc Cert.AdamKvRefIdeal.main_arg0) = m ((c.tc : Thread Cert.AdamKvIdeal.nD Cert.AdamKvIdeal.τ).loc Cert.AdamKvIdeal.main_arg0)
      ∧ m' ((c.tc : Thread Cert.AdamKvRefIdeal.nD Cert.AdamKvRefIdeal.τ).loc Cert.AdamKvRefIdeal.main_arg1) = m ((c.tc : Thread Cert.AdamKvIdeal.nD Cert.AdamKvIdeal.τ).loc Cert.AdamKvIdeal.main_arg1)
      ∧ m' ((c.tc : Thread Cert.AdamKvRefIdeal.nD Cert.AdamKvRefIdeal.τ).loc Cert.AdamKvRefIdeal.main_arg2) = m ((c.tc : Thread Cert.AdamKvIdeal.nD Cert.AdamKvIdeal.τ).loc Cert.AdamKvIdeal.main_arg2)
      ∧ m' ((c.tc : Thread Cert.AdamKvRefIdeal.nD Cert.AdamKvRefIdeal.τ).loc Cert.AdamKvRefIdeal.main_arg3) = m ((c.tc : Thread Cert.AdamKvIdeal.nD Cert.AdamKvIdeal.τ).loc Cert.AdamKvIdeal.main_arg3)
      ∧ m' ((c.tc : Thread Cert.AdamKvRefIdeal.nD Cert.AdamKvRefIdeal.τ).loc Cert.AdamKvRefIdeal.main_arg4) = m ((c.tc : Thread Cert.AdamKvIdeal.nD Cert.AdamKvIdeal.τ).loc Cert.AdamKvIdeal.main_arg4)) →
    ∃ (v0 : (c : Dev Cert.AdamKvIdeal.nD) → Buf (Elt Ideal) ((c.tc : Thread Cert.AdamKvIdeal.nD Cert.AdamKvIdeal.τ).loc Cert.AdamKvIdeal.main_v3_0)) (v1 : (c : Dev Cert.AdamKvIdeal.nD) → Buf (Elt Ideal) ((c.tc : Thread Cert.AdamKvIdeal.nD Cert.AdamKvIdeal.τ).loc Cert.AdamKvIdeal.main_v3_1)) (v2 : (c : Dev Cert.AdamKvIdeal.nD) → Buf (Elt Ideal) ((c.tc : Thread Cert.AdamKvIdeal.nD Cert.AdamKvIdeal.τ).loc Cert.AdamKvIdeal.main_v3_2)) (v3 : (c : Dev Cert.AdamKvIdeal.nD) → Buf (Elt Ideal) ((c.tc : Thread Cert.AdamKvIdeal.nD Cert.AdamKvIdeal.τ).loc Cert.AdamKvIdeal.main_v3_3)),
      θ_run (Cert.AdamKvIdeal.defs (F := Ideal)) (onTc (τ := Cert.AdamKvIdeal.τ) (Cert.AdamKvIdeal.main (F := Ideal))) ⟨m, fun _ => 0, g⟩ (fun r => ∀ c : Dev Cert.AdamKvIdeal.nD,
          r.2.mem ((c.tc : Thread Cert.AdamKvIdeal.nD Cert.AdamKvIdeal.τ).loc Cert.AdamKvIdeal.main_v3_0) = v0 c
          ∧ r.2.mem ((c.tc : Thread Cert.AdamKvIdeal.nD Cert.AdamKvIdeal.τ).loc Cert.AdamKvIdeal.main_v3_1) = v1 c
          ∧ r.2.mem ((c.tc : Thread Cert.AdamKvIdeal.nD Cert.AdamKvIdeal.τ).loc Cert.AdamKvIdeal.main_v3_2) = v2 c
          ∧ r.2.mem ((c.tc : Thread Cert.AdamKvIdeal.nD Cert.AdamKvIdeal.τ).loc Cert.AdamKvIdeal.main_v3_3) = v3 c
          ∧ r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
          ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
          ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
          ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3)
          ∧ r.2.mem ((c.tc : Thread Cert.AdamKvIdeal.nD Cert.AdamKvIdeal.τ).loc Cert.AdamKvIdeal.main_arg4) = m ((c.tc : Thread Cert.AdamKvIdeal.nD Cert.AdamKvIdeal.τ).loc Cert.AdamKvIdeal.main_arg4))
      ∧ θ_run (Cert.AdamKvRefIdeal.defs (F := Ideal)) (onTc (τ := Cert.AdamKvRefIdeal.τ) (Cert.AdamKvRefIdeal.main (F := Ideal))) ⟨m', fun _ => 0, g'⟩ (fun r => ∀ c : Dev Cert.AdamKvRefIdeal.nD,
          r.2.mem ((c.tc : Thread Cert.AdamKvRefIdeal.nD Cert.AdamKvRefIdeal.τ).loc Cert.AdamKvRefIdeal.main_v31) = v0 c
          ∧ r.2.mem ((c.tc : Thread Cert.AdamKvRefIdeal.nD Cert.AdamKvRefIdeal.τ).loc Cert.AdamKvRefIdeal.main_v32) = v1 c
          ∧ r.2.mem ((c.tc : Thread Cert.AdamKvRefIdeal.nD Cert.AdamKvRefIdeal.τ).loc Cert.AdamKvRefIdeal.main_v33) = v2 c
          ∧ r.2.mem ((c.tc : Thread Cert.AdamKvRefIdeal.nD Cert.AdamKvRefIdeal.τ).loc Cert.AdamKvRefIdeal.main_v34) = v3 c
          ∧ r.2.mem ((c.tc : Thread Cert.AdamKvRefIdeal.nD Cert.AdamKvRefIdeal.τ).loc Cert.AdamKvRefIdeal.main_arg0) = m' ((c.tc : Thread Cert.AdamKvRefIdeal.nD Cert.AdamKvRefIdeal.τ).loc Cert.AdamKvRefIdeal.main_arg0)
          ∧ r.2.mem ((c.tc : Thread Cert.AdamKvRefIdeal.nD Cert.AdamKvRefIdeal.τ).loc Cert.AdamKvRefIdeal.main_arg1) = m' ((c.tc : Thread Cert.AdamKvRefIdeal.nD Cert.AdamKvRefIdeal.τ).loc Cert.AdamKvRefIdeal.main_arg1)
          ∧ r.2.mem ((c.tc : Thread Cert.AdamKvRefIdeal.nD Cert.AdamKvRefIdeal.τ).loc Cert.AdamKvRefIdeal.main_arg2) = m' ((c.tc : Thread Cert.AdamKvRefIdeal.nD Cert.AdamKvRefIdeal.τ).loc Cert.AdamKvRefIdeal.main_arg2)
          ∧ r.2.mem ((c.tc : Thread Cert.AdamKvRefIdeal.nD Cert.AdamKvRefIdeal.τ).loc Cert.AdamKvRefIdeal.main_arg3) = m' ((c.tc : Thread Cert.AdamKvRefIdeal.nD Cert.AdamKvRefIdeal.τ).loc Cert.AdamKvRefIdeal.main_arg3)
          ∧ r.2.mem ((c.tc : Thread Cert.AdamKvRefIdeal.nD Cert.AdamKvRefIdeal.τ).loc Cert.AdamKvRefIdeal.main_arg4) = m' ((c.tc : Thread Cert.AdamKvRefIdeal.nD Cert.AdamKvRefIdeal.τ).loc Cert.AdamKvRefIdeal.main_arg4))

def preserves_AdamGlu_AdamGluIdeal : Prop :=
  True

def algebraic_AdamGluIdeal_AdamGluRefIdeal [hAdamGluIdeal : Cert.AdamGluIdeal.Facts] [hAdamGluRefIdeal : Cert.AdamGluRefIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg)
    (m' : (ℓ : Loc Cert.AdamGluRefIdeal.nD Cert.AdamGluRefIdeal.τ Cert.AdamGluRefIdeal.sig) → Buf (Elt Ideal) ℓ) (g' : Dev Cert.AdamGluRefIdeal.nD → PrngReg), Pre_AdamGluIdeal m →
    (∀ c : Dev Cert.AdamGluIdeal.nD,
      m' ((c.tc : Thread Cert.AdamGluRefIdeal.nD Cert.AdamGluRefIdeal.τ).loc Cert.AdamGluRefIdeal.main_arg0) = m ((c.tc : Thread Cert.AdamGluIdeal.nD Cert.AdamGluIdeal.τ).loc Cert.AdamGluIdeal.main_arg0)
      ∧ m' ((c.tc : Thread Cert.AdamGluRefIdeal.nD Cert.AdamGluRefIdeal.τ).loc Cert.AdamGluRefIdeal.main_arg1) = m ((c.tc : Thread Cert.AdamGluIdeal.nD Cert.AdamGluIdeal.τ).loc Cert.AdamGluIdeal.main_arg1)
      ∧ m' ((c.tc : Thread Cert.AdamGluRefIdeal.nD Cert.AdamGluRefIdeal.τ).loc Cert.AdamGluRefIdeal.main_arg2) = m ((c.tc : Thread Cert.AdamGluIdeal.nD Cert.AdamGluIdeal.τ).loc Cert.AdamGluIdeal.main_arg2)
      ∧ m' ((c.tc : Thread Cert.AdamGluRefIdeal.nD Cert.AdamGluRefIdeal.τ).loc Cert.AdamGluRefIdeal.main_arg3) = m ((c.tc : Thread Cert.AdamGluIdeal.nD Cert.AdamGluIdeal.τ).loc Cert.AdamGluIdeal.main_arg3)
      ∧ m' ((c.tc : Thread Cert.AdamGluRefIdeal.nD Cert.AdamGluRefIdeal.τ).loc Cert.AdamGluRefIdeal.main_arg4) = m ((c.tc : Thread Cert.AdamGluIdeal.nD Cert.AdamGluIdeal.τ).loc Cert.AdamGluIdeal.main_arg4)) →
    ∃ (v0 : (c : Dev Cert.AdamGluIdeal.nD) → Buf (Elt Ideal) ((c.tc : Thread Cert.AdamGluIdeal.nD Cert.AdamGluIdeal.τ).loc Cert.AdamGluIdeal.main_v3_0)) (v1 : (c : Dev Cert.AdamGluIdeal.nD) → Buf (Elt Ideal) ((c.tc : Thread Cert.AdamGluIdeal.nD Cert.AdamGluIdeal.τ).loc Cert.AdamGluIdeal.main_v3_1)) (v2 : (c : Dev Cert.AdamGluIdeal.nD) → Buf (Elt Ideal) ((c.tc : Thread Cert.AdamGluIdeal.nD Cert.AdamGluIdeal.τ).loc Cert.AdamGluIdeal.main_v3_2)) (v3 : (c : Dev Cert.AdamGluIdeal.nD) → Buf (Elt Ideal) ((c.tc : Thread Cert.AdamGluIdeal.nD Cert.AdamGluIdeal.τ).loc Cert.AdamGluIdeal.main_v3_3)),
      θ_run (Cert.AdamGluIdeal.defs (F := Ideal)) (onTc (τ := Cert.AdamGluIdeal.τ) (Cert.AdamGluIdeal.main (F := Ideal))) ⟨m, fun _ => 0, g⟩ (fun r => ∀ c : Dev Cert.AdamGluIdeal.nD,
          r.2.mem ((c.tc : Thread Cert.AdamGluIdeal.nD Cert.AdamGluIdeal.τ).loc Cert.AdamGluIdeal.main_v3_0) = v0 c
          ∧ r.2.mem ((c.tc : Thread Cert.AdamGluIdeal.nD Cert.AdamGluIdeal.τ).loc Cert.AdamGluIdeal.main_v3_1) = v1 c
          ∧ r.2.mem ((c.tc : Thread Cert.AdamGluIdeal.nD Cert.AdamGluIdeal.τ).loc Cert.AdamGluIdeal.main_v3_2) = v2 c
          ∧ r.2.mem ((c.tc : Thread Cert.AdamGluIdeal.nD Cert.AdamGluIdeal.τ).loc Cert.AdamGluIdeal.main_v3_3) = v3 c
          ∧ r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
          ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
          ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
          ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3)
          ∧ r.2.mem ((c.tc : Thread Cert.AdamGluIdeal.nD Cert.AdamGluIdeal.τ).loc Cert.AdamGluIdeal.main_arg4) = m ((c.tc : Thread Cert.AdamGluIdeal.nD Cert.AdamGluIdeal.τ).loc Cert.AdamGluIdeal.main_arg4))
      ∧ θ_run (Cert.AdamGluRefIdeal.defs (F := Ideal)) (onTc (τ := Cert.AdamGluRefIdeal.τ) (Cert.AdamGluRefIdeal.main (F := Ideal))) ⟨m', fun _ => 0, g'⟩ (fun r => ∀ c : Dev Cert.AdamGluRefIdeal.nD,
          r.2.mem ((c.tc : Thread Cert.AdamGluRefIdeal.nD Cert.AdamGluRefIdeal.τ).loc Cert.AdamGluRefIdeal.main_v31) = v0 c
          ∧ r.2.mem ((c.tc : Thread Cert.AdamGluRefIdeal.nD Cert.AdamGluRefIdeal.τ).loc Cert.AdamGluRefIdeal.main_v32) = v1 c
          ∧ r.2.mem ((c.tc : Thread Cert.AdamGluRefIdeal.nD Cert.AdamGluRefIdeal.τ).loc Cert.AdamGluRefIdeal.main_v33) = v2 c
          ∧ r.2.mem ((c.tc : Thread Cert.AdamGluRefIdeal.nD Cert.AdamGluRefIdeal.τ).loc Cert.AdamGluRefIdeal.main_v34) = v3 c
          ∧ r.2.mem ((c.tc : Thread Cert.AdamGluRefIdeal.nD Cert.AdamGluRefIdeal.τ).loc Cert.AdamGluRefIdeal.main_arg0) = m' ((c.tc : Thread Cert.AdamGluRefIdeal.nD Cert.AdamGluRefIdeal.τ).loc Cert.AdamGluRefIdeal.main_arg0)
          ∧ r.2.mem ((c.tc : Thread Cert.AdamGluRefIdeal.nD Cert.AdamGluRefIdeal.τ).loc Cert.AdamGluRefIdeal.main_arg1) = m' ((c.tc : Thread Cert.AdamGluRefIdeal.nD Cert.AdamGluRefIdeal.τ).loc Cert.AdamGluRefIdeal.main_arg1)
          ∧ r.2.mem ((c.tc : Thread Cert.AdamGluRefIdeal.nD Cert.AdamGluRefIdeal.τ).loc Cert.AdamGluRefIdeal.main_arg2) = m' ((c.tc : Thread Cert.AdamGluRefIdeal.nD Cert.AdamGluRefIdeal.τ).loc Cert.AdamGluRefIdeal.main_arg2)
          ∧ r.2.mem ((c.tc : Thread Cert.AdamGluRefIdeal.nD Cert.AdamGluRefIdeal.τ).loc Cert.AdamGluRefIdeal.main_arg3) = m' ((c.tc : Thread Cert.AdamGluRefIdeal.nD Cert.AdamGluRefIdeal.τ).loc Cert.AdamGluRefIdeal.main_arg3)
          ∧ r.2.mem ((c.tc : Thread Cert.AdamGluRefIdeal.nD Cert.AdamGluRefIdeal.τ).loc Cert.AdamGluRefIdeal.main_arg4) = m' ((c.tc : Thread Cert.AdamGluRefIdeal.nD Cert.AdamGluRefIdeal.τ).loc Cert.AdamGluRefIdeal.main_arg4))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_1)) (v1 : (c : Dev Cert.LossIdeal.nD) → Buf (Elt Ideal) ((c.tc : Thread Cert.LossIdeal.nD Cert.LossIdeal.τ).loc Cert.LossIdeal.main_v0_0)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_1) = v0 c
          ∧ r.2.mem ((c.tc : Thread Cert.LossIdeal.nD Cert.LossIdeal.τ).loc Cert.LossIdeal.main_v0_0) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v15) = v0 c
          ∧ r.2.mem ((c.tc : Thread Cert.LossRefIdeal.nD Cert.LossRefIdeal.τ).loc Cert.LossRefIdeal.main_v14) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v0) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def Claim : Prop :=
  ∃ (hKernel : Cert.Kernel.Facts) (hKernelIdeal : Cert.KernelIdeal.Facts) (hReferenceIdeal : Cert.ReferenceIdeal.Facts) (hDwin3 : Cert.Dwin3.Facts) (hDwin3Ideal : Cert.Dwin3Ideal.Facts) (hDwin3RefIdeal : Cert.Dwin3RefIdeal.Facts) (hDwin1 : Cert.Dwin1.Facts) (hDwin1Ideal : Cert.Dwin1Ideal.Facts) (hDwin1RefIdeal : Cert.Dwin1RefIdeal.Facts) (hDwin0 : Cert.Dwin0.Facts) (hDwin0Ideal : Cert.Dwin0Ideal.Facts) (hDwin0RefIdeal : Cert.Dwin0RefIdeal.Facts) (hDwin2 : Cert.Dwin2.Facts) (hDwin2Ideal : Cert.Dwin2Ideal.Facts) (hDwin2RefIdeal : Cert.Dwin2RefIdeal.Facts) (hDh3 : Cert.Dh3.Facts) (hDh3Ideal : Cert.Dh3Ideal.Facts) (hDh3RefIdeal : Cert.Dh3RefIdeal.Facts) (hDh1 : Cert.Dh1.Facts) (hDh1Ideal : Cert.Dh1Ideal.Facts) (hDh1RefIdeal : Cert.Dh1RefIdeal.Facts) (hDh0 : Cert.Dh0.Facts) (hDh0Ideal : Cert.Dh0Ideal.Facts) (hDh0RefIdeal : Cert.Dh0RefIdeal.Facts) (hDh2 : Cert.Dh2.Facts) (hDh2Ideal : Cert.Dh2Ideal.Facts) (hDh2RefIdeal : Cert.Dh2RefIdeal.Facts) (hProj3 : Cert.Proj3.Facts) (hProj3Ideal : Cert.Proj3Ideal.Facts) (hProj3RefIdeal : Cert.Proj3RefIdeal.Facts) (hProj1 : Cert.Proj1.Facts) (hProj1Ideal : Cert.Proj1Ideal.Facts) (hProj1RefIdeal : Cert.Proj1RefIdeal.Facts) (hProj0 : Cert.Proj0.Facts) (hProj0Ideal : Cert.Proj0Ideal.Facts) (hProj0RefIdeal : Cert.Proj0RefIdeal.Facts) (hProj2 : Cert.Proj2.Facts) (hProj2Ideal : Cert.Proj2Ideal.Facts) (hProj2RefIdeal : Cert.Proj2RefIdeal.Facts) (hNormBwd : Cert.NormBwd.Facts) (hNormBwdIdeal : Cert.NormBwdIdeal.Facts) (hNormBwdRefIdeal : Cert.NormBwdRefIdeal.Facts) (hNormFwd : Cert.NormFwd.Facts) (hNormFwdIdeal : Cert.NormFwdIdeal.Facts) (hNormFwdRefIdeal : Cert.NormFwdRefIdeal.Facts) (hGateFwd : Cert.GateFwd.Facts) (hGateFwdIdeal : Cert.GateFwdIdeal.Facts) (hGateFwdRefIdeal : Cert.GateFwdRefIdeal.Facts) (hPostBwd : Cert.PostBwd.Facts) (hPostBwdIdeal : Cert.PostBwdIdeal.Facts) (hPostBwdRefIdeal : Cert.PostBwdRefIdeal.Facts) (hPostFwd : Cert.PostFwd.Facts) (hPostFwdIdeal : Cert.PostFwdIdeal.Facts) (hPostFwdRefIdeal : Cert.PostFwdRefIdeal.Facts) (hAdamOut : Cert.AdamOut.Facts) (hAdamOutIdeal : Cert.AdamOutIdeal.Facts) (hAdamOutRefIdeal : Cert.AdamOutRefIdeal.Facts) (hAdamBranch : Cert.AdamBranch.Facts) (hAdamBranchIdeal : Cert.AdamBranchIdeal.Facts) (hAdamBranchRefIdeal : Cert.AdamBranchRefIdeal.Facts) (hAdamKv : Cert.AdamKv.Facts) (hAdamKvIdeal : Cert.AdamKvIdeal.Facts) (hAdamKvRefIdeal : Cert.AdamKvRefIdeal.Facts) (hAdamGlu : Cert.AdamGlu.Facts) (hAdamGluIdeal : Cert.AdamGluIdeal.Facts) (hAdamGluRefIdeal : Cert.AdamGluRefIdeal.Facts) (hLoss : Cert.Loss.Facts) (hLossIdeal : Cert.LossIdeal.Facts) (hLossRefIdeal : Cert.LossRefIdeal.Facts) (hSumSmall : Cert.SumSmall.Facts) (hSumSmallIdeal : Cert.SumSmallIdeal.Facts) (hSumSmallRefIdeal : Cert.SumSmallRefIdeal.Facts),
    quiescent_Kernel (hKernel := hKernel)
    ∧ quiescent_KernelIdeal (hKernelIdeal := hKernelIdeal)
    ∧ quiescent_ReferenceIdeal (hReferenceIdeal := hReferenceIdeal)
    ∧ quiescent_Dwin3 (hDwin3 := hDwin3)
    ∧ quiescent_Dwin3Ideal (hDwin3Ideal := hDwin3Ideal)
    ∧ quiescent_Dwin3RefIdeal (hDwin3RefIdeal := hDwin3RefIdeal)
    ∧ quiescent_Dwin1 (hDwin1 := hDwin1)
    ∧ quiescent_Dwin1Ideal (hDwin1Ideal := hDwin1Ideal)
    ∧ quiescent_Dwin1RefIdeal (hDwin1RefIdeal := hDwin1RefIdeal)
    ∧ quiescent_Dwin0 (hDwin0 := hDwin0)
    ∧ quiescent_Dwin0Ideal (hDwin0Ideal := hDwin0Ideal)
    ∧ quiescent_Dwin0RefIdeal (hDwin0RefIdeal := hDwin0RefIdeal)
    ∧ quiescent_Dwin2 (hDwin2 := hDwin2)
    ∧ quiescent_Dwin2Ideal (hDwin2Ideal := hDwin2Ideal)
    ∧ quiescent_Dwin2RefIdeal (hDwin2RefIdeal := hDwin2RefIdeal)
    ∧ quiescent_Dh3 (hDh3 := hDh3)
    ∧ quiescent_Dh3Ideal (hDh3Ideal := hDh3Ideal)
    ∧ quiescent_Dh3RefIdeal (hDh3RefIdeal := hDh3RefIdeal)
    ∧ quiescent_Dh1 (hDh1 := hDh1)
    ∧ quiescent_Dh1Ideal (hDh1Ideal := hDh1Ideal)
    ∧ quiescent_Dh1RefIdeal (hDh1RefIdeal := hDh1RefIdeal)
    ∧ quiescent_Dh0 (hDh0 := hDh0)
    ∧ quiescent_Dh0Ideal (hDh0Ideal := hDh0Ideal)
    ∧ quiescent_Dh0RefIdeal (hDh0RefIdeal := hDh0RefIdeal)
    ∧ quiescent_Dh2 (hDh2 := hDh2)
    ∧ quiescent_Dh2Ideal (hDh2Ideal := hDh2Ideal)
    ∧ quiescent_Dh2RefIdeal (hDh2RefIdeal := hDh2RefIdeal)
    ∧ quiescent_Proj3 (hProj3 := hProj3)
    ∧ quiescent_Proj3Ideal (hProj3Ideal := hProj3Ideal)
    ∧ quiescent_Proj3RefIdeal (hProj3RefIdeal := hProj3RefIdeal)
    ∧ quiescent_Proj1 (hProj1 := hProj1)
    ∧ quiescent_Proj1Ideal (hProj1Ideal := hProj1Ideal)
    ∧ quiescent_Proj1RefIdeal (hProj1RefIdeal := hProj1RefIdeal)
    ∧ quiescent_Proj0 (hProj0 := hProj0)
    ∧ quiescent_Proj0Ideal (hProj0Ideal := hProj0Ideal)
    ∧ quiescent_Proj0RefIdeal (hProj0RefIdeal := hProj0RefIdeal)
    ∧ quiescent_Proj2 (hProj2 := hProj2)
    ∧ quiescent_Proj2Ideal (hProj2Ideal := hProj2Ideal)
    ∧ quiescent_Proj2RefIdeal (hProj2RefIdeal := hProj2RefIdeal)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_GateFwd (hGateFwd := hGateFwd)
    ∧ quiescent_GateFwdIdeal (hGateFwdIdeal := hGateFwdIdeal)
    ∧ quiescent_GateFwdRefIdeal (hGateFwdRefIdeal := hGateFwdRefIdeal)
    ∧ quiescent_PostBwd (hPostBwd := hPostBwd)
    ∧ quiescent_PostBwdIdeal (hPostBwdIdeal := hPostBwdIdeal)
    ∧ quiescent_PostBwdRefIdeal (hPostBwdRefIdeal := hPostBwdRefIdeal)
    ∧ quiescent_PostFwd (hPostFwd := hPostFwd)
    ∧ quiescent_PostFwdIdeal (hPostFwdIdeal := hPostFwdIdeal)
    ∧ quiescent_PostFwdRefIdeal (hPostFwdRefIdeal := hPostFwdRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamBranch (hAdamBranch := hAdamBranch)
    ∧ quiescent_AdamBranchIdeal (hAdamBranchIdeal := hAdamBranchIdeal)
    ∧ quiescent_AdamBranchRefIdeal (hAdamBranchRefIdeal := hAdamBranchRefIdeal)
    ∧ quiescent_AdamKv (hAdamKv := hAdamKv)
    ∧ quiescent_AdamKvIdeal (hAdamKvIdeal := hAdamKvIdeal)
    ∧ quiescent_AdamKvRefIdeal (hAdamKvRefIdeal := hAdamKvRefIdeal)
    ∧ quiescent_AdamGlu (hAdamGlu := hAdamGlu)
    ∧ quiescent_AdamGluIdeal (hAdamGluIdeal := hAdamGluIdeal)
    ∧ quiescent_AdamGluRefIdeal (hAdamGluRefIdeal := hAdamGluRefIdeal)
    ∧ quiescent_Loss (hLoss := hLoss)
    ∧ quiescent_LossIdeal (hLossIdeal := hLossIdeal)
    ∧ quiescent_LossRefIdeal (hLossRefIdeal := hLossRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ preserves_Kernel_KernelIdeal
    ∧ algebraic_KernelIdeal_ReferenceIdeal (hKernelIdeal := hKernelIdeal) (hReferenceIdeal := hReferenceIdeal)
    ∧ preserves_Dwin3_Dwin3Ideal
    ∧ algebraic_Dwin3Ideal_Dwin3RefIdeal (hDwin3Ideal := hDwin3Ideal) (hDwin3RefIdeal := hDwin3RefIdeal)
    ∧ preserves_Dwin1_Dwin1Ideal
    ∧ algebraic_Dwin1Ideal_Dwin1RefIdeal (hDwin1Ideal := hDwin1Ideal) (hDwin1RefIdeal := hDwin1RefIdeal)
    ∧ preserves_Dwin0_Dwin0Ideal
    ∧ algebraic_Dwin0Ideal_Dwin0RefIdeal (hDwin0Ideal := hDwin0Ideal) (hDwin0RefIdeal := hDwin0RefIdeal)
    ∧ preserves_Dwin2_Dwin2Ideal
    ∧ algebraic_Dwin2Ideal_Dwin2RefIdeal (hDwin2Ideal := hDwin2Ideal) (hDwin2RefIdeal := hDwin2RefIdeal)
    ∧ preserves_Dh3_Dh3Ideal
    ∧ algebraic_Dh3Ideal_Dh3RefIdeal (hDh3Ideal := hDh3Ideal) (hDh3RefIdeal := hDh3RefIdeal)
    ∧ preserves_Dh1_Dh1Ideal
    ∧ algebraic_Dh1Ideal_Dh1RefIdeal (hDh1Ideal := hDh1Ideal) (hDh1RefIdeal := hDh1RefIdeal)
    ∧ preserves_Dh0_Dh0Ideal
    ∧ algebraic_Dh0Ideal_Dh0RefIdeal (hDh0Ideal := hDh0Ideal) (hDh0RefIdeal := hDh0RefIdeal)
    ∧ preserves_Dh2_Dh2Ideal
    ∧ algebraic_Dh2Ideal_Dh2RefIdeal (hDh2Ideal := hDh2Ideal) (hDh2RefIdeal := hDh2RefIdeal)
    ∧ preserves_Proj3_Proj3Ideal
    ∧ algebraic_Proj3Ideal_Proj3RefIdeal (hProj3Ideal := hProj3Ideal) (hProj3RefIdeal := hProj3RefIdeal)
    ∧ preserves_Proj1_Proj1Ideal
    ∧ algebraic_Proj1Ideal_Proj1RefIdeal (hProj1Ideal := hProj1Ideal) (hProj1RefIdeal := hProj1RefIdeal)
    ∧ preserves_Proj0_Proj0Ideal
    ∧ algebraic_Proj0Ideal_Proj0RefIdeal (hProj0Ideal := hProj0Ideal) (hProj0RefIdeal := hProj0RefIdeal)
    ∧ preserves_Proj2_Proj2Ideal
    ∧ algebraic_Proj2Ideal_Proj2RefIdeal (hProj2Ideal := hProj2Ideal) (hProj2RefIdeal := hProj2RefIdeal)
    ∧ preserves_NormBwd_NormBwdIdeal
    ∧ algebraic_NormBwdIdeal_NormBwdRefIdeal (hNormBwdIdeal := hNormBwdIdeal) (hNormBwdRefIdeal := hNormBwdRefIdeal)
    ∧ preserves_NormFwd_NormFwdIdeal
    ∧ algebraic_NormFwdIdeal_NormFwdRefIdeal (hNormFwdIdeal := hNormFwdIdeal) (hNormFwdRefIdeal := hNormFwdRefIdeal)
    ∧ preserves_GateFwd_GateFwdIdeal
    ∧ algebraic_GateFwdIdeal_GateFwdRefIdeal (hGateFwdIdeal := hGateFwdIdeal) (hGateFwdRefIdeal := hGateFwdRefIdeal)
    ∧ preserves_PostBwd_PostBwdIdeal
    ∧ algebraic_PostBwdIdeal_PostBwdRefIdeal (hPostBwdIdeal := hPostBwdIdeal) (hPostBwdRefIdeal := hPostBwdRefIdeal)
    ∧ preserves_PostFwd_PostFwdIdeal
    ∧ algebraic_PostFwdIdeal_PostFwdRefIdeal (hPostFwdIdeal := hPostFwdIdeal) (hPostFwdRefIdeal := hPostFwdRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamBranch_AdamBranchIdeal
    ∧ algebraic_AdamBranchIdeal_AdamBranchRefIdeal (hAdamBranchIdeal := hAdamBranchIdeal) (hAdamBranchRefIdeal := hAdamBranchRefIdeal)
    ∧ preserves_AdamKv_AdamKvIdeal
    ∧ algebraic_AdamKvIdeal_AdamKvRefIdeal (hAdamKvIdeal := hAdamKvIdeal) (hAdamKvRefIdeal := hAdamKvRefIdeal)
    ∧ preserves_AdamGlu_AdamGluIdeal
    ∧ algebraic_AdamGluIdeal_AdamGluRefIdeal (hAdamGluIdeal := hAdamGluIdeal) (hAdamGluRefIdeal := hAdamGluRefIdeal)
    ∧ preserves_Loss_LossIdeal
    ∧ algebraic_LossIdeal_LossRefIdeal (hLossIdeal := hLossIdeal) (hLossRefIdeal := hLossRefIdeal)
    ∧ preserves_SumSmall_SumSmallIdeal
    ∧ algebraic_SumSmallIdeal_SumSmallRefIdeal (hSumSmallIdeal := hSumSmallIdeal) (hSumSmallRefIdeal := hSumSmallRefIdeal)
-- ==== Kernel.lean ====
abbrev S8x2048x64 : Shape := ⟨3, ![8, 2048, 64]⟩
abbrev S2048x512 : Shape := ⟨2, ![2048, 512]⟩
abbrev S2048x4608 : Shape := ⟨2, ![2048, 4608]⟩
abbrev S1536x1024 : Shape := ⟨2, ![1536, 1024]⟩
abbrev S1024x1024 : Shape := ⟨2, ![1024, 1024]⟩
abbrev S2048x1024 : Shape := ⟨2, ![2048, 1024]⟩
abbrev S8x256x64 : Shape := ⟨3, ![8, 256, 64]⟩
abbrev S256x512 : Shape := ⟨2, ![256, 512]⟩
abbrev S256x4608 : Shape := ⟨2, ![256, 4608]⟩
abbrev S256x1024 : Shape := ⟨2, ![256, 1024]⟩
abbrev S256x1536 : Shape := ⟨2, ![256, 1536]⟩
abbrev S1x256x64 : Shape := ⟨3, ![1, 256, 64]⟩
abbrev S256x64 : Shape := ⟨2, ![256, 64]⟩
abbrev S512x1024 : Shape := ⟨2, ![512, 1024]⟩
abbrev S_ : Shape := ⟨0, ![]⟩

abbrev nBuf : Space → Nat
  | .hbm => 15
  | .vmem => 24
  | .smem => 0
  | _ => 0

abbrev bufTy : (tb : Table) → Fin (tcTables nBuf tb) → BufTy
  | .hbm, ⟨0, _⟩ => ⟨S8x2048x64, .f32⟩
  | .hbm, ⟨1, _⟩ => ⟨S8x2048x64, .f32⟩
  | .hbm, ⟨2, _⟩ => ⟨S2048x512, .f32⟩
  | .hbm, ⟨3, _⟩ => ⟨S2048x4608, .f32⟩
  | .hbm, ⟨4, _⟩ => ⟨S1536x1024, .f32⟩
  | .hbm, ⟨5, _⟩ => ⟨S1024x1024, .f32⟩
  | .hbm, ⟨6, _⟩ => ⟨S2048x1024, .f32⟩
  | .hbm, ⟨7, _⟩ => ⟨S1536x1024, .bf16⟩
  | .hbm, ⟨8, _⟩ => ⟨S1024x1024, .bf16⟩
  | .hbm, ⟨9, _⟩ => ⟨S8x2048x64, .f32⟩
  | .hbm, ⟨10, _⟩ => ⟨S8x2048x64, .f32⟩
  | .hbm, ⟨11, _⟩ => ⟨S2048x512, .f32⟩
  | .hbm, ⟨12, _⟩ => ⟨S2048x4608, .bf16⟩
  | .hbm, ⟨13, _⟩ => ⟨S1536x1024, .f32⟩
  | .hbm, ⟨14, _⟩ => ⟨S1024x1024, .f32⟩
  | .local _ .vmem, ⟨0, _⟩ => ⟨S8x256x64, .f32⟩
  | .local _ .vmem, ⟨1, _⟩ => ⟨S8x256x64, .f32⟩
  | .local _ .vmem, ⟨2, _⟩ => ⟨S8x256x64, .f32⟩
  | .local _ .vmem, ⟨3, _⟩ => ⟨S8x256x64, .f32⟩
  | .local _ .vmem, ⟨4, _⟩ => ⟨S256x512, .f32⟩
  | .local _ .vmem, ⟨5, _⟩ => ⟨S256x512, .f32⟩
  | .local _ .vmem, ⟨6, _⟩ => ⟨S256x4608, .f32⟩
  | .local _ .vmem, ⟨7, _⟩ => ⟨S256x4608, .f32⟩
  | .local _ .vmem, ⟨8, _⟩ => ⟨S1536x1024, .bf16⟩
  | .local _ .vmem, ⟨9, _⟩ => ⟨S1024x1024, .bf16⟩
  | .local _ .vmem, ⟨10, _⟩ => ⟨S256x1024, .f32⟩
  | .local _ .vmem, ⟨11, _⟩ => ⟨S256x1024, .f32⟩
  | .local _ .vmem, ⟨12, _⟩ => ⟨S8x256x64, .f32⟩
  | .local _ .vmem, ⟨13, _⟩ => ⟨S8x256x64, .f32⟩
  | .local _ .vmem, ⟨14, _⟩ => ⟨S8x256x64, .f32⟩
  | .local _ .vmem, ⟨15, _⟩ => ⟨S8x256x64, .f32⟩
  | .local _ .vmem, ⟨16, _⟩ => ⟨S256x512, .f32⟩
  | .local _ .vmem, ⟨17, _⟩ => ⟨S256x512, .f32⟩
  | .local _ .vmem, ⟨18, _⟩ => ⟨S256x4608, .bf16⟩
  | .local _ .vmem, ⟨19, _⟩ => ⟨S256x4608, .bf16⟩
  | .local _ .vmem, ⟨20, _⟩ => ⟨S256x1536, .f32⟩
  | .local _ .vmem, ⟨21, _⟩ => ⟨S256x1536, .f32⟩
  | .local _ .vmem, ⟨22, _⟩ => ⟨S1536x1024, .f32⟩
  | .local _ .vmem, ⟨23, _⟩ => ⟨S1024x1024, .f32⟩
  | _, _ => ⟨S8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev main_v2_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4608 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1536x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x256x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x256x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x4608 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S8x2048x64 : Shape := ⟨3, ![8, 2048, 64]⟩
abbrev S2048x512 : Shape := ⟨2, ![2048, 512]⟩
abbrev S2048x4608 : Shape := ⟨2, ![2048, 4608]⟩
abbrev S1536x1024 : Shape := ⟨2, ![1536, 1024]⟩
abbrev S1024x1024 : Shape := ⟨2, ![1024, 1024]⟩
abbrev S2048x1024 : Shape := ⟨2, ![2048, 1024]⟩
abbrev S2048x8x64 : Shape := ⟨3, ![2048, 8, 64]⟩
abbrev S512x1024 : Shape := ⟨2, ![512, 1024]⟩
abbrev S_ : Shape := ⟨0, ![]⟩
abbrev S1024x512 : Shape := ⟨2, ![1024, 512]⟩

abbrev nBuf : Space → Nat
  | .hbm => 153
  | .vmem => 0
  | .smem => 0
  | _ => 0

abbrev hbmTy0_0 (i : Nat) : BufTy := match i % 128 with
  | 0 => ⟨S8x2048x64, .f32⟩
  | 1 => ⟨S8x2048x64, .f32⟩
  | 2 => ⟨S2048x512, .f32⟩
  | 3 => ⟨S2048x4608, .f32⟩
  | 4 => ⟨S1536x1024, .f32⟩
  | 5 => ⟨S1024x1024, .f32⟩
  | 6 => ⟨S2048x1024, .f32⟩
  | 7 => ⟨S2048x512, .f32⟩
  | 8 => ⟨S2048x512, .f32⟩
  | 9 => ⟨S2048x512, .f32⟩
  | 10 => ⟨S2048x1024, .f32⟩
  | 11 => ⟨S2048x1024, .f32⟩
  | 12 => ⟨S2048x1024, .f32⟩
  | 13 => ⟨S2048x8x64, .f32⟩
  | 14 => ⟨S2048x512, .f32⟩
  | 15 => ⟨S2048x8x64, .f32⟩
  | 16 => ⟨S2048x512, .f32⟩
  | 17 => ⟨S512x1024, .f32⟩
  | 18 => ⟨S512x1024, .f32⟩
  | 19 => ⟨S512x1024, .f32⟩
  | 20 => ⟨S2048x512, .f32⟩
  | 21 => ⟨S2048x512, .f32⟩
  | 22 => ⟨S_, .f32⟩
  | 23 => ⟨S2048x512, .f32⟩
  | 24 => ⟨S2048x512, .f32⟩
  | 25 => ⟨S_, .f32⟩
  | 26 => ⟨S2048x512, .f32⟩
  | 27 => ⟨S2048x512, .f32⟩
  | 28 => ⟨S_, .f32⟩
  | 29 => ⟨S2048x512, .f32⟩
  | 30 => ⟨S2048x512, .f32⟩
  | 31 => ⟨S2048x512, .f32⟩
  | 32 => ⟨S2048x512, .f32⟩
  | 33 => ⟨S2048x512, .f32⟩
  | 34 => ⟨S2048x1024, .f32⟩
  | 35 => ⟨S2048x512, .f32⟩
  | 36 => ⟨S2048x512, .f32⟩
  | 37 => ⟨S_, .f32⟩
  | 38 => ⟨S2048x512, .f32⟩
  | 39 => ⟨S2048x512, .f32⟩
  | 40 => ⟨S_, .f32⟩
  | 41 => ⟨S2048x512, .f32⟩
  | 42 => ⟨S2048x512, .f32⟩
  | 43 => ⟨S_, .f32⟩
  | 44 => ⟨S2048x512, .f32⟩
  | 45 => ⟨S2048x512, .f32⟩
  | 46 => ⟨S2048x512, .f32⟩
  | 47 => ⟨S2048x512, .f32⟩
  | 48 => ⟨S2048x512, .f32⟩
  | 49 => ⟨S2048x1024, .f32⟩
  | 50 => ⟨S2048x512, .f32⟩
  | 51 => ⟨S2048x512, .f32⟩
  | 52 => ⟨S_, .f32⟩
  | 53 => ⟨S2048x512, .f32⟩
  | 54 => ⟨S2048x512, .f32⟩
  | 55 => ⟨S_, .f32⟩
  | 56 => ⟨S2048x512, .f32⟩
  | 57 => ⟨S2048x512, .f32⟩
  | 58 => ⟨S_, .f32⟩
  | 59 => ⟨S2048x512, .f32⟩
  | 60 => ⟨S2048x512, .f32⟩
  | 61 => ⟨S2048x512, .f32⟩
  | 62 => ⟨S2048x512, .f32⟩
  | 63 => ⟨S2048x512, .f32⟩
  | 64 => ⟨S2048x1024, .f32⟩
  | 65 => ⟨S2048x1024, .f32⟩
  | 66 => ⟨S2048x1024, .f32⟩
  | 67 => ⟨S_, .f32⟩
  | 68 => ⟨S2048x1024, .f32⟩
  | 69 => ⟨S2048x1024, .f32⟩
  | 70 => ⟨S_, .f32⟩
  | 71 => ⟨S2048x1024, .f32⟩
  | 72 => ⟨S2048x1024, .f32⟩
  | 73 => ⟨S_, .f32⟩
  | 74 => ⟨S2048x1024, .f32⟩
  | 75 => ⟨S2048x1024, .f32⟩
  | 76 => ⟨S2048x1024, .f32⟩
  | 77 => ⟨S2048x1024, .f32⟩
  | 78 => ⟨S2048x1024, .f32⟩
  | 79 => ⟨S2048x1024, .f32⟩
  | 80 => ⟨S_, .f32⟩
  | 81 => ⟨S2048x1024, .f32⟩
  | 82 => ⟨S2048x1024, .f32⟩
  | 83 => ⟨S_, .f32⟩
  | 84 => ⟨S2048x1024, .f32⟩
  | 85 => ⟨S2048x1024, .f32⟩
  | 86 => ⟨S_, .f32⟩
  | 87 => ⟨S2048x1024, .f32⟩
  | 88 => ⟨S2048x1024, .f32⟩
  | 89 => ⟨S2048x1024, .f32⟩
  | 90 => ⟨S2048x1024, .f32⟩
  | 91 => ⟨S2048x1024, .f32⟩
  | 92 => ⟨S2048x1024, .f32⟩
  | 93 => ⟨S2048x1024, .f32⟩
  | 94 => ⟨S_, .f32⟩
  | 95 => ⟨S2048x1024, .f32⟩
  | 96 => ⟨S2048x1024, .f32⟩
  | 97 => ⟨S_, .f32⟩
  | 98 => ⟨S2048x1024, .f32⟩
  | 99 => ⟨S2048x1024, .f32⟩
  | 100 => ⟨S_, .f32⟩
  | 101 => ⟨S2048x1024, .f32⟩
  | 102 => ⟨S2048x1024, .f32⟩
  | 103 => ⟨S2048x1024, .f32⟩
  | 104 => ⟨S2048x1024, .f32⟩
  | 105 => ⟨S2048x1024, .f32⟩
  | 106 => ⟨S2048x1024, .f32⟩
  | 107 => ⟨S1024x1024, .f32⟩
  | 108 => ⟨S1024x1024, .f32⟩
  | 109 => ⟨S2048x1024, .f32⟩
  | 110 => ⟨S2048x1024, .f32⟩
  | 111 => ⟨S2048x1024, .f32⟩
  | 112 => ⟨S2048x1024, .f32⟩
  | 113 => ⟨S2048x1024, .f32⟩
  | 114 => ⟨S2048x1024, .f32⟩
  | 115 => ⟨S2048x1024, .f32⟩
  | 116 => ⟨S2048x1024, .f32⟩
  | 117 => ⟨S2048x1024, .f32⟩
  | 118 => ⟨S2048x1024, .f32⟩
  | 119 => ⟨S1024x512, .f32⟩
  | 120 => ⟨S512x1024, .f32⟩
  | 121 => ⟨S2048x512, .f32⟩
  | 122 => ⟨S2048x512, .f32⟩
  | 123 => ⟨S2048x512, .f32⟩
  | 124 => ⟨S2048x512, .f32⟩
  | 125 => ⟨S2048x512, .f32⟩
  | 126 => ⟨S2048x512, .f32⟩
  | 127 => ⟨S2048x512, .f32⟩
  | _ => ⟨S8x2048x64, .f32⟩

abbrev hbmTy0_1 (i : Nat) : BufTy := match i % 128 with
  | 0 => ⟨S1024x512, .f32⟩
  | 1 => ⟨S512x1024, .f32⟩
  | 2 => ⟨S2048x512, .f32⟩
  | 3 => ⟨S2048x512, .f32⟩
  | 4 => ⟨S2048x512, .f32⟩
  | 5 => ⟨S2048x512, .f32⟩
  | 6 => ⟨S2048x512, .f32⟩
  | 7 => ⟨S2048x512, .f32⟩
  | 8 => ⟨S2048x512, .f32⟩
  | 9 => ⟨S1024x512, .f32⟩
  | 10 => ⟨S512x1024, .f32⟩
  | 11 => ⟨S2048x512, .f32⟩
  | 12 => ⟨S2048x512, .f32⟩
  | 13 => ⟨S2048x512, .f32⟩
  | 14 => ⟨S2048x512, .f32⟩
  | 15 => ⟨S2048x512, .f32⟩
  | 16 => ⟨S2048x512, .f32⟩
  | 17 => ⟨S2048x512, .f32⟩
  | 18 => ⟨S1536x1024, .f32⟩
  | 19 => ⟨S2048x8x64, .f32⟩
  | 20 => ⟨S8x2048x64, .f32⟩
  | 21 => ⟨S2048x8x64, .f32⟩
  | 22 => ⟨S8x2048x64, .f32⟩
  | 23 => ⟨S2048x4608, .f32⟩
  | 24 => ⟨S2048x4608, .bf16⟩
  | _ => ⟨S8x2048x64, .f32⟩

abbrev hbmTy (i : Nat) : BufTy := match i / 128 with
  | 0 => hbmTy0_0 i
  | 1 => hbmTy0_1 i
  | _ => ⟨S8x2048x64, .f32⟩

abbrev bufTy : (tb : Table) → Fin (tcTables nBuf tb) → BufTy
  | .hbm, ⟨i, _⟩ => hbmTy i
  | _, _ => ⟨S8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_v13_2 : Ref sig .tc := ⟨.hbm, 27, rfl⟩
abbrev main_call0_cst_1 : Ref sig .tc := ⟨.hbm, 28, rfl⟩
abbrev main_call0_v6 : Ref sig .tc := ⟨.hbm, 29, rfl⟩
abbrev main_call0_v7 : Ref sig .tc := ⟨.hbm, 30, rfl⟩
abbrev main_v13_1 : Ref sig .tc := ⟨.hbm, 31, rfl⟩
abbrev main_v13_0 : Ref sig .tc := ⟨.hbm, 32, rfl⟩
abbrev main_v14 : Ref sig .tc := ⟨.hbm, 33, rfl⟩
abbrev main_v15 : Ref sig .tc := ⟨.hbm, 34, rfl⟩
abbrev main_call1_v0 : Ref sig .tc := ⟨.hbm, 35, rfl⟩
abbrev main_call1_v1 : Ref sig .tc := ⟨.hbm, 36, rfl⟩
abbrev main_call1_cst : Ref sig .tc := ⟨.hbm, 37, rfl⟩
abbrev main_call1_v2 : Ref sig .tc := ⟨.hbm, 38, rfl⟩
abbrev main_call1_v3 : Ref sig .tc := ⟨.hbm, 39, rfl⟩
abbrev main_call1_cst_0 : Ref sig .tc := ⟨.hbm, 40, rfl⟩
abbrev main_call1_v4 : Ref sig .tc := ⟨.hbm, 41, rfl⟩
abbrev main_v16_2 : Ref sig .tc := ⟨.hbm, 42, rfl⟩
abbrev main_call1_cst_1 : Ref sig .tc := ⟨.hbm, 43, rfl⟩
abbrev main_call1_v6 : Ref sig .tc := ⟨.hbm, 44, rfl⟩
abbrev main_call1_v7 : Ref sig .tc := ⟨.hbm, 45, rfl⟩
abbrev main_v16_1 : Ref sig .tc := ⟨.hbm, 46, rfl⟩
abbrev main_v16_0 : Ref sig .tc := ⟨.hbm, 47, rfl⟩
abbrev main_v17 : Ref sig .tc := ⟨.hbm, 48, rfl⟩
abbrev main_v18 : Ref sig .tc := ⟨.hbm, 49, rfl⟩
abbrev main_call2_v0 : Ref sig .tc := ⟨.hbm, 50, rfl⟩
abbrev main_call2_v1 : Ref sig .tc := ⟨.hbm, 51, rfl⟩
abbrev main_call2_cst : Ref sig .tc := ⟨.hbm, 52, rfl⟩
abbrev main_call2_v2 : Ref sig .tc := ⟨.hbm, 53, rfl⟩
abbrev main_call2_v3 : Ref sig .tc := ⟨.hbm, 54, rfl⟩
abbrev main_call2_cst_0 : Ref sig .tc := ⟨.hbm, 55, rfl⟩
abbrev main_call2_v4 : Ref sig .tc := ⟨.hbm, 56, rfl⟩
abbrev main_v19_2 : Ref sig .tc := ⟨.hbm, 57, rfl⟩
abbrev main_call2_cst_1 : Ref sig .tc := ⟨.hbm, 58, rfl⟩
abbrev main_call2_v6 : Ref sig .tc := ⟨.hbm, 59, rfl⟩
abbrev main_call2_v7 : Ref sig .tc := ⟨.hbm, 60, rfl⟩
abbrev main_v19_1 : Ref sig .tc := ⟨.hbm, 61, rfl⟩
abbrev main_v19_0 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_cst : Ref sig .tc := ⟨.hbm, 67, rfl⟩
abbrev main_v24 : Ref sig .tc := ⟨.hbm, 68, rfl⟩
abbrev main_v25 : Ref sig .tc := ⟨.hbm, 69, rfl⟩
abbrev main_cst_0 : Ref sig .tc := ⟨.hbm, 70, rfl⟩
abbrev main_v26 : Ref sig .tc := ⟨.hbm, 71, rfl⟩
abbrev main_v27 : Ref sig .tc := ⟨.hbm, 72, rfl⟩
abbrev main_cst_1 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_cst_2 : Ref sig .tc := ⟨.hbm, 80, rfl⟩
abbrev main_v34 : Ref sig .tc := ⟨.hbm, 81, rfl⟩
abbrev main_v35 : Ref sig .tc := ⟨.hbm, 82, rfl⟩
abbrev main_cst_3 : Ref sig .tc := ⟨.hbm, 83, rfl⟩
abbrev main_v36 : Ref sig .tc := ⟨.hbm, 84, rfl⟩
abbrev main_v37 : Ref sig .tc := ⟨.hbm, 85, rfl⟩
abbrev main_cst_4 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_cst_5 : Ref sig .tc := ⟨.hbm, 94, rfl⟩
abbrev main_v45 : Ref sig .tc := ⟨.hbm, 95, rfl⟩
abbrev main_v46 : Ref sig .tc := ⟨.hbm, 96, rfl⟩
abbrev main_cst_6 : Ref sig .tc := ⟨.hbm, 97, rfl⟩
abbrev main_v47 : Ref sig .tc := ⟨.hbm, 98, rfl⟩
abbrev main_v48 : Ref sig .tc := ⟨.hbm, 99, rfl⟩
abbrev main_cst_7 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_call3_v0 : Ref sig .tc := ⟨.hbm, 124, rfl⟩
abbrev main_call3_v1 : Ref sig .tc := ⟨.hbm, 125, rfl⟩
abbrev main_call3_v2 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_call4_v0 : Ref sig .tc := ⟨.hbm, 133, rfl⟩
abbrev main_call4_v1 : Ref sig .tc := ⟨.hbm, 134, rfl⟩
abbrev main_call4_v2 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_call5_v0 : Ref sig .tc := ⟨.hbm, 142, rfl⟩
abbrev main_call5_v1 : Ref sig .tc := ⟨.hbm, 143, rfl⟩
abbrev main_call5_v2 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩

abbrev nD : Nat := 1
abbrev τ : Topo := Topo.v7x

variable {F : FTy → Type} [FloatOps F]
-- ==== Dwin3.lean ====
abbrev S2048x1024 : Shape := ⟨2, ![2048, 1024]⟩
abbrev S2048x4608 : Shape := ⟨2, ![2048, 4608]⟩
abbrev S1024x4608 : Shape := ⟨2, ![1024, 4608]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x4608, .bf16⟩
  | .hbm, ⟨2, _⟩ => ⟨S1024x4608, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 9, 2], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dwin3RefIdeal.lean ====
abbrev S2048x1024 : Shape := ⟨2, ![2048, 1024]⟩
abbrev S2048x4608 : Shape := ⟨2, ![2048, 4608]⟩
abbrev S4608x1024 : Shape := ⟨2, ![4608, 1024]⟩
abbrev S1024x4608 : Shape := ⟨2, ![1024, 4608]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x4608, .bf16⟩
  | .hbm, ⟨2, _⟩ => ⟨S2048x1024, .f32⟩
  | .hbm, ⟨3, _⟩ => ⟨S2048x4608, .f32⟩
  | .hbm, ⟨4, _⟩ => ⟨S4608x1024, .f32⟩
  | .hbm, ⟨5, _⟩ => ⟨S1024x4608, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Dwin1.lean ====
abbrev S2048x1024 : Shape := ⟨2, ![2048, 1024]⟩
abbrev S2048x1536 : Shape := ⟨2, ![2048, 1536]⟩
abbrev S1024x1536 : Shape := ⟨2, ![1024, 1536]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x1536, .bf16⟩
  | .hbm, ⟨2, _⟩ => ⟨S1024x1536, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 2], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dwin1RefIdeal.lean ====
abbrev S2048x1024 : Shape := ⟨2, ![2048, 1024]⟩
abbrev S2048x1536 : Shape := ⟨2, ![2048, 1536]⟩
abbrev S1536x1024 : Shape := ⟨2, ![1536, 1024]⟩
abbrev S1024x1536 : Shape := ⟨2, ![1024, 1536]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1536, .bf16⟩
  | .hbm, ⟨2, _⟩ => ⟨S2048x1024, .f32⟩
  | .hbm, ⟨3, _⟩ => ⟨S2048x1536, .f32⟩
  | .hbm, ⟨4, _⟩ => ⟨S1536x1024, .f32⟩
  | .hbm, ⟨5, _⟩ => ⟨S1024x1536, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Dwin0.lean ====
abbrev S2048x1024 : Shape := ⟨2, ![2048, 1024]⟩
abbrev S2048x512 : Shape := ⟨2, ![2048, 512]⟩
abbrev S1024x512 : Shape := ⟨2, ![1024, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x512, .bf16⟩
  | .hbm, ⟨2, _⟩ => ⟨S1024x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Dwin0RefIdeal.lean ====
abbrev S2048x1024 : Shape := ⟨2, ![2048, 1024]⟩
abbrev S2048x512 : Shape := ⟨2, ![2048, 512]⟩
abbrev S512x1024 : Shape := ⟨2, ![512, 1024]⟩
abbrev S1024x512 : Shape := ⟨2, ![1024, 512]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x512, .bf16⟩
  | .hbm, ⟨2, _⟩ => ⟨S2048x1024, .f32⟩
  | .hbm, ⟨3, _⟩ => ⟨S2048x512, .f32⟩
  | .hbm, ⟨4, _⟩ => ⟨S512x1024, .f32⟩
  | .hbm, ⟨5, _⟩ => ⟨S1024x512, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Dwin2.lean ====
abbrev S2048x1024 : Shape := ⟨2, ![2048, 1024]⟩
abbrev S2048x512 : Shape := ⟨2, ![2048, 512]⟩
abbrev S1024x512 : Shape := ⟨2, ![1024, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x512, .f32⟩
  | .hbm, ⟨2, _⟩ => ⟨S1024x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Dwin2RefIdeal.lean ====
abbrev S2048x1024 : Shape := ⟨2, ![2048, 1024]⟩
abbrev S2048x512 : Shape := ⟨2, ![2048, 512]⟩
abbrev S512x1024 : Shape := ⟨2, ![512, 1024]⟩
abbrev S1024x512 : Shape := ⟨2, ![1024, 512]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x512, .f32⟩
  | .hbm, ⟨2, _⟩ => ⟨S2048x1024, .f32⟩
  | .hbm, ⟨3, _⟩ => ⟨S512x1024, .f32⟩
  | .hbm, ⟨4, _⟩ => ⟨S1024x512, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Dh3.lean ====
abbrev S2048x4608 : Shape := ⟨2, ![2048, 4608]⟩
abbrev S1024x7168 : Shape := ⟨2, ![1024, 7168]⟩
abbrev S2048x1024 : Shape := ⟨2, ![2048, 1024]⟩
abbrev S1024x512 : Shape := ⟨2, ![1024, 512]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x4608, .bf16⟩
  | .hbm, ⟨1, _⟩ => ⟨S1024x7168, .bf16⟩
  | .hbm, ⟨2, _⟩ => ⟨S2048x1024, .f32⟩
  | .hbm, ⟨3, _⟩ => ⟨S2048x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S2048x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 9], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.addi arg2 c5_i32
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Dh3RefIdeal.lean ====
abbrev S2048x4608 : Shape := ⟨2, ![2048, 4608]⟩
abbrev S1024x7168 : Shape := ⟨2, ![1024, 7168]⟩
abbrev S2048x1024 : Shape := ⟨2, ![2048, 1024]⟩
abbrev S1024x4608 : Shape := ⟨2, ![1024, 4608]⟩

abbrev nBuf : Space → Nat
  | .hbm => 8
  | .vmem => 0
  | .smem => 0
  | _ => 0

abbrev bufTy : (tb : Table) → Fin (tcTables nBuf tb) → BufTy
  | .hbm, ⟨0, _⟩ => ⟨S2048x4608, .bf16⟩
  | .hbm, ⟨1, _⟩ => ⟨S1024x7168, .bf16⟩
  | .hbm, ⟨2, _⟩ => ⟨S2048x1024, .f32⟩
  | .hbm, ⟨3, _⟩ => ⟨S1024x7168, .f32⟩
  | .hbm, ⟨4, _⟩ => ⟨S1024x4608, .f32⟩
  | .hbm, ⟨5, _⟩ => ⟨S2048x4608, .f32⟩
  | .hbm, ⟨6, _⟩ => ⟨S2048x1024, .f32⟩
  | .hbm, ⟨7, _⟩ => ⟨S2048x1024, .f32⟩
  | _, _ => ⟨S2048x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Dh1.lean ====
abbrev S2048x1536 : Shape := ⟨2, ![2048, 1536]⟩
abbrev S1024x7168 : Shape := ⟨2, ![1024, 7168]⟩
abbrev S2048x1024 : Shape := ⟨2, ![2048, 1024]⟩
abbrev S1024x512 : Shape := ⟨2, ![1024, 512]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x1536, .bf16⟩
  | .hbm, ⟨1, _⟩ => ⟨S1024x7168, .bf16⟩
  | .hbm, ⟨2, _⟩ => ⟨S2048x1024, .f32⟩
  | .hbm, ⟨3, _⟩ => ⟨S2048x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 3], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Dh1RefIdeal.lean ====
abbrev S2048x1536 : Shape := ⟨2, ![2048, 1536]⟩
abbrev S1024x7168 : Shape := ⟨2, ![1024, 7168]⟩
abbrev S2048x1024 : Shape := ⟨2, ![2048, 1024]⟩
abbrev S1024x1536 : Shape := ⟨2, ![1024, 1536]⟩

abbrev nBuf : Space → Nat
  | .hbm => 8
  | .vmem => 0
  | .smem => 0
  | _ => 0

abbrev bufTy : (tb : Table) → Fin (tcTables nBuf tb) → BufTy
  | .hbm, ⟨0, _⟩ => ⟨S2048x1536, .bf16⟩
  | .hbm, ⟨1, _⟩ => ⟨S1024x7168, .bf16⟩
  | .hbm, ⟨2, _⟩ => ⟨S2048x1024, .f32⟩
  | .hbm, ⟨3, _⟩ => ⟨S1024x7168, .f32⟩
  | .hbm, ⟨4, _⟩ => ⟨S1024x1536, .f32⟩
  | .hbm, ⟨5, _⟩ => ⟨S2048x1536, .f32⟩
  | .hbm, ⟨6, _⟩ => ⟨S2048x1024, .f32⟩
  | .hbm, ⟨7, _⟩ => ⟨S2048x1024, .f32⟩
  | _, _ => ⟨S2048x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Dh0.lean ====
abbrev S2048x512 : Shape := ⟨2, ![2048, 512]⟩
abbrev S1024x7168 : Shape := ⟨2, ![1024, 7168]⟩
abbrev S2048x1024 : Shape := ⟨2, ![2048, 1024]⟩
abbrev S1024x512 : Shape := ⟨2, ![1024, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x512, .bf16⟩
  | .hbm, ⟨1, _⟩ => ⟨S1024x7168, .bf16⟩
  | .hbm, ⟨2, _⟩ => ⟨S2048x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x1024, .f32⟩
  | .local _ .vmem, ⟨4, _⟩ => ⟨S1024x1024, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dh0RefIdeal.lean ====
abbrev S2048x512 : Shape := ⟨2, ![2048, 512]⟩
abbrev S1024x7168 : Shape := ⟨2, ![1024, 7168]⟩
abbrev S1024x512 : Shape := ⟨2, ![1024, 512]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S1024x7168, .bf16⟩
  | .hbm, ⟨2, _⟩ => ⟨S1024x7168, .f32⟩
  | .hbm, ⟨3, _⟩ => ⟨S1024x512, .f32⟩
  | .hbm, ⟨4, _⟩ => ⟨S2048x512, .f32⟩
  | .hbm, ⟨5, _⟩ => ⟨S2048x1024, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Dh2.lean ====
abbrev S2048x512 : Shape := ⟨2, ![2048, 512]⟩
abbrev S1024x7168 : Shape := ⟨2, ![1024, 7168]⟩
abbrev S2048x1024 : Shape := ⟨2, ![2048, 1024]⟩
abbrev S1024x512 : Shape := ⟨2, ![1024, 512]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x512, .f32⟩
  | .hbm, ⟨1, _⟩ => ⟨S1024x7168, .bf16⟩
  | .hbm, ⟨2, _⟩ => ⟨S2048x1024, .f32⟩
  | .hbm, ⟨3, _⟩ => ⟨S2048x1024, .f32⟩
  | .local _ .vmem, ⟨0, _⟩ => ⟨S1024x512, .f32⟩
  | .local _ .vmem, ⟨1, _⟩ => ⟨S1024x512, .f32⟩
  | .local _ .vmem, ⟨2, _⟩ => ⟨S1024x512, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![2, 1, 1], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg2 c4_i32
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Dh2RefIdeal.lean ====
abbrev S2048x512 : Shape := ⟨2, ![2048, 512]⟩
abbrev S1024x7168 : Shape := ⟨2, ![1024, 7168]⟩
abbrev S2048x1024 : Shape := ⟨2, ![2048, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S1024x7168, .bf16⟩
  | .hbm, ⟨2, _⟩ => ⟨S2048x1024, .f32⟩
  | .hbm, ⟨3, _⟩ => ⟨S1024x7168, .f32⟩
  | .hbm, ⟨4, _⟩ => ⟨S1024x512, .f32⟩
  | .hbm, ⟨5, _⟩ => ⟨S2048x1024, .f32⟩
  | .hbm, ⟨6, _⟩ => ⟨S2048x1024, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proj3.lean ====
abbrev S2048x1024 : Shape := ⟨2, ![2048, 1024]⟩
abbrev S1024x7168 : Shape := ⟨2, ![1024, 7168]⟩
abbrev S2048x4608 : Shape := ⟨2, ![2048, 4608]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x7168, .bf16⟩
  | .hbm, ⟨2, _⟩ => ⟨S2048x4608, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 9, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.addi arg1 c5_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Proj3RefIdeal.lean ====
abbrev S2048x1024 : Shape := ⟨2, ![2048, 1024]⟩
abbrev S1024x7168 : Shape := ⟨2, ![1024, 7168]⟩
abbrev S1024x4608 : Shape := ⟨2, ![1024, 4608]⟩
abbrev S2048x4608 : Shape := ⟨2, ![2048, 4608]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x7168, .bf16⟩
  | .hbm, ⟨2, _⟩ => ⟨S2048x1024, .f32⟩
  | .hbm, ⟨3, _⟩ => ⟨S1024x7168, .f32⟩
  | .hbm, ⟨4, _⟩ => ⟨S1024x4608, .f32⟩
  | .hbm, ⟨5, _⟩ => ⟨S2048x4608, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proj1.lean ====
abbrev S2048x1024 : Shape := ⟨2, ![2048, 1024]⟩
abbrev S1024x7168 : Shape := ⟨2, ![1024, 7168]⟩
abbrev S2048x1536 : Shape := ⟨2, ![2048, 1536]⟩
abbrev S1024x1024 : Shape := ⟨2, ![1024, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x7168, .bf16⟩
  | .hbm, ⟨2, _⟩ => ⟨S2048x1536, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Proj1RefIdeal.lean ====
abbrev S2048x1024 : Shape := ⟨2, ![2048, 1024]⟩
abbrev S1024x7168 : Shape := ⟨2, ![1024, 7168]⟩
abbrev S1024x1536 : Shape := ⟨2, ![1024, 1536]⟩
abbrev S2048x1536 : Shape := ⟨2, ![2048, 1536]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x7168, .bf16⟩
  | .hbm, ⟨2, _⟩ => ⟨S2048x1024, .f32⟩
  | .hbm, ⟨3, _⟩ => ⟨S1024x7168, .f32⟩
  | .hbm, ⟨4, _⟩ => ⟨S1024x1536, .f32⟩
  | .hbm, ⟨5, _⟩ => ⟨S2048x1536, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proj0.lean ====
abbrev S2048x1024 : Shape := ⟨2, ![2048, 1024]⟩
abbrev S1024x7168 : Shape := ⟨2, ![1024, 7168]⟩
abbrev S2048x512 : Shape := ⟨2, ![2048, 512]⟩
abbrev S1024x1024 : Shape := ⟨2, ![1024, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x7168, .bf16⟩
  | .hbm, ⟨2, _⟩ => ⟨S2048x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .f32⟩
  | .local _ .vmem, ⟨4, _⟩ => ⟨S1024x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Proj0RefIdeal.lean ====
abbrev S2048x1024 : Shape := ⟨2, ![2048, 1024]⟩
abbrev S1024x7168 : Shape := ⟨2, ![1024, 7168]⟩
abbrev S1024x512 : Shape := ⟨2, ![1024, 512]⟩
abbrev S2048x512 : Shape := ⟨2, ![2048, 512]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x7168, .bf16⟩
  | .hbm, ⟨2, _⟩ => ⟨S2048x1024, .f32⟩
  | .hbm, ⟨3, _⟩ => ⟨S1024x7168, .f32⟩
  | .hbm, ⟨4, _⟩ => ⟨S1024x512, .f32⟩
  | .hbm, ⟨5, _⟩ => ⟨S2048x512, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proj2.lean ====
abbrev S2048x1024 : Shape := ⟨2, ![2048, 1024]⟩
abbrev S1024x7168 : Shape := ⟨2, ![1024, 7168]⟩
abbrev S2048x512 : Shape := ⟨2, ![2048, 512]⟩
abbrev S1024x1024 : Shape := ⟨2, ![1024, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x7168, .bf16⟩
  | .hbm, ⟨2, _⟩ => ⟨S2048x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .f32⟩
  | .local _ .vmem, ⟨4, _⟩ => ⟨S1024x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg1 c4_i32
  let c0_i32 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Proj2RefIdeal.lean ====
abbrev S2048x1024 : Shape := ⟨2, ![2048, 1024]⟩
abbrev S1024x7168 : Shape := ⟨2, ![1024, 7168]⟩
abbrev S1024x512 : Shape := ⟨2, ![1024, 512]⟩
abbrev S2048x512 : Shape := ⟨2, ![2048, 512]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x7168, .bf16⟩
  | .hbm, ⟨2, _⟩ => ⟨S2048x1024, .f32⟩
  | .hbm, ⟨3, _⟩ => ⟨S1024x7168, .f32⟩
  | .hbm, ⟨4, _⟩ => ⟨S1024x512, .f32⟩
  | .hbm, ⟨5, _⟩ => ⟨S2048x512, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== NormBwd.lean ====
abbrev S2048x1024 : Shape := ⟨2, ![2048, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S2048x1024, .f32⟩
  | .hbm, ⟨6, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormBwdRefIdeal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S1x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S1024, .f32⟩
  | .hbm, ⟨32, _⟩ => ⟨S2048x1024, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x1024, .f32⟩
  | .hbm, ⟨37, _⟩ => ⟨S2048x1024, .f32⟩
  | .hbm, ⟨38, _⟩ => ⟨S2048x1, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S_, .f32⟩
  | .hbm, ⟨43, _⟩ => ⟨S2048, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== NormFwd.lean ====
abbrev S2048x1024 : Shape := ⟨2, ![2048, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1x1024, .f32⟩
  | .hbm, ⟨3, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdRefIdeal.lean ====
abbrev S2048x1024 : Shape := ⟨2, ![2048, 1024]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S2048x1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x1024, .f32⟩
  | .hbm, ⟨14, _⟩ => ⟨S2048x1024, .f32⟩
  | .hbm, ⟨15, _⟩ => ⟨S1x1024, .f32⟩
  | .hbm, ⟨16, _⟩ => ⟨S2048x1024, .f32⟩
  | .hbm, ⟨17, _⟩ => ⟨S2048x1024, .f32⟩
  | .hbm, ⟨18, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== GateFwd.lean ====
abbrev S8x2048x64 : Shape := ⟨3, ![8, 2048, 64]⟩
abbrev S2048x512 : Shape := ⟨2, ![2048, 512]⟩
abbrev S2048x4608 : Shape := ⟨2, ![2048, 4608]⟩
abbrev S2048x1024 : Shape := ⟨2, ![2048, 1024]⟩
abbrev S1536x1024 : Shape := ⟨2, ![1536, 1024]⟩
abbrev S1024x1024 : Shape := ⟨2, ![1024, 1024]⟩
abbrev S8x512x64 : Shape := ⟨3, ![8, 512, 64]⟩
abbrev S512x512 : Shape := ⟨2, ![512, 512]⟩
abbrev S512x4608 : Shape := ⟨2, ![512, 4608]⟩
abbrev S512x1024 : Shape := ⟨2, ![512, 1024]⟩
abbrev S512x1536 : Shape := ⟨2, ![512, 1536]⟩
abbrev S1x512x64 : Shape := ⟨3, ![1, 512, 64]⟩
abbrev S512x64 : Shape := ⟨2, ![512, 64]⟩

abbrev nBuf : Space → Nat
  | .hbm => 10
  | .vmem => 15
  | .smem => 0
  | _ => 0

abbrev bufTy : (tb : Table) → Fin (tcTables nBuf tb) → BufTy
  | .hbm, ⟨0, _⟩ => ⟨S8x2048x64, .f32⟩
  | .hbm, ⟨1, _⟩ => ⟨S8x2048x64, .f32⟩
  | .hbm, ⟨2, _⟩ => ⟨S2048x512, .f32⟩
  | .hbm, ⟨3, _⟩ => ⟨S2048x4608, .f32⟩
  | .hbm, ⟨4, _⟩ => ⟨S2048x1024, .f32⟩
  | .hbm, ⟨5, _⟩ => ⟨S1536x1024, .f32⟩
  | .hbm, ⟨6, _⟩ => ⟨S1024x1024, .f32⟩
  | .hbm, ⟨7, _⟩ => ⟨S1536x1024, .bf16⟩
  | .hbm, ⟨8, _⟩ => ⟨S1024x1024, .bf16⟩
  | .hbm, ⟨9, _⟩ => ⟨S2048x1024, .f32⟩
  | .local _ .vmem, ⟨0, _⟩ => ⟨S8x512x64, .f32⟩
  | .local _ .vmem, ⟨1, _⟩ => ⟨S8x512x64, .f32⟩
  | .local _ .vmem, ⟨2, _⟩ => ⟨S8x512x64, .f32⟩
  | .local _ .vmem, ⟨3, _⟩ => ⟨S8x512x64, .f32⟩
  | .local _ .vmem, ⟨4, _⟩ => ⟨S512x512, .f32⟩
  | .local _ .vmem, ⟨5, _⟩ => ⟨S512x512, .f32⟩
  | .local _ .vmem, ⟨6, _⟩ => ⟨S512x4608, .f32⟩
  | .local _ .vmem, ⟨7, _⟩ => ⟨S512x4608, .f32⟩
  | .local _ .vmem, ⟨8, _⟩ => ⟨S512x1024, .f32⟩
  | .local _ .vmem, ⟨9, _⟩ => ⟨S512x1024, .f32⟩
  | .local _ .vmem, ⟨10, _⟩ => ⟨S1536x1024, .bf16⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | .local _ .vmem, ⟨14, _⟩ => ⟨S512x1536, .f32⟩
  | _, _ => ⟨S8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4608 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1536x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GateFwdRefIdeal.lean ====
abbrev S8x2048x64 : Shape := ⟨3, ![8, 2048, 64]⟩
abbrev S2048x512 : Shape := ⟨2, ![2048, 512]⟩
abbrev S2048x4608 : Shape := ⟨2, ![2048, 4608]⟩
abbrev S2048x1024 : Shape := ⟨2, ![2048, 1024]⟩
abbrev S1536x1024 : Shape := ⟨2, ![1536, 1024]⟩
abbrev S1024x1024 : Shape := ⟨2, ![1024, 1024]⟩
abbrev S2048x8x64 : Shape := ⟨3, ![2048, 8, 64]⟩
abbrev S512x1024 : Shape := ⟨2, ![512, 1024]⟩
abbrev S_ : Shape := ⟨0, ![]⟩

abbrev nBuf : Space → Nat
  | .hbm => 84
  | .vmem => 0
  | .smem => 0
  | _ => 0

abbrev bufTy : (tb : Table) → Fin (tcTables nBuf tb) → BufTy
  | .hbm, ⟨0, _⟩ => ⟨S8x2048x64, .f32⟩
  | .hbm, ⟨1, _⟩ => ⟨S8x2048x64, .f32⟩
  | .hbm, ⟨2, _⟩ => ⟨S2048x512, .f32⟩
  | .hbm, ⟨3, _⟩ => ⟨S2048x4608, .f32⟩
  | .hbm, ⟨4, _⟩ => ⟨S2048x1024, .f32⟩
  | .hbm, ⟨5, _⟩ => ⟨S1536x1024, .f32⟩
  | .hbm, ⟨6, _⟩ => ⟨S1024x1024, .f32⟩
  | .hbm, ⟨7, _⟩ => ⟨S2048x512, .f32⟩
  | .hbm, ⟨8, _⟩ => ⟨S2048x512, .f32⟩
  | .hbm, ⟨9, _⟩ => ⟨S2048x512, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x8x64, .f32⟩
  | .hbm, ⟨14, _⟩ => ⟨S2048x512, .f32⟩
  | .hbm, ⟨15, _⟩ => ⟨S2048x8x64, .f32⟩
  | .hbm, ⟨16, _⟩ => ⟨S2048x512, .f32⟩
  | .hbm, ⟨17, _⟩ => ⟨S512x1024, .f32⟩
  | .hbm, ⟨18, _⟩ => ⟨S512x1024, .f32⟩
  | .hbm, ⟨19, _⟩ => ⟨S512x1024, .f32⟩
  | .hbm, ⟨20, _⟩ => ⟨S2048x512, .f32⟩
  | .hbm, ⟨21, _⟩ => ⟨S2048x512, .f32⟩
  | .hbm, ⟨22, _⟩ => ⟨S_, .f32⟩
  | .hbm, ⟨23, _⟩ => ⟨S2048x512, .f32⟩
  | .hbm, ⟨24, _⟩ => ⟨S2048x512, .f32⟩
  | .hbm, ⟨25, _⟩ => ⟨S_, .f32⟩
  | .hbm, ⟨26, _⟩ => ⟨S2048x512, .f32⟩
  | .hbm, ⟨27, _⟩ => ⟨S2048x512, .f32⟩
  | .hbm, ⟨28, _⟩ => ⟨S2048x512, .f32⟩
  | .hbm, ⟨29, _⟩ => ⟨S2048x512, .f32⟩
  | .hbm, ⟨30, _⟩ => ⟨S2048x1024, .f32⟩
  | .hbm, ⟨31, _⟩ => ⟨S2048x512, .f32⟩
  | .hbm, ⟨32, _⟩ => ⟨S2048x512, .f32⟩
  | .hbm, ⟨33, _⟩ => ⟨S_, .f32⟩
  | .hbm, ⟨34, _⟩ => ⟨S2048x512, .f32⟩
  | .hbm, ⟨35, _⟩ => ⟨S2048x512, .f32⟩
  | .hbm, ⟨36, _⟩ => ⟨S_, .f32⟩
  | .hbm, ⟨37, _⟩ => ⟨S2048x512, .f32⟩
  | .hbm, ⟨38, _⟩ => ⟨S2048x512, .f32⟩
  | .hbm, ⟨39, _⟩ => ⟨S2048x512, .f32⟩
  | .hbm, ⟨40, _⟩ => ⟨S2048x512, .f32⟩
  | .hbm, ⟨41, _⟩ => ⟨S2048x1024, .f32⟩
  | .hbm, ⟨42, _⟩ => ⟨S2048x512, .f32⟩
  | .hbm, ⟨43, _⟩ => ⟨S2048x512, .f32⟩
  | .hbm, ⟨44, _⟩ => ⟨S_, .f32⟩
  | .hbm, ⟨45, _⟩ => ⟨S2048x512, .f32⟩
  | .hbm, ⟨46, _⟩ => ⟨S2048x512, .f32⟩
  | .hbm, ⟨47, _⟩ => ⟨S_, .f32⟩
  | .hbm, ⟨48, _⟩ => ⟨S2048x512, .f32⟩
  | .hbm, ⟨49, _⟩ => ⟨S2048x512, .f32⟩
  | .hbm, ⟨50, _⟩ => ⟨S2048x512, .f32⟩
  | .hbm, ⟨51, _⟩ => ⟨S2048x512, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S_, .f32⟩
  | .hbm, ⟨56, _⟩ => ⟨S2048x1024, .f32⟩
  | .hbm, ⟨57, _⟩ => ⟨S2048x1024, .f32⟩
  | .hbm, ⟨58, _⟩ => ⟨S_, .f32⟩
  | .hbm, ⟨59, _⟩ => ⟨S2048x1024, .f32⟩
  | .hbm, ⟨60, _⟩ => ⟨S2048x1024, .f32⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S_, .f32⟩
  | .hbm, ⟨65, _⟩ => ⟨S2048x1024, .f32⟩
  | .hbm, ⟨66, _⟩ => ⟨S2048x1024, .f32⟩
  | .hbm, ⟨67, _⟩ => ⟨S_, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S_, .f32⟩
  | .hbm, ⟨75, _⟩ => ⟨S2048x1024, .f32⟩
  | .hbm, ⟨76, _⟩ => ⟨S2048x1024, .f32⟩
  | .hbm, ⟨77, _⟩ => ⟨S_, .f32⟩
  | .hbm, ⟨78, _⟩ => ⟨S2048x1024, .f32⟩
  | .hbm, ⟨79, _⟩ => ⟨S2048x1024, .f32⟩
  | .hbm, ⟨80, _⟩ => ⟨S2048x1024, .f32⟩
  | .hbm, ⟨81, _⟩ => ⟨S2048x1024, .f32⟩
  | .hbm, ⟨82, _⟩ => ⟨S2048x1024, .f32⟩
  | .hbm, ⟨83, _⟩ => ⟨S2048x1024, .f32⟩
  | _, _ => ⟨S8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_call1_v0 : Ref sig .tc := ⟨.hbm, 31, rfl⟩
abbrev main_call1_v1 : Ref sig .tc := ⟨.hbm, 32, rfl⟩
abbrev main_call1_cst : Ref sig .tc := ⟨.hbm, 33, rfl⟩
abbrev main_call1_v2 : Ref sig .tc := ⟨.hbm, 34, rfl⟩
abbrev main_call1_v3 : Ref sig .tc := ⟨.hbm, 35, rfl⟩
abbrev main_call1_cst_0 : Ref sig .tc := ⟨.hbm, 36, rfl⟩
abbrev main_call1_v4 : Ref sig .tc := ⟨.hbm, 37, rfl⟩
abbrev main_call1_v5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_call2_v0 : Ref sig .tc := ⟨.hbm, 42, rfl⟩
abbrev main_call2_v1 : Ref sig .tc := ⟨.hbm, 43, rfl⟩
abbrev main_call2_cst : Ref sig .tc := ⟨.hbm, 44, rfl⟩
abbrev main_call2_v2 : Ref sig .tc := ⟨.hbm, 45, rfl⟩
abbrev main_call2_v3 : Ref sig .tc := ⟨.hbm, 46, rfl⟩
abbrev main_call2_cst_0 : Ref sig .tc := ⟨.hbm, 47, rfl⟩
abbrev main_call2_v4 : Ref sig .tc := ⟨.hbm, 48, rfl⟩
abbrev main_call2_v5 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_cst : Ref sig .tc := ⟨.hbm, 55, rfl⟩
abbrev main_v24 : Ref sig .tc := ⟨.hbm, 56, rfl⟩
abbrev main_v25 : Ref sig .tc := ⟨.hbm, 57, rfl⟩
abbrev main_cst_0 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_cst_1 : Ref sig .tc := ⟨.hbm, 64, rfl⟩
abbrev main_v31 : Ref sig .tc := ⟨.hbm, 65, rfl⟩
abbrev main_v32 : Ref sig .tc := ⟨.hbm, 66, rfl⟩
abbrev main_cst_2 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_cst_3 : Ref sig .tc := ⟨.hbm, 74, rfl⟩
abbrev main_v39 : Ref sig .tc := ⟨.hbm, 75, rfl⟩
abbrev main_v40 : Ref sig .tc := ⟨.hbm, 76, rfl⟩
abbrev main_cst_4 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩

abbrev nD : Nat := 1
abbrev τ : Topo := Topo.v7x

variable {F : FTy → Type} [FloatOps F]
-- ==== PostBwd.lean ====
abbrev S2048x512 : Shape := ⟨2, ![2048, 512]⟩
abbrev S512 : Shape := ⟨1, ![512]⟩
abbrev S512x512 : Shape := ⟨2, ![512, 512]⟩
abbrev S1x512 : Shape := ⟨2, ![1, 512]⟩
abbrev S256x512 : Shape := ⟨2, ![256, 512]⟩

abbrev nBuf : Space → Nat
  | .hbm => 14
  | .vmem => 16
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S2048x512, .f32⟩
  | .hbm, ⟨6, _⟩ => ⟨S1x512, .f32⟩
  | .hbm, ⟨7, _⟩ => ⟨S512x512, .bf16⟩
  | .hbm, ⟨8, _⟩ => ⟨S1x512, .f32⟩
  | .hbm, ⟨9, _⟩ => ⟨S2048x512, .f32⟩
  | .hbm, ⟨10, _⟩ => ⟨S2048x512, .f32⟩
  | .hbm, ⟨11, _⟩ => ⟨S512x512, .f32⟩
  | .hbm, ⟨12, _⟩ => ⟨S1x512, .f32⟩
  | .hbm, ⟨13, _⟩ => ⟨S1x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S1x512, .f32⟩
  | .local _ .vmem, ⟨5, _⟩ => ⟨S512x512, .bf16⟩
  | .local _ .vmem, ⟨6, _⟩ => ⟨S1x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S512x512, .f32⟩
  | .local _ .vmem, ⟨14, _⟩ => ⟨S1x512, .f32⟩
  | .local _ .vmem, ⟨15, _⟩ => ⟨S1x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== PostBwdRefIdeal.lean ====
abbrev S2048x512 : Shape := ⟨2, ![2048, 512]⟩
abbrev S512 : Shape := ⟨1, ![512]⟩
abbrev S512x512 : Shape := ⟨2, ![512, 512]⟩
abbrev S1x512 : Shape := ⟨2, ![1, 512]⟩
abbrev S_ : Shape := ⟨0, ![]⟩

abbrev nBuf : Space → Nat
  | .hbm => 92
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S2048x512, .f32⟩
  | .hbm, ⟨6, _⟩ => ⟨S1x512, .f32⟩
  | .hbm, ⟨7, _⟩ => ⟨S2048x512, .f32⟩
  | .hbm, ⟨8, _⟩ => ⟨S2048x512, .f32⟩
  | .hbm, ⟨9, _⟩ => ⟨S2048x512, .f32⟩
  | .hbm, ⟨10, _⟩ => ⟨S2048x512, .f32⟩
  | .hbm, ⟨11, _⟩ => ⟨S2048x512, .f32⟩
  | .hbm, ⟨12, _⟩ => ⟨S2048x512, .f32⟩
  | .hbm, ⟨13, _⟩ => ⟨S_, .f32⟩
  | .hbm, ⟨14, _⟩ => ⟨S2048x512, .f32⟩
  | .hbm, ⟨15, _⟩ => ⟨S2048x512, .f32⟩
  | .hbm, ⟨16, _⟩ => ⟨S_, .f32⟩
  | .hbm, ⟨17, _⟩ => ⟨S2048x512, .f32⟩
  | .hbm, ⟨18, _⟩ => ⟨S2048x512, .f32⟩
  | .hbm, ⟨19, _⟩ => ⟨S2048x512, .f32⟩
  | .hbm, ⟨20, _⟩ => ⟨S_, .f32⟩
  | .hbm, ⟨21, _⟩ => ⟨S2048x512, .f32⟩
  | .hbm, ⟨22, _⟩ => ⟨S2048x512, .f32⟩
  | .hbm, ⟨23, _⟩ => ⟨S2048x512, .f32⟩
  | .hbm, ⟨24, _⟩ => ⟨S_, .f32⟩
  | .hbm, ⟨25, _⟩ => ⟨S2048x512, .f32⟩
  | .hbm, ⟨26, _⟩ => ⟨S2048x512, .f32⟩
  | .hbm, ⟨27, _⟩ => ⟨S_, .f32⟩
  | .hbm, ⟨28, _⟩ => ⟨S2048x512, .f32⟩
  | .hbm, ⟨29, _⟩ => ⟨S2048x512, .f32⟩
  | .hbm, ⟨30, _⟩ => ⟨S2048x512, .f32⟩
  | .hbm, ⟨31, _⟩ => ⟨S_, .f32⟩
  | .hbm, ⟨32, _⟩ => ⟨S2048x512, .f32⟩
  | .hbm, ⟨33, _⟩ => ⟨S2048x512, .f32⟩
  | .hbm, ⟨34, _⟩ => ⟨S_, .f32⟩
  | .hbm, ⟨35, _⟩ => ⟨S2048x512, .f32⟩
  | .hbm, ⟨36, _⟩ => ⟨S2048x512, .f32⟩
  | .hbm, ⟨37, _⟩ => ⟨S2048x512, .f32⟩
  | .hbm, ⟨38, _⟩ => ⟨S2048x512, .f32⟩
  | .hbm, ⟨39, _⟩ => ⟨S1x512, .f32⟩
  | .hbm, ⟨40, _⟩ => ⟨S2048x512, .f32⟩
  | .hbm, ⟨41, _⟩ => ⟨S2048x512, .f32⟩
  | .hbm, ⟨42, _⟩ => ⟨S2048x512, .f32⟩
  | .hbm, ⟨43, _⟩ => ⟨S2048x512, .f32⟩
  | .hbm, ⟨44, _⟩ => ⟨S_, .f32⟩
  | .hbm, ⟨45, _⟩ => ⟨S2048x512, .f32⟩
  | .hbm, ⟨46, _⟩ => ⟨S2048x512, .f32⟩
  | .hbm, ⟨47, _⟩ => ⟨S_, .f32⟩
  | .hbm, ⟨48, _⟩ => ⟨S2048x512, .f32⟩
  | .hbm, ⟨49, _⟩ => ⟨S2048x512, .f32⟩
  | .hbm, ⟨50, _⟩ => ⟨S_, .f32⟩
  | .hbm, ⟨51, _⟩ => ⟨S2048x512, .f32⟩
  | .hbm, ⟨52, _⟩ => ⟨S2048x512, .f32⟩
  | .hbm, ⟨53, _⟩ => ⟨S2048x512, .f32⟩
  | .hbm, ⟨54, _⟩ => ⟨S2048x512, .f32⟩
  | .hbm, ⟨55, _⟩ => ⟨S2048x512, .f32⟩
  | .hbm, ⟨56, _⟩ => ⟨S2048x512, .f32⟩
  | .hbm, ⟨57, _⟩ => ⟨S2048x512, .f32⟩
  | .hbm, ⟨58, _⟩ => ⟨S_, .f32⟩
  | .hbm, ⟨59, _⟩ => ⟨S512, .f32⟩
  | .hbm, ⟨60, _⟩ => ⟨S1x512, .f32⟩
  | .hbm, ⟨61, _⟩ => ⟨S_, .f32⟩
  | .hbm, ⟨62, _⟩ => ⟨S512, .f32⟩
  | .hbm, ⟨63, _⟩ => ⟨S512x512, .f32⟩
  | .hbm, ⟨64, _⟩ => ⟨S512x512, .f32⟩
  | .hbm, ⟨65, _⟩ => ⟨S2048x512, .f32⟩
  | .hbm, ⟨66, _⟩ => ⟨S2048x512, .f32⟩
  | .hbm, ⟨67, _⟩ => ⟨S2048x512, .f32⟩
  | .hbm, ⟨68, _⟩ => ⟨S2048x512, .f32⟩
  | .hbm, ⟨69, _⟩ => ⟨S_, .f32⟩
  | .hbm, ⟨70, _⟩ => ⟨S2048x512, .f32⟩
  | .hbm, ⟨71, _⟩ => ⟨S2048x512, .f32⟩
  | .hbm, ⟨72, _⟩ => ⟨S2048x512, .f32⟩
  | .hbm, ⟨73, _⟩ => ⟨S_, .f32⟩
  | .hbm, ⟨74, _⟩ => ⟨S2048x512, .f32⟩
  | .hbm, ⟨75, _⟩ => ⟨S2048x512, .f32⟩
  | .hbm, ⟨76, _⟩ => ⟨S2048x512, .f32⟩
  | .hbm, ⟨77, _⟩ => ⟨S_, .f32⟩
  | .hbm, ⟨78, _⟩ => ⟨S2048x512, .f32⟩
  | .hbm, ⟨79, _⟩ => ⟨S2048x512, .f32⟩
  | .hbm, ⟨80, _⟩ => ⟨S2048x512, .f32⟩
  | .hbm, ⟨81, _⟩ => ⟨S2048x512, .f32⟩
  | .hbm, ⟨82, _⟩ => ⟨S2048x512, .f32⟩
  | .hbm, ⟨83, _⟩ => ⟨S2048x512, .f32⟩
  | .hbm, ⟨84, _⟩ => ⟨S2048x512, .f32⟩
  | .hbm, ⟨85, _⟩ => ⟨S_, .f32⟩
  | .hbm, ⟨86, _⟩ => ⟨S512, .f32⟩
  | .hbm, ⟨87, _⟩ => ⟨S1x512, .f32⟩
  | .hbm, ⟨88, _⟩ => ⟨S_, .f32⟩
  | .hbm, ⟨89, _⟩ => ⟨S512, .f32⟩
  | .hbm, ⟨90, _⟩ => ⟨S1x512, .f32⟩
  | .hbm, ⟨91, _⟩ => ⟨S1x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_11 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_12 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_13 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_14 : Ref sig .tc := ⟨.hbm, 85, rfl⟩
abbrev main_v64 : Ref sig .tc := ⟨.hbm, 86, rfl⟩
abbrev main_v65 : Ref sig .tc := ⟨.hbm, 87, rfl⟩
abbrev main_cst_15 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩

abbrev nD : Nat := 1
abbrev τ : Topo := Topo.v7x

variable {F : FTy → Type} [FloatOps F]
-- ==== PostFwd.lean ====
abbrev S2048x512 : Shape := ⟨2, ![2048, 512]⟩
abbrev S512 : Shape := ⟨1, ![512]⟩
abbrev S512x512 : Shape := ⟨2, ![512, 512]⟩
abbrev S1x512 : Shape := ⟨2, ![1, 512]⟩
abbrev S256x512 : Shape := ⟨2, ![256, 512]⟩

abbrev nBuf : Space → Nat
  | .hbm => 9
  | .vmem => 9
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S1x512, .f32⟩
  | .hbm, ⟨6, _⟩ => ⟨S512x512, .bf16⟩
  | .hbm, ⟨7, _⟩ => ⟨S1x512, .f32⟩
  | .hbm, ⟨8, _⟩ => ⟨S2048x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S1x512, .f32⟩
  | .local _ .vmem, ⟨5, _⟩ => ⟨S512x512, .bf16⟩
  | .local _ .vmem, ⟨6, _⟩ => ⟨S1x512, .f32⟩
  | .local _ .vmem, ⟨7, _⟩ => ⟨S256x512, .f32⟩
  | .local _ .vmem, ⟨8, _⟩ => ⟨S256x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PostFwdRefIdeal.lean ====
abbrev S2048x512 : Shape := ⟨2, ![2048, 512]⟩
abbrev S512 : Shape := ⟨1, ![512]⟩
abbrev S512x512 : Shape := ⟨2, ![512, 512]⟩
abbrev S1x512 : Shape := ⟨2, ![1, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S1x512, .f32⟩
  | .hbm, ⟨6, _⟩ => ⟨S2048x512, .f32⟩
  | .hbm, ⟨7, _⟩ => ⟨S2048x512, .f32⟩
  | .hbm, ⟨8, _⟩ => ⟨S2048x512, .f32⟩
  | .hbm, ⟨9, _⟩ => ⟨S2048x512, .f32⟩
  | .hbm, ⟨10, _⟩ => ⟨S2048x512, .f32⟩
  | .hbm, ⟨11, _⟩ => ⟨S_, .f32⟩
  | .hbm, ⟨12, _⟩ => ⟨S2048x512, .f32⟩
  | .hbm, ⟨13, _⟩ => ⟨S2048x512, .f32⟩
  | .hbm, ⟨14, _⟩ => ⟨S2048x512, .f32⟩
  | .hbm, ⟨15, _⟩ => ⟨S_, .f32⟩
  | .hbm, ⟨16, _⟩ => ⟨S2048x512, .f32⟩
  | .hbm, ⟨17, _⟩ => ⟨S2048x512, .f32⟩
  | .hbm, ⟨18, _⟩ => ⟨S2048x512, .f32⟩
  | .hbm, ⟨19, _⟩ => ⟨S_, .f32⟩
  | .hbm, ⟨20, _⟩ => ⟨S2048x512, .f32⟩
  | .hbm, ⟨21, _⟩ => ⟨S2048x512, .f32⟩
  | .hbm, ⟨22, _⟩ => ⟨S_, .f32⟩
  | .hbm, ⟨23, _⟩ => ⟨S2048x512, .f32⟩
  | .hbm, ⟨24, _⟩ => ⟨S2048x512, .f32⟩
  | .hbm, ⟨25, _⟩ => ⟨S2048x512, .f32⟩
  | .hbm, ⟨26, _⟩ => ⟨S2048x512, .f32⟩
  | .hbm, ⟨27, _⟩ => ⟨S1x512, .f32⟩
  | .hbm, ⟨28, _⟩ => ⟨S2048x512, .f32⟩
  | .hbm, ⟨29, _⟩ => ⟨S2048x512, .f32⟩
  | .hbm, ⟨30, _⟩ => ⟨S2048x512, .f32⟩
  | .hbm, ⟨31, _⟩ => ⟨S2048x512, .f32⟩
  | .hbm, ⟨32, _⟩ => ⟨S_, .f32⟩
  | .hbm, ⟨33, _⟩ => ⟨S2048x512, .f32⟩
  | .hbm, ⟨34, _⟩ => ⟨S2048x512, .f32⟩
  | .hbm, ⟨35, _⟩ => ⟨S_, .f32⟩
  | .hbm, ⟨36, _⟩ => ⟨S2048x512, .f32⟩
  | .hbm, ⟨37, _⟩ => ⟨S2048x512, .f32⟩
  | .hbm, ⟨38, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== AdamOut.lean ====
abbrev S2x128x1024 : Shape := ⟨3, ![2, 128, 1024]⟩
abbrev S4x128x1024 : Shape := ⟨3, ![4, 128, 1024]⟩
abbrev S256x1024 : Shape := ⟨2, ![256, 1024]⟩
abbrev S128x1024 : Shape := ⟨2, ![128, 1024]⟩
abbrev S1x128x1024 : Shape := ⟨3, ![1, 128, 1024]⟩

abbrev nBuf : Space → Nat
  | .hbm => 12
  | .vmem => 16
  | .smem => 0
  | _ => 0

abbrev bufTy : (tb : Table) → Fin (tcTables nBuf tb) → BufTy
  | .hbm, ⟨0, _⟩ => ⟨S2x128x1024, .f32⟩
  | .hbm, ⟨1, _⟩ => ⟨S4x128x1024, .bf16⟩
  | .hbm, ⟨2, _⟩ => ⟨S4x128x1024, .bf16⟩
  | .hbm, ⟨3, _⟩ => ⟨S2x128x1024, .f32⟩
  | .hbm, ⟨4, _⟩ => ⟨S2x128x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S4x128x1024, .bf16⟩
  | .local _ .vmem, ⟨3, _⟩ => ⟨S4x128x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S2x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S4x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamOutIdeal.lean ====
abbrev S2x128x1024 : Shape := ⟨3, ![2, 128, 1024]⟩
abbrev S4x128x1024 : Shape := ⟨3, ![4, 128, 1024]⟩
abbrev S256x1024 : Shape := ⟨2, ![256, 1024]⟩
abbrev S128x1024 : Shape := ⟨2, ![128, 1024]⟩
abbrev S1x128x1024 : Shape := ⟨3, ![1, 128, 1024]⟩

abbrev nBuf : Space → Nat
  | .hbm => 12
  | .vmem => 16
  | .smem => 0
  | _ => 0

abbrev bufTy : (tb : Table) → Fin (tcTables nBuf tb) → BufTy
  | .hbm, ⟨0, _⟩ => ⟨S2x128x1024, .f32⟩
  | .hbm, ⟨1, _⟩ => ⟨S4x128x1024, .bf16⟩
  | .hbm, ⟨2, _⟩ => ⟨S4x128x1024, .bf16⟩
  | .hbm, ⟨3, _⟩ => ⟨S2x128x1024, .f32⟩
  | .hbm, ⟨4, _⟩ => ⟨S2x128x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S4x128x1024, .bf16⟩
  | .local _ .vmem, ⟨3, _⟩ => ⟨S4x128x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S2x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S4x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamOutRefIdeal.lean ====
abbrev S2x128x1024 : Shape := ⟨3, ![2, 128, 1024]⟩
abbrev S4x128x1024 : Shape := ⟨3, ![4, 128, 1024]⟩
abbrev S_ : Shape := ⟨0, ![]⟩
abbrev S128x1024 : Shape := ⟨2, ![128, 1024]⟩
abbrev S1x128x1024 : Shape := ⟨3, ![1, 128, 1024]⟩
abbrev S256x1024 : Shape := ⟨2, ![256, 1024]⟩

abbrev nBuf : Space → Nat
  | .hbm => 51
  | .vmem => 0
  | .smem => 0
  | _ => 0

abbrev bufTy : (tb : Table) → Fin (tcTables nBuf tb) → BufTy
  | .hbm, ⟨0, _⟩ => ⟨S2x128x1024, .f32⟩
  | .hbm, ⟨1, _⟩ => ⟨S4x128x1024, .bf16⟩
  | .hbm, ⟨2, _⟩ => ⟨S4x128x1024, .bf16⟩
  | .hbm, ⟨3, _⟩ => ⟨S2x128x1024, .f32⟩
  | .hbm, ⟨4, _⟩ => ⟨S2x128x1024, .f32⟩
  | .hbm, ⟨5, _⟩ => ⟨S4x128x1024, .f32⟩
  | .hbm, ⟨6, _⟩ => ⟨S_, .f32⟩
  | .hbm, ⟨7, _⟩ => ⟨S128x1024, .f32⟩
  | .hbm, ⟨8, _⟩ => ⟨S4x128x1024, .f32⟩
  | .hbm, ⟨9, _⟩ => ⟨S_, .f32⟩
  | .hbm, ⟨10, _⟩ => ⟨S128x1024, .f32⟩
  | .hbm, ⟨11, _⟩ => ⟨S1x128x1024, .f32⟩
  | .hbm, ⟨12, _⟩ => ⟨S1x128x1024, .f32⟩
  | .hbm, ⟨13, _⟩ => ⟨S2x128x1024, .f32⟩
  | .hbm, ⟨14, _⟩ => ⟨S_, .f32⟩
  | .hbm, ⟨15, _⟩ => ⟨S2x128x1024, .f32⟩
  | .hbm, ⟨16, _⟩ => ⟨S2x128x1024, .f32⟩
  | .hbm, ⟨17, _⟩ => ⟨S_, .f32⟩
  | .hbm, ⟨18, _⟩ => ⟨S2x128x1024, .f32⟩
  | .hbm, ⟨19, _⟩ => ⟨S2x128x1024, .f32⟩
  | .hbm, ⟨20, _⟩ => ⟨S2x128x1024, .f32⟩
  | .hbm, ⟨21, _⟩ => ⟨S_, .f32⟩
  | .hbm, ⟨22, _⟩ => ⟨S2x128x1024, .f32⟩
  | .hbm, ⟨23, _⟩ => ⟨S2x128x1024, .f32⟩
  | .hbm, ⟨24, _⟩ => ⟨S2x128x1024, .f32⟩
  | .hbm, ⟨25, _⟩ => ⟨S_, .f32⟩
  | .hbm, ⟨26, _⟩ => ⟨S2x128x1024, .f32⟩
  | .hbm, ⟨27, _⟩ => ⟨S2x128x1024, .f32⟩
  | .hbm, ⟨28, _⟩ => ⟨S2x128x1024, .f32⟩
  | .hbm, ⟨29, _⟩ => ⟨S_, .f32⟩
  | .hbm, ⟨30, _⟩ => ⟨S2x128x1024, .f32⟩
  | .hbm, ⟨31, _⟩ => ⟨S2x128x1024, .f32⟩
  | .hbm, ⟨32, _⟩ => ⟨S_, .f32⟩
  | .hbm, ⟨33, _⟩ => ⟨S2x128x1024, .f32⟩
  | .hbm, ⟨34, _⟩ => ⟨S2x128x1024, .f32⟩
  | .hbm, ⟨35, _⟩ => ⟨S2x128x1024, .f32⟩
  | .hbm, ⟨36, _⟩ => ⟨S_, .f32⟩
  | .hbm, ⟨37, _⟩ => ⟨S2x128x1024, .f32⟩
  | .hbm, ⟨38, _⟩ => ⟨S2x128x1024, .f32⟩
  | .hbm, ⟨39, _⟩ => ⟨S2x128x1024, .f32⟩
  | .hbm, ⟨40, _⟩ => ⟨S_, .f32⟩
  | .hbm, ⟨41, _⟩ => ⟨S2x128x1024, .f32⟩
  | .hbm, ⟨42, _⟩ => ⟨S2x128x1024, .f32⟩
  | .hbm, ⟨43, _⟩ => ⟨S2x128x1024, .f32⟩
  | .hbm, ⟨44, _⟩ => ⟨S_, .f32⟩
  | .hbm, ⟨45, _⟩ => ⟨S2x128x1024, .f32⟩
  | .hbm, ⟨46, _⟩ => ⟨S2x128x1024, .f32⟩
  | .hbm, ⟨47, _⟩ => ⟨S256x1024, .f32⟩
  | .hbm, ⟨48, _⟩ => ⟨S256x1024, .f32⟩
  | .hbm, ⟨49, _⟩ => ⟨S256x1024, .f32⟩
  | .hbm, ⟨50, _⟩ => ⟨S256x1024, .f32⟩
  | _, _ => ⟨S2x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]
-- ==== AdamBranch.lean ====
abbrev S2x192x1024 : Shape := ⟨3, ![2, 192, 1024]⟩
abbrev S4x192x1024 : Shape := ⟨3, ![4, 192, 1024]⟩
abbrev S384x1024 : Shape := ⟨2, ![384, 1024]⟩
abbrev S64x1024 : Shape := ⟨2, ![64, 1024]⟩
abbrev S4x64x1024 : Shape := ⟨3, ![4, 64, 1024]⟩
abbrev S1x64x1024 : Shape := ⟨3, ![1, 64, 1024]⟩

abbrev nBuf : Space → Nat
  | .hbm => 12
  | .vmem => 18
  | .smem => 0
  | _ => 0

abbrev bufTy : (tb : Table) → Fin (tcTables nBuf tb) → BufTy
  | .hbm, ⟨0, _⟩ => ⟨S2x192x1024, .f32⟩
  | .hbm, ⟨1, _⟩ => ⟨S4x192x1024, .bf16⟩
  | .hbm, ⟨2, _⟩ => ⟨S4x192x1024, .bf16⟩
  | .hbm, ⟨3, _⟩ => ⟨S2x192x1024, .f32⟩
  | .hbm, ⟨4, _⟩ => ⟨S2x192x1024, .f32⟩
  | .hbm, ⟨5, _⟩ => ⟨S384x1024, .f32⟩
  | .hbm, ⟨6, _⟩ => ⟨S384x1024, .f32⟩
  | .hbm, ⟨7, _⟩ => ⟨S384x1024, .f32⟩
  | .hbm, ⟨8, _⟩ => ⟨S384x1024, .f32⟩
  | .hbm, ⟨9, _⟩ => ⟨S384x1024, .f32⟩
  | .hbm, ⟨10, _⟩ => ⟨S384x1024, .f32⟩
  | .hbm, ⟨11, _⟩ => ⟨S384x1024, .f32⟩
  | .local _ .vmem, ⟨0, _⟩ => ⟨S64x1024, .f32⟩
  | .local _ .vmem, ⟨1, _⟩ => ⟨S64x1024, .f32⟩
  | .local _ .vmem, ⟨2, _⟩ => ⟨S4x64x1024, .bf16⟩
  | .local _ .vmem, ⟨3, _⟩ => ⟨S4x64x1024, .bf16⟩
  | .local _ .vmem, ⟨4, _⟩ => ⟨S4x64x1024, .bf16⟩
  | .local _ .vmem, ⟨5, _⟩ => ⟨S4x64x1024, .bf16⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | .local _ .vmem, ⟨16, _⟩ => ⟨S64x1024, .f32⟩
  | .local _ .vmem, ⟨17, _⟩ => ⟨S64x1024, .f32⟩
  | _, _ => ⟨S2x192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 3], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamBranchIdeal.lean ====
abbrev S2x192x1024 : Shape := ⟨3, ![2, 192, 1024]⟩
abbrev S4x192x1024 : Shape := ⟨3, ![4, 192, 1024]⟩
abbrev S384x1024 : Shape := ⟨2, ![384, 1024]⟩
abbrev S64x1024 : Shape := ⟨2, ![64, 1024]⟩
abbrev S4x64x1024 : Shape := ⟨3, ![4, 64, 1024]⟩
abbrev S1x64x1024 : Shape := ⟨3, ![1, 64, 1024]⟩

abbrev nBuf : Space → Nat
  | .hbm => 12
  | .vmem => 18
  | .smem => 0
  | _ => 0

abbrev bufTy : (tb : Table) → Fin (tcTables nBuf tb) → BufTy
  | .hbm, ⟨0, _⟩ => ⟨S2x192x1024, .f32⟩
  | .hbm, ⟨1, _⟩ => ⟨S4x192x1024, .bf16⟩
  | .hbm, ⟨2, _⟩ => ⟨S4x192x1024, .bf16⟩
  | .hbm, ⟨3, _⟩ => ⟨S2x192x1024, .f32⟩
  | .hbm, ⟨4, _⟩ => ⟨S2x192x1024, .f32⟩
  | .hbm, ⟨5, _⟩ => ⟨S384x1024, .f32⟩
  | .hbm, ⟨6, _⟩ => ⟨S384x1024, .f32⟩
  | .hbm, ⟨7, _⟩ => ⟨S384x1024, .f32⟩
  | .hbm, ⟨8, _⟩ => ⟨S384x1024, .f32⟩
  | .hbm, ⟨9, _⟩ => ⟨S384x1024, .f32⟩
  | .hbm, ⟨10, _⟩ => ⟨S384x1024, .f32⟩
  | .hbm, ⟨11, _⟩ => ⟨S384x1024, .f32⟩
  | .local _ .vmem, ⟨0, _⟩ => ⟨S64x1024, .f32⟩
  | .local _ .vmem, ⟨1, _⟩ => ⟨S64x1024, .f32⟩
  | .local _ .vmem, ⟨2, _⟩ => ⟨S4x64x1024, .bf16⟩
  | .local _ .vmem, ⟨3, _⟩ => ⟨S4x64x1024, .bf16⟩
  | .local _ .vmem, ⟨4, _⟩ => ⟨S4x64x1024, .bf16⟩
  | .local _ .vmem, ⟨5, _⟩ => ⟨S4x64x1024, .bf16⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | .local _ .vmem, ⟨16, _⟩ => ⟨S64x1024, .f32⟩
  | .local _ .vmem, ⟨17, _⟩ => ⟨S64x1024, .f32⟩
  | _, _ => ⟨S2x192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 3], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamBranchRefIdeal.lean ====
abbrev S2x192x1024 : Shape := ⟨3, ![2, 192, 1024]⟩
abbrev S4x192x1024 : Shape := ⟨3, ![4, 192, 1024]⟩
abbrev S_ : Shape := ⟨0, ![]⟩
abbrev S192x1024 : Shape := ⟨2, ![192, 1024]⟩
abbrev S1x192x1024 : Shape := ⟨3, ![1, 192, 1024]⟩
abbrev S384x1024 : Shape := ⟨2, ![384, 1024]⟩

abbrev nBuf : Space → Nat
  | .hbm => 51
  | .vmem => 0
  | .smem => 0
  | _ => 0

abbrev bufTy : (tb : Table) → Fin (tcTables nBuf tb) → BufTy
  | .hbm, ⟨0, _⟩ => ⟨S2x192x1024, .f32⟩
  | .hbm, ⟨1, _⟩ => ⟨S4x192x1024, .bf16⟩
  | .hbm, ⟨2, _⟩ => ⟨S4x192x1024, .bf16⟩
  | .hbm, ⟨3, _⟩ => ⟨S2x192x1024, .f32⟩
  | .hbm, ⟨4, _⟩ => ⟨S2x192x1024, .f32⟩
  | .hbm, ⟨5, _⟩ => ⟨S4x192x1024, .f32⟩
  | .hbm, ⟨6, _⟩ => ⟨S_, .f32⟩
  | .hbm, ⟨7, _⟩ => ⟨S192x1024, .f32⟩
  | .hbm, ⟨8, _⟩ => ⟨S4x192x1024, .f32⟩
  | .hbm, ⟨9, _⟩ => ⟨S_, .f32⟩
  | .hbm, ⟨10, _⟩ => ⟨S192x1024, .f32⟩
  | .hbm, ⟨11, _⟩ => ⟨S1x192x1024, .f32⟩
  | .hbm, ⟨12, _⟩ => ⟨S1x192x1024, .f32⟩
  | .hbm, ⟨13, _⟩ => ⟨S2x192x1024, .f32⟩
  | .hbm, ⟨14, _⟩ => ⟨S_, .f32⟩
  | .hbm, ⟨15, _⟩ => ⟨S2x192x1024, .f32⟩
  | .hbm, ⟨16, _⟩ => ⟨S2x192x1024, .f32⟩
  | .hbm, ⟨17, _⟩ => ⟨S_, .f32⟩
  | .hbm, ⟨18, _⟩ => ⟨S2x192x1024, .f32⟩
  | .hbm, ⟨19, _⟩ => ⟨S2x192x1024, .f32⟩
  | .hbm, ⟨20, _⟩ => ⟨S2x192x1024, .f32⟩
  | .hbm, ⟨21, _⟩ => ⟨S_, .f32⟩
  | .hbm, ⟨22, _⟩ => ⟨S2x192x1024, .f32⟩
  | .hbm, ⟨23, _⟩ => ⟨S2x192x1024, .f32⟩
  | .hbm, ⟨24, _⟩ => ⟨S2x192x1024, .f32⟩
  | .hbm, ⟨25, _⟩ => ⟨S_, .f32⟩
  | .hbm, ⟨26, _⟩ => ⟨S2x192x1024, .f32⟩
  | .hbm, ⟨27, _⟩ => ⟨S2x192x1024, .f32⟩
  | .hbm, ⟨28, _⟩ => ⟨S2x192x1024, .f32⟩
  | .hbm, ⟨29, _⟩ => ⟨S_, .f32⟩
  | .hbm, ⟨30, _⟩ => ⟨S2x192x1024, .f32⟩
  | .hbm, ⟨31, _⟩ => ⟨S2x192x1024, .f32⟩
  | .hbm, ⟨32, _⟩ => ⟨S_, .f32⟩
  | .hbm, ⟨33, _⟩ => ⟨S2x192x1024, .f32⟩
  | .hbm, ⟨34, _⟩ => ⟨S2x192x1024, .f32⟩
  | .hbm, ⟨35, _⟩ => ⟨S2x192x1024, .f32⟩
  | .hbm, ⟨36, _⟩ => ⟨S_, .f32⟩
  | .hbm, ⟨37, _⟩ => ⟨S2x192x1024, .f32⟩
  | .hbm, ⟨38, _⟩ => ⟨S2x192x1024, .f32⟩
  | .hbm, ⟨39, _⟩ => ⟨S2x192x1024, .f32⟩
  | .hbm, ⟨40, _⟩ => ⟨S_, .f32⟩
  | .hbm, ⟨41, _⟩ => ⟨S2x192x1024, .f32⟩
  | .hbm, ⟨42, _⟩ => ⟨S2x192x1024, .f32⟩
  | .hbm, ⟨43, _⟩ => ⟨S2x192x1024, .f32⟩
  | .hbm, ⟨44, _⟩ => ⟨S_, .f32⟩
  | .hbm, ⟨45, _⟩ => ⟨S2x192x1024, .f32⟩
  | .hbm, ⟨46, _⟩ => ⟨S2x192x1024, .f32⟩
  | .hbm, ⟨47, _⟩ => ⟨S384x1024, .f32⟩
  | .hbm, ⟨48, _⟩ => ⟨S384x1024, .f32⟩
  | .hbm, ⟨49, _⟩ => ⟨S384x1024, .f32⟩
  | .hbm, ⟨50, _⟩ => ⟨S384x1024, .f32⟩
  | _, _ => ⟨S2x192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]
-- ==== AdamKv.lean ====
abbrev S2x128x128 : Shape := ⟨3, ![2, 128, 128]⟩
abbrev S4x128x128 : Shape := ⟨3, ![4, 128, 128]⟩
abbrev S256x128 : Shape := ⟨2, ![256, 128]⟩
abbrev S128x128 : Shape := ⟨2, ![128, 128]⟩
abbrev S1x128x128 : Shape := ⟨3, ![1, 128, 128]⟩

abbrev nBuf : Space → Nat
  | .hbm => 12
  | .vmem => 16
  | .smem => 0
  | _ => 0

abbrev bufTy : (tb : Table) → Fin (tcTables nBuf tb) → BufTy
  | .hbm, ⟨0, _⟩ => ⟨S2x128x128, .f32⟩
  | .hbm, ⟨1, _⟩ => ⟨S4x128x128, .bf16⟩
  | .hbm, ⟨2, _⟩ => ⟨S4x128x128, .bf16⟩
  | .hbm, ⟨3, _⟩ => ⟨S2x128x128, .f32⟩
  | .hbm, ⟨4, _⟩ => ⟨S2x128x128, .f32⟩
  | .hbm, ⟨5, _⟩ => ⟨S256x128, .f32⟩
  | .hbm, ⟨6, _⟩ => ⟨S256x128, .f32⟩
  | .hbm, ⟨7, _⟩ => ⟨S256x128, .f32⟩
  | .hbm, ⟨8, _⟩ => ⟨S256x128, .f32⟩
  | .hbm, ⟨9, _⟩ => ⟨S256x128, .f32⟩
  | .hbm, ⟨10, _⟩ => ⟨S256x128, .f32⟩
  | .hbm, ⟨11, _⟩ => ⟨S256x128, .f32⟩
  | .local _ .vmem, ⟨0, _⟩ => ⟨S128x128, .f32⟩
  | .local _ .vmem, ⟨1, _⟩ => ⟨S128x128, .f32⟩
  | .local _ .vmem, ⟨2, _⟩ => ⟨S4x128x128, .bf16⟩
  | .local _ .vmem, ⟨3, _⟩ => ⟨S4x128x128, .bf16⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | _, _ => ⟨S2x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S4x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamKvIdeal.lean ====
abbrev S2x128x128 : Shape := ⟨3, ![2, 128, 128]⟩
abbrev S4x128x128 : Shape := ⟨3, ![4, 128, 128]⟩
abbrev S256x128 : Shape := ⟨2, ![256, 128]⟩
abbrev S128x128 : Shape := ⟨2, ![128, 128]⟩
abbrev S1x128x128 : Shape := ⟨3, ![1, 128, 128]⟩

abbrev nBuf : Space → Nat
  | .hbm => 12
  | .vmem => 16
  | .smem => 0
  | _ => 0

abbrev bufTy : (tb : Table) → Fin (tcTables nBuf tb) → BufTy
  | .hbm, ⟨0, _⟩ => ⟨S2x128x128, .f32⟩
  | .hbm, ⟨1, _⟩ => ⟨S4x128x128, .bf16⟩
  | .hbm, ⟨2, _⟩ => ⟨S4x128x128, .bf16⟩
  | .hbm, ⟨3, _⟩ => ⟨S2x128x128, .f32⟩
  | .hbm, ⟨4, _⟩ => ⟨S2x128x128, .f32⟩
  | .hbm, ⟨5, _⟩ => ⟨S256x128, .f32⟩
  | .hbm, ⟨6, _⟩ => ⟨S256x128, .f32⟩
  | .hbm, ⟨7, _⟩ => ⟨S256x128, .f32⟩
  | .hbm, ⟨8, _⟩ => ⟨S256x128, .f32⟩
  | .hbm, ⟨9, _⟩ => ⟨S256x128, .f32⟩
  | .hbm, ⟨10, _⟩ => ⟨S256x128, .f32⟩
  | .hbm, ⟨11, _⟩ => ⟨S256x128, .f32⟩
  | .local _ .vmem, ⟨0, _⟩ => ⟨S128x128, .f32⟩
  | .local _ .vmem, ⟨1, _⟩ => ⟨S128x128, .f32⟩
  | .local _ .vmem, ⟨2, _⟩ => ⟨S4x128x128, .bf16⟩
  | .local _ .vmem, ⟨3, _⟩ => ⟨S4x128x128, .bf16⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | _, _ => ⟨S2x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S4x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamKvRefIdeal.lean ====
abbrev S2x128x128 : Shape := ⟨3, ![2, 128, 128]⟩
abbrev S4x128x128 : Shape := ⟨3, ![4, 128, 128]⟩
abbrev S_ : Shape := ⟨0, ![]⟩
abbrev S128x128 : Shape := ⟨2, ![128, 128]⟩
abbrev S1x128x128 : Shape := ⟨3, ![1, 128, 128]⟩
abbrev S256x128 : Shape := ⟨2, ![256, 128]⟩

abbrev nBuf : Space → Nat
  | .hbm => 51
  | .vmem => 0
  | .smem => 0
  | _ => 0

abbrev bufTy : (tb : Table) → Fin (tcTables nBuf tb) → BufTy
  | .hbm, ⟨0, _⟩ => ⟨S2x128x128, .f32⟩
  | .hbm, ⟨1, _⟩ => ⟨S4x128x128, .bf16⟩
  | .hbm, ⟨2, _⟩ => ⟨S4x128x128, .bf16⟩
  | .hbm, ⟨3, _⟩ => ⟨S2x128x128, .f32⟩
  | .hbm, ⟨4, _⟩ => ⟨S2x128x128, .f32⟩
  | .hbm, ⟨5, _⟩ => ⟨S4x128x128, .f32⟩
  | .hbm, ⟨6, _⟩ => ⟨S_, .f32⟩
  | .hbm, ⟨7, _⟩ => ⟨S128x128, .f32⟩
  | .hbm, ⟨8, _⟩ => ⟨S4x128x128, .f32⟩
  | .hbm, ⟨9, _⟩ => ⟨S_, .f32⟩
  | .hbm, ⟨10, _⟩ => ⟨S128x128, .f32⟩
  | .hbm, ⟨11, _⟩ => ⟨S1x128x128, .f32⟩
  | .hbm, ⟨12, _⟩ => ⟨S1x128x128, .f32⟩
  | .hbm, ⟨13, _⟩ => ⟨S2x128x128, .f32⟩
  | .hbm, ⟨14, _⟩ => ⟨S_, .f32⟩
  | .hbm, ⟨15, _⟩ => ⟨S2x128x128, .f32⟩
  | .hbm, ⟨16, _⟩ => ⟨S2x128x128, .f32⟩
  | .hbm, ⟨17, _⟩ => ⟨S_, .f32⟩
  | .hbm, ⟨18, _⟩ => ⟨S2x128x128, .f32⟩
  | .hbm, ⟨19, _⟩ => ⟨S2x128x128, .f32⟩
  | .hbm, ⟨20, _⟩ => ⟨S2x128x128, .f32⟩
  | .hbm, ⟨21, _⟩ => ⟨S_, .f32⟩
  | .hbm, ⟨22, _⟩ => ⟨S2x128x128, .f32⟩
  | .hbm, ⟨23, _⟩ => ⟨S2x128x128, .f32⟩
  | .hbm, ⟨24, _⟩ => ⟨S2x128x128, .f32⟩
  | .hbm, ⟨25, _⟩ => ⟨S_, .f32⟩
  | .hbm, ⟨26, _⟩ => ⟨S2x128x128, .f32⟩
  | .hbm, ⟨27, _⟩ => ⟨S2x128x128, .f32⟩
  | .hbm, ⟨28, _⟩ => ⟨S2x128x128, .f32⟩
  | .hbm, ⟨29, _⟩ => ⟨S_, .f32⟩
  | .hbm, ⟨30, _⟩ => ⟨S2x128x128, .f32⟩
  | .hbm, ⟨31, _⟩ => ⟨S2x128x128, .f32⟩
  | .hbm, ⟨32, _⟩ => ⟨S_, .f32⟩
  | .hbm, ⟨33, _⟩ => ⟨S2x128x128, .f32⟩
  | .hbm, ⟨34, _⟩ => ⟨S2x128x128, .f32⟩
  | .hbm, ⟨35, _⟩ => ⟨S2x128x128, .f32⟩
  | .hbm, ⟨36, _⟩ => ⟨S_, .f32⟩
  | .hbm, ⟨37, _⟩ => ⟨S2x128x128, .f32⟩
  | .hbm, ⟨38, _⟩ => ⟨S2x128x128, .f32⟩
  | .hbm, ⟨39, _⟩ => ⟨S2x128x128, .f32⟩
  | .hbm, ⟨40, _⟩ => ⟨S_, .f32⟩
  | .hbm, ⟨41, _⟩ => ⟨S2x128x128, .f32⟩
  | .hbm, ⟨42, _⟩ => ⟨S2x128x128, .f32⟩
  | .hbm, ⟨43, _⟩ => ⟨S2x128x128, .f32⟩
  | .hbm, ⟨44, _⟩ => ⟨S_, .f32⟩
  | .hbm, ⟨45, _⟩ => ⟨S2x128x128, .f32⟩
  | .hbm, ⟨46, _⟩ => ⟨S2x128x128, .f32⟩
  | .hbm, ⟨47, _⟩ => ⟨S256x128, .f32⟩
  | .hbm, ⟨48, _⟩ => ⟨S256x128, .f32⟩
  | .hbm, ⟨49, _⟩ => ⟨S256x128, .f32⟩
  | .hbm, ⟨50, _⟩ => ⟨S256x128, .f32⟩
  | _, _ => ⟨S2x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]
-- ==== AdamGlu.lean ====
abbrev S2x64x512 : Shape := ⟨3, ![2, 64, 512]⟩
abbrev S4x64x512 : Shape := ⟨3, ![4, 64, 512]⟩
abbrev S128x512 : Shape := ⟨2, ![128, 512]⟩
abbrev S64x512 : Shape := ⟨2, ![64, 512]⟩
abbrev S1x64x512 : Shape := ⟨3, ![1, 64, 512]⟩

abbrev nBuf : Space → Nat
  | .hbm => 12
  | .vmem => 16
  | .smem => 0
  | _ => 0

abbrev bufTy : (tb : Table) → Fin (tcTables nBuf tb) → BufTy
  | .hbm, ⟨0, _⟩ => ⟨S2x64x512, .f32⟩
  | .hbm, ⟨1, _⟩ => ⟨S4x64x512, .bf16⟩
  | .hbm, ⟨2, _⟩ => ⟨S4x64x512, .bf16⟩
  | .hbm, ⟨3, _⟩ => ⟨S2x64x512, .f32⟩
  | .hbm, ⟨4, _⟩ => ⟨S2x64x512, .f32⟩
  | .hbm, ⟨5, _⟩ => ⟨S128x512, .f32⟩
  | .hbm, ⟨6, _⟩ => ⟨S128x512, .f32⟩
  | .hbm, ⟨7, _⟩ => ⟨S128x512, .f32⟩
  | .hbm, ⟨8, _⟩ => ⟨S128x512, .f32⟩
  | .hbm, ⟨9, _⟩ => ⟨S128x512, .f32⟩
  | .hbm, ⟨10, _⟩ => ⟨S128x512, .f32⟩
  | .hbm, ⟨11, _⟩ => ⟨S128x512, .f32⟩
  | .local _ .vmem, ⟨0, _⟩ => ⟨S64x512, .f32⟩
  | .local _ .vmem, ⟨1, _⟩ => ⟨S64x512, .f32⟩
  | .local _ .vmem, ⟨2, _⟩ => ⟨S4x64x512, .bf16⟩
  | .local _ .vmem, ⟨3, _⟩ => ⟨S4x64x512, .bf16⟩
  | .local _ .vmem, ⟨4, _⟩ => ⟨S64x512, .f32⟩
  | .local _ .vmem, ⟨5, _⟩ => ⟨S64x512, .f32⟩
  | .local _ .vmem, ⟨6, _⟩ => ⟨S64x512, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S64x512, .f32⟩
  | .local _ .vmem, ⟨11, _⟩ => ⟨S64x512, .f32⟩
  | .local _ .vmem, ⟨12, _⟩ => ⟨S64x512, .f32⟩
  | .local _ .vmem, ⟨13, _⟩ => ⟨S64x512, .f32⟩
  | .local _ .vmem, ⟨14, _⟩ => ⟨S64x512, .f32⟩
  | .local _ .vmem, ⟨15, _⟩ => ⟨S64x512, .f32⟩
  | _, _ => ⟨S2x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x64x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S4x64x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamGluRefIdeal.lean ====
abbrev S2x64x512 : Shape := ⟨3, ![2, 64, 512]⟩
abbrev S4x64x512 : Shape := ⟨3, ![4, 64, 512]⟩
abbrev S_ : Shape := ⟨0, ![]⟩
abbrev S64x512 : Shape := ⟨2, ![64, 512]⟩
abbrev S1x64x512 : Shape := ⟨3, ![1, 64, 512]⟩
abbrev S128x512 : Shape := ⟨2, ![128, 512]⟩

abbrev nBuf : Space → Nat
  | .hbm => 51
  | .vmem => 0
  | .smem => 0
  | _ => 0

abbrev bufTy : (tb : Table) → Fin (tcTables nBuf tb) → BufTy
  | .hbm, ⟨0, _⟩ => ⟨S2x64x512, .f32⟩
  | .hbm, ⟨1, _⟩ => ⟨S4x64x512, .bf16⟩
  | .hbm, ⟨2, _⟩ => ⟨S4x64x512, .bf16⟩
  | .hbm, ⟨3, _⟩ => ⟨S2x64x512, .f32⟩
  | .hbm, ⟨4, _⟩ => ⟨S2x64x512, .f32⟩
  | .hbm, ⟨5, _⟩ => ⟨S4x64x512, .f32⟩
  | .hbm, ⟨6, _⟩ => ⟨S_, .f32⟩
  | .hbm, ⟨7, _⟩ => ⟨S64x512, .f32⟩
  | .hbm, ⟨8, _⟩ => ⟨S4x64x512, .f32⟩
  | .hbm, ⟨9, _⟩ => ⟨S_, .f32⟩
  | .hbm, ⟨10, _⟩ => ⟨S64x512, .f32⟩
  | .hbm, ⟨11, _⟩ => ⟨S1x64x512, .f32⟩
  | .hbm, ⟨12, _⟩ => ⟨S1x64x512, .f32⟩
  | .hbm, ⟨13, _⟩ => ⟨S2x64x512, .f32⟩
  | .hbm, ⟨14, _⟩ => ⟨S_, .f32⟩
  | .hbm, ⟨15, _⟩ => ⟨S2x64x512, .f32⟩
  | .hbm, ⟨16, _⟩ => ⟨S2x64x512, .f32⟩
  | .hbm, ⟨17, _⟩ => ⟨S_, .f32⟩
  | .hbm, ⟨18, _⟩ => ⟨S2x64x512, .f32⟩
  | .hbm, ⟨19, _⟩ => ⟨S2x64x512, .f32⟩
  | .hbm, ⟨20, _⟩ => ⟨S2x64x512, .f32⟩
  | .hbm, ⟨21, _⟩ => ⟨S_, .f32⟩
  | .hbm, ⟨22, _⟩ => ⟨S2x64x512, .f32⟩
  | .hbm, ⟨23, _⟩ => ⟨S2x64x512, .f32⟩
  | .hbm, ⟨24, _⟩ => ⟨S2x64x512, .f32⟩
  | .hbm, ⟨25, _⟩ => ⟨S_, .f32⟩
  | .hbm, ⟨26, _⟩ => ⟨S2x64x512, .f32⟩
  | .hbm, ⟨27, _⟩ => ⟨S2x64x512, .f32⟩
  | .hbm, ⟨28, _⟩ => ⟨S2x64x512, .f32⟩
  | .hbm, ⟨29, _⟩ => ⟨S_, .f32⟩
  | .hbm, ⟨30, _⟩ => ⟨S2x64x512, .f32⟩
  | .hbm, ⟨31, _⟩ => ⟨S2x64x512, .f32⟩
  | .hbm, ⟨32, _⟩ => ⟨S_, .f32⟩
  | .hbm, ⟨33, _⟩ => ⟨S2x64x512, .f32⟩
  | .hbm, ⟨34, _⟩ => ⟨S2x64x512, .f32⟩
  | .hbm, ⟨35, _⟩ => ⟨S2x64x512, .f32⟩
  | .hbm, ⟨36, _⟩ => ⟨S_, .f32⟩
  | .hbm, ⟨37, _⟩ => ⟨S2x64x512, .f32⟩
  | .hbm, ⟨38, _⟩ => ⟨S2x64x512, .f32⟩
  | .hbm, ⟨39, _⟩ => ⟨S2x64x512, .f32⟩
  | .hbm, ⟨40, _⟩ => ⟨S_, .f32⟩
  | .hbm, ⟨41, _⟩ => ⟨S2x64x512, .f32⟩
  | .hbm, ⟨42, _⟩ => ⟨S2x64x512, .f32⟩
  | .hbm, ⟨43, _⟩ => ⟨S2x64x512, .f32⟩
  | .hbm, ⟨44, _⟩ => ⟨S_, .f32⟩
  | .hbm, ⟨45, _⟩ => ⟨S2x64x512, .f32⟩
  | .hbm, ⟨46, _⟩ => ⟨S2x64x512, .f32⟩
  | .hbm, ⟨47, _⟩ => ⟨S128x512, .f32⟩
  | .hbm, ⟨48, _⟩ => ⟨S128x512, .f32⟩
  | .hbm, ⟨49, _⟩ => ⟨S128x512, .f32⟩
  | .hbm, ⟨50, _⟩ => ⟨S128x512, .f32⟩
  | _, _ => ⟨S2x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]
-- ==== Loss.lean ====
abbrev S2048x1024 : Shape := ⟨2, ![2048, 1024]⟩
abbrev S1x1 : Shape := ⟨2, ![1, 1]⟩
abbrev S256x1024 : Shape := ⟨2, ![256, 1024]⟩
abbrev S256 : Shape := ⟨1, ![256]⟩
abbrev S256x1 : Shape := ⟨2, ![256, 1]⟩
abbrev S1 : Shape := ⟨1, ![1]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1x1, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossRefIdeal.lean ====
abbrev S2048x1024 : Shape := ⟨2, ![2048, 1024]⟩
abbrev S_ : Shape := ⟨0, ![]⟩
abbrev S2048 : Shape := ⟨1, ![2048]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S2048x1024, .f32⟩
  | .hbm, ⟨24, _⟩ => ⟨S2048x1024, .f32⟩
  | .hbm, ⟨25, _⟩ => ⟨S1x1, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== SumSmall.lean ====
abbrev S8x2304x128 : Shape := ⟨3, ![8, 2304, 128]⟩
abbrev S2304x128 : Shape := ⟨2, ![2304, 128]⟩
abbrev S8x256x128 : Shape := ⟨3, ![8, 256, 128]⟩
abbrev S256x128 : Shape := ⟨2, ![256, 128]⟩
abbrev S1x256x128 : Shape := ⟨3, ![1, 256, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x2304x128, .f32⟩
  | .hbm, ⟨1, _⟩ => ⟨S2304x128, .f32⟩
  | .local _ .vmem, ⟨0, _⟩ => ⟨S8x256x128, .f32⟩
  | .local _ .vmem, ⟨1, _⟩ => ⟨S8x256x128, .f32⟩
  | .local _ .vmem, ⟨2, _⟩ => ⟨S256x128, .f32⟩
  | .local _ .vmem, ⟨3, _⟩ => ⟨S256x128, .f32⟩
  | _, _ => ⟨S8x2304x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![9], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumSmallRefIdeal.lean ====
abbrev S8x2304x128 : Shape := ⟨3, ![8, 2304, 128]⟩
abbrev S_ : Shape := ⟨0, ![]⟩
abbrev S2304x128 : Shape := ⟨2, ![2304, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x2304x128, .f32⟩
  | .hbm, ⟨1, _⟩ => ⟨S_, .f32⟩
  | .hbm, ⟨2, _⟩ => ⟨S2304x128, .f32⟩
  | _, _ => ⟨S8x2304x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Products.lean ====
module

public import Idealize.ShloMosaic.Lib.Pipeline.ValueKit
public import Idealize.ShloMosaic.Lib.Pointwise

/-!
# The products of the input projection, and the sum that a blocked product accumulates

A projection `h · w` has two gradients, `hᵀ · d` and `d · wᵀ`.  The kernel computes each product block by block, the
contracted axis in steps; the first step sets the block (or adds what is to be added to), a later one adds to it.
-/

@[expose] public section

noncomputable section

namespace Product

open Idealize.ShloMosaic

/-- A matrix of `n` rows and `w` columns. -/
abbrev Mat (n w : ℕ) := (⟨2, ![n, w]⟩ : Shape).Idx → EReal

/-- `a · b`. -/
def nn {n k w : ℕ} (a : Mat n k) (b : Mat k w) : Mat n w := fun i => ∑ l : Fin k, a (ix2 (i 0) l) * b (ix2 l (i 1))
/-- `aᵀ · b`. -/
def tn {n k w : ℕ} (a : Mat k n) (b : Mat k w) : Mat n w := fun i => ∑ l : Fin k, a (ix2 l (i 0)) * b (ix2 l (i 1))
/-- `a · bᵀ`. -/
def nt {n k w : ℕ} (a : Mat n k) (b : Mat w k) : Mat n w := fun i => ∑ l : Fin k, a (ix2 (i 0) l) * b (ix2 (i 1) l)
/-- `w` of a matrix's columns, from column `o` on. -/
def cols {n v : ℕ} (b : Mat n v) (o w : ℕ) (h : o + w ≤ v) : Mat n w := fun i =>
  b (ix2 (i 0) ⟨o + (i 1).val, by have e : (i 1).val < w := (i 1).isLt; omega⟩)

/-- A matrix's row. -/
abbrev row {n w : ℕ} (a : Mat n w) (r : Fin n) : Fin w → EReal := fun k => a (ix2 r k)

/-- `b` added to `a`. -/
def onto {n w : ℕ} (a b : Mat n w) : Mat n w := fun i => a i + b i

/-- `a · b` of blocks that hold what the whole matrices hold. -/
theorem nn_congr {k p q n w : ℕ} (x : Mat p k) (z : Mat k q) (a : Mat n k) (b : Mat k w)
    (y : (⟨2, ![p, q]⟩ : Shape).Idx) (i : (⟨2, ![n, w]⟩ : Shape).Idx)
    (hx : ∀ l, x (ix2 (y 0) l) = a (ix2 (i 0) l)) (hz : ∀ l, z (ix2 l (y 1)) = b (ix2 l (i 1))) : nn x z y = nn a b i := by
  unfold nn
  exact Finset.sum_congr rfl fun l _ => by rw [hx, hz]

/-- `a · bᵀ` of blocks that hold what the whole matrices hold. -/
theorem nt_congr {k p q n w : ℕ} (x : Mat p k) (z : Mat q k) (a : Mat n k) (b : Mat w k)
    (y : (⟨2, ![p, q]⟩ : Shape).Idx) (i : (⟨2, ![n, w]⟩ : Shape).Idx)
    (hx : ∀ l, x (ix2 (y 0) l) = a (ix2 (i 0) l)) (hz : ∀ l, z (ix2 (y 1) l) = b (ix2 (i 1) l)) : nt x z y = nt a b i := by
  unfold nt
  exact Finset.sum_congr rfl fun l _ => by rw [hx, hz]

/-- A block that a run of `J` points sets to `term + start` and then adds to holds, after the run, `start` of the run's
first point and the sum of all its terms. -/
theorem run_sum {N J : ℕ} [NeZero J] {ι : Type*} (f : (n : ℕ) → n < N → ι → EReal) (start term : Fin N → ι → EReal)
    (h0 : ∀ t : Fin N, t.val % J = 0 → ∀ i, f t.val t.isLt i = term t i + start t i)
    (hs : ∀ t : Fin N, ¬t.val % J = 0 → ∀ i,
      f t.val t.isLt i = f (t.val - 1) (Nat.lt_of_le_of_lt (Nat.sub_le _ _) t.isLt) i + term t i)
    (t : Fin N) (hr : t.val % J = J - 1) (i : ι) :
    f t.val t.isLt i = start ⟨J * (t.val / J), lt_of_le_of_lt (Nat.mul_div_le _ _) t.isLt⟩ i
      + ∑ s : Fin J, term ⟨J * (t.val / J) + s.val, Pipeline.run_point_lt_of_flush t hr s⟩ i := by
  rw [Pipeline.eq_sum_fin_of_reset_step_apply_of_flush f J (fun _ => 0)
    (fun p i => (if p.val % J = 0 then start p i else 0) + term p i)
    (fun p h i => by rw [h0 p h, if_pos h, zero_add, add_comm])
    (fun p h i => by rw [hs p h, if_neg h, zero_add]) t hr i, zero_add, Finset.sum_add_distrib]
  congr 1
  rw [Finset.sum_eq_single (0 : Fin J)]
  · rw [if_pos (by simp)]
    congr 2
  · intro s _ hne
    rw [if_neg]
    intro h
    rw [Nat.mul_add_mod, Nat.mod_eq_of_lt s.isLt] at h
    exact hne (Fin.ext (by rw [h]; rfl))
  · intro h
    exact absurd (Finset.mem_univ _) h

/-- A block that holds, after a run's first point, a sum over `e` rows, and to which each later point adds one, holds the
sum over all the rows at the run's end. -/
theorem sum_run {N J e k : ℕ} [NeZero J] {ι : Type*} (f : (u : ℕ) → u < N → ι → EReal) (p : Fin N → Fin e → ι → EReal)
    (q : Fin k → ι → EReal) (h0 : ∀ t : Fin N, t.val % J = 0 → ∀ y, f t.val t.isLt y = ∑ l, p t l y)
    (hs : ∀ t : Fin N, ¬t.val % J = 0 → ∀ y,
      f t.val t.isLt y = f (t.val - 1) (Nat.lt_of_le_of_lt (Nat.sub_le _ _) t.isLt) y + ∑ l, p t l y)
    (t : Fin N) (hr : t.val % J = J - 1) (y i : ι) (hk : k = J * e) (hy : y = i)
    (hp : ∀ (s : Fin J) l (hl : s.val * e + l.val < k),
      p ⟨J * (t.val / J) + s.val, Pipeline.run_point_lt_of_flush t hr s⟩ l i = q ⟨s.val * e + l.val, hl⟩ i) :
    f t.val t.isLt y = ∑ r, q r i := by
  rw [run_sum f (fun _ _ => 0) (fun t y => ∑ l, p t l y) (fun t h y => (h0 t h y).trans (add_zero _).symm) hs t hr y, zero_add, hy]
  exact Fin.sum_mul_add_congr hp hk

/-- A block that holds, after a run's first point, a product of `e` rows, and to which each later point adds one, holds
`aᵀ · b` at the run's end. -/
theorem tn_run {N J e k p q n w : ℕ} [NeZero J] (f : (u : ℕ) → u < N → Mat p q) (x : Fin N → Mat e p) (z : Fin N → Mat e q)
    (a : Mat k n) (b : Mat k w) (h0 : ∀ t : Fin N, t.val % J = 0 → ∀ y, f t.val t.isLt y = tn (x t) (z t) y)
    (hs : ∀ t : Fin N, ¬t.val % J = 0 → ∀ y,
      f t.val t.isLt y = f (t.val - 1) (Nat.lt_of_le_of_lt (Nat.sub_le _ _) t.isLt) y + tn (x t) (z t) y)
    (t : Fin N) (hr : t.val % J = J - 1) (y : (⟨2, ![p, q]⟩ : Shape).Idx) (i : (⟨2, ![n, w]⟩ : Shape).Idx) (hk : k = J * e)
    (hx : ∀ (s : Fin J) l (hl : s.val * e + l.val < k),
      x ⟨J * (t.val / J) + s.val, Pipeline.run_point_lt_of_flush t hr s⟩ (ix2 l (y 0)) = a (ix2 ⟨s.val * e + l.val, hl⟩ (i 0)))
    (hz : ∀ (s : Fin J) l (hl : s.val * e + l.val < k),
      z ⟨J * (t.val / J) + s.val, Pipeline.run_point_lt_of_flush t hr s⟩ (ix2 l (y 1)) = b (ix2 ⟨s.val * e + l.val, hl⟩ (i 1))) :
    f t.val t.isLt y = tn a b i := by
  rw [run_sum f (fun _ _ => 0) (fun t => tn (x t) (z t)) (fun t h y => (h0 t h y).trans (add_zero _).symm) hs t hr y, zero_add]
  unfold tn
  exact Fin.sum_mul_add_congr (fun s l hl => by rw [hx, hz]) hk

/-- The same of `a · bᵀ`, `e` columns at a point, where the run's first point adds the product to a block of `d`. -/
theorem nt_run {N J e k p q n w : ℕ} [NeZero J] (f : (u : ℕ) → u < N → Mat p q) (v : Fin N → Mat p q) (x : Fin N → Mat p e)
    (z : Fin N → Mat q e) (d : Mat n w) (a : Mat n k) (b : Mat w k)
    (h0 : ∀ t : Fin N, t.val % J = 0 → ∀ y, f t.val t.isLt y = nt (x t) (z t) y + v t y)
    (hs : ∀ t : Fin N, ¬t.val % J = 0 → ∀ y,
      f t.val t.isLt y = f (t.val - 1) (Nat.lt_of_le_of_lt (Nat.sub_le _ _) t.isLt) y + nt (x t) (z t) y)
    (t : Fin N) (hr : t.val % J = J - 1) (y : (⟨2, ![p, q]⟩ : Shape).Idx) (i : (⟨2, ![n, w]⟩ : Shape).Idx) (hk : k = J * e)
    (hv : v ⟨J * (t.val / J), lt_of_le_of_lt (Nat.mul_div_le _ _) t.isLt⟩ y = d i)
    (hx : ∀ (s : Fin J) l (hl : s.val * e + l.val < k),
      x ⟨J * (t.val / J) + s.val, Pipeline.run_point_lt_of_flush t hr s⟩ (ix2 (y 0) l) = a (ix2 (i 0) ⟨s.val * e + l.val, hl⟩))
    (hz : ∀ (s : Fin J) l (hl : s.val * e + l.val < k),
      z ⟨J * (t.val / J) + s.val, Pipeline.run_point_lt_of_flush t hr s⟩ (ix2 (y 1) l) = b (ix2 (i 1) ⟨s.val * e + l.val, hl⟩)) :
    f t.val t.isLt y = onto d (nt a b) i := by
  rw [run_sum f v (fun t => nt (x t) (z t)) h0 hs t hr y, hv]
  unfold onto nt
  exact congrArg (d i + ·) (Fin.sum_mul_add_congr (fun s l hl => by rw [hx, hz]) hk)

end Product

end
-- ==== Proof.Norm.lean ====
module

public import proofs.«01_k».proof.Defs
public import proofs.«01_k».proof.Proof.Products
public import proofs.«01_k».proof.Proof.Gen.NormBwdIdeal.Value
public import proofs.«01_k».proof.Proof.Gen.NormBwdRefIdeal.Read
public import proofs.«01_k».proof.Proof.Gen.NormBwdRefIdeal.Run
public import proofs.«01_k».proof.Proof.Gen.NormFwdIdeal.Value
public import proofs.«01_k».proof.Proof.Gen.NormFwdRefIdeal.Read
public import proofs.«01_k».proof.Proof.Gen.NormFwdRefIdeal.Run
public import Idealize.ShloMosaic.Lib.IdealHost
public import Idealize.ShloMosaic.Adequacy
public import Idealize.ShloMosaic.Init

/-!
# The root-mean-square norm and its gradients

A row `x` is divided by its root mean square and multiplied by the norm's weights.  The gradient of a row needs that row
only; the weights' gradient is summed over the rows, which the kernel does tile by tile.
-/

@[expose] public section

set_option maxRecDepth 16384

noncomputable section

open Idealize.ShloMosaic Idealize.ShloMosaic.TcCoe Idealize.SL.Sem Product

namespace Norm

/-- A row. -/
abbrev Row := Fin 1024 → EReal

/-- A row's mean square, and the small constant. -/
def ms (x : Row) : EReal :=
  Ideal.div (∑ k, x k * x k) (Ideal.ofBits .f32 0x44800000#32) + Ideal.ofBits .f32 0x358637BD#32
/-- The reciprocal root. -/
def rinv (x : Row) : EReal := Ideal.rsqrt (ms x)
/-- Its derivative. -/
def dinv (x : Row) : EReal := Ideal.ofBits .f32 0xBF000000#32 * Ideal.div (rinv x) (ms x)
/-- The normalised row. -/
def fwd (x g : Row) : Row := fun j => x j * rinv x * g j
/-- The gradient of a row's mean square, per element of the row. -/
def dms (x g d : Row) : EReal := Ideal.div ((∑ k, x k * (d k * g k)) * dinv x) (Ideal.ofBits .f32 0x44800000#32)
/-- The row's gradient. -/
def bwd (x g d : Row) : Row := fun j => d j * g j * rinv x + x j * dms x g d + dms x g d * x j

/-- A row's term of the weights' gradient. -/
def part {n : ℕ} (x d : Mat n 1024) (r : Fin n) (j : Fin 1024) : EReal := x (ix2 r j) * rinv (row x r) * d (ix2 r j)
/-- The weights' gradient, summed over the rows. -/
def dg {n : ℕ} (x d : Mat n 1024) : Mat 1 1024 := fun i => ∑ r : Fin n, part x d r (i 1)

/-- A row that a block holds gives the same term of the weights' gradient. -/
theorem part_congr {e k : ℕ} (x d : Mat e 1024) (a b : Mat k 1024) (l : Fin e) (r : Fin k)
    (hx : ∀ c, x (ix2 l c) = a (ix2 r c)) (hd : ∀ c, d (ix2 l c) = b (ix2 r c)) (j : Fin 1024) : part x d l j = part a b r j := by
  unfold part
  rw [show row x l = row a r from funext hx, hx, hd]

end Norm

open Norm

namespace Cert.NormBwdIdeal.Product

open Cert.NormBwdIdeal Cert.NormBwdIdeal.Gen

/-- A tile's gradient, row by row. -/
theorem tile (x : FVec Ideal S256x1024 .f32) (g : FVec Ideal S1x1024 .f32) (d e : FVec Ideal S256x1024 .f32) (r : Fin 256) (j : Fin 1024) :
    k0_pay1 (F := Ideal) (k0_pay7 x g d) e (ix2 r j) = bwd (row x r) (row g 0) (row d r) j + e (ix2 r j) := by
  pointwise [k0_pay1, k0_pay7, k0_pay5, k0_pay4]
  simp only [Fin.sum_univ_one]
  rfl

/-- A tile's share of the weights' gradient. -/
theorem share (x d : FVec Ideal S256x1024 .f32) (y : S1x1024.Idx) : k0_pay6 (F := Ideal) x d y = dg x d y := by
  idx_vars y
  pointwise [k0_pay6, k0_pay5, k0_pay4]
  rfl

/-- What the first point leaves of the weights' gradient. -/
theorem first (x d : FVec Ideal S256x1024 .f32) (y : S1x1024.Idx) : k0_pay2 (F := Ideal) (k0_pay6 x d) (k0_pay3 (F := Ideal)) y = dg x d y := by
  pointwise [k0_pay2, k0_pay3]
  exact share x d y

/-- What a later point leaves of it. -/
theorem later (x d : FVec Ideal S256x1024 .f32) (v : FVec Ideal S1x1024 .f32) (y : S1x1024.Idx) :
    k0_pay2 (F := Ideal) (k0_pay6 x d) v y = v y + dg x d y := by
  pointwise [k0_pay2]
  rw [share]

/-- The blocks' indices. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] :=
  (by decide +kernel : ∀ t : Fin grid0.N, win0_0.index t = ![t.val, 0] ∧ win0_1.index t = ![0, 0] ∧ win0_2.index t = ![t.val, 0]
    ∧ win0_3.index t = ![t.val, 0] ∧ win0_4.index t = ![t.val, 0] ∧ win0_5.index t = ![0, 0])

variable (m : (ℓ : Loc nD τ sig) → Buf (Elt Ideal) ℓ)

/-- The weights as the call gets them: one row. -/
theorem V_v0 (c : Dev nD) : V m c main_v0 = fun y : S1x1024.Idx => m ((c : Thread nD τ).loc main_arg1) (ix1 (y 1)) := by
  show StableHlo.after hostOps0 (fun b => m (c, b)) main_v0 = _
  unfold hostOps0
  after_results_simp
  funext y
  idx_vars y
  pointwise

/-- A point's rows of the input. -/
theorem blk0 (c : Dev nD) (t : Fin cfg0.N) (r : Fin 256) (p : t.val * 256 + r.val < 2048) (k : Fin 1024) :
    iblk m c 0 t (ix2 r k) = m ((c : Thread nD τ).loc main_arg0) (ix2 ⟨t.val * 256 + r.val, p⟩ k) := by
  obtain ⟨e, -⟩ := idx t
  blk_simp [iblk]
  exact (congrFun (V_main_arg0 m c) _).trans (congrArg (m ((c : Thread nD τ).loc main_arg0)) (by blk_ext [e, ix2]))

/-- A point's rows of the cotangent. -/
theorem blk2 (c : Dev nD) (t : Fin cfg0.N) (r : Fin 256) (p : t.val * 256 + r.val < 2048) (k : Fin 1024) :
    iblk m c 2 t (ix2 r k) = m ((c : Thread nD τ).loc main_arg2) (ix2 ⟨t.val * 256 + r.val, p⟩ k) := by
  obtain ⟨-, -, e, -⟩ := idx t
  blk_simp [iblk]
  exact (congrFun (V_main_arg2 m c) _).trans (congrArg (m ((c : Thread nD τ).loc main_arg2)) (by blk_ext [e, ix2]))

/-- A point's rows of the residual's cotangent. -/
theorem blk3 (c : Dev nD) (t : Fin cfg0.N) (r : Fin 256) (p : t.val * 256 + r.val < 2048) (k : Fin 1024) :
    iblk m c 3 t (ix2 r k) = m ((c : Thread nD τ).loc main_arg3) (ix2 ⟨t.val * 256 + r.val, p⟩ k) := by
  obtain ⟨-, -, -, e, -⟩ := idx t
  blk_simp [iblk]
  exact (congrFun (V_main_arg3 m c) _).trans (congrArg (m ((c : Thread nD τ).loc main_arg3)) (by blk_ext [e, ix2]))

/-- The weights. -/
theorem blk1 (c : Dev nD) (t : Fin cfg0.N) (k : Fin 1024) :
    iblk m c 1 t (ix2 0 k) = m ((c : Thread nD τ).loc main_arg1) (ix1 k) := by
  obtain ⟨-, e, -⟩ := idx t
  blk_simp [iblk]
  exact (congrFun (V_v0 m c) _).trans (congrArg (m ((c : Thread nD τ).loc main_arg1)) (by blk_ext [e, ix1]))

/-- The input's gradient, of the whole arrays. -/
def dx (x : Mat 2048 1024) (g : (⟨1, ![1024]⟩ : Shape).Idx → EReal) (d e : Mat 2048 1024) : Mat 2048 1024 := fun i =>
  bwd (row x (i 0)) (fun k => g (ix1 k)) (row d (i 0)) (i 1) + e i

/-- A tile's gradient is the whole arrays' on its rows. -/
theorem tile_at (c : Dev nD) (t : Fin cfg0.N) (r : Fin 256) (p : t.val * 256 + r.val < 2048) (j : Fin 1024) :
    k0_pay1 (F := Ideal) (k0_pay7 (iblk m c 0 t) (iblk m c 1 t) (iblk m c 2 t)) (iblk m c 3 t) (ix2 r j)
      = dx (m ((c : Thread nD τ).loc main_arg0)) (m ((c : Thread nD τ).loc main_arg1)) (m ((c : Thread nD τ).loc main_arg2))
        (m ((c : Thread nD τ).loc main_arg3)) (ix2 ⟨t.val * 256 + r.val, p⟩ j) := by
  refine (tile _ _ _ _ r j).trans ?_
  rw [show row (iblk m c 0 t) r = _ from funext (blk0 m c t r p), show row (iblk m c 2 t) r = _ from funext (blk2 m c t r p),
    show row (iblk m c 1 t) 0 = _ from funext (blk1 m c t), blk3 m c t r p]
  rfl

/-- The input's gradient. -/
theorem arr4 (c : Dev nD) : (dats m 0 c).arrAt 4 cfg0.N
    = dx (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  obtain ⟨-, -, -, -, e, -⟩ := idx t
  have ht : t.val < 8 := lt_of_lt_of_eq t.isLt N_0
  blk_simp
  rw [after0_4]
  idx_vars y
  refine Eq.trans ?_ ((tile_at m c t y0 (by omega) y1).trans (congrArg (dx _ _ _ _) (by blk_ext [e, ix2])))
  by_cases h0 : t.val % 8 = 0
  · rw [outsAt0_A m c t h0]
    frame_out
  · rw [outsAt0_B m c t h0]
    frame_out

/-- The weights' gradient. -/
theorem arr5 (c : Dev nD) : (dats m 0 c).arrAt 5 cfg0.N
    = dg (n := 2048) (m ((c : Thread nD τ).loc main_arg0)) (m ((c : Thread nD τ).loc main_arg2)) := by
  refine (dats m 0 c).arrAt_eq_of_covers 5 _ (by decide +kernel) fun t hf y => ?_
  obtain ⟨-, -, -, -, -, e⟩ := idx t
  have ht : t.val < 8 := lt_of_lt_of_eq t.isLt N_0
  have h7 := (flush0_5 t).mp hf
  blk_simp
  rw [after0_5]
  refine sum_run (J := 8) (fun u h => (outsAt0 m c u h).2) (fun t l y => part (n := 256) (iblk m c 0 t) (iblk m c 2 t) l (y 1))
    (fun r y => part (n := 2048) _ _ r (y 1))
    (fun t h y => by rw [outsAt0_A m c t h]; frame_out; exact first _ _ _)
    (fun t h y => by rw [outsAt0_B m c t h]; frame_out; exact later _ _ _ _)
    t h7 y _ rfl (by blk_ext [e]) (fun s l hl => part_congr _ _ _ _ _ _ (fun k => ?_) (fun k => ?_) _)
  · exact (blk0 m c _ l (by dsimp only; omega) k).trans
      (congrArg (m ((c : Thread nD τ).loc main_arg0)) (by blk_ext [ix2]))
  · exact (blk2 m c _ l (by dsimp only; omega) k).trans
      (congrArg (m ((c : Thread nD τ).loc main_arg2)) (by blk_ext [ix2]))

end Cert.NormBwdIdeal.Product

namespace Cert.NormFwdIdeal.Product

open Cert.NormFwdIdeal Cert.NormFwdIdeal.Gen

/-- A tile, normalised row by row. -/
theorem tile (x : FVec Ideal S256x1024 .f32) (g : FVec Ideal S1x1024 .f32) (r : Fin 256) (j : Fin 1024) :
    k0_pay1 (F := Ideal) x g (ix2 r j) = fwd (row x r) (row g 0) j := by
  pointwise [k0_pay1]
  rfl

/-- The blocks' indices. -/
theorem idx : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

variable (m : (ℓ : Loc nD τ sig) → Buf (Elt Ideal) ℓ)

/-- The weights as the call gets them: one row. -/
theorem V_v0 (c : Dev nD) : V m c main_v0 = fun y : S1x1024.Idx => m ((c : Thread nD τ).loc main_arg1) (ix1 (y 1)) := by
  show StableHlo.after hostOps0 (fun b => m (c, b)) main_v0 = _
  unfold hostOps0
  after_results_simp
  funext y
  idx_vars y
  pointwise

/-- A point's rows of the input. -/
theorem blk0 (c : Dev nD) (t : Fin cfg0.N) (r : Fin 256) (p : t.val * 256 + r.val < 2048) (k : Fin 1024) :
    iblk m c 0 t (ix2 r k) = m ((c : Thread nD τ).loc main_arg0) (ix2 ⟨t.val * 256 + r.val, p⟩ k) := by
  obtain ⟨e, -⟩ := idx t
  blk_simp [iblk]
  exact (congrFun (V_main_arg0 m c) _).trans (congrArg (m ((c : Thread nD τ).loc main_arg0)) (by blk_ext [e, ix2]))

/-- The weights. -/
theorem blk1 (c : Dev nD) (t : Fin cfg0.N) (k : Fin 1024) :
    iblk m c 1 t (ix2 0 k) = m ((c : Thread nD τ).loc main_arg1) (ix1 k) := by
  obtain ⟨-, e, -⟩ := idx t
  blk_simp [iblk]
  exact (congrFun (V_v0 m c) _).trans (congrArg (m ((c : Thread nD τ).loc main_arg1)) (by blk_ext [e, ix1]))

/-- The whole input, normalised. -/
def whole (x : Mat 2048 1024) (g : (⟨1, ![1024]⟩ : Shape).Idx → EReal) : Mat 2048 1024 := fun i =>
  fwd (row x (i 0)) (fun k => g (ix1 k)) (i 1)

/-- A normalised tile is the whole array's on its rows. -/
theorem tile_at (c : Dev nD) (t : Fin cfg0.N) (r : Fin 256) (p : t.val * 256 + r.val < 2048) (j : Fin 1024) :
    k0_pay1 (F := Ideal) (iblk m c 0 t) (iblk m c 1 t) (ix2 r j)
      = whole (m ((c : Thread nD τ).loc main_arg0)) (m ((c : Thread nD τ).loc main_arg1)) (ix2 ⟨t.val * 256 + r.val, p⟩ j) := by
  refine (tile _ _ r j).trans ?_
  rw [show row (iblk m c 0 t) r = _ from funext (blk0 m c t r p), show row (iblk m c 1 t) 0 = _ from funext (blk1 m c t)]
  rfl

/-- The array after the run is the whole input, normalised. -/
theorem arr (c : Dev nD) : (dats m 0 c).arrAt 2 cfg0.N
    = whole (m ((c : Thread nD τ).loc main_arg0)) (m ((c : Thread nD τ).loc main_arg1)) := by
  refine (dats m 0 c).arrAt_eq_of_covers 2 _ (by decide +kernel) fun t hf y => ?_
  obtain ⟨-, -, e⟩ := idx t
  have ht : t.val < 8 := lt_of_lt_of_eq t.isLt N_0
  blk_simp
  rw [after0_2]
  idx_vars y
  refine Eq.trans ?_ ((tile_at m c t y0 (by omega) y1).trans (congrArg (whole _ _) (by blk_ext [e, ix2])))
  unfold out0_2
  frame_out

end Cert.NormFwdIdeal.Product

namespace Cert.NormFwdRefIdeal.Product

open Cert.NormFwdRefIdeal Cert.NormFwdRefIdeal.Read Cert.NormFwdIdeal.Product

/-- The reference's norm. -/
theorem ref (x : FVec Ideal S2048x1024 .f32) (g : FVec Ideal S1024 .f32) : val_main_v13 (F := Ideal) x g = whole x g := by
  funext y
  idx_vars y
  rw [← val_main_v13_eq]
  pointwise
  rfl

/-- The reference leaves its arguments, and has no semaphore. -/
theorem frame : Cert.quiescent_NormFwdRefIdeal (hNormFwdRefIdeal := Gen.facts) := fun m g _ =>
  (θ_run _ _ _).mono (fun r h => ⟨fun c => (h c).2, sem_eq_zero_of_no_sems (by decide) r.2⟩) (Value.run (F := Ideal) m g)

/-- The kernel's norm is the reference's. -/
theorem algebraic : Cert.algebraic_NormFwdIdeal_NormFwdRefIdeal (hNormFwdIdeal := Cert.NormFwdIdeal.Gen.facts)
    (hNormFwdRefIdeal := Gen.facts) :=
  fun m g m' g' _ hargs => ⟨fun c => _,
    (θ_run _ _ _).mono (fun r h c => ⟨(h c).1.trans (arr m c), (h c).2⟩) (Cert.NormFwdIdeal.Value.run_blocks (F := Ideal) m g),
    (θ_run _ _ _).mono (fun r h c => ⟨(h c).1.trans ((val_main_v13_eq _ _).trans
        (by rw [(hargs c).1, (hargs c).2]; exact ref _ _)), (h c).2⟩)
      (Value.run (F := Ideal) m' g')⟩

end Cert.NormFwdRefIdeal.Product

namespace Cert.NormBwdRefIdeal.Product

open Cert.NormBwdRefIdeal Cert.NormBwdRefIdeal.Read Cert.NormBwdIdeal.Product

/-- The reference's input gradient. -/
theorem ref0 (x : FVec Ideal S2048x1024 .f32) (g : FVec Ideal S1024 .f32) (d e : FVec Ideal S2048x1024 .f32) :
    val_main_v36 (F := Ideal) x g d e = dx x g d e := by
  funext y
  idx_vars y
  rw [← val_main_v36_eq]
  pointwise
  simp only [Fin.sum_univ_one]
  rfl

/-- The reference's weights' gradient. -/
theorem ref1 (x d : FVec Ideal S2048x1024 .f32) : val_main_v37 (F := Ideal) x d = dg x d := by
  funext y
  idx_vars y
  rw [← val_main_v37_eq]
  pointwise
  simp only [Fin.sum_univ_one]
  rfl

/-- The reference leaves its arguments, and has no semaphore. -/
theorem frame : Cert.quiescent_NormBwdRefIdeal (hNormBwdRefIdeal := Gen.facts) := fun m g _ =>
  (θ_run _ _ _).mono (fun r h => ⟨fun c => (h c).2.2, sem_eq_zero_of_no_sems (by decide) r.2⟩) (Value.run (F := Ideal) m g)

/-- The kernel's gradients are the reference's. -/
theorem algebraic : Cert.algebraic_NormBwdIdeal_NormBwdRefIdeal (hNormBwdIdeal := Cert.NormBwdIdeal.Gen.facts)
    (hNormBwdRefIdeal := Gen.facts) :=
  fun m g m' g' _ hargs => ⟨fun c => _, fun c => _,
    (θ_run _ _ _).mono (fun r h c => ⟨(h c).1.trans (arr4 m c), (h c).2.1.trans (arr5 m c), (h c).2.2⟩)
      (Cert.NormBwdIdeal.Value.run_blocks (F := Ideal) m g),
    (θ_run _ _ _).mono (fun r h c => ⟨(h c).1.trans ((val_main_v36_eq _ _ _ _).trans
        (by rw [(hargs c).1, (hargs c).2.1, (hargs c).2.2.1, (hargs c).2.2.2]; exact ref0 _ _ _ _)),
      (h c).2.1.trans ((val_main_v37_eq _ _).trans (by rw [(hargs c).1, (hargs c).2.2.1]; exact ref1 _ _)), (h c).2.2⟩)
      (Value.run (F := Ideal) m' g')⟩

end Cert.NormBwdRefIdeal.Product
end
-- ==== Proof.Post.lean ====
module

public import proofs.«01_k».proof.Defs
public import proofs.«01_k».proof.Proof.Products
public import proofs.«01_k».proof.Proof.Gen.PostBwdIdeal.Value
public import proofs.«01_k».proof.Proof.Gen.PostBwdRefIdeal.Read
public import proofs.«01_k».proof.Proof.Gen.PostBwdRefIdeal.Run
public import proofs.«01_k».proof.Proof.Gen.PostFwdIdeal.Value
public import proofs.«01_k».proof.Proof.Gen.PostFwdRefIdeal.Read
public import proofs.«01_k».proof.Proof.Gen.PostFwdRefIdeal.Run
public import Idealize.ShloMosaic.Lib.IdealHost
public import Idealize.ShloMosaic.Adequacy
public import Idealize.ShloMosaic.Init

/-!
# The state-space mixer's output stage and its gradients

A row of the scan's output gets its skip, goes through `gelu`, and is gated by the sigmoid of its own projection.  The
gradients of a row need that row, the skip's weights and the projection; the weights' gradients are summed over the rows.
-/

@[expose] public section

set_option maxRecDepth 16384

noncomputable section

open Idealize.ShloMosaic Idealize.ShloMosaic.TcCoe Idealize.SL.Sem Product

namespace Post

/-- A row. -/
abbrev Row := Fin 512 → EReal

/-! ## `gelu`, at one element -/

/-- `3 v²`. -/
def sq3 (v : EReal) : EReal := Ideal.ofBits .f32 0x40400000#32 * (v * v)
/-- The hyperbolic tangent of the cubic polynomial. -/
def th (v : EReal) : EReal :=
  Ideal.tanh (Ideal.ofBits .f32 0x3F4C422A#32 * (v + Ideal.ofBits .f32 0x3D372713#32 * (v * (v * v))))
/-- The factor of `v`. -/
def half (v : EReal) : EReal := Ideal.ofBits .f32 0x3F000000#32 * (1 + th v)
/-- The cotangent `e` through the polynomial, before its cube. -/
def poly (v e : EReal) : EReal :=
  Ideal.ofBits .f32 0x3F4C422A#32 * (Ideal.ofBits .f32 0x3F000000#32 * (v * e) * ((1 + th v) * (1 - th v)))
/-- The cotangent `e` through `gelu`. -/
def dgelu (v e : EReal) : EReal := e * half v + poly v e + Ideal.ofBits .f32 0x3D372713#32 * poly v e * sq3 v

/-! ## A row -/

variable (y u s : Row) (w : Mat 512 512) (b e : Row)

/-- The row with its skip. -/
def pre : Row := fun j => y j + s j * u j
/-- The row after `gelu`. -/
def z : Row := fun j => pre y u s j * half (pre y u s j)
/-- The gate, under the sigmoid. -/
def gate : Row := fun j => Ideal.logistic ((∑ k, z y u s k * w (ix2 k j)) + b j)
/-- The row after the stage. -/
def fwd : Row := fun j => z y u s j * gate y u s w b j
/-- The gradient of the gate's argument. -/
def dt : Row := fun j => z y u s j * e j * (gate y u s w b j * (1 - gate y u s w b j))
/-- The gradient of the row after `gelu`. -/
def dz : Row := fun j => e j * gate y u s w b j + ∑ k, dt y u s w b e k * w (ix2 j k)
/-- The gradient of the row with its skip. -/
def dpre : Row := fun j => dgelu (pre y u s j) (dz y u s w b e j)

end Post

namespace Post

/-! ## The arrays -/

/-- One row of weights. -/
abbrev Vec1 := (⟨1, ![512]⟩ : Shape).Idx → EReal
/-- A vector's entries. -/
abbrev ent (a : Vec1) : Row := fun k => a (ix1 k)

variable {n : ℕ} (y u : Mat n 512) (s : Row) (w : Mat 512 512) (b : Row) (e : Mat n 512)

/-- The stage, row by row. -/
def resFwd : Mat n 512 := fun i => fwd (row y (i 0)) (row u (i 0)) s w b (i 1)
/-- The gradient of the scan's output. -/
def resY : Mat n 512 := fun i => dpre (row y (i 0)) (row u (i 0)) s w b (row e (i 0)) (i 1)
/-- The gradient of the mixer's input, through the skip. -/
def resU : Mat n 512 := fun i => s (i 1) * resY y u s w b e i
/-- A row's term of the gate's projection's gradient. -/
def termW (r : Fin n) (i : (⟨2, ![512, 512]⟩ : Shape).Idx) : EReal :=
  z (row y r) (row u r) s (i 0) * dt (row y r) (row u r) s w b (row e r) (i 1)
/-- A row's term of the gate's bias's gradient. -/
def termB (r : Fin n) (i : (⟨2, ![1, 512]⟩ : Shape).Idx) : EReal := dt (row y r) (row u r) s w b (row e r) (i 1)
/-- A row's term of the skip's weights' gradient. -/
def termD (r : Fin n) (i : (⟨2, ![1, 512]⟩ : Shape).Idx) : EReal :=
  dpre (row y r) (row u r) s w b (row e r) (i 1) * u (ix2 r (i 1))
/-- The gate's projection's gradient. -/
def resW : Mat 512 512 := fun i => ∑ r : Fin n, termW y u s w b e r i
/-- The gate's bias's gradient. -/
def resB : Mat 1 512 := fun i => ∑ r : Fin n, termB y u s w b e r i
/-- The skip's weights' gradient. -/
def resD : Mat 1 512 := fun i => ∑ r : Fin n, termD y u s w b e r i

end Post

open Post

namespace Cert.PostBwdIdeal.Product

open Cert.PostBwdIdeal Cert.PostBwdIdeal.Gen

variable (x0 x1 : FVec Ideal S256x512 .f32) (x2 : FVec Ideal S1x512 .f32) (x3 : FVec Ideal S512x512 .bf16)
  (x4 : FVec Ideal S1x512 .f32) (x5 : FVec Ideal S256x512 .f32) (r : Fin 256) (j : Fin 512)

/-- A tile's row with its skip. -/
theorem pay7 : k0_pay7 (F := Ideal) x0 x1 x2 (ix2 r j) = pre (row x0 r) (row x1 r) (row x2 0) j := by
  pointwise [k0_pay7, k0_pay6]
  rfl

theorem pay9 : k0_pay9 (F := Ideal) x0 x1 x2 (ix2 r j) = th (pre (row x0 r) (row x1 r) (row x2 0) j) := by
  pointwise [k0_pay9]
  simp only [pay7]
  rfl

theorem pay11 : k0_pay11 (F := Ideal) x0 x1 x2 (ix2 r j) = half (pre (row x0 r) (row x1 r) (row x2 0) j) := by
  pointwise [k0_pay11]
  simp only [pay9]
  rfl

theorem pay12 : k0_pay12 (F := Ideal) x0 x1 x2 (ix2 r j) = z (row x0 r) (row x1 r) (row x2 0) j := by
  pointwise [k0_pay12]
  rw [pay11, pay7]
  rfl

/-- A tile's gate. -/
theorem pay15 : k0_pay15 (F := Ideal) (k0_pay13 x0 x1 x2 x3) (k0_pay14 x4) (ix2 r j)
    = gate (row x0 r) (row x1 r) (row x2 0) x3 (row x4 0) j := by
  pointwise [k0_pay15, k0_pay13, k0_pay14]
  simp only [pay12]
  rfl

theorem pay16 : k0_pay16 (F := Ideal) (k0_pay12 x0 x1 x2) (k0_pay13 x0 x1 x2 x3) (k0_pay14 x4) x5 (ix2 r j)
    = dt (row x0 r) (row x1 r) (row x2 0) x3 (row x4 0) (row x5 r) j := by
  pointwise [k0_pay16]
  rw [pay12, pay15]
  rfl

/-- The gradient of a tile's rows with their skip. -/
theorem pay19 : k0_pay19 (F := Ideal) (k0_pay7 x0 x1 x2) (k0_pay8 x0 x1 x2) (k0_pay10 x0 x1 x2) (k0_pay11 x0 x1 x2) (k0_pay12 x0 x1 x2)
      (k0_pay13 x0 x1 x2 x3) (k0_pay14 x4) x5 x3 (ix2 r j)
    = dpre (row x0 r) (row x1 r) (row x2 0) x3 (row x4 0) (row x5 r) j := by
  pointwise [k0_pay19, k0_pay8, k0_pay10]
  simp only [pay12, pay15, pay16, pay7, pay11, pay9]
  rfl

/-- The gradient through the skip. -/
theorem pay1 (v : FVec Ideal S256x512 .f32) : k0_pay1 (F := Ideal) (k0_pay6 x2) v (ix2 r j) = x2 (ix2 0 j) * v (ix2 r j) := by
  pointwise [k0_pay1, k0_pay6]

/-- A tile's share of the gate's projection's gradient. -/
theorem pay17 (v : FVec Ideal S512x512 .f32) (y : S512x512.Idx) :
    k0_pay17 (F := Ideal) (k0_pay12 x0 x1 x2) (k0_pay13 x0 x1 x2 x3) (k0_pay14 x4) x5 v y
      = v y + ∑ l, termW (n := 256) x0 x1 (row x2 0) x3 (row x4 0) x5 l y := by
  idx_vars y
  pointwise [k0_pay17]
  simp only [pay12, pay16]
  rfl

/-- A tile's share of the gate's bias's gradient. -/
theorem pay18 (v : FVec Ideal S1x512 .f32) (y : S1x512.Idx) :
    k0_pay18 (F := Ideal) (k0_pay12 x0 x1 x2) (k0_pay13 x0 x1 x2 x3) (k0_pay14 x4) x5 v y
      = v y + ∑ l, termB (n := 256) x0 x1 (row x2 0) x3 (row x4 0) x5 l y := by
  idx_vars y
  pointwise [k0_pay18]
  simp only [pay16]
  rfl

/-- A tile's share of the skip's weights' gradient. -/
theorem pay2 (v : FVec Ideal S1x512 .f32) (y : S1x512.Idx) :
    k0_pay2 (F := Ideal) x1 (k0_pay19 (k0_pay7 x0 x1 x2) (k0_pay8 x0 x1 x2) (k0_pay10 x0 x1 x2) (k0_pay11 x0 x1 x2) (k0_pay12 x0 x1 x2)
      (k0_pay13 x0 x1 x2 x3) (k0_pay14 x4) x5 x3) v y
      = v y + ∑ l, termD (n := 256) x0 x1 (row x2 0) x3 (row x4 0) x5 l y := by
  idx_vars y
  pointwise [k0_pay2]
  simp only [pay19]
  rfl

/-- What the accumulators are set to. -/
theorem pay3 (y : S512x512.Idx) : k0_pay3 (F := Ideal) y = 0 := by pointwise [k0_pay3]
theorem pay4 (y : S1x512.Idx) : k0_pay4 (F := Ideal) y = 0 := by pointwise [k0_pay4]
theorem pay5 (y : S1x512.Idx) : k0_pay5 (F := Ideal) y = 0 := by pointwise [k0_pay5]

/-- The tiled windows' block indices. -/
theorem idx : ∀ t : Fin cfg0.N, win0_0.index t = ![t.val, 0] ∧ win0_1.index t = ![t.val, 0] ∧ win0_5.index t = ![t.val, 0]
    ∧ win0_6.index t = ![t.val, 0] ∧ win0_7.index t = ![t.val, 0] :=
  (by decide +kernel : ∀ t : Fin grid0.N, win0_0.index t = ![t.val, 0] ∧ win0_1.index t = ![t.val, 0] ∧ win0_5.index t = ![t.val, 0]
    ∧ win0_6.index t = ![t.val, 0] ∧ win0_7.index t = ![t.val, 0])

/-- The others'. -/
theorem idx' : ∀ t : Fin cfg0.N, win0_2.index t = ![0, 0] ∧ win0_3.index t = ![0, 0] ∧ win0_4.index t = ![0, 0]
    ∧ win0_8.index t = ![0, 0] ∧ win0_9.index t = ![0, 0] ∧ win0_10.index t = ![0, 0] :=
  (by decide +kernel : ∀ t : Fin grid0.N, win0_2.index t = ![0, 0] ∧ win0_3.index t = ![0, 0] ∧ win0_4.index t = ![0, 0]
    ∧ win0_8.index t = ![0, 0] ∧ win0_9.index t = ![0, 0] ∧ win0_10.index t = ![0, 0])

variable (m : (ℓ : Loc nD τ sig) → Buf (Elt Ideal) ℓ) (c : Dev nD) (t : Fin cfg0.N)

/-- The arguments. -/
abbrev A0 : Mat 2048 512 := m ((c : Thread nD τ).loc main_arg0)
abbrev A1 : Mat 2048 512 := m ((c : Thread nD τ).loc main_arg1)
abbrev A2 : Vec1 := m ((c : Thread nD τ).loc main_arg2)
abbrev A3 : Mat 512 512 := m ((c : Thread nD τ).loc main_arg3)
abbrev A4 : Vec1 := m ((c : Thread nD τ).loc main_arg4)
abbrev A5 : Mat 2048 512 := m ((c : Thread nD τ).loc main_arg5)

/-- The skip's weights as the call gets them: one row. -/
theorem V_v0 : V m c main_v0 = fun y : S1x512.Idx => A2 m c (ix1 (y 1)) := by
  show StableHlo.after hostOps0 (fun b => m (c, b)) main_v0 = _
  unfold hostOps0
  after_results_simp
  funext y
  idx_vars y
  pointwise

/-- The gate's projection as the call gets it. -/
theorem V_v1 : V m c main_v1 = A3 m c := by
  show StableHlo.after hostOps0 (fun b => m (c, b)) main_v1 = _
  unfold hostOps0
  after_results_simp
  rfl

/-- The gate's bias as the call gets it: one row. -/
theorem V_v2 : V m c main_v2 = fun y : S1x512.Idx => A4 m c (ix1 (y 1)) := by
  show StableHlo.after hostOps0 (fun b => m (c, b)) main_v2 = _
  unfold hostOps0
  after_results_simp
  funext y
  idx_vars y
  pointwise

/-- A point's rows of the scan's output. -/
theorem blk0 (p : t.val * 256 + r.val < 2048) : row (n := 256) (w := 512) (iblk m c 0 t) r = row (A0 m c) ⟨t.val * 256 + r.val, p⟩ := by
  obtain ⟨e, -⟩ := idx t
  funext k
  show iblk m c 0 t (ix2 r k) = _
  blk_simp [iblk]
  exact (congrFun (V_main_arg0 m c) _).trans (congrArg (A0 m c) (by blk_ext [e, ix2]))

/-- Its rows of the mixer's input. -/
theorem blk1 (p : t.val * 256 + r.val < 2048) : row (n := 256) (w := 512) (iblk m c 1 t) r = row (A1 m c) ⟨t.val * 256 + r.val, p⟩ := by
  obtain ⟨-, e, -⟩ := idx t
  funext k
  show iblk m c 1 t (ix2 r k) = _
  blk_simp [iblk]
  exact (congrFun (V_main_arg1 m c) _).trans (congrArg (A1 m c) (by blk_ext [e, ix2]))

/-- Its rows of the cotangent. -/
theorem blk5 (p : t.val * 256 + r.val < 2048) : row (n := 256) (w := 512) (iblk m c 5 t) r = row (A5 m c) ⟨t.val * 256 + r.val, p⟩ := by
  obtain ⟨-, -, e, -⟩ := idx t
  funext k
  show iblk m c 5 t (ix2 r k) = _
  blk_simp [iblk]
  exact (congrFun (V_main_arg5 m c) _).trans (congrArg (A5 m c) (by blk_ext [e, ix2]))

/-- The skip's weights. -/
theorem blk2 : row (n := 1) (w := 512) (iblk m c 2 t) 0 = ent (A2 m c) := by
  obtain ⟨e, -⟩ := idx' t
  funext k
  show iblk m c 2 t (ix2 0 k) = _
  blk_simp [iblk]
  exact (congrFun (V_v0 m c) _).trans (congrArg (A2 m c) (by blk_ext [e, ix1]))

/-- The gate's projection. -/
theorem blk3 : iblk m c 3 t = A3 m c := by
  obtain ⟨-, e, -⟩ := idx' t
  funext k
  blk_simp [iblk]
  exact (congrFun (V_v1 m c) _).trans (congrArg (A3 m c) (by blk_ext [e, ix2]))

/-- The gate's bias. -/
theorem blk4 : row (n := 1) (w := 512) (iblk m c 4 t) 0 = ent (A4 m c) := by
  obtain ⟨-, -, e, -⟩ := idx' t
  funext k
  show iblk m c 4 t (ix2 0 k) = _
  blk_simp [iblk]
  exact (congrFun (V_v2 m c) _).trans (congrArg (A4 m c) (by blk_ext [e, ix1]))

/-- The gradient of a tile's rows is the whole array's there. -/
theorem tile (p : t.val * 256 + r.val < 2048) :
    dpre (row (iblk m c 0 t) r) (row (iblk m c 1 t) r) (row (iblk m c 2 t) 0) (iblk m c 3 t) (row (iblk m c 4 t) 0) (row (iblk m c 5 t) r) j
      = resY (A0 m c) (A1 m c) (ent (A2 m c)) (A3 m c) (ent (A4 m c)) (A5 m c) (ix2 ⟨t.val * 256 + r.val, p⟩ j) := by
  rw [blk0 r m c t p, blk1 r m c t p, blk5 r m c t p, blk2, blk3, blk4]
  rfl

/-- The gradient of the scan's output. -/
theorem arr6 : (dats m 0 c).arrAt 6 cfg0.N = resY (A0 m c) (A1 m c) (ent (A2 m c)) (A3 m c) (ent (A4 m c)) (A5 m c) := by
  refine (dats m 0 c).arrAt_eq_of_covers 6 _ (by decide +kernel) fun t hf y => ?_
  obtain ⟨-, -, -, e, -⟩ := idx t
  have ht : t.val < 8 := lt_of_lt_of_eq t.isLt N_0
  blk_simp
  rw [after0_6]
  idx_vars y
  refine Eq.trans ?_ ((tile y0 y1 m c t (by omega)).trans (congrArg (resY _ _ _ _ _ _) (by blk_ext [e, ix2])))
  by_cases h0 : t.val % 8 = 0
  · rw [outsAt0_A m c t h0]
    frame_out
    exact pay19 _ _ _ _ _ _ y0 y1
  · rw [outsAt0_B m c t h0]
    frame_out
    exact pay19 _ _ _ _ _ _ y0 y1

/-- The gradient of the mixer's input. -/
theorem arr7 : (dats m 0 c).arrAt 7 cfg0.N = resU (A0 m c) (A1 m c) (ent (A2 m c)) (A3 m c) (ent (A4 m c)) (A5 m c) := by
  refine (dats m 0 c).arrAt_eq_of_covers 7 _ (by decide +kernel) fun t hf y => ?_
  obtain ⟨-, -, -, -, e⟩ := idx t
  have ht : t.val < 8 := lt_of_lt_of_eq t.isLt N_0
  blk_simp
  rw [after0_7]
  idx_vars y
  refine Eq.trans ?_ ((congrArg₂ (HMul.hMul (α := EReal) (β := EReal) (γ := EReal)) (congrFun (blk2 m c t) y1)
    (tile y0 y1 m c t (by omega))).trans (congrArg (resU (A0 m c) (A1 m c) (ent (A2 m c)) (A3 m c) (ent (A4 m c)) (A5 m c))
      (by blk_ext [e, ix2] : ix2 ⟨t.val * 256 + y0.val, by omega⟩ y1 = _)))
  by_cases h0 : t.val % 8 = 0
  · rw [outsAt0_A m c t h0]
    frame_out
    exact (pay1 _ y0 y1 _).trans (congrArg _ (pay19 _ _ _ _ _ _ y0 y1))
  · rw [outsAt0_B m c t h0]
    frame_out
    exact (pay1 _ y0 y1 _).trans (congrArg _ (pay19 _ _ _ _ _ _ y0 y1))

/-- A tile's share of the gate's projection's gradient, -/
abbrev tileW : Fin 256 → S512x512.Idx → EReal :=
  termW (n := 256) (iblk m c 0 t) (iblk m c 1 t) (row (iblk m c 2 t) 0) (iblk m c 3 t) (row (iblk m c 4 t) 0) (iblk m c 5 t)
/-- of its bias's, -/
abbrev tileB : Fin 256 → S1x512.Idx → EReal :=
  termB (n := 256) (iblk m c 0 t) (iblk m c 1 t) (row (iblk m c 2 t) 0) (iblk m c 3 t) (row (iblk m c 4 t) 0) (iblk m c 5 t)
/-- and of the skip's weights'. -/
abbrev tileD : Fin 256 → S1x512.Idx → EReal :=
  termD (n := 256) (iblk m c 0 t) (iblk m c 1 t) (row (iblk m c 2 t) 0) (iblk m c 3 t) (row (iblk m c 4 t) 0) (iblk m c 5 t)

/-- A tile's shares, row by row, are the whole arrays' there. -/
theorem shares (l : Fin 256) (k : ℕ) (hk : k < 2048) (p : t.val * 256 + l.val = k) :
    tileW m c t l = termW (A0 m c) (A1 m c) (ent (A2 m c)) (A3 m c) (ent (A4 m c)) (A5 m c) ⟨k, hk⟩
    ∧ tileB m c t l = termB (A0 m c) (A1 m c) (ent (A2 m c)) (A3 m c) (ent (A4 m c)) (A5 m c) ⟨k, hk⟩
    ∧ tileD m c t l = termD (A0 m c) (A1 m c) (ent (A2 m c)) (A3 m c) (ent (A4 m c)) (A5 m c) ⟨k, hk⟩ := by
  subst p
  have e0 := blk0 l m c t hk
  have e1 := blk1 l m c t hk
  have e5 := blk5 l m c t hk
  have e2 := blk2 m c t
  have e3 := blk3 m c t
  have e4 := blk4 m c t
  refine ⟨funext fun i => ?_, funext fun i => ?_, funext fun i => ?_⟩
  · unfold tileW termW
    rw [e0, e1, e5, e2, e3, e4]
  · unfold tileB termB
    rw [e0, e1, e5, e2, e3, e4]
  · refine congrArg₂ (HMul.hMul (α := EReal) (β := EReal) (γ := EReal)) ?_ (congrFun e1 (i 1))
    rw [e0, e1, e5, e2, e3, e4]

/-- What the first point of a run leaves there. -/
theorem first8 (h : t.val % 8 = 0) (y : S512x512.Idx) : (outsAt0 m c t.val t.isLt).2.2.1 y = ∑ l, tileW m c t l y := by
  rw [outsAt0_A m c t h]
  frame_out
  exact (pay17 _ _ _ _ _ _ _ _).trans (by rw [pay3, zero_add])

/-- What a later point leaves there. -/
theorem later8 (h : ¬t.val % 8 = 0) (y : S512x512.Idx) :
    (outsAt0 m c t.val t.isLt).2.2.1 y = (outsAt0 m c (t.val - 1) (Nat.lt_of_le_of_lt (Nat.sub_le _ _) t.isLt)).2.2.1 y
      + ∑ l, tileW m c t l y := by
  rw [outsAt0_B m c t h]
  frame_out
  exact pay17 _ _ _ _ _ _ _ _

/-- The gate's projection's gradient. -/
theorem arr8 : (dats m 0 c).arrAt 8 cfg0.N = resW (A0 m c) (A1 m c) (ent (A2 m c)) (A3 m c) (ent (A4 m c)) (A5 m c) := by
  refine (dats m 0 c).arrAt_eq_of_covers 8 _ (by decide +kernel) fun t hf y => ?_
  obtain ⟨-, -, -, e, -⟩ := idx' t
  have ht : t.val < 8 := lt_of_lt_of_eq t.isLt N_0
  blk_simp
  rw [after0_8]
  exact sum_run (J := 8) (fun u h => (outsAt0 m c u h).2.2.1) (tileW m c) (termW _ _ _ _ _ _) (first8 m c) (later8 m c)
    t ((flush0_8 t).mp hf) y _ rfl (by blk_ext [e]) (fun s l hl => congrFun (shares m c _ l _ hl (by dsimp only; omega)).1 _)

/-- What the first point of a run leaves there. -/
theorem first9 (h : t.val % 8 = 0) (y : S1x512.Idx) : (outsAt0 m c t.val t.isLt).2.2.2.1 y = ∑ l, tileB m c t l y := by
  rw [outsAt0_A m c t h]
  frame_out
  exact (pay18 _ _ _ _ _ _ _ _).trans (by rw [pay4, zero_add])

/-- What a later point leaves there. -/
theorem later9 (h : ¬t.val % 8 = 0) (y : S1x512.Idx) :
    (outsAt0 m c t.val t.isLt).2.2.2.1 y = (outsAt0 m c (t.val - 1) (Nat.lt_of_le_of_lt (Nat.sub_le _ _) t.isLt)).2.2.2.1 y
      + ∑ l, tileB m c t l y := by
  rw [outsAt0_B m c t h]
  frame_out
  exact pay18 _ _ _ _ _ _ _ _

/-- The gate's bias's gradient. -/
theorem arr9 : (dats m 0 c).arrAt 9 cfg0.N = resB (A0 m c) (A1 m c) (ent (A2 m c)) (A3 m c) (ent (A4 m c)) (A5 m c) := by
  refine (dats m 0 c).arrAt_eq_of_covers 9 _ (by decide +kernel) fun t hf y => ?_
  obtain ⟨-, -, -, -, e, -⟩ := idx' t
  have ht : t.val < 8 := lt_of_lt_of_eq t.isLt N_0
  blk_simp
  rw [after0_9]
  exact sum_run (J := 8) (fun u h => (outsAt0 m c u h).2.2.2.1) (tileB m c) (termB _ _ _ _ _ _) (first9 m c) (later9 m c)
    t ((flush0_9 t).mp hf) y _ rfl (by blk_ext [e]) (fun s l hl => congrFun (shares m c _ l _ hl (by dsimp only; omega)).2.1 _)

/-- What the first point of a run leaves there. -/
theorem first10 (h : t.val % 8 = 0) (y : S1x512.Idx) : (outsAt0 m c t.val t.isLt).2.2.2.2 y = ∑ l, tileD m c t l y := by
  rw [outsAt0_A m c t h]
  frame_out
  exact (pay2 _ _ _ _ _ _ _ _).trans (by rw [pay5, zero_add])

/-- What a later point leaves there. -/
theorem later10 (h : ¬t.val % 8 = 0) (y : S1x512.Idx) :
    (outsAt0 m c t.val t.isLt).2.2.2.2 y = (outsAt0 m c (t.val - 1) (Nat.lt_of_le_of_lt (Nat.sub_le _ _) t.isLt)).2.2.2.2 y
      + ∑ l, tileD m c t l y := by
  rw [outsAt0_B m c t h]
  frame_out
  exact pay2 _ _ _ _ _ _ _ _

/-- The skip's weights' gradient. -/
theorem arr10 : (dats m 0 c).arrAt 10 cfg0.N = resD (A0 m c) (A1 m c) (ent (A2 m c)) (A3 m c) (ent (A4 m c)) (A5 m c) := by
  refine (dats m 0 c).arrAt_eq_of_covers 10 _ (by decide +kernel) fun t hf y => ?_
  obtain ⟨-, -, -, -, -, e⟩ := idx' t
  have ht : t.val < 8 := lt_of_lt_of_eq t.isLt N_0
  blk_simp
  rw [after0_10]
  exact sum_run (J := 8) (fun u h => (outsAt0 m c u h).2.2.2.2) (tileD m c) (termD _ _ _ _ _ _) (first10 m c) (later10 m c)
    t ((flush0_10 t).mp hf) y _ rfl (by blk_ext [e]) (fun s l hl => congrFun (shares m c _ l _ hl (by dsimp only; omega)).2.2 _)

end Cert.PostBwdIdeal.Product

namespace Cert.PostBwdRefIdeal.Product

open Cert.PostBwdRefIdeal Cert.PostBwdRefIdeal.Read

variable (x0 x1 : FVec Ideal S2048x512 .f32) (x2 : FVec Ideal S512 .f32) (x3 : FVec Ideal S512x512 .f32)
  (x4 : FVec Ideal S512 .f32) (x5 : FVec Ideal S2048x512 .f32) (r : Fin 2048) (j : Fin 512)

/-- The reference's rows with their skip. -/
theorem v3 : val_main_v3 (F := Ideal) x0 x1 x2 (ix2 r j) = pre (row x0 r) (row x1 r) (ent x2) j := by
  pointwise [val_main_v3, val_main_v2, val_main_v1, val_main_v0]
  rfl

/-- The hyperbolic tangent. -/
theorem v14 : val_main_v14 (F := Ideal) x0 x1 x2 (ix2 r j) = th (pre (row x0 r) (row x1 r) (ent x2) j) := by
  pointwise [val_main_v14, val_main_v13, val_main_v12, val_main_v11, val_main_v10, val_main_v9, val_main_v5, val_main_v4,
    val_main_cst_0, val_main_cst_1]
  rw [v3, mul_comm (pre (row x0 r) (row x1 r) (ent x2) j * pre (row x0 r) (row x1 r) (ent x2) j)]
  rfl

/-- The factor of the row in `gelu`. -/
theorem v23 : val_main_v23 (F := Ideal) x0 x1 x2 (ix2 r j) = half (pre (row x0 r) (row x1 r) (ent x2) j) := by
  pointwise [val_main_v23, val_main_v22, val_main_v21, val_main_v20, val_main_cst_4, val_main_cst_5]
  rw [v14]
  rfl

/-- The rows after `gelu`. -/
theorem v24 : val_main_v24 (F := Ideal) x0 x1 x2 (ix2 r j) = z (row x0 r) (row x1 r) (ent x2) j := by
  pointwise [val_main_v24]
  rw [v23, v3]
  rfl

/-- The gate. -/
theorem v34 : val_main_v34 (F := Ideal) x0 x1 x2 x3 x4 (ix2 r j) = gate (row x0 r) (row x1 r) (ent x2) x3 (ent x4) j := by
  pointwise [val_main_v34, val_main_v33, val_main_v32, val_main_v31, val_main_v30, val_main_v29, val_main_v28, val_main_v27,
    val_main_v26, val_main_v25, val_main_cst_6, val_main_cst_7]
  simp only [v24]
  rfl

/-- The gradient of the gate's argument. -/
theorem v41 : val_main_v41 (F := Ideal) x0 x1 x2 x3 x4 x5 (ix2 r j)
    = dt (row x0 r) (row x1 r) (ent x2) x3 (ent x4) (row x5 r) j := by
  pointwise [val_main_v41, val_main_v39, val_main_v37, val_main_v36, val_main_v35, val_main_cst_8]
  rw [v24, v34]
  rfl

/-- The gradient of the rows with their skip. -/
theorem v60 : val_main_v60 (F := Ideal) x0 x1 x2 x3 x4 x5 (ix2 r j)
    = dpre (row x0 r) (row x1 r) (ent x2) x3 (ent x4) (row x5 r) j := by
  pointwise [val_main_v60, val_main_v59, val_main_v58, val_main_v57, val_main_v56, val_main_v55, val_main_v54, val_main_v53,
    val_main_v52, val_main_v51, val_main_v50, val_main_v49, val_main_v48, val_main_v47, val_main_v40, val_main_v19, val_main_v18,
    val_main_v17, val_main_v16, val_main_v15, val_main_v8, val_main_v7, val_main_v6, val_main_cst, val_main_cst_2, val_main_cst_3,
    val_main_cst_11, val_main_cst_12, val_main_cst_13]
  simp only [v41, v34, v23, v14, v3]
  rfl

/-- The reference's gradient of the scan's output. -/
theorem ref0 : val_main_v60 (F := Ideal) x0 x1 x2 x3 x4 x5 = resY x0 x1 (ent x2) x3 (ent x4) x5 := by
  funext y
  idx_vars y
  exact v60 _ _ _ _ _ _ _ _

/-- Its gradient of the mixer's input. -/
theorem ref1 : val_main_v62 (F := Ideal) x0 x1 x2 x3 x4 x5 = resU x0 x1 (ent x2) x3 (ent x4) x5 := by
  funext y
  idx_vars y
  pointwise [val_main_v62, val_main_v61, val_main_v0]
  rw [v60]
  rfl

/-- Its gradient of the gate's projection. -/
theorem ref2 : val_main_v46 (F := Ideal) x0 x1 x2 x3 x4 x5 = resW x0 x1 (ent x2) x3 (ent x4) x5 := by
  funext y
  idx_vars y
  pointwise [val_main_v46, val_main_v45]
  simp only [v41, v24]
  exact Finset.sum_congr rfl fun k _ => mul_comm _ _

/-- Its gradient of the gate's bias. -/
theorem ref3 : val_main_v67 (F := Ideal) x0 x1 x2 x3 x4 x5 = resB x0 x1 (ent x2) x3 (ent x4) x5 := by
  funext y
  idx_vars y
  pointwise [val_main_v67, val_main_v44, val_main_v43, val_main_v42, val_main_cst_9, val_main_cst_10]
  simp only [v41, Fin.sum_univ_one]
  rfl

/-- Its gradient of the skip's weights. -/
theorem ref4 : val_main_v68 (F := Ideal) x0 x1 x2 x3 x4 x5 = resD x0 x1 (ent x2) x3 (ent x4) x5 := by
  funext y
  idx_vars y
  pointwise [val_main_v68, val_main_v66, val_main_v65, val_main_v64, val_main_v63, val_main_cst_14, val_main_cst_15]
  simp only [v60, Fin.sum_univ_one]
  rfl

/-- The reference leaves its arguments, and has no semaphore. -/
theorem frame : Cert.quiescent_PostBwdRefIdeal (hPostBwdRefIdeal := Gen.facts) := fun m g _ =>
  (θ_run _ _ _).mono (fun r h => ⟨fun c => (h c).2.2.2.2.2, sem_eq_zero_of_no_sems (by decide) r.2⟩) (Value.run (F := Ideal) m g)

/-- The kernel's gradients are the reference's. -/
theorem algebraic : Cert.algebraic_PostBwdIdeal_PostBwdRefIdeal (hPostBwdIdeal := Cert.PostBwdIdeal.Gen.facts)
    (hPostBwdRefIdeal := Gen.facts) := by
  intro m g m' g' _ hargs
  open Cert.PostBwdIdeal.Product in
  refine ⟨fun c => resY (A0 m c) (A1 m c) (ent (A2 m c)) (A3 m c) (ent (A4 m c)) (A5 m c),
    fun c => resU (A0 m c) (A1 m c) (ent (A2 m c)) (A3 m c) (ent (A4 m c)) (A5 m c),
    fun c => resW (A0 m c) (A1 m c) (ent (A2 m c)) (A3 m c) (ent (A4 m c)) (A5 m c),
    fun c => resB (A0 m c) (A1 m c) (ent (A2 m c)) (A3 m c) (ent (A4 m c)) (A5 m c),
    fun c => resD (A0 m c) (A1 m c) (ent (A2 m c)) (A3 m c) (ent (A4 m c)) (A5 m c),
    (θ_run _ _ _).mono (fun r h c => ?_) (Cert.PostBwdIdeal.Value.run_blocks (F := Ideal) m g),
    (θ_run _ _ _).mono (fun r h c => ?_) (Value.run (F := Ideal) m' g')⟩
  · obtain ⟨h0, h1, h2, h3, h4, h⟩ := h c
    exact ⟨h0.trans (arr6 m c), h1.trans (arr7 m c), h2.trans (arr8 m c), h3.trans (arr9 m c), h4.trans (arr10 m c), h⟩
  · obtain ⟨h0, h1, h2, h3, h4, h⟩ := h c
    obtain ⟨a0, a1, a2, a3, a4, a5⟩ := hargs c
    refine ⟨h0.trans ((val_main_v60_eq m' c).trans ?_), h1.trans ((val_main_v62_eq m' c).trans ?_),
      h2.trans ((val_main_v46_eq m' c).trans ?_), h3.trans ((val_main_v67_eq m' c).trans ?_),
      h4.trans ((val_main_v68_eq m' c).trans ?_), h⟩ <;> rw [a0, a1, a2, a3, a4, a5]
    · exact ref0 _ _ _ _ _ _
    · exact ref1 _ _ _ _ _ _
    · exact ref2 _ _ _ _ _ _
    · exact ref3 _ _ _ _ _ _
    · exact ref4 _ _ _ _ _ _

end Cert.PostBwdRefIdeal.Product

namespace Cert.PostFwdIdeal.Product

open Cert.PostFwdIdeal Cert.PostFwdIdeal.Gen

/-- A tile's rows after the stage. -/
theorem tile (x0 x1 : FVec Ideal S256x512 .f32) (x2 : FVec Ideal S1x512 .f32) (x3 : FVec Ideal S512x512 .bf16)
    (x4 : FVec Ideal S1x512 .f32) (r : Fin 256) (j : Fin 512) :
    k0_pay1 (F := Ideal) x0 x1 x2 x3 x4 (ix2 r j) = fwd (row x0 r) (row x1 r) (row x2 0) x3 (row x4 0) j := by
  pointwise [k0_pay1]
  rfl

/-- The blocks' indices. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] :=
  (by decide +kernel : ∀ t : Fin grid0.N, win0_0.index t = ![t.val, 0] ∧ win0_1.index t = ![t.val, 0] ∧ win0_2.index t = ![0, 0]
    ∧ win0_3.index t = ![0, 0] ∧ win0_4.index t = ![0, 0] ∧ win0_5.index t = ![t.val, 0])

variable (m : (ℓ : Loc nD τ sig) → Buf (Elt Ideal) ℓ) (c : Dev nD) (t : Fin cfg0.N)

/-- The arguments. -/
abbrev A0 : Mat 2048 512 := m ((c : Thread nD τ).loc main_arg0)
abbrev A1 : Mat 2048 512 := m ((c : Thread nD τ).loc main_arg1)
abbrev A2 : Vec1 := m ((c : Thread nD τ).loc main_arg2)
abbrev A3 : Mat 512 512 := m ((c : Thread nD τ).loc main_arg3)
abbrev A4 : Vec1 := m ((c : Thread nD τ).loc main_arg4)

/-- The weights as the call gets them: the skip's, the projection, the bias. -/
theorem args : V m c main_v0 = (fun y : S1x512.Idx => A2 m c (ix1 (y 1))) ∧ V m c main_v1 = A3 m c
    ∧ V m c main_v2 = fun y : S1x512.Idx => A4 m c (ix1 (y 1)) := by
  refine ⟨?_, ?_, ?_⟩
  · show StableHlo.after hostOps0 (fun b => m (c, b)) main_v0 = _
    unfold hostOps0
    after_results_simp
    funext y
    idx_vars y
    pointwise
  · show StableHlo.after hostOps0 (fun b => m (c, b)) main_v1 = _
    unfold hostOps0
    after_results_simp
    rfl
  · show StableHlo.after hostOps0 (fun b => m (c, b)) main_v2 = _
    unfold hostOps0
    after_results_simp
    funext y
    idx_vars y
    pointwise

/-- A point's blocks: its rows of the scan's output and of the mixer's input, and the weights. -/
theorem blks (r : Fin 256) (p : t.val * 256 + r.val < 2048) :
    row (n := 256) (w := 512) (iblk m c 0 t) r = row (A0 m c) ⟨t.val * 256 + r.val, p⟩
    ∧ row (n := 256) (w := 512) (iblk m c 1 t) r = row (A1 m c) ⟨t.val * 256 + r.val, p⟩
    ∧ row (n := 1) (w := 512) (iblk m c 2 t) 0 = ent (A2 m c) ∧ iblk m c 3 t = A3 m c
    ∧ row (n := 1) (w := 512) (iblk m c 4 t) 0 = ent (A4 m c) := by
  obtain ⟨e0, e1, e2, e3, e4, -⟩ := idx t
  obtain ⟨v0, v1, v2⟩ := args m c
  refine ⟨funext fun k => ?_, funext fun k => ?_, funext fun k => ?_, funext fun k => ?_, funext fun k => ?_⟩
  · show iblk m c 0 t (ix2 r k) = _
    blk_simp [iblk]
    exact (congrFun (V_main_arg0 m c) _).trans (congrArg (A0 m c) (by blk_ext [e0, ix2]))
  · show iblk m c 1 t (ix2 r k) = _
    blk_simp [iblk]
    exact (congrFun (V_main_arg1 m c) _).trans (congrArg (A1 m c) (by blk_ext [e1, ix2]))
  · show iblk m c 2 t (ix2 0 k) = _
    blk_simp [iblk]
    exact (congrFun v0 _).trans (congrArg (A2 m c) (by blk_ext [e2, ix1]))
  · blk_simp [iblk]
    exact (congrFun v1 _).trans (congrArg (A3 m c) (by blk_ext [e3, ix2]))
  · show iblk m c 4 t (ix2 0 k) = _
    blk_simp [iblk]
    exact (congrFun v2 _).trans (congrArg (A4 m c) (by blk_ext [e4, ix1]))

/-- The array after the run is the stage, row by row. -/
theorem arr : (dats m 0 c).arrAt 5 cfg0.N = resFwd (A0 m c) (A1 m c) (ent (A2 m c)) (A3 m c) (ent (A4 m c)) := by
  refine (dats m 0 c).arrAt_eq_of_covers 5 _ (by decide +kernel) fun t hf y => ?_
  obtain ⟨-, -, -, -, -, e⟩ := idx t
  have ht : t.val < 8 := lt_of_lt_of_eq t.isLt N_0
  blk_simp
  rw [after0_5]
  idx_vars y
  have p : t.val * 256 + y0.val < 2048 := by omega
  obtain ⟨b0, b1, b2, b3, b4⟩ := blks m c t y0 p
  refine Eq.trans ?_ (congrArg (resFwd (A0 m c) (A1 m c) (ent (A2 m c)) (A3 m c) (ent (A4 m c)))
    (by blk_ext [e, ix2] : ix2 ⟨t.val * 256 + y0.val, p⟩ y1 = _))
  unfold out0_5
  frame_out
  refine (tile _ _ _ _ _ y0 y1).trans ?_
  rw [b0, b1, b2, b3, b4]
  rfl

end Cert.PostFwdIdeal.Product

namespace Cert.PostFwdRefIdeal.Product

open Cert.PostFwdRefIdeal Cert.PostFwdRefIdeal.Read

/-- The reference's stage, row by row: its steps are the first ones of the backward reference. -/
theorem ref (x0 x1 : FVec Ideal S2048x512 .f32) (x2 : FVec Ideal S512 .f32) (x3 : FVec Ideal S512x512 .f32)
    (x4 : FVec Ideal S512 .f32) : val_main_v27 (F := Ideal) x0 x1 x2 x3 x4 = resFwd x0 x1 (ent x2) x3 (ent x4) := by
  funext y
  idx_vars y
  exact congrArg₂ (HMul.hMul (α := EReal) (β := EReal) (γ := EReal)) (Cert.PostBwdRefIdeal.Product.v24 x0 x1 x2 y0 y1)
    (Cert.PostBwdRefIdeal.Product.v34 x0 x1 x2 x3 x4 y0 y1)

/-- The reference leaves its arguments, and has no semaphore. -/
theorem frame : Cert.quiescent_PostFwdRefIdeal (hPostFwdRefIdeal := Gen.facts) := fun m g _ =>
  (θ_run _ _ _).mono (fun r h => ⟨fun c => (h c).2, sem_eq_zero_of_no_sems (by decide) r.2⟩) (Value.run (F := Ideal) m g)

/-- The kernel's stage is the reference's. -/
theorem algebraic : Cert.algebraic_PostFwdIdeal_PostFwdRefIdeal (hPostFwdIdeal := Cert.PostFwdIdeal.Gen.facts)
    (hPostFwdRefIdeal := Gen.facts) :=
  fun m g m' g' _ hargs => ⟨fun c => _,
    (θ_run _ _ _).mono (fun r h c => ⟨(h c).1.trans (Cert.PostFwdIdeal.Product.arr m c), (h c).2⟩)
      (Cert.PostFwdIdeal.Value.run_blocks (F := Ideal) m g),
    (θ_run _ _ _).mono (fun r h c => ⟨(h c).1.trans ((val_main_v27_eq _ _ _ _ _).trans
        (by rw [(hargs c).1, (hargs c).2.1, (hargs c).2.2.1, (hargs c).2.2.2.1, (hargs c).2.2.2.2]; exact ref _ _ _ _ _)), (h c).2⟩)
      (Value.run (F := Ideal) m' g')⟩

end Cert.PostFwdRefIdeal.Product
end
-- ==== Proof.GateMath.lean ====
module

public import Idealize.ShloMosaic.Lib.Pointwise

/-!
# The gradient of the gated merge, as formulas over the extended reals

Three mixers' outputs (`b = 0`: latent attention, `1`: forgetting attention, `2`: the state-space mixer), each 512
wide, are gated by `silu`, projected up to 1024 columns, gated by a sigmoid and added; the sum goes through the
output projection.  This module writes the gradient of that map row by row, for any number `n` of rows, so that one
formula reads a tile of 256 rows and the whole array of 2048 rows.
-/

@[expose] public section

set_option maxRecDepth 16384

noncomputable section

namespace Gate

open Idealize.ShloMosaic

/-- A head-major array: 8 heads, `n` rows, 64 columns each. -/
abbrev Heads (n : ℕ) := (⟨3, ![8, n, 64]⟩ : Shape).Idx → EReal
/-- A matrix of `n` rows and `w` columns. -/
abbrev Mat (n w : ℕ) := (⟨2, ![n, w]⟩ : Shape).Idx → EReal

/-! ## One row of one branch -/

/-- The sigmoid. -/
abbrev sgm (x : EReal) : EReal := Ideal.logistic x
/-- `x · sigmoid x`. -/
def silu (x : EReal) : EReal := x * sgm x
/-- The sigmoid's derivative, `s (1 - s)`. -/
def dsig (x : EReal) : EReal := sgm x * (1 - sgm x)

variable (y g : Fin 512 → EReal) (w : Fin 512 → Fin 1024 → EReal) (m u : Fin 1024 → EReal)

/-- The branch's gated input. -/
def act (c : Fin 512) : EReal := y c * silu (g c)
/-- The branch projected up. -/
def out (j : Fin 1024) : EReal := ∑ k : Fin 512, act y g k * w k j
/-- The branch's share of the merged row. -/
def part (j : Fin 1024) : EReal := sgm (m j) * out y g w j
/-- The gradient of the projected branch, `u` being the gradient of the merged row. -/
def dOut (j : Fin 1024) : EReal := sgm (m j) * u j
/-- The gradient of the merge gate's argument. -/
def dMix (j : Fin 1024) : EReal := u j * out y g w j * dsig (m j)
/-- The gradient of the gated input. -/
def dAct (c : Fin 512) : EReal := ∑ j : Fin 1024, dOut m u j * w c j
/-- The gradient of the mixer's output. -/
def dY (c : Fin 512) : EReal := dAct w m u c * silu (g c)
/-- The gradient of the branch gate's argument. -/
def dG (c : Fin 512) : EReal :=
  y c * dAct w m u c * sgm (g c) + g c * (y c * dAct w m u c) * dsig (g c)

/-! ## The arrays -/

variable {n : ℕ} (X0 X1 : Heads n) (X2 : Mat n 512) (X3 : Mat n 4608) (W : Mat 1536 1024) (T : Mat 1024 1024)
  (D : Mat n 1024)

/-- Row `r` of a head-major array: column `64 h + l` is head `h`'s column `l`. -/
def headRow (X : Heads n) (r : Fin n) (c : Fin 512) : EReal :=
  X (ix3 ⟨c.val / 64, by omega⟩ r ⟨c.val % 64, by omega⟩)

/-- Branch `b`'s input row. -/
def yRow (b : Fin 3) (r : Fin n) (c : Fin 512) : EReal :=
  match b with
  | 0 => headRow X0 r c
  | 1 => headRow X1 r c
  | 2 => X2 (ix2 r c)

/-- Branch `b`'s gate row: columns `512 b …` of the segment. -/
def gRow (b : Fin 3) (r : Fin n) (c : Fin 512) : EReal := X3 (ix2 r ⟨512 * b.val + c.val, by omega⟩)
/-- Branch `b`'s merge-gate row: columns `1536 + 1024 b …` of the segment. -/
def mRow (b : Fin 3) (r : Fin n) (j : Fin 1024) : EReal := X3 (ix2 r ⟨1536 + 1024 * b.val + j.val, by omega⟩)
/-- Branch `b`'s block of the projection. -/
def wBlk (b : Fin 3) (c : Fin 512) (j : Fin 1024) : EReal := W (ix2 ⟨512 * b.val + c.val, by omega⟩ j)

/-- Row `r` of the gradient of the merged activations: the cotangent times the transposed output projection. -/
def uRow (r : Fin n) (k : Fin 1024) : EReal := ∑ j : Fin 1024, D (ix2 r j) * T (ix2 k j)

/-- Row `r` of the merged activations. -/
def merged (r : Fin n) (j : Fin 1024) : EReal :=
  part (yRow X0 X1 X2 0 r) (gRow X3 0 r) (wBlk W 0) (mRow X3 0 r) j
    + part (yRow X0 X1 X2 1 r) (gRow X3 1 r) (wBlk W 1) (mRow X3 1 r) j
    + part (yRow X0 X1 X2 2 r) (gRow X3 2 r) (wBlk W 2) (mRow X3 2 r) j

/-- The gradient of branch `b`'s input, row by row. -/
def dYRow (b : Fin 3) (r : Fin n) (c : Fin 512) : EReal :=
  dY (gRow X3 b r) (wBlk W b) (mRow X3 b r) (uRow T D r) c

/-- The gradient of branch `b`'s gate, row by row. -/
def dGRow (b : Fin 3) (r : Fin n) (c : Fin 512) : EReal :=
  dG (yRow X0 X1 X2 b r) (gRow X3 b r) (wBlk W b) (mRow X3 b r) (uRow T D r) c

/-- The gradient of branch `b`'s merge gate, row by row. -/
def dMRow (b : Fin 3) (r : Fin n) (j : Fin 1024) : EReal :=
  dMix (yRow X0 X1 X2 b r) (gRow X3 b r) (wBlk W b) (mRow X3 b r) (uRow T D r) j

/-- The gradient of an attention branch's output, head-major. -/
def resHead (b : Fin 3) : Heads n := fun i =>
  dYRow X3 W T D b (i 1) ⟨64 * (i 0).val + (i 2).val, by
    have h0 : (i 0).val < 8 := (i 0).isLt
    have h2 : (i 2).val < 64 := (i 2).isLt
    omega⟩

/-- The gradient of the state-space branch's output. -/
def resS5 : Mat n 512 := fun i => dYRow X3 W T D 2 (i 0) (i 1)

/-- The gradient of all the gates, in the segment's column order. -/
def resSeg : Mat n 4608 := fun i =>
  if h : (i 1).val < 1536 then
    dGRow X0 X1 X2 X3 W T D ⟨(i 1).val / 512, by omega⟩ (i 0) ⟨(i 1).val % 512, by omega⟩
  else
    dMRow X0 X1 X2 X3 W T D ⟨((i 1).val - 1536) / 1024, by
      have h1 : (i 1).val < 4608 := (i 1).isLt
      omega⟩ (i 0) ⟨((i 1).val - 1536) % 1024, by omega⟩

/-- The gradient of the branches' projection: row `512 b + c`, column `j` is a sum over the rows. -/
def resW : Mat 1536 1024 := fun i =>
  ∑ r : Fin n, act (yRow X0 X1 X2 ⟨(i 0).val / 512, by
      have h : (i 0).val < 1536 := (i 0).isLt
      omega⟩ r) (gRow X3 ⟨(i 0).val / 512, by
      have h : (i 0).val < 1536 := (i 0).isLt
      omega⟩ r) ⟨(i 0).val % 512, by omega⟩
    * dOut (mRow X3 ⟨(i 0).val / 512, by
      have h : (i 0).val < 1536 := (i 0).isLt
      omega⟩ r) (uRow T D r) (i 1)

/-- The gradient of the output projection, a sum over the rows. -/
def resT : Mat 1024 1024 := fun i =>
  ∑ r : Fin n, merged X0 X1 X2 X3 W r (i 0) * D (ix2 r (i 1))

/-! ## The three branches' inputs side by side -/

/-- The three branches' inputs in one matrix, 512 columns each. -/
def joined : Mat n 1536 := fun i =>
  yRow X0 X1 X2 ⟨(i 1).val / 512, by
    have h : (i 1).val < 1536 := (i 1).isLt
    omega⟩ (i 0) ⟨(i 1).val % 512, by omega⟩

/-- Its column `512 b + c`. -/
theorem joined_at (r : Fin n) (k : Fin 1536) (b : Fin 3) (c : Fin 512) (h : k.val = 512 * b.val + c.val) :
    joined X0 X1 X2 (ix2 r k) = yRow X0 X1 X2 b r c := by
  have hk : ((ix2 r k) 1 : ℕ) = 512 * b.val + c.val := h
  unfold joined
  congr 1
  · exact Fin.ext (by show ((ix2 r k) 1 : ℕ) / 512 = _; omega)
  · exact Fin.ext (by show ((ix2 r k) 1 : ℕ) % 512 = _; omega)

/-- A head's column of a head-major array. -/
theorem headRow_at (X : Heads n) (r : Fin n) (h : Fin 8) (l : Fin 64) (p : 64 * h.val + l.val < 512) :
    headRow X r ⟨64 * h.val + l.val, p⟩ = X (ix3 h r l) := by
  unfold headRow
  congr 1; funext a; apply Fin.ext
  match a with
  | ⟨0, _⟩ => dsimp [ix3]; omega
  | ⟨1, _⟩ => rfl
  | ⟨2, _⟩ => dsimp [ix3]; omega

/-- A column of the first branch. -/
theorem joined_0 (i : (⟨2, ![n, 1536]⟩ : Shape).Idx) (h : Fin 8) (r : Fin n) (l : Fin 64) (h0 : (i 0).val = r.val)
    (h1 : (i 1).val = 64 * h.val + l.val) : joined X0 X1 X2 i = X0 (ix3 h r l) := by
  have e : i = ix2 r ⟨512 * (0 : Fin 3).val + (64 * h.val + l.val), by dsimp; omega⟩ := by
    funext a; apply Fin.ext
    match a with
    | ⟨0, _⟩ => exact h0
    | ⟨1, _⟩ => simpa [ix2] using h1
  rw [e, joined_at X0 X1 X2 r _ 0 ⟨64 * h.val + l.val, by omega⟩ rfl]
  exact headRow_at X0 r h l _

/-- A column of the second branch. -/
theorem joined_1 (i : (⟨2, ![n, 1536]⟩ : Shape).Idx) (h : Fin 8) (r : Fin n) (l : Fin 64) (h0 : (i 0).val = r.val)
    (h1 : (i 1).val = 512 + 64 * h.val + l.val) : joined X0 X1 X2 i = X1 (ix3 h r l) := by
  have e : i = ix2 r ⟨512 * (1 : Fin 3).val + (64 * h.val + l.val), by dsimp; omega⟩ := by
    funext a; apply Fin.ext
    match a with
    | ⟨0, _⟩ => exact h0
    | ⟨1, _⟩ => simp [ix2]; omega
  rw [e, joined_at X0 X1 X2 r _ 1 ⟨64 * h.val + l.val, by omega⟩ rfl]
  exact headRow_at X1 r h l _

/-- A column of the third branch. -/
theorem joined_2 (i : (⟨2, ![n, 1536]⟩ : Shape).Idx) (r : Fin n) (c : Fin 512) (h0 : (i 0).val = r.val)
    (h1 : (i 1).val = 1024 + c.val) : joined X0 X1 X2 i = X2 (ix2 r c) := by
  have e : i = ix2 r ⟨512 * (2 : Fin 3).val + c.val, by dsimp; omega⟩ := by
    funext a; apply Fin.ext
    match a with
    | ⟨0, _⟩ => exact h0
    | ⟨1, _⟩ => simpa [ix2] using h1
  rw [e, joined_at X0 X1 X2 r _ 2 c rfl]
  rfl

/-- The forward merge: the residual stream `D` plus the merged rows through the output projection. -/
def resOut : Mat n 1024 := fun i => D i + ∑ k : Fin 1024, merged X0 X1 X2 X3 W (i 0) k * T (ix2 k (i 1))

/-! ## The column and row blocks of the joined results -/

/-- The gates' gradient in a gate column: branch `b`'s column `c'`. -/
theorem resSeg_gate (r : Fin n) (c : Fin 4608) (b : Fin 3) (c' : Fin 512) (h : c.val = 512 * b.val + c'.val) :
    resSeg X0 X1 X2 X3 W T D (ix2 r c) = dGRow X0 X1 X2 X3 W T D b r c' := by
  have hc : ((ix2 r c) 1 : ℕ) = 512 * b.val + c'.val := h
  unfold resSeg
  rw [dif_pos (by omega)]
  show dGRow X0 X1 X2 X3 W T D _ r _ = _
  congr 1
  · exact Fin.ext (by show ((ix2 r c) 1 : ℕ) / 512 = _; omega)
  · exact Fin.ext (by show ((ix2 r c) 1 : ℕ) % 512 = _; omega)

/-- The gates' gradient in a merge-gate column: branch `b`'s column `j`. -/
theorem resSeg_mix (r : Fin n) (c : Fin 4608) (b : Fin 3) (j : Fin 1024) (h : c.val = 1536 + 1024 * b.val + j.val) :
    resSeg X0 X1 X2 X3 W T D (ix2 r c) = dMRow X0 X1 X2 X3 W T D b r j := by
  have hc : ((ix2 r c) 1 : ℕ) = 1536 + 1024 * b.val + j.val := h
  unfold resSeg
  rw [dif_neg (by omega)]
  show dMRow X0 X1 X2 X3 W T D _ r _ = _
  congr 1
  · exact Fin.ext (by show (((ix2 r c) 1 : ℕ) - 1536) / 1024 = _; omega)
  · exact Fin.ext (by show (((ix2 r c) 1 : ℕ) - 1536) % 1024 = _; omega)

/-- The projection's gradient in branch `b`'s row `c`. -/
theorem resW_block (k : Fin 1536) (j : Fin 1024) (b : Fin 3) (c : Fin 512) (h : k.val = 512 * b.val + c.val) :
    resW X0 X1 X2 X3 T D (ix2 k j)
      = ∑ r : Fin n, act (yRow X0 X1 X2 b r) (gRow X3 b r) c * dOut (mRow X3 b r) (uRow T D r) j := by
  have hk : ((ix2 k j) 0 : ℕ) = 512 * b.val + c.val := h
  have e : ∀ p, (⟨((ix2 k j) 0 : ℕ) / 512, p⟩ : Fin 3) = b := fun p => Fin.ext (by show ((ix2 k j) 0 : ℕ) / 512 = _; omega)
  have e' : ∀ p, (⟨((ix2 k j) 0 : ℕ) % 512, p⟩ : Fin 512) = c := fun p => Fin.ext (by show ((ix2 k j) 0 : ℕ) % 512 = _; omega)
  unfold resW
  simp only [e, e']
  rfl

end Gate

end

end
-- ==== Proof.GateRows.lean ====
module

public import proofs.«01_k».proof.Proof.GateMath
public import Idealize.ShloMosaic.Lib.Pipeline.ValueKit.Acc

/-!
# A tile's rows are the array's rows

Every formula of the merge's gradient reads one row of the row-wise arrays.  Where row `r` of a tile agrees with row
`R` of the arrays, so do the results' rows; and a sum over 8 tiles of 256 rows is the sum over the 2048 rows.
-/

@[expose] public section

set_option maxRecDepth 16384

noncomputable section

namespace Gate

open Idealize.ShloMosaic

variable {n N : ℕ}

/-- Row `r` of the tile's six row-wise arrays is row `R` of the whole ones, and the weights agree. -/
structure Same (x0 x1 : Heads n) (x2 : Mat n 512) (x3 : Mat n 4608) (d : Mat n 1024)
    (X0 X1 : Heads N) (X2 : Mat N 512) (X3 : Mat N 4608) (D : Mat N 1024) (r : Fin n) (R : Fin N) : Prop where
  e0 : ∀ h l, x0 (ix3 h r l) = X0 (ix3 h R l)
  e1 : ∀ h l, x1 (ix3 h r l) = X1 (ix3 h R l)
  e2 : ∀ c, x2 (ix2 r c) = X2 (ix2 R c)
  e3 : ∀ c, x3 (ix2 r c) = X3 (ix2 R c)
  e4 : ∀ c, d (ix2 r c) = D (ix2 R c)

variable {x0 x1 : Heads n} {x2 : Mat n 512} {x3 : Mat n 4608} {d : Mat n 1024}
  {X0 X1 : Heads N} {X2 : Mat N 512} {X3 : Mat N 4608} {D : Mat N 1024} {r : Fin n} {R : Fin N}

section
variable (s : Same x0 x1 x2 x3 d X0 X1 X2 X3 D r R)
include s

/-- The branches' input rows agree. -/
theorem Same.y (b : Fin 3) : yRow x0 x1 x2 b r = yRow X0 X1 X2 b R := by
  funext c
  match b with
  | 0 => exact s.e0 _ _
  | 1 => exact s.e1 _ _
  | 2 => exact s.e2 _

/-- The gate rows agree. -/
theorem Same.g (b : Fin 3) : gRow x3 b r = gRow X3 b R := funext fun _ => s.e3 _

/-- The merge-gate rows agree. -/
theorem Same.m (b : Fin 3) : mRow x3 b r = mRow X3 b R := funext fun _ => s.e3 _

/-- The merged rows' gradients agree. -/
theorem Same.u (T : Mat 1024 1024) : uRow T d r = uRow T D R := by
  funext k
  unfold uRow
  exact Finset.sum_congr rfl fun j _ => by rw [s.e4]

/-- The merged rows agree. -/
theorem Same.merged (W : Mat 1536 1024) : merged x0 x1 x2 x3 W r = merged X0 X1 X2 X3 W R := by
  funext j
  unfold Gate.merged
  simp only [s.y, s.g, s.m]

/-- The gradients of the mixers' outputs agree. -/
theorem Same.dY (W : Mat 1536 1024) (T : Mat 1024 1024) (b : Fin 3) : dYRow x3 W T d b r = dYRow X3 W T D b R := by
  funext c
  unfold dYRow
  rw [s.g, s.m, s.u]

/-- The gradients of the gates agree. -/
theorem Same.dG (W : Mat 1536 1024) (T : Mat 1024 1024) (b : Fin 3) :
    dGRow x0 x1 x2 x3 W T d b r = dGRow X0 X1 X2 X3 W T D b R := by
  funext c
  unfold dGRow
  rw [s.y, s.g, s.m, s.u]

/-- The gradients of the merge gates agree. -/
theorem Same.dM (W : Mat 1536 1024) (T : Mat 1024 1024) (b : Fin 3) :
    dMRow x0 x1 x2 x3 W T d b r = dMRow X0 X1 X2 X3 W T D b R := by
  funext c
  unfold dMRow
  rw [s.y, s.g, s.m, s.u]

/-- The attention branches' results agree on the row. -/
theorem Same.head (W : Mat 1536 1024) (T : Mat 1024 1024) (b : Fin 3) (h : Fin 8) (l : Fin 64) :
    resHead x3 W T d b (ix3 h r l) = resHead X3 W T D b (ix3 h R l) := congrFun (s.dY W T b) _

/-- The state-space branch's results agree on the row. -/
theorem Same.s5 (W : Mat 1536 1024) (T : Mat 1024 1024) (c : Fin 512) :
    resS5 x3 W T d (ix2 r c) = resS5 X3 W T D (ix2 R c) := congrFun (s.dY W T 2) _

/-- The gates' results agree on the row. -/
theorem Same.seg (W : Mat 1536 1024) (T : Mat 1024 1024) (c : Fin 4608) :
    resSeg x0 x1 x2 x3 W T d (ix2 r c) = resSeg X0 X1 X2 X3 W T D (ix2 R c) := by
  by_cases h : c.val < 1536
  · have e : c.val = 512 * (⟨c.val / 512, by omega⟩ : Fin 3).val + (⟨c.val % 512, by omega⟩ : Fin 512).val := by
      show c.val = 512 * (c.val / 512) + c.val % 512
      omega
    rw [resSeg_gate x0 x1 x2 x3 W T d r c _ _ e, resSeg_gate X0 X1 X2 X3 W T D R c _ _ e, s.dG]
  · have e : c.val = 1536 + 1024 * (⟨(c.val - 1536) / 1024, by omega⟩ : Fin 3).val
        + (⟨(c.val - 1536) % 1024, by omega⟩ : Fin 1024).val := by
      show c.val = 1536 + 1024 * ((c.val - 1536) / 1024) + (c.val - 1536) % 1024
      omega
    rw [resSeg_mix x0 x1 x2 x3 W T d r c _ _ e, resSeg_mix X0 X1 X2 X3 W T D R c _ _ e, s.dM]

/-- The row's terms of the branches' projection's gradient agree. -/
theorem Same.termW (T : Mat 1024 1024) (b : Fin 3) (c : Fin 512) (j : Fin 1024) :
    act (yRow x0 x1 x2 b r) (gRow x3 b r) c * dOut (mRow x3 b r) (uRow T d r) j
      = act (yRow X0 X1 X2 b R) (gRow X3 b R) c * dOut (mRow X3 b R) (uRow T D R) j := by
  rw [s.y, s.g, s.m, s.u]

/-- The row's terms of the output projection's gradient agree. -/
theorem Same.termT (W : Mat 1536 1024) (k j : Fin 1024) :
    Gate.merged x0 x1 x2 x3 W r k * d (ix2 r j) = Gate.merged X0 X1 X2 X3 W R k * D (ix2 R j) := by
  rw [s.merged, s.e4]

end

/-! ## Sums over tiles -/

/-- A sum over 8 tiles of 256 rows is the sum over the rows. -/
theorem sum_tiles (f : Fin 8 → Fin 256 → EReal) (g : Fin 2048 → EReal)
    (h : ∀ (t : Fin 8) (r : Fin 256) (p : 256 * t.val + r.val < 2048), f t r = g ⟨256 * t.val + r.val, p⟩) :
    ∑ t : Fin 8, ∑ r : Fin 256, f t r = ∑ R : Fin 2048, g R := by
  refine (Fin.sum_points_lanes_congr (A := 1) (L := 2048) (g := fun _ => g) 8 fun t k _ hl => ?_).trans (Fin.sum_univ_one _)
  rw [h t k (by omega)]
  congr 1
  exact Fin.ext (by show 256 * t.val + k.val = t.val % 8 * 256 + k.val; omega)

variable (x0 x1 : Fin 8 → Heads 256) (x2 : Fin 8 → Mat 256 512) (x3 : Fin 8 → Mat 256 4608) (d : Fin 8 → Mat 256 1024)
  (X0 X1 : Heads 2048) (X2 : Mat 2048 512) (X3 : Mat 2048 4608) (D : Mat 2048 1024)
  (s : ∀ (t : Fin 8) (r : Fin 256) (p : 256 * t.val + r.val < 2048),
    Same (x0 t) (x1 t) (x2 t) (x3 t) (d t) X0 X1 X2 X3 D r ⟨256 * t.val + r.val, p⟩)
include s

/-- The tiles' gradients of the branches' projection add up to the whole one. -/
theorem sum_resW (T : Mat 1024 1024) (y : (⟨2, ![1536, 1024]⟩ : Shape).Idx) :
    ∑ t : Fin 8, resW (x0 t) (x1 t) (x2 t) (x3 t) T (d t) y = resW X0 X1 X2 X3 T D y := by
  unfold resW
  exact sum_tiles _ _ fun t r p => (s t r p).termW T _ _ _

/-- The tiles' gradients of the output projection add up to the whole one. -/
theorem sum_resT (W : Mat 1536 1024) (y : (⟨2, ![1024, 1024]⟩ : Shape).Idx) :
    ∑ t : Fin 8, resT (x0 t) (x1 t) (x2 t) (x3 t) W (d t) y = resT X0 X1 X2 X3 W D y := by
  unfold resT
  exact sum_tiles _ _ fun t r p => (s t r p).termT W _ _

end Gate

end

end
-- ==== Proof.GateRef.lean ====
module

public import proofs.«01_k».proof.Proof.GateMath
public import proofs.«01_k».proof.Proof.Gen.ReferenceIdeal.Read
public import Idealize.ShloMosaic.Lib.IdealHost
public import Idealize.ShloMosaic.Lib.Pipeline.ValueKit

/-!
# What the reference computes

Each result of the reference's host program, read at an index, is the gradient of the gated merge as `Proof/GateMath.lean`
writes it.  The intermediate stages are read at row `r` and a column, one branch after another.
-/

@[expose] public section

set_option maxRecDepth 16384

noncomputable section

open Idealize.ShloMosaic Idealize.ShloMosaic.TcCoe Gate

namespace Cert.ReferenceIdeal.Gate

open Cert.ReferenceIdeal Cert.ReferenceIdeal.Gen Cert.ReferenceIdeal.Read

variable (X0 X1 : FVec Ideal S8x2048x64 .f32) (X2 : FVec Ideal S2048x512 .f32) (X3 : FVec Ideal S2048x4608 .f32)
  (W : FVec Ideal S1536x1024 .f32) (T : FVec Ideal S1024x1024 .f32) (D : FVec Ideal S2048x1024 .f32)

/-- The ideal quotient `1 / (1 + e⁻ˣ)` is the sigmoid. -/
theorem div_exp (x : EReal) : Ideal.div 1 (1 + Ideal.exp (-x)) = sgm x := rfl

/-! ## The stages, branch by branch -/

/-- Branch 0's input, row by row. -/
theorem y0 (r : Fin 2048) (c : Fin 512) :
    val_main_v7 (F := Ideal) X0 (ix2 r c) = yRow X0 X1 X2 0 r c := by
  rw [val_main_v7_apply, val_main_v6_apply]
  show X0 _ = X0 _
  congr 1; funext a; apply Fin.ext
  have := c.isLt; have := r.isLt
  match a with
  | ⟨0, _⟩ => dsimp [ix2, ix3, Shape.Idx.norm]; omega
  | ⟨1, _⟩ => dsimp [ix2, ix3]; omega
  | ⟨2, _⟩ => dsimp [ix2, ix3]; omega

/-- Branch 0's gate. -/
theorem g0 (r : Fin 2048) (c : Fin 512) :
    val_main_v0 (F := Ideal) X3 (ix2 r c) = gRow (n := 2048) X3 0 r c := by
  rw [val_main_v0_apply]
  blk_ext [gRow]

/-- Branch 0's merge gate. -/
theorem m0 (r : Fin 2048) (j : Fin 1024) :
    val_main_v3 (F := Ideal) X3 (ix2 r j) = mRow (n := 2048) X3 0 r j := by
  rw [val_main_v3_apply]
  blk_ext [mRow]

/-- Branch 0's block of the projection. -/
theorem w0 (k : Fin 512) (j : Fin 1024) :
    val_main_v10 (F := Ideal) W (ix2 k j) = wBlk W 0 k j := by
  rw [val_main_v10_apply]
  blk_ext [wBlk]

/-- Branch 0's gate under the sigmoid. -/
theorem s0 (i : S2048x512.Idx) :
    val_main_v13_2 (F := Ideal) X3 i = sgm (val_main_v0 (F := Ideal) X3 i) := by
  simp only [val_main_v13_2_apply, val_main_call0_v4_apply, val_main_call0_cst_0_apply, val_main_call0_v3_apply, val_main_call0_v2_apply, val_main_call0_cst_apply, val_main_call0_v1_apply, val_main_call0_v0_apply, Ideal.mulf_def, Ideal.addf_def, Ideal.subf_def, Ideal.hostNegf_def, Ideal.negf_def, Ideal.hostDivf_def, Ideal.hostUnary_exp_def, Ideal.ofBits_def, Ideal.ofBits_one_f32, div_exp]

/-- Its derivative there. -/
theorem ds0 (i : S2048x512.Idx) :
    val_main_v13_1 (F := Ideal) X3 i = dsig (val_main_v0 (F := Ideal) X3 i) := by
  simp only [val_main_v13_1_apply, val_main_call0_v7_apply, val_main_call0_v6_apply, val_main_call0_cst_1_apply, s0, dsig, Ideal.mulf_def, Ideal.addf_def, Ideal.subf_def, Ideal.hostNegf_def, Ideal.negf_def, Ideal.hostDivf_def, Ideal.hostUnary_exp_def, Ideal.ofBits_def, Ideal.ofBits_one_f32, div_exp]

/-- Branch 0's gate under `silu`. -/
theorem silu0 (i : S2048x512.Idx) :
    val_main_v13_0 (F := Ideal) X3 i = silu (val_main_v0 (F := Ideal) X3 i) := by
  simp only [val_main_v13_0_apply, s0, silu, Ideal.mulf_def, Ideal.addf_def, Ideal.subf_def, Ideal.hostNegf_def, Ideal.negf_def, Ideal.hostDivf_def, Ideal.hostUnary_exp_def, Ideal.ofBits_def, Ideal.ofBits_one_f32, div_exp]

/-- Branch 0's gated input. -/
theorem act0 (r : Fin 2048) (c : Fin 512) :
    val_main_v14 (F := Ideal) X0 X3 (ix2 r c) = act (yRow X0 X1 X2 0 r) (gRow (n := 2048) X3 0 r) c := by
  rw [val_main_v14_apply, silu0, g0, y0 X0 X1 X2]
  rfl

/-- Branch 0 projected up. -/
theorem out0 (r : Fin 2048) (j : Fin 1024) :
    val_main_v15 (F := Ideal) X0 X3 W (ix2 r j) = out (yRow X0 X1 X2 0 r) (gRow (n := 2048) X3 0 r) (wBlk W 0) j := by
  rw [val_main_v15_apply]
  refine Finset.sum_congr rfl fun k _ => ?_
  rw [show lidx_main_v15 (ix2 r j) k = ix2 r k from by blk_ext [ix2], show ridx_main_v15 (ix2 r j) k = ix2 k j from by blk_ext [ix2], act0 X0 X1 X2, w0]

/-- Branch 0's merge gate under the sigmoid. -/
theorem sm0 (i : S2048x1024.Idx) :
    val_main_v27 (F := Ideal) X3 i = sgm (val_main_v3 (F := Ideal) X3 i) := by
  simp only [val_main_v27_apply, val_main_v26_apply, val_main_cst_0_apply, val_main_v25_apply, val_main_v24_apply, val_main_cst_apply, val_main_v23_apply, val_main_v22_apply, Ideal.mulf_def, Ideal.addf_def, Ideal.subf_def, Ideal.hostNegf_def, Ideal.negf_def, Ideal.hostDivf_def, Ideal.hostUnary_exp_def, Ideal.ofBits_def, Ideal.ofBits_one_f32, div_exp]

/-- Its derivative there. -/
theorem dsm0 (i : S2048x1024.Idx) :
    val_main_v30 (F := Ideal) X3 i = dsig (val_main_v3 (F := Ideal) X3 i) := by
  simp only [val_main_v30_apply, val_main_v29_apply, val_main_v28_apply, val_main_cst_1_apply, sm0, dsig, Ideal.mulf_def, Ideal.addf_def, Ideal.subf_def, Ideal.hostNegf_def, Ideal.negf_def, Ideal.hostDivf_def, Ideal.hostUnary_exp_def, Ideal.ofBits_def, Ideal.ofBits_one_f32, div_exp]

/-- Branch 1's input, row by row. -/
theorem y1 (r : Fin 2048) (c : Fin 512) :
    val_main_v9 (F := Ideal) X1 (ix2 r c) = yRow X0 X1 X2 1 r c := by
  rw [val_main_v9_apply, val_main_v8_apply]
  show X1 _ = X1 _
  congr 1; funext a; apply Fin.ext
  have := c.isLt; have := r.isLt
  match a with
  | ⟨0, _⟩ => dsimp [ix2, ix3, Shape.Idx.norm]; omega
  | ⟨1, _⟩ => dsimp [ix2, ix3]; omega
  | ⟨2, _⟩ => dsimp [ix2, ix3]; omega

/-- Branch 1's gate. -/
theorem g1 (r : Fin 2048) (c : Fin 512) :
    val_main_v1 (F := Ideal) X3 (ix2 r c) = gRow (n := 2048) X3 1 r c := by
  rw [val_main_v1_apply]
  blk_ext [gRow]

/-- Branch 1's merge gate. -/
theorem m1 (r : Fin 2048) (j : Fin 1024) :
    val_main_v4 (F := Ideal) X3 (ix2 r j) = mRow (n := 2048) X3 1 r j := by
  rw [val_main_v4_apply]
  blk_ext [mRow]

/-- Branch 1's block of the projection. -/
theorem w1 (k : Fin 512) (j : Fin 1024) :
    val_main_v11 (F := Ideal) W (ix2 k j) = wBlk W 1 k j := by
  rw [val_main_v11_apply]
  blk_ext [wBlk]

/-- Branch 1's gate under the sigmoid. -/
theorem s1 (i : S2048x512.Idx) :
    val_main_v16_2 (F := Ideal) X3 i = sgm (val_main_v1 (F := Ideal) X3 i) := by
  simp only [val_main_v16_2_apply, val_main_call1_v4_apply, val_main_call1_cst_0_apply, val_main_call1_v3_apply, val_main_call1_v2_apply, val_main_call1_cst_apply, val_main_call1_v1_apply, val_main_call1_v0_apply, Ideal.mulf_def, Ideal.addf_def, Ideal.subf_def, Ideal.hostNegf_def, Ideal.negf_def, Ideal.hostDivf_def, Ideal.hostUnary_exp_def, Ideal.ofBits_def, Ideal.ofBits_one_f32, div_exp]

/-- Its derivative there. -/
theorem ds1 (i : S2048x512.Idx) :
    val_main_v16_1 (F := Ideal) X3 i = dsig (val_main_v1 (F := Ideal) X3 i) := by
  simp only [val_main_v16_1_apply, val_main_call1_v7_apply, val_main_call1_v6_apply, val_main_call1_cst_1_apply, s1, dsig, Ideal.mulf_def, Ideal.addf_def, Ideal.subf_def, Ideal.hostNegf_def, Ideal.negf_def, Ideal.hostDivf_def, Ideal.hostUnary_exp_def, Ideal.ofBits_def, Ideal.ofBits_one_f32, div_exp]

/-- Branch 1's gate under `silu`. -/
theorem silu1 (i : S2048x512.Idx) :
    val_main_v16_0 (F := Ideal) X3 i = silu (val_main_v1 (F := Ideal) X3 i) := by
  simp only [val_main_v16_0_apply, s1, silu, Ideal.mulf_def, Ideal.addf_def, Ideal.subf_def, Ideal.hostNegf_def, Ideal.negf_def, Ideal.hostDivf_def, Ideal.hostUnary_exp_def, Ideal.ofBits_def, Ideal.ofBits_one_f32, div_exp]

/-- Branch 1's gated input. -/
theorem act1 (r : Fin 2048) (c : Fin 512) :
    val_main_v17 (F := Ideal) X1 X3 (ix2 r c) = act (yRow X0 X1 X2 1 r) (gRow (n := 2048) X3 1 r) c := by
  rw [val_main_v17_apply, silu1, g1, y1 X0 X1 X2]
  rfl

/-- Branch 1 projected up. -/
theorem out1 (r : Fin 2048) (j : Fin 1024) :
    val_main_v18 (F := Ideal) X1 X3 W (ix2 r j) = out (yRow X0 X1 X2 1 r) (gRow (n := 2048) X3 1 r) (wBlk W 1) j := by
  rw [val_main_v18_apply]
  refine Finset.sum_congr rfl fun k _ => ?_
  rw [show lidx_main_v18 (ix2 r j) k = ix2 r k from by blk_ext [ix2], show ridx_main_v18 (ix2 r j) k = ix2 k j from by blk_ext [ix2], act1 X0 X1 X2, w1]

/-- Branch 1's merge gate under the sigmoid. -/
theorem sm1 (i : S2048x1024.Idx) :
    val_main_v37 (F := Ideal) X3 i = sgm (val_main_v4 (F := Ideal) X3 i) := by
  simp only [val_main_v37_apply, val_main_v36_apply, val_main_cst_3_apply, val_main_v35_apply, val_main_v34_apply, val_main_cst_2_apply, val_main_v33_apply, val_main_v32_apply, Ideal.mulf_def, Ideal.addf_def, Ideal.subf_def, Ideal.hostNegf_def, Ideal.negf_def, Ideal.hostDivf_def, Ideal.hostUnary_exp_def, Ideal.ofBits_def, Ideal.ofBits_one_f32, div_exp]

/-- Its derivative there. -/
theorem dsm1 (i : S2048x1024.Idx) :
    val_main_v40 (F := Ideal) X3 i = dsig (val_main_v4 (F := Ideal) X3 i) := by
  simp only [val_main_v40_apply, val_main_v39_apply, val_main_v38_apply, val_main_cst_4_apply, sm1, dsig, Ideal.mulf_def, Ideal.addf_def, Ideal.subf_def, Ideal.hostNegf_def, Ideal.negf_def, Ideal.hostDivf_def, Ideal.hostUnary_exp_def, Ideal.ofBits_def, Ideal.ofBits_one_f32, div_exp]

/-- Branch 2's gate. -/
theorem g2 (r : Fin 2048) (c : Fin 512) :
    val_main_v2 (F := Ideal) X3 (ix2 r c) = gRow (n := 2048) X3 2 r c := by
  rw [val_main_v2_apply]
  blk_ext [gRow]

/-- Branch 2's merge gate. -/
theorem m2 (r : Fin 2048) (j : Fin 1024) :
    val_main_v5 (F := Ideal) X3 (ix2 r j) = mRow (n := 2048) X3 2 r j := by
  rw [val_main_v5_apply]
  blk_ext [mRow]

/-- Branch 2's block of the projection. -/
theorem w2 (k : Fin 512) (j : Fin 1024) :
    val_main_v12 (F := Ideal) W (ix2 k j) = wBlk W 2 k j := by
  rw [val_main_v12_apply]
  blk_ext [wBlk]

/-- Branch 2's gate under the sigmoid. -/
theorem s2 (i : S2048x512.Idx) :
    val_main_v19_2 (F := Ideal) X3 i = sgm (val_main_v2 (F := Ideal) X3 i) := by
  simp only [val_main_v19_2_apply, val_main_call2_v4_apply, val_main_call2_cst_0_apply, val_main_call2_v3_apply, val_main_call2_v2_apply, val_main_call2_cst_apply, val_main_call2_v1_apply, val_main_call2_v0_apply, Ideal.mulf_def, Ideal.addf_def, Ideal.subf_def, Ideal.hostNegf_def, Ideal.negf_def, Ideal.hostDivf_def, Ideal.hostUnary_exp_def, Ideal.ofBits_def, Ideal.ofBits_one_f32, div_exp]

/-- Its derivative there. -/
theorem ds2 (i : S2048x512.Idx) :
    val_main_v19_1 (F := Ideal) X3 i = dsig (val_main_v2 (F := Ideal) X3 i) := by
  simp only [val_main_v19_1_apply, val_main_call2_v7_apply, val_main_call2_v6_apply, val_main_call2_cst_1_apply, s2, dsig, Ideal.mulf_def, Ideal.addf_def, Ideal.subf_def, Ideal.hostNegf_def, Ideal.negf_def, Ideal.hostDivf_def, Ideal.hostUnary_exp_def, Ideal.ofBits_def, Ideal.ofBits_one_f32, div_exp]

/-- Branch 2's gate under `silu`. -/
theorem silu2 (i : S2048x512.Idx) :
    val_main_v19_0 (F := Ideal) X3 i = silu (val_main_v2 (F := Ideal) X3 i) := by
  simp only [val_main_v19_0_apply, s2, silu, Ideal.mulf_def, Ideal.addf_def, Ideal.subf_def, Ideal.hostNegf_def, Ideal.negf_def, Ideal.hostDivf_def, Ideal.hostUnary_exp_def, Ideal.ofBits_def, Ideal.ofBits_one_f32, div_exp]

/-- Branch 2's gated input. -/
theorem act2 (r : Fin 2048) (c : Fin 512) :
    val_main_v20 (F := Ideal) X2 X3 (ix2 r c) = act (yRow X0 X1 X2 2 r) (gRow (n := 2048) X3 2 r) c := by
  rw [val_main_v20_apply, silu2, g2]
  rfl

/-- Branch 2 projected up. -/
theorem out2 (r : Fin 2048) (j : Fin 1024) :
    val_main_v21 (F := Ideal) X2 X3 W (ix2 r j) = out (yRow X0 X1 X2 2 r) (gRow (n := 2048) X3 2 r) (wBlk W 2) j := by
  rw [val_main_v21_apply]
  refine Finset.sum_congr rfl fun k _ => ?_
  rw [show lidx_main_v21 (ix2 r j) k = ix2 r k from by blk_ext [ix2], show ridx_main_v21 (ix2 r j) k = ix2 k j from by blk_ext [ix2], act2 X0 X1 X2, w2]

/-- Branch 2's merge gate under the sigmoid. -/
theorem sm2 (i : S2048x1024.Idx) :
    val_main_v48 (F := Ideal) X3 i = sgm (val_main_v5 (F := Ideal) X3 i) := by
  simp only [val_main_v48_apply, val_main_v47_apply, val_main_cst_6_apply, val_main_v46_apply, val_main_v45_apply, val_main_cst_5_apply, val_main_v44_apply, val_main_v43_apply, Ideal.mulf_def, Ideal.addf_def, Ideal.subf_def, Ideal.hostNegf_def, Ideal.negf_def, Ideal.hostDivf_def, Ideal.hostUnary_exp_def, Ideal.ofBits_def, Ideal.ofBits_one_f32, div_exp]

/-- Its derivative there. -/
theorem dsm2 (i : S2048x1024.Idx) :
    val_main_v51 (F := Ideal) X3 i = dsig (val_main_v5 (F := Ideal) X3 i) := by
  simp only [val_main_v51_apply, val_main_v50_apply, val_main_v49_apply, val_main_cst_7_apply, sm2, dsig, Ideal.mulf_def, Ideal.addf_def, Ideal.subf_def, Ideal.hostNegf_def, Ideal.negf_def, Ideal.hostDivf_def, Ideal.hostUnary_exp_def, Ideal.ofBits_def, Ideal.ofBits_one_f32, div_exp]

/-! ## The gradient -/

/-- The gradient of the merged activations. -/
theorem u (r : Fin 2048) (k : Fin 1024) :
    val_main_v57 (F := Ideal) T D (ix2 r k) = uRow T (n := 2048) D r k := by
  rw [val_main_v57_apply]
  refine Finset.sum_congr rfl fun j _ => ?_
  rw [show lidx_main_v57 (ix2 r k) j = ix2 r j from by blk_ext [ix2], show ridx_main_v57 (ix2 r k) j = ix2 k j from by blk_ext [ix2]]

/-- The merged activations. -/
theorem mg (r : Fin 2048) (j : Fin 1024) :
    val_main_v53 (F := Ideal) X0 X1 X2 X3 W (ix2 r j) = merged (n := 2048) X0 X1 X2 X3 W r j := by
  simp only [val_main_v53_apply, val_main_v42_apply, val_main_v31_apply, val_main_v41_apply, val_main_v52_apply, sm0, sm1, sm2, m0, m1, m2, out0 X0 X1 X2, out1 X0 X1 X2, out2 X0 X1 X2, Ideal.mulf_def, Ideal.addf_def]
  rfl

/-- The gradient of branch 0 projected. -/
theorem do0 (r : Fin 2048) (j : Fin 1024) :
    val_main_v64 (F := Ideal) X3 T D (ix2 r j) = dOut (mRow (n := 2048) X3 0 r) (uRow T (n := 2048) D r) j := by
  rw [val_main_v64_apply, sm0, m0, u]
  rfl

/-- The gradient of branch 0's merge gate. -/
theorem dm0 (r : Fin 2048) (j : Fin 1024) :
    val_main_v66 (F := Ideal) X0 X3 W T D (ix2 r j) = dMRow (n := 2048) X0 X1 X2 X3 W T D 0 r j := by
  rw [val_main_v66_apply, val_main_v65_apply, dsm0, m0, u, out0 X0 X1 X2]
  rfl

/-- The gradient of branch 0's gated input. -/
theorem da0 (r : Fin 2048) (c : Fin 512) :
    val_main_v81 (F := Ideal) X3 W T D (ix2 r c) = dAct (wBlk W 0) (mRow (n := 2048) X3 0 r) (uRow T (n := 2048) D r) c := by
  rw [val_main_v81_apply]
  refine Finset.sum_congr rfl fun j _ => ?_
  rw [show lidx_main_v81 (ix2 r c) j = ix2 r j from by blk_ext [ix2], show ridx_main_v81 (ix2 r c) j = ix2 c j from by blk_ext [ix2], do0, w0]

/-- The gradient of branch 0's input. -/
theorem dy0 (r : Fin 2048) (c : Fin 512) :
    val_main_v83 (F := Ideal) X3 W T D (ix2 r c) = dYRow (n := 2048) X3 W T D 0 r c := by
  rw [val_main_v83_apply, da0, silu0, g0]
  rfl

/-- The gradient of branch 0's gate. -/
theorem dg0 (r : Fin 2048) (c : Fin 512) :
    val_main_v84 (F := Ideal) X0 X3 W T D (ix2 r c) = dGRow (n := 2048) X0 X1 X2 X3 W T D 0 r c := by
  rw [val_main_v84_apply, val_main_call5_v1_apply, val_main_call5_v2_apply, val_main_call5_v0_apply, val_main_v82_apply, da0, s0, ds0, g0, y0 X0 X1 X2]
  rfl

/-- The gradient of branch 0's block of the projection. -/
theorem dw0 (c : Fin 512) (j : Fin 1024) :
    val_main_v80 (F := Ideal) X0 X3 T D (ix2 c j) = ∑ r : Fin 2048, act (yRow X0 X1 X2 0 r) (gRow (n := 2048) X3 0 r) c * dOut (mRow (n := 2048) X3 0 r) (uRow T (n := 2048) D r) j := by
  rw [val_main_v80_apply, show idx_main_v80 (ix2 c j) = ix2 j c from by blk_ext [ix2], val_main_v79_apply]
  refine Finset.sum_congr rfl fun r _ => ?_
  rw [show lidx_main_v79 (ix2 j c) r = ix2 r j from by blk_ext [ix2], show ridx_main_v79 (ix2 j c) r = ix2 r c from by blk_ext [ix2], do0, act0 X0 X1 X2, mul_comm]

/-- The gradient of branch 1 projected. -/
theorem do1 (r : Fin 2048) (j : Fin 1024) :
    val_main_v61 (F := Ideal) X3 T D (ix2 r j) = dOut (mRow (n := 2048) X3 1 r) (uRow T (n := 2048) D r) j := by
  rw [val_main_v61_apply, sm1, m1, u]
  rfl

/-- The gradient of branch 1's merge gate. -/
theorem dm1 (r : Fin 2048) (j : Fin 1024) :
    val_main_v63 (F := Ideal) X1 X3 W T D (ix2 r j) = dMRow (n := 2048) X0 X1 X2 X3 W T D 1 r j := by
  rw [val_main_v63_apply, val_main_v62_apply, dsm1, m1, u, out1 X0 X1 X2]
  rfl

/-- The gradient of branch 1's gated input. -/
theorem da1 (r : Fin 2048) (c : Fin 512) :
    val_main_v75 (F := Ideal) X3 W T D (ix2 r c) = dAct (wBlk W 1) (mRow (n := 2048) X3 1 r) (uRow T (n := 2048) D r) c := by
  rw [val_main_v75_apply]
  refine Finset.sum_congr rfl fun j _ => ?_
  rw [show lidx_main_v75 (ix2 r c) j = ix2 r j from by blk_ext [ix2], show ridx_main_v75 (ix2 r c) j = ix2 c j from by blk_ext [ix2], do1, w1]

/-- The gradient of branch 1's input. -/
theorem dy1 (r : Fin 2048) (c : Fin 512) :
    val_main_v77 (F := Ideal) X3 W T D (ix2 r c) = dYRow (n := 2048) X3 W T D 1 r c := by
  rw [val_main_v77_apply, da1, silu1, g1]
  rfl

/-- The gradient of branch 1's gate. -/
theorem dg1 (r : Fin 2048) (c : Fin 512) :
    val_main_v78 (F := Ideal) X1 X3 W T D (ix2 r c) = dGRow (n := 2048) X0 X1 X2 X3 W T D 1 r c := by
  rw [val_main_v78_apply, val_main_call4_v1_apply, val_main_call4_v2_apply, val_main_call4_v0_apply, val_main_v76_apply, da1, s1, ds1, g1, y1 X0 X1 X2]
  rfl

/-- The gradient of branch 1's block of the projection. -/
theorem dw1 (c : Fin 512) (j : Fin 1024) :
    val_main_v74 (F := Ideal) X1 X3 T D (ix2 c j) = ∑ r : Fin 2048, act (yRow X0 X1 X2 1 r) (gRow (n := 2048) X3 1 r) c * dOut (mRow (n := 2048) X3 1 r) (uRow T (n := 2048) D r) j := by
  rw [val_main_v74_apply, show idx_main_v74 (ix2 c j) = ix2 j c from by blk_ext [ix2], val_main_v73_apply]
  refine Finset.sum_congr rfl fun r _ => ?_
  rw [show lidx_main_v73 (ix2 j c) r = ix2 r j from by blk_ext [ix2], show ridx_main_v73 (ix2 j c) r = ix2 r c from by blk_ext [ix2], do1, act1 X0 X1 X2, mul_comm]

/-- The gradient of branch 2 projected. -/
theorem do2 (r : Fin 2048) (j : Fin 1024) :
    val_main_v58 (F := Ideal) X3 T D (ix2 r j) = dOut (mRow (n := 2048) X3 2 r) (uRow T (n := 2048) D r) j := by
  rw [val_main_v58_apply, sm2, m2, u]
  rfl

/-- The gradient of branch 2's merge gate. -/
theorem dm2 (r : Fin 2048) (j : Fin 1024) :
    val_main_v60 (F := Ideal) X2 X3 W T D (ix2 r j) = dMRow (n := 2048) X0 X1 X2 X3 W T D 2 r j := by
  rw [val_main_v60_apply, val_main_v59_apply, dsm2, m2, u, out2 X0 X1 X2]
  rfl

/-- The gradient of branch 2's gated input. -/
theorem da2 (r : Fin 2048) (c : Fin 512) :
    val_main_v69 (F := Ideal) X3 W T D (ix2 r c) = dAct (wBlk W 2) (mRow (n := 2048) X3 2 r) (uRow T (n := 2048) D r) c := by
  rw [val_main_v69_apply]
  refine Finset.sum_congr rfl fun j _ => ?_
  rw [show lidx_main_v69 (ix2 r c) j = ix2 r j from by blk_ext [ix2], show ridx_main_v69 (ix2 r c) j = ix2 c j from by blk_ext [ix2], do2, w2]

/-- The gradient of branch 2's input. -/
theorem dy2 (r : Fin 2048) (c : Fin 512) :
    val_main_v71 (F := Ideal) X3 W T D (ix2 r c) = dYRow (n := 2048) X3 W T D 2 r c := by
  rw [val_main_v71_apply, da2, silu2, g2]
  rfl

/-- The gradient of branch 2's gate. -/
theorem dg2 (r : Fin 2048) (c : Fin 512) :
    val_main_v72 (F := Ideal) X2 X3 W T D (ix2 r c) = dGRow (n := 2048) X0 X1 X2 X3 W T D 2 r c := by
  rw [val_main_v72_apply, val_main_call3_v1_apply, val_main_call3_v2_apply, val_main_call3_v0_apply, val_main_v70_apply, da2, s2, ds2, g2]
  rfl

/-- The gradient of branch 2's block of the projection. -/
theorem dw2 (c : Fin 512) (j : Fin 1024) :
    val_main_v68 (F := Ideal) X2 X3 T D (ix2 c j) = ∑ r : Fin 2048, act (yRow X0 X1 X2 2 r) (gRow (n := 2048) X3 2 r) c * dOut (mRow (n := 2048) X3 2 r) (uRow T (n := 2048) D r) j := by
  rw [val_main_v68_apply, show idx_main_v68 (ix2 c j) = ix2 j c from by blk_ext [ix2], val_main_v67_apply]
  refine Finset.sum_congr rfl fun r _ => ?_
  rw [show lidx_main_v67 (ix2 j c) r = ix2 r j from by blk_ext [ix2], show ridx_main_v67 (ix2 j c) r = ix2 r c from by blk_ext [ix2], do2, act2 X0 X1 X2, mul_comm]

/-! ## The results -/

/-- The gradient of the latent attention's output. -/
theorem res0 :
    val_main_v87 (F := Ideal) X3 W T D = resHead (n := 2048) X3 W T D 0 := by
  funext i
  idx_vars i
  rw [val_main_v87_apply, val_main_v86_apply]
  show val_main_v83 (F := Ideal) X3 W T D _ = dYRow (n := 2048) X3 W T D 0 i1 ⟨64 * i0.val + i2.val, _⟩
  rw [← dy0]
  congr 1
  blk_ext [ix2, ix3]

/-- The gradient of the forgetting attention's output. -/
theorem res1 :
    val_main_v89 (F := Ideal) X3 W T D = resHead (n := 2048) X3 W T D 1 := by
  funext i
  idx_vars i
  rw [val_main_v89_apply, val_main_v88_apply]
  show val_main_v77 (F := Ideal) X3 W T D _ = dYRow (n := 2048) X3 W T D 1 i1 ⟨64 * i0.val + i2.val, _⟩
  rw [← dy1]
  congr 1
  blk_ext [ix2, ix3]

/-- The gradient of the state-space mixer's output. -/
theorem res2 :
    val_main_v71 (F := Ideal) X3 W T D = resS5 (n := 2048) X3 W T D := by
  funext i
  idx_vars i
  exact dy2 X3 W T D i0 i1

/-- The gradient of the gates. -/
theorem res3 :
    val_main_v91 (F := Ideal) X0 X1 X2 X3 W T D = resSeg (n := 2048) X0 X1 X2 X3 W T D := by
  funext i
  idx_vars i
  rw [val_main_v91_apply, Ideal.truncf_def]
  pointwise [val_main_v90]
  by_cases h0 : i1.val < 512
  · rw [dif_pos h0, dg0 X0 X1 X2]; exact (resSeg_gate X0 X1 X2 X3 W T D i0 i1 0 _ (by show i1.val = 512 * 0 + i1.val; omega)).symm
  rw [dif_neg h0]
  by_cases h1 : i1.val - 512 < 512
  · rw [dif_pos h1, dg1 X0 X1 X2]; exact (resSeg_gate X0 X1 X2 X3 W T D i0 i1 1 _ (by show i1.val = 512 * 1 + (i1.val - 512); omega)).symm
  rw [dif_neg h1]
  by_cases h2 : i1.val - 512 - 512 < 512
  · rw [dif_pos h2, dg2 X0 X1 X2]; exact (resSeg_gate X0 X1 X2 X3 W T D i0 i1 2 _ (by show i1.val = 512 * 2 + (i1.val - 512 - 512); omega)).symm
  rw [dif_neg h2]
  by_cases h3 : i1.val - 512 - 512 - 512 < 1024
  · rw [dif_pos h3, dm0 X0 X1 X2]; exact (resSeg_mix X0 X1 X2 X3 W T D i0 i1 0 _ (by show i1.val = 1536 + 1024 * 0 + (i1.val - 512 - 512 - 512); omega)).symm
  rw [dif_neg h3]
  by_cases h4 : i1.val - 512 - 512 - 512 - 1024 < 1024
  · rw [dif_pos h4, dm1 X0 X1 X2]; exact (resSeg_mix X0 X1 X2 X3 W T D i0 i1 1 _ (by show i1.val = 1536 + 1024 * 1 + (i1.val - 512 - 512 - 512 - 1024); omega)).symm
  rw [dif_neg h4]
  rw [dm2 X0 X1 X2]; exact (resSeg_mix X0 X1 X2 X3 W T D i0 i1 2 _ (by show i1.val = 1536 + 1024 * 2 + (i1.val - 512 - 512 - 512 - 1024 - 1024); omega)).symm

/-- The gradient of the branches' projection. -/
theorem res4 :
    val_main_v85 (F := Ideal) X0 X1 X2 X3 T D = resW (n := 2048) X0 X1 X2 X3 T D := by
  funext i
  idx_vars i
  pointwise [val_main_v85]
  by_cases h0 : i0.val < 512
  · rw [dif_pos h0, dw0 X0 X1 X2]; exact (resW_block X0 X1 X2 X3 T D i0 i1 0 _ (by show i0.val = 512 * 0 + i0.val; omega)).symm
  rw [dif_neg h0]
  by_cases h1 : i0.val - 512 < 512
  · rw [dif_pos h1, dw1 X0 X1 X2]; exact (resW_block X0 X1 X2 X3 T D i0 i1 1 _ (by show i0.val = 512 * 1 + (i0.val - 512); omega)).symm
  rw [dif_neg h1]
  rw [dw2 X0 X1 X2]; exact (resW_block X0 X1 X2 X3 T D i0 i1 2 _ (by show i0.val = 512 * 2 + (i0.val - 512 - 512); omega)).symm

/-- The gradient of the output projection. -/
theorem res5 :
    val_main_v56 (F := Ideal) X0 X1 X2 X3 W D = resT (n := 2048) X0 X1 X2 X3 W D := by
  funext i
  idx_vars i
  rw [val_main_v56_apply, show idx_main_v56 (ix2 i0 i1) = ix2 i1 i0 from by blk_ext [ix2], val_main_v55_apply]
  refine Finset.sum_congr rfl fun r _ => ?_
  rw [show lidx_main_v55 (ix2 i1 i0) r = ix2 r i1 from by blk_ext [ix2], show ridx_main_v55 (ix2 i1 i0) r = ix2 r i0 from by blk_ext [ix2], mg, mul_comm]
  rfl

end Cert.ReferenceIdeal.Gate

end

end
-- ==== Proof.GateFwd.lean ====
module

public import proofs.«01_k».proof.Proof.GateRows
public import proofs.«01_k».proof.Proof.GateRef
public import proofs.«01_k».proof.Proof.Gen.GateFwdIdeal.Value
public import proofs.«01_k».proof.Proof.Gen.GateFwdRefIdeal.Read
public import proofs.«01_k».proof.Proof.Gen.GateFwdRefIdeal.Run
public import proofs.«01_k».proof.Defs
public import Idealize.ShloMosaic.Lib.Pipeline.ReadBack

/-!
# The gated merge of the mixers' outputs, forward

The kernel takes 512 rows at a time, puts the mixers' outputs side by side, gates and projects them as
`Proof/GateMath.lean` writes it, and adds the output projection of the merged row to the residual stream.
-/

@[expose] public section

set_option maxRecDepth 16384

noncomputable section

open Idealize.ShloMosaic Idealize.ShloMosaic.TcCoe Idealize.SL.Sem Gate
open Idealize.ShloMosaic.Pipeline (Dat)

namespace Cert.GateFwdIdeal.Product

open Cert.GateFwdIdeal Cert.GateFwdIdeal.Gen

variable (X0 X1 : FVec Ideal S8x512x64 .f32) (X2 : FVec Ideal S512x512 .f32) (X3 : FVec Ideal S512x4608 .f32)
  (D : FVec Ideal S512x1024 .f32) (W : FVec Ideal S1536x1024 .bf16) (T : FVec Ideal S1024x1024 .bf16)

/-! ## The mixers' outputs side by side -/

/-- The seventeen stores that assemble the mixers' outputs. -/
def yPieces : List (View.Piece (Elt Ideal) S512x1536 .f32) :=
  [⟨Rect.unit ![0, 1024] ![512, 512] inb_S512x1536_S512x512_0_1024, k0_pay19 (F := Ideal) X2⟩,
   ⟨Rect.unit ![0, 960] ![512, 64] inb_S512x1536_S512x64_0_960, k0_pay18 (F := Ideal) (View.ld (Val := Elt Ideal) (e' := .f32) X1 (Rect.unit ![7, 0, 0] ![1, 512, 64] inb_S8x512x64_S1x512x64_7_0_0))⟩,
   ⟨Rect.unit ![0, 448] ![512, 64] inb_S512x1536_S512x64_0_448, k0_pay17 (F := Ideal) (View.ld (Val := Elt Ideal) (e' := .f32) X0 (Rect.unit ![7, 0, 0] ![1, 512, 64] inb_S8x512x64_S1x512x64_7_0_0))⟩,
   ⟨Rect.unit ![0, 896] ![512, 64] inb_S512x1536_S512x64_0_896, k0_pay16 (F := Ideal) (View.ld (Val := Elt Ideal) (e' := .f32) X1 (Rect.unit ![6, 0, 0] ![1, 512, 64] inb_S8x512x64_S1x512x64_6_0_0))⟩,
   ⟨Rect.unit ![0, 384] ![512, 64] inb_S512x1536_S512x64_0_384, k0_pay15 (F := Ideal) (View.ld (Val := Elt Ideal) (e' := .f32) X0 (Rect.unit ![6, 0, 0] ![1, 512, 64] inb_S8x512x64_S1x512x64_6_0_0))⟩,
   ⟨Rect.unit ![0, 832] ![512, 64] inb_S512x1536_S512x64_0_832, k0_pay14 (F := Ideal) (View.ld (Val := Elt Ideal) (e' := .f32) X1 (Rect.unit ![5, 0, 0] ![1, 512, 64] inb_S8x512x64_S1x512x64_5_0_0))⟩,
   ⟨Rect.unit ![0, 320] ![512, 64] inb_S512x1536_S512x64_0_320, k0_pay13 (F := Ideal) (k0_pay12 (F := Ideal) (View.ld (Val := Elt Ideal) (e' := .f32) X0 (Rect.unit ![5, 0, 0] ![1, 512, 64] inb_S8x512x64_S1x512x64_5_0_0)))⟩,
   ⟨Rect.unit ![0, 768] ![512, 64] inb_S512x1536_S512x64_0_768, k0_pay11 (F := Ideal) (View.ld (Val := Elt Ideal) (e' := .f32) X1 (Rect.unit ![4, 0, 0] ![1, 512, 64] inb_S8x512x64_S1x512x64_4_0_0))⟩,
   ⟨Rect.unit ![0, 256] ![512, 64] inb_S512x1536_S512x64_0_256, k0_pay10 (F := Ideal) (View.ld (Val := Elt Ideal) (e' := .f32) X0 (Rect.unit ![4, 0, 0] ![1, 512, 64] inb_S8x512x64_S1x512x64_4_0_0))⟩,
   ⟨Rect.unit ![0, 704] ![512, 64] inb_S512x1536_S512x64_0_704, k0_pay9 (F := Ideal) (View.ld (Val := Elt Ideal) (e' := .f32) X1 (Rect.unit ![3, 0, 0] ![1, 512, 64] inb_S8x512x64_S1x512x64_3_0_0))⟩,
   ⟨Rect.unit ![0, 192] ![512, 64] inb_S512x1536_S512x64_0_192, k0_pay8 (F := Ideal) (View.ld (Val := Elt Ideal) (e' := .f32) X0 (Rect.unit ![3, 0, 0] ![1, 512, 64] inb_S8x512x64_S1x512x64_3_0_0))⟩,
   ⟨Rect.unit ![0, 640] ![512, 64] inb_S512x1536_S512x64_0_640, k0_pay7 (F := Ideal) (View.ld (Val := Elt Ideal) (e' := .f32) X1 (Rect.unit ![2, 0, 0] ![1, 512, 64] inb_S8x512x64_S1x512x64_2_0_0))⟩,
   ⟨Rect.unit ![0, 128] ![512, 64] inb_S512x1536_S512x64_0_128, k0_pay6 (F := Ideal) (View.ld (Val := Elt Ideal) (e' := .f32) X0 (Rect.unit ![2, 0, 0] ![1, 512, 64] inb_S8x512x64_S1x512x64_2_0_0))⟩,
   ⟨Rect.unit ![0, 576] ![512, 64] inb_S512x1536_S512x64_0_576, k0_pay5 (F := Ideal) (View.ld (Val := Elt Ideal) (e' := .f32) X1 (Rect.unit ![1, 0, 0] ![1, 512, 64] inb_S8x512x64_S1x512x64_1_0_0))⟩,
   ⟨Rect.unit ![0, 64] ![512, 64] inb_S512x1536_S512x64_0_64, k0_pay4 (F := Ideal) (View.ld (Val := Elt Ideal) (e' := .f32) X0 (Rect.unit ![1, 0, 0] ![1, 512, 64] inb_S8x512x64_S1x512x64_1_0_0))⟩,
   ⟨Rect.unit ![0, 512] ![512, 64] inb_S512x1536_S512x64_0_512, k0_pay3 (F := Ideal) (View.ld (Val := Elt Ideal) (e' := .f32) X1 (Rect.unit ![0, 0, 0] ![1, 512, 64] inb_S8x512x64_S1x512x64_0_0_0))⟩,
   ⟨Rect.unit ![0, 0] ![512, 64] inb_S512x1536_S512x64_0_0, k0_pay2 (F := Ideal) (View.ld (Val := Elt Ideal) (e' := .f32) X0 (Rect.unit ![0, 0, 0] ![1, 512, 64] inb_S8x512x64_S1x512x64_0_0_0))⟩]

/-- What they leave. -/
theorem canon_yPieces : View.canon (yPieces X0 X1 X2) = joined (n := 512) X0 X1 X2 := by
  funext y
  unfold yPieces
  canon_tiles x h using View.cover_of_tiledBy _ ![512, 64] (by sl_kernel_rfl) y
  case piece0 =>
    rw [joined_2 X0 X1 X2 y (x 0) (x 1) h0 h1]
    idx_vars x
    pointwise! [k0_pay19]
  case piece1 =>
    rw [joined_1 X0 X1 X2 y 7 (x 0) (x 1) h0 (by simpa using h1)]
    idx_vars x
    pointwise! [k0_pay18]
  case piece2 =>
    rw [joined_0 X0 X1 X2 y 7 (x 0) (x 1) h0 (by simpa using h1)]
    idx_vars x
    pointwise! [k0_pay17]
  case piece3 =>
    rw [joined_1 X0 X1 X2 y 6 (x 0) (x 1) h0 (by simpa using h1)]
    idx_vars x
    pointwise! [k0_pay16]
  case piece4 =>
    rw [joined_0 X0 X1 X2 y 6 (x 0) (x 1) h0 (by simpa using h1)]
    idx_vars x
    pointwise! [k0_pay15]
  case piece5 =>
    rw [joined_1 X0 X1 X2 y 5 (x 0) (x 1) h0 (by simpa using h1)]
    idx_vars x
    pointwise! [k0_pay14]
  case piece6 =>
    rw [joined_0 X0 X1 X2 y 5 (x 0) (x 1) h0 (by simpa using h1)]
    idx_vars x
    pointwise! [k0_pay13, k0_pay12]
  case piece7 =>
    rw [joined_1 X0 X1 X2 y 4 (x 0) (x 1) h0 (by simpa using h1)]
    idx_vars x
    pointwise! [k0_pay11]
  case piece8 =>
    rw [joined_0 X0 X1 X2 y 4 (x 0) (x 1) h0 (by simpa using h1)]
    idx_vars x
    pointwise! [k0_pay10]
  case piece9 =>
    rw [joined_1 X0 X1 X2 y 3 (x 0) (x 1) h0 (by simpa using h1)]
    idx_vars x
    pointwise! [k0_pay9]
  case piece10 =>
    rw [joined_0 X0 X1 X2 y 3 (x 0) (x 1) h0 (by simpa using h1)]
    idx_vars x
    pointwise! [k0_pay8]
  case piece11 =>
    rw [joined_1 X0 X1 X2 y 2 (x 0) (x 1) h0 (by simpa using h1)]
    idx_vars x
    pointwise! [k0_pay7]
  case piece12 =>
    rw [joined_0 X0 X1 X2 y 2 (x 0) (x 1) h0 (by simpa using h1)]
    idx_vars x
    pointwise! [k0_pay6]
  case piece13 =>
    rw [joined_1 X0 X1 X2 y 1 (x 0) (x 1) h0 (by simpa using h1)]
    idx_vars x
    pointwise! [k0_pay5]
  case piece14 =>
    rw [joined_0 X0 X1 X2 y 1 (x 0) (x 1) h0 (by simpa using h1)]
    idx_vars x
    pointwise! [k0_pay4]
  case piece15 =>
    rw [joined_1 X0 X1 X2 y 0 (x 0) (x 1) h0 (by simpa using h1)]
    idx_vars x
    pointwise! [k0_pay3]
  case piece16 =>
    rw [joined_0 X0 X1 X2 y 0 (x 0) (x 1) h0 (by simpa using h1)]
    idx_vars x
    pointwise! [k0_pay2]

/-- Reading them back whole. -/
theorem ycov :
    (View.whole cc0_scratch0).readCov (Val := Elt Ideal) (yPieces X0 X1 X2)
      (Rect.unit ![0, 0] ![512, 1536] inb_S512x1536_S512x1536_0_0).toLoadRect = joined (n := 512) X0 X1 X2 := by
  rw [View.readCov_eq_canon']
  exact (View.ld_unit_lit inb_S512x1536_S512x1536_0_0 (View.canon (yPieces X0 X1 X2)) (by decide)).trans (canon_yPieces X0 X1 X2)

/-! ## The body's value -/

/-- The merged rows. -/
theorem pay20 (r : Fin 512) (j : Fin 1024) :
    k0_pay20 (F := Ideal) (joined (n := 512) X0 X1 X2)
        (View.ld (Val := Elt Ideal) (e' := .f32) X3 (Rect.unit ![0, 0] ![512, 1536] inb_S512x4608_S512x1536_0_0))
        (View.ld (Val := Elt Ideal) (e' := .bf16) W (Rect.unit ![0, 0] ![512, 1024] inb_S1536x1024_S512x1024_0_0))
        (View.ld (Val := Elt Ideal) (e' := .bf16) W (Rect.unit ![512, 0] ![512, 1024] inb_S1536x1024_S512x1024_512_0))
        (View.ld (Val := Elt Ideal) (e' := .bf16) W (Rect.unit ![1024, 0] ![512, 1024] inb_S1536x1024_S512x1024_1024_0))
        (View.ld (Val := Elt Ideal) (e' := .f32) X3 (Rect.unit ![0, 1536] ![512, 1024] inb_S512x4608_S512x1024_0_1536))
        (View.ld (Val := Elt Ideal) (e' := .f32) X3 (Rect.unit ![0, 2560] ![512, 1024] inb_S512x4608_S512x1024_0_2560))
        (View.ld (Val := Elt Ideal) (e' := .f32) X3 (Rect.unit ![0, 3584] ![512, 1024] inb_S512x4608_S512x1024_0_3584)) (ix2 r j)
      = merged (n := 512) X0 X1 X2 X3 W r j := by
  pointwise [k0_pay20]
  unfold merged part out act silu gRow mRow wBlk
  refine congrArg₂ (HAdd.hAdd (α := EReal) (β := EReal) (γ := EReal)) (congrArg₂ (HAdd.hAdd (α := EReal) (β := EReal) (γ := EReal)) ?_ ?_) ?_
  all_goals refine congrArg₂ (HMul.hMul (α := EReal) (β := EReal) (γ := EReal)) ?_ (Finset.sum_congr rfl fun k _ => ?_)
  · rfl
  · rw [joined_at X0 X1 X2 r _ 0 k (by dsimp; try omega)]
    simp
  · rfl
  · rw [joined_at X0 X1 X2 r _ 1 k (by dsimp; try omega)]
    rfl
  · rfl
  · rw [joined_at X0 X1 X2 r _ 2 k (by dsimp; try omega)]
    rfl

variable (m : (ℓ : Loc nD τ sig) → Buf (Elt Ideal) ℓ) (c : Dev nD) (t : Fin cfg0.N)

attribute [local irreducible] View.readCov

/-- What a point leaves in its output block. -/
theorem win : outsAt0 m c t = resOut (n := 512) (iblk m c 0 t) (iblk m c 1 t) (iblk m c 2 t) (iblk m c 3 t) (iblk m c 5 t) (iblk m c 6 t)
    (iblk m c 4 t) := by
  have hy := ycov (iblk m c 0 t) (iblk m c 1 t) (iblk m c 2 t)
  unfold yPieces at hy
  funext y
  unfold outsAt0 out0_A_7
  dsimp only
  frame_open
  simp (disch := decide) only [↓ View.readCov_skip, ↓ View.readCov_cons_toLoadRect, ↓ View.readCov_fill]
  frame_out
  first | rw [hy] | erw [hy]
  idx_vars y
  pointwise [k0_pay1]
  simp only [pay20]
  rfl

/-! ## The array after the run -/

/-- The arguments. -/
abbrev A0 : Heads 2048 := m ((c : Thread nD τ).loc main_arg0)
abbrev A1 : Heads 2048 := m ((c : Thread nD τ).loc main_arg1)
abbrev A2 : Mat 2048 512 := m ((c : Thread nD τ).loc main_arg2)
abbrev A3 : Mat 2048 4608 := m ((c : Thread nD τ).loc main_arg3)
abbrev A4 : Mat 2048 1024 := m ((c : Thread nD τ).loc main_arg4)
abbrev A5 : Mat 1536 1024 := m ((c : Thread nD τ).loc main_arg5)
abbrev A6 : Mat 1024 1024 := m ((c : Thread nD τ).loc main_arg6)

/-- The windows' block indices. -/
theorem idx : ∀ t : Fin cfg0.N, win0_0.index t = ![0, t.val, 0] ∧ win0_1.index t = ![0, t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![t.val, 0] :=
  (by decide +kernel : ∀ t : Fin grid0.N, win0_0.index t = ![0, t.val, 0] ∧ win0_1.index t = ![0, t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![t.val, 0])

/-- The projections, cast by the host, are the arguments themselves. -/
theorem args : V m c main_v0 = A5 m c ∧ V m c main_v1 = A6 m c := by
  constructor
  · show StableHlo.after hostOps0 (fun b => m (c, b)) main_v0 = _
    unfold hostOps0
    after_results_simp
    rfl
  · show StableHlo.after hostOps0 (fun b => m (c, b)) main_v1 = _
    unfold hostOps0
    after_results_simp
    rfl

/-- A point's blocks of the projections are the whole of them. -/
theorem blkW : iblk m c 5 t = A5 m c ∧ iblk m c 6 t = A6 m c := by
  obtain ⟨-, -, -, -, -, e5, e6, -⟩ := idx t
  refine ⟨funext fun y => ?_, funext fun y => ?_⟩
  · blk_simp [iblk]
    exact (congrFun (args m c).1 _).trans (congrArg (A5 m c) (by blk_ext [e5]))
  · blk_simp [iblk]
    exact (congrFun (args m c).2 _).trans (congrArg (A6 m c) (by blk_ext [e6]))

/-- Row `r` of a point's blocks is row `512 t + r` of the arrays. -/
theorem same (r : Fin 512) (p : t.val * 512 + r.val < 2048) :
    Same (n := 512) (iblk m c 0 t) (iblk m c 1 t) (iblk m c 2 t) (iblk m c 3 t) (iblk m c 4 t)
      (A0 m c) (A1 m c) (A2 m c) (A3 m c) (A4 m c) r ⟨t.val * 512 + r.val, p⟩ := by
  obtain ⟨e0, e1, e2, e3, e4, -⟩ := idx t
  refine ⟨fun h l => ?_, fun h l => ?_, fun k => ?_, fun k => ?_, fun k => ?_⟩ <;> blk_simp [iblk]
  · exact (congrFun (V_main_arg0 m c) _).trans (congrArg (A0 m c) (by blk_ext [e0, ix3]))
  · exact (congrFun (V_main_arg1 m c) _).trans (congrArg (A1 m c) (by blk_ext [e1, ix3]))
  · exact (congrFun (V_main_arg2 m c) _).trans (congrArg (A2 m c) (by blk_ext [e2, ix2]))
  · exact (congrFun (V_main_arg3 m c) _).trans (congrArg (A3 m c) (by blk_ext [e3, ix2]))
  · exact (congrFun (V_main_arg4 m c) _).trans (congrArg (A4 m c) (by blk_ext [e4, ix2]))

/-- The array after the run is the gated merge. -/
theorem arr : (dats m 0 c).arrAt 7 cfg0.N = resOut (A0 m c) (A1 m c) (A2 m c) (A3 m c) (A5 m c) (A6 m c) (A4 m c) := by
  refine (dats m 0 c).arrAt_eq_of_covers 7 _ (by decide +kernel) fun t hf y => ?_
  obtain ⟨-, -, -, -, -, -, -, e⟩ := idx t
  have ht : t.val < 4 := lt_of_lt_of_eq t.isLt N_0
  blk_simp
  rw [after0_7]
  idx_vars y
  have p : t.val * 512 + y0.val < 2048 := by omega
  have s := same m c t y0 p
  refine ((congrFun (win m c t) (ix2 y0 y1)).trans ?_).trans
    (congrArg (resOut (A0 m c) (A1 m c) (A2 m c) (A3 m c) (A5 m c) (A6 m c) (A4 m c)) (by blk_ext [e, ix2] : ix2 ⟨t.val * 512 + y0.val, p⟩ y1 = _))
  rw [(blkW m c t).1, (blkW m c t).2]
  refine congrArg₂ (HAdd.hAdd (α := EReal) (β := EReal) (γ := EReal)) (s.e4 y1) (Finset.sum_congr rfl fun k _ => ?_)
  exact congrArg (· * A6 m c (ix2 k y1)) (congrFun (s.merged (A5 m c)) k)

end Cert.GateFwdIdeal.Product

namespace Cert.GateFwdRefIdeal.Product

open Cert.GateFwdRefIdeal Cert.GateFwdRefIdeal.Read

variable (X0 X1 : FVec Ideal S8x2048x64 .f32) (X2 : FVec Ideal S2048x512 .f32) (X3 : FVec Ideal S2048x4608 .f32)
  (D : FVec Ideal S2048x1024 .f32) (W : FVec Ideal S1536x1024 .f32) (T : FVec Ideal S1024x1024 .f32)

/-- The merged rows: each branch's stages are those of the backward reference (`Proof/GateRef.lean`). -/
theorem v44 (r : Fin 2048) (j : Fin 1024) :
    val_main_v44 (F := Ideal) X0 X1 X2 X3 W (ix2 r j) = merged X0 X1 X2 X3 W r j := by
  have o0 := Cert.ReferenceIdeal.Gate.out0 X0 X1 X2 X3 W r j
  have o1 := Cert.ReferenceIdeal.Gate.out1 X0 X1 X2 X3 W r j
  have o2 := Cert.ReferenceIdeal.Gate.out2 X0 X1 X2 X3 W r j
  have s0 := (Cert.ReferenceIdeal.Gate.sm0 X3 (ix2 r j)).trans (congrArg sgm (Cert.ReferenceIdeal.Gate.m0 X3 r j))
  have s1 := (Cert.ReferenceIdeal.Gate.sm1 X3 (ix2 r j)).trans (congrArg sgm (Cert.ReferenceIdeal.Gate.m1 X3 r j))
  have s2 := (Cert.ReferenceIdeal.Gate.sm2 X3 (ix2 r j)).trans (congrArg sgm (Cert.ReferenceIdeal.Gate.m2 X3 r j))
  rw [val_main_v44_apply, val_main_v36_apply, val_main_v28_apply, val_main_v35_apply, val_main_v43_apply]
  exact congrArg₂ (HAdd.hAdd (α := EReal) (β := EReal) (γ := EReal)) (congrArg₂ (HAdd.hAdd (α := EReal) (β := EReal) (γ := EReal))
    (congrArg₂ (HMul.hMul (α := EReal) (β := EReal) (γ := EReal)) s0 o0) (congrArg₂ (HMul.hMul (α := EReal) (β := EReal) (γ := EReal)) s1 o1))
    (congrArg₂ (HMul.hMul (α := EReal) (β := EReal) (γ := EReal)) s2 o2)

/-- The reference is the gated merge. -/
theorem ref : val_main_v46 (F := Ideal) X0 X1 X2 X3 D W T = resOut X0 X1 X2 X3 W T D := by
  funext y
  idx_vars y
  pointwise [val_main_v46, val_main_v45]
  simp only [v44]
  rfl

/-- The reference leaves its arguments, and has no semaphore. -/
theorem frame : Cert.quiescent_GateFwdRefIdeal (hGateFwdRefIdeal := Gen.facts) := fun m g _ =>
  (θ_run _ _ _).mono (fun r h => ⟨fun c => (h c).2, sem_eq_zero_of_no_sems (by decide) r.2⟩) (Value.run (F := Ideal) m g)

/-- The kernel's result is the reference's. -/
theorem algebraic : Cert.algebraic_GateFwdIdeal_GateFwdRefIdeal (hGateFwdIdeal := Cert.GateFwdIdeal.Gen.facts)
    (hGateFwdRefIdeal := Gen.facts) := by
  intro m g m' g' _ hargs
  refine ⟨fun c => _,
    (θ_run _ _ _).mono (fun r h c => ⟨(h c).1.trans (Cert.GateFwdIdeal.Product.arr m c), (h c).2⟩)
      (Cert.GateFwdIdeal.Value.run_blocks (F := Ideal) m g),
    (θ_run _ _ _).mono (fun r h c => ⟨(h c).1.trans ?_, (h c).2⟩) (Value.run (F := Ideal) m' g')⟩
  obtain ⟨a0, a1, a2, a3, a4, a5, a6⟩ := hargs c
  refine (val_main_v46_eq _ _ _ _ _ _ _).trans ?_
  rw [a0, a1, a2, a3, a4, a5, a6]
  exact ref _ _ _ _ _ _ _

end Cert.GateFwdRefIdeal.Product

end

end
-- ==== Proof.Adam.lean ====
module

public import proofs.«01_k».proof.Proof.Products

/-!
# The optimiser's step, at one element and for two layers' matrices

A weight's gradient is the sum of the devices' shares, layer by layer; it moves the two moments, and these the weight.
The version takes the two layers' matrices one below the other.
-/

@[expose] public section

set_option maxRecDepth 16384

noncomputable section

open Idealize.ShloMosaic

namespace Adam

/-- An array of `k` matrices. -/
abbrev Ten (k r n : ℕ) := (⟨3, ![k, r, n]⟩ : Shape).Idx → EReal

/-- The new first moment of an element. -/
def mean (m g : EReal) : EReal := Ideal.ofBits .f32 0x3F666666#32 * m + Ideal.ofBits .f32 0x3DCCCCCD#32 * g
/-- The new second moment. -/
def spread (v g : EReal) : EReal := Ideal.ofBits .f32 0x3F7FBE77#32 * v + Ideal.ofBits .f32 0x3A83126F#32 * (g * g)
/-- The change of the weight, from the new moments. -/
def change (w m v : EReal) : EReal :=
  Ideal.ofBits .f32 0xBA83126F#32 * (Ideal.div (Ideal.div m (Ideal.ofBits .f32 0x3F26BD02#32))
    (Ideal.sqrt (Ideal.div v (Ideal.ofBits .f32 0x3C231ACC#32)) + Ideal.ofBits .f32 0x322BCC77#32)
    + Ideal.ofBits .f32 0x3C23D70A#32 * w)

/-- The devices' shares of a layer's gradient, summed. -/
def total {r n : ℕ} (c : Ten 4 r n) (p : Fin r) (j : Fin n) : EReal := ∑ k, c (ix3 k p j)

/-- Two layers' matrices. -/
abbrev Lay (r n : ℕ) := Fin 2 → Fin r → Fin n → EReal

/-- An array as two layers' matrices. -/
def lay {r n : ℕ} (a : Ten 2 r n) : Lay r n := fun l p j => a (ix3 l p j)
/-- The gradient. -/
def grad {r n : ℕ} (c d : Ten 4 r n) : Lay r n := fun l p j => if l.val = 0 then total c p j else total d p j
/-- The new first moments. -/
def means {r n : ℕ} (c d : Ten 4 r n) (m : Ten 2 r n) : Lay r n := fun l p j => mean (lay m l p j) (grad c d l p j)
/-- The new second moments. -/
def spreads {r n : ℕ} (c d : Ten 4 r n) (v : Ten 2 r n) : Lay r n := fun l p j => spread (lay v l p j) (grad c d l p j)
/-- The changes of the weights. -/
def changes {r n : ℕ} (w : Ten 2 r n) (c d : Ten 4 r n) (m v : Ten 2 r n) : Lay r n := fun l p j =>
  change (lay w l p j) (means c d m l p j) (spreads c d v l p j)

/-- Two layers' matrices, one below the other. -/
def flat {r n N : ℕ} (h : N = 2 * r) (f : Lay r n) : Product.Mat N n := fun y =>
  have e : (y 0).val < 2 * r := h ▸ (y 0).isLt
  f ⟨(y 0).val / r, Nat.div_lt_of_lt_mul (by omega)⟩ ⟨(y 0).val % r, Nat.mod_lt _ (by omega)⟩ (y 1)

/-- Row `p` of layer `l` is the joined matrix's row `l · r + p`. -/
theorem flat_at {r n N : ℕ} (h : N = 2 * r) (f : Lay r n) (l : Fin 2) (p : Fin r) (j : Fin n) (q : Fin N)
    (hq : q.val = l.val * r + p.val) : flat h f (ix2 q j) = f l p j := by
  have hp := p.isLt
  have e0 : q.val / r = l.val := by
    rw [hq, Nat.mul_comm, Nat.mul_add_div (by omega), Nat.div_eq_of_lt hp, Nat.add_zero]
  have e1 : q.val % r = p.val := by rw [hq, Nat.mul_comm, Nat.mul_add_mod, Nat.mod_eq_of_lt hp]
  exact congr (congrArg f (Fin.ext e0 : (⟨q.val / r, _⟩ : Fin 2) = l)) (Fin.ext e1 : (⟨q.val % r, _⟩ : Fin r) = p) ▸ rfl

/-- Four terms, summed. -/
theorem four (f : Fin 4 → EReal) : f 0 + f 1 + f 2 + f 3 = ∑ k, f k := (Fin.sum_univ_four f).symm

/-- The first layer's gradient. -/
theorem grad_first {r n : ℕ} (c d : Ten 4 r n) (l : Fin 2) (p : Fin r) (j : Fin n) (h : l.val = 0) :
    grad c d l p j = ∑ k, c (ix3 k p j) := if_pos h

/-- The second layer's. -/
theorem grad_second {r n : ℕ} (c d : Ten 4 r n) (l : Fin 2) (p : Fin r) (j : Fin n) (h : ¬l.val = 0) :
    grad c d l p j = ∑ k, d (ix3 k p j) := if_neg h

end Adam
end
-- ==== Proof.AdamOut.lean ====
module

public import proofs.«01_k».proof.Defs
public import proofs.«01_k».proof.Proof.Adam
public import proofs.«01_k».proof.Proof.Gen.AdamOutIdeal.Value
public import proofs.«01_k».proof.Proof.Gen.AdamOutRefIdeal.Read
public import proofs.«01_k».proof.Proof.Gen.AdamOutRefIdeal.Run
public import Idealize.ShloMosaic.Lib.IdealHost
public import Idealize.ShloMosaic.Adequacy
public import Idealize.ShloMosaic.Init

/-!
# The optimiser's step of `w_out`

The kernel takes the layers one after the other; a point sums the shares of its own layer.
-/

@[expose] public section

set_option maxRecDepth 16384

noncomputable section

open Idealize.ShloMosaic Idealize.ShloMosaic.TcCoe Idealize.SL.Sem Product Adam

namespace Cert.AdamOutIdeal.Product

open Cert.AdamOutIdeal Cert.AdamOutIdeal.Gen

/-- The blocks' indices. -/
theorem idx : ∀ t : Fin cfg0.N, win0_0.index t = ![t.val, 0] ∧ win0_1.index t = ![0, 0, 0] ∧ win0_2.index t = ![0, 0, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, win0_0.index t = ![t.val, 0] ∧ win0_1.index t = ![0, 0, 0] ∧ win0_2.index t = ![0, 0, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0])

/-- A point's layer. -/
def lyr (t : Fin cfg0.N) : Fin 2 := ⟨t.val, by have := lt_of_lt_of_eq t.isLt N_0; omega⟩
/-- A tile's row, in its layer. -/
def at' (t : Fin cfg0.N) (r : Fin 128) : Fin 128 := ⟨r.val, by omega⟩
/-- A tile's row, in the joined matrix. -/
def joint (t : Fin cfg0.N) (r : Fin 128) : Fin 256 := ⟨t.val * 128 + r.val, by have := lt_of_lt_of_eq t.isLt N_0; omega⟩

/-- The joined matrix at a tile's row. -/
theorem flat_tile (f : Lay 128 1024) (t : Fin cfg0.N) (r : Fin 128) (j : Fin 1024) :
    flat (N := 256) rfl f (ix2 (joint t r) j) = f (lyr t) (at' t r) j := by
  refine flat_at _ _ _ _ _ _ ?_
  have := lt_of_lt_of_eq t.isLt N_0
  show t.val * 128 + r.val = t.val * 128 + (r.val)
  omega

variable (m : (ℓ : Loc nD τ sig) → Buf (Elt Ideal) ℓ)

/-- The weight. -/
abbrev W (c : Dev nD) : Ten 2 128 1024 := m ((c : Thread nD τ).loc main_arg0)
/-- The first layer's shares. -/
abbrev C0 (c : Dev nD) : Ten 4 128 1024 := m ((c : Thread nD τ).loc main_arg1)
/-- The second layer's shares. -/
abbrev C1 (c : Dev nD) : Ten 4 128 1024 := m ((c : Thread nD τ).loc main_arg2)
/-- The first moments. -/
abbrev M (c : Dev nD) : Ten 2 128 1024 := m ((c : Thread nD τ).loc main_arg3)
/-- The second moments. -/
abbrev S (c : Dev nD) : Ten 2 128 1024 := m ((c : Thread nD τ).loc main_arg4)

/-- The weight as the call gets it: its layers joined. -/
theorem V_v0 (c : Dev nD) : V m c main_v0 = flat (N := 256) rfl (lay (W m c)) := by
  show StableHlo.after hostOps0 (fun b => m (c, b)) main_v0 = _
  unfold hostOps0
  after_results_simp
  funext y
  idx_vars y
  pointwise
  rfl

/-- The first moments as the call gets them. -/
theorem V_v1 (c : Dev nD) : V m c main_v1 = flat (N := 256) rfl (lay (M m c)) := by
  show StableHlo.after hostOps0 (fun b => m (c, b)) main_v1 = _
  unfold hostOps0
  after_results_simp
  funext y
  idx_vars y
  pointwise
  rfl

/-- The second moments as the call gets them. -/
theorem V_v2 (c : Dev nD) : V m c main_v2 = flat (N := 256) rfl (lay (S m c)) := by
  show StableHlo.after hostOps0 (fun b => m (c, b)) main_v2 = _
  unfold hostOps0
  after_results_simp
  funext y
  idx_vars y
  pointwise
  rfl

/-- A point's rows of the weight. -/
theorem blk0 (c : Dev nD) (t : Fin cfg0.N) (r : Fin 128) (j : Fin 1024) : iblk m c 0 t (ix2 r j) = lay (W m c) (lyr t) (at' t r) j := by
  obtain ⟨e, -⟩ := idx t
  blk_simp [iblk]
  exact (congrFun (V_v0 m c) _).trans ((congrArg (flat (N := 256) rfl _) (by blk_ext [e, ix2, joint] : _ = ix2 (joint t r) j)).trans
    (flat_tile _ t r j))

/-- A point's rows of the first moments. -/
theorem blk3 (c : Dev nD) (t : Fin cfg0.N) (r : Fin 128) (j : Fin 1024) : iblk m c 3 t (ix2 r j) = lay (M m c) (lyr t) (at' t r) j := by
  obtain ⟨-, -, -, e, -⟩ := idx t
  blk_simp [iblk]
  exact (congrFun (V_v1 m c) _).trans ((congrArg (flat (N := 256) rfl _) (by blk_ext [e, ix2, joint] : _ = ix2 (joint t r) j)).trans
    (flat_tile _ t r j))

/-- A point's rows of the second moments. -/
theorem blk4 (c : Dev nD) (t : Fin cfg0.N) (r : Fin 128) (j : Fin 1024) : iblk m c 4 t (ix2 r j) = lay (S m c) (lyr t) (at' t r) j := by
  obtain ⟨-, -, -, -, e, -⟩ := idx t
  blk_simp [iblk]
  exact (congrFun (V_v2 m c) _).trans ((congrArg (flat (N := 256) rfl _) (by blk_ext [e, ix2, joint] : _ = ix2 (joint t r) j)).trans
    (flat_tile _ t r j))

/-- A point's rows of the first layer's shares. -/
theorem blk1 (c : Dev nD) (t : Fin cfg0.N) (k : Fin 4) (r : Fin 128) (j : Fin 1024) :
    iblk m c 1 t (ix3 k r j) = C0 m c (ix3 k (at' t r) j) := by
  obtain ⟨-, e, -⟩ := idx t
  blk_simp [iblk]
  exact (congrFun (V_main_arg1 m c) _).trans (congrArg (C0 m c) (by blk_ext [e, ix3, at']))

/-- A point's rows of the second layer's shares. -/
theorem blk2 (c : Dev nD) (t : Fin cfg0.N) (k : Fin 4) (r : Fin 128) (j : Fin 1024) :
    iblk m c 2 t (ix3 k r j) = C1 m c (ix3 k (at' t r) j) := by
  obtain ⟨-, -, e, -⟩ := idx t
  blk_simp [iblk]
  exact (congrFun (V_main_arg2 m c) _).trans (congrArg (C1 m c) (by blk_ext [e, ix3, at']))

/-- A point of the first layer sums its shares. -/
theorem sumA (c : Dev nD) (t : Fin cfg0.N) (h : t.val % 2 = 0) (x : Ten 4 128 1024) (hx : x = iblk m c 1 t) (r : Fin 128) (j : Fin 1024) :
    x (ix3 0 r j) + x (ix3 1 r j) + x (ix3 2 r j) + x (ix3 3 r j)
      = grad (C0 m c) (C1 m c) (lyr t) (at' t r) j := by
  have ht := lt_of_lt_of_eq t.isLt N_0
  subst hx
  rw [blk1, blk1, blk1, blk1]
  exact (four fun k => C0 m c (ix3 k (at' t r) j)).trans (grad_first _ _ _ _ _ (by show t.val = 0; omega)).symm

/-- A point of the second layer sums its own. -/
theorem sumB (c : Dev nD) (t : Fin cfg0.N) (h : ¬t.val % 2 = 0) (x : Ten 4 128 1024) (hx : x = iblk m c 2 t) (r : Fin 128) (j : Fin 1024) :
    x (ix3 0 r j) + x (ix3 1 r j) + x (ix3 2 r j) + x (ix3 3 r j)
      = grad (C0 m c) (C1 m c) (lyr t) (at' t r) j := by
  have ht := lt_of_lt_of_eq t.isLt N_0
  subst hx
  rw [blk2, blk2, blk2, blk2]
  exact (four fun k => C1 m c (ix3 k (at' t r) j)).trans (grad_second _ _ _ _ _ (by show ¬t.val = 0; omega)).symm

/-- The gradient after the run. -/
theorem arr5 (c : Dev nD) : (dats m 0 c).arrAt 5 cfg0.N = flat (N := 256) rfl (grad (C0 m c) (C1 m c)) := by
  refine (dats m 0 c).arrAt_eq_of_covers 5 _ (by decide +kernel) fun t hf y => ?_
  have ht := lt_of_lt_of_eq t.isLt N_0
  obtain ⟨-, -, -, -, -, e, -⟩ := idx t
  blk_simp
  rw [after0_5]
  idx_vars y
  refine Eq.trans ?_ ((flat_tile _ t y0 y1).symm.trans (congrArg (flat (N := 256) rfl _) (by blk_ext [e, ix2, joint])))
  by_cases h0 : t.val % 2 = 0
  · rw [outsAt0_A m c t h0 (by omega)]
    frame_out
    pointwise [k0_pay3]
    exact sumA m c t h0 _ rfl y0 y1
  · rw [outsAt0_B m c t h0 (by omega)]
    frame_out
    pointwise [k0_pay8]
    exact sumB m c t h0 _ rfl y0 y1

/-- The weight's change after the run. -/
theorem arr6 (c : Dev nD) : (dats m 0 c).arrAt 6 cfg0.N = flat (N := 256) rfl (changes (W m c) (C0 m c) (C1 m c) (M m c) (S m c)) := by
  refine (dats m 0 c).arrAt_eq_of_covers 6 _ (by decide +kernel) fun t hf y => ?_
  have ht := lt_of_lt_of_eq t.isLt N_0
  obtain ⟨-, -, -, -, -, -, e, -⟩ := idx t
  blk_simp
  rw [after0_6]
  idx_vars y
  refine Eq.trans ?_ ((flat_tile _ t y0 y1).symm.trans (congrArg (flat (N := 256) rfl _) (by blk_ext [e, ix2, joint])))
  by_cases h0 : t.val % 2 = 0
  · rw [outsAt0_A m c t h0 (by omega)]
    frame_out
    pointwise [k0_pay1, k0_pay3, k0_pay4, k0_pay5, k0_pay6, k0_pay7]
    rw [sumA m c t h0 _ rfl, blk0, blk3, blk4]
    rfl
  · rw [outsAt0_B m c t h0 (by omega)]
    frame_out
    pointwise [k0_pay2, k0_pay8, k0_pay9, k0_pay10, k0_pay11, k0_pay12]
    rw [sumB m c t h0 _ rfl, blk0, blk3, blk4]
    rfl

/-- The first moments after the run. -/
theorem arr7 (c : Dev nD) : (dats m 0 c).arrAt 7 cfg0.N = flat (N := 256) rfl (means (C0 m c) (C1 m c) (M m c)) := by
  refine (dats m 0 c).arrAt_eq_of_covers 7 _ (by decide +kernel) fun t hf y => ?_
  have ht := lt_of_lt_of_eq t.isLt N_0
  obtain ⟨-, -, -, -, -, -, -, e, -⟩ := idx t
  blk_simp
  rw [after0_7]
  idx_vars y
  refine Eq.trans ?_ ((flat_tile _ t y0 y1).symm.trans (congrArg (flat (N := 256) rfl _) (by blk_ext [e, ix2, joint])))
  by_cases h0 : t.val % 2 = 0
  · rw [outsAt0_A m c t h0 (by omega)]
    frame_out
    pointwise [k0_pay3, k0_pay5]
    rw [sumA m c t h0 _ rfl, blk3]
    rfl
  · rw [outsAt0_B m c t h0 (by omega)]
    frame_out
    pointwise [k0_pay8, k0_pay10]
    rw [sumB m c t h0 _ rfl, blk3]
    rfl

/-- The second moments after the run. -/
theorem arr8 (c : Dev nD) : (dats m 0 c).arrAt 8 cfg0.N = flat (N := 256) rfl (spreads (C0 m c) (C1 m c) (S m c)) := by
  refine (dats m 0 c).arrAt_eq_of_covers 8 _ (by decide +kernel) fun t hf y => ?_
  have ht := lt_of_lt_of_eq t.isLt N_0
  obtain ⟨-, -, -, -, -, -, -, -, e⟩ := idx t
  blk_simp
  rw [after0_8]
  idx_vars y
  refine Eq.trans ?_ ((flat_tile _ t y0 y1).symm.trans (congrArg (flat (N := 256) rfl _) (by blk_ext [e, ix2, joint])))
  by_cases h0 : t.val % 2 = 0
  · rw [outsAt0_A m c t h0 (by omega)]
    frame_out
    pointwise [k0_pay3, k0_pay6]
    rw [sumA m c t h0 _ rfl, blk4]
    rfl
  · rw [outsAt0_B m c t h0 (by omega)]
    frame_out
    pointwise [k0_pay8, k0_pay11]
    rw [sumB m c t h0 _ rfl, blk4]
    rfl

end Cert.AdamOutIdeal.Product

namespace Cert.AdamOutRefIdeal.Product

open Cert.AdamOutRefIdeal Cert.AdamOutRefIdeal.Read

variable (w : Ten 2 128 1024) (c d : Ten 4 128 1024) (m v : Ten 2 128 1024)

/-- The reference's gradient. -/
theorem ref6 (l : Fin 2) (p : Fin 128) (j : Fin 1024) : val_main_v6 (F := Ideal) c d (ix3 l p j) = grad c d l p j := by
  unfold val_main_v6
  by_cases h : l.val = 0
  · refine (concatenate_pair_apply_left (t := S2x128x1024) (s₁ := S1x128x1024) (s₂ := S1x128x1024) 0 _ _ _ (ix3 l p j) rfl (ix3 0 p j)
      (fun b => ?_)).trans ?_
    · match b with
      | ⟨0, _⟩ => exact h.symm
      | ⟨1, _⟩ => rfl
      | ⟨2, _⟩ => rfl
    · pointwise [val_main_v4, val_main_v1, val_main_v0, val_main_cst]
      exact (grad_first _ _ _ _ _ h).symm
  · refine (concatenate_pair_apply_right (t := S2x128x1024) (s₁ := S1x128x1024) (s₂ := S1x128x1024) 0 _ _ _ (ix3 l p j) rfl rfl (ix3 0 p j)
      (fun b hb => ?_) ?_).trans ?_
    · match b with
      | ⟨0, _⟩ => exact absurd rfl hb
      | ⟨1, _⟩ => rfl
      | ⟨2, _⟩ => rfl
    · show 0 + 1 = l.val
      omega
    · pointwise [val_main_v5, val_main_v3, val_main_v2, val_main_cst_0]
      exact (grad_second _ _ _ _ _ h).symm

/-- The reference's first moments, layer by layer. -/
theorem ref11 (l : Fin 2) (p : Fin 128) (j : Fin 1024) : val_main_v11 (F := Ideal) c d m (ix3 l p j) = means c d m l p j := by
  pointwise [val_main_v11, val_main_v10, val_main_v9, val_main_cst_2, val_main_v8, val_main_v7, val_main_cst_1]
  rw [ref6]
  rfl

/-- The reference's second moments, layer by layer. -/
theorem ref17 (l : Fin 2) (p : Fin 128) (j : Fin 1024) : val_main_v17 (F := Ideal) c d v (ix3 l p j) = spreads c d v l p j := by
  pointwise [val_main_v17, val_main_v16, val_main_v15, val_main_cst_4, val_main_v14, val_main_v13, val_main_v12, val_main_cst_3]
  rw [ref6]
  rfl

/-- The reference's change, layer by layer. -/
theorem ref30 (l : Fin 2) (p : Fin 128) (j : Fin 1024) :
    val_main_v30 (F := Ideal) w c d m v (ix3 l p j) = changes w c d m v l p j := by
  pointwise [val_main_v30, val_main_v29, val_main_cst_9, val_main_v28, val_main_v27, val_main_v26, val_main_cst_8, val_main_v25,
    val_main_v24, val_main_v23, val_main_cst_7, val_main_v22, val_main_v21, val_main_v20, val_main_cst_6, val_main_v19,
    val_main_v18, val_main_cst_5]
  rw [ref11, ref17]
  rfl

/-- The reference's gradient, its layers joined. -/
theorem ref31 : val_main_v31 (F := Ideal) c d = flat (N := 256) rfl (grad c d) := by
  funext y
  idx_vars y
  pointwise [val_main_v31]
  exact ref6 _ _ _ _ _

/-- The reference's changes. -/
theorem ref32 : val_main_v32 (F := Ideal) w c d m v = flat (N := 256) rfl (changes w c d m v) := by
  funext y
  idx_vars y
  pointwise [val_main_v32]
  exact ref30 _ _ _ _ _ _ _ _

/-- The reference's first moments. -/
theorem ref33 : val_main_v33 (F := Ideal) c d m = flat (N := 256) rfl (means c d m) := by
  funext y
  idx_vars y
  pointwise [val_main_v33]
  exact ref11 _ _ _ _ _ _

/-- The reference's second moments. -/
theorem ref34 : val_main_v34 (F := Ideal) c d v = flat (N := 256) rfl (spreads c d v) := by
  funext y
  idx_vars y
  pointwise [val_main_v34]
  exact ref17 _ _ _ _ _ _

/-- The reference leaves its arguments, and has no semaphore. -/
theorem frame : Cert.quiescent_AdamOutRefIdeal (hAdamOutRefIdeal := Gen.facts) := fun m g _ =>
  (θ_run _ _ _).mono (fun r h => ⟨fun c => (h c).2.2.2.2, sem_eq_zero_of_no_sems (by decide) r.2⟩) (Value.run (F := Ideal) m g)

/-- The kernel's step is the reference's. -/
theorem algebraic : Cert.algebraic_AdamOutIdeal_AdamOutRefIdeal (hAdamOutIdeal := Cert.AdamOutIdeal.Gen.facts)
    (hAdamOutRefIdeal := Gen.facts) := by
  intro m g m' g' _ hargs
  open Cert.AdamOutIdeal.Product in
  refine ⟨fun c => flat (N := 256) rfl (grad (C0 m c) (C1 m c)),
    fun c => flat (N := 256) rfl (changes (W m c) (C0 m c) (C1 m c) (M m c) (S m c)),
    fun c => flat (N := 256) rfl (means (C0 m c) (C1 m c) (M m c)),
    fun c => flat (N := 256) rfl (spreads (C0 m c) (C1 m c) (S m c)),
    (θ_run _ _ _).mono (fun r h c => ?_) (Cert.AdamOutIdeal.Value.run_blocks (F := Ideal) m g),
    (θ_run _ _ _).mono (fun r h c => ?_) (Value.run (F := Ideal) m' g')⟩
  · obtain ⟨h0, h1, h2, h3, h⟩ := h c
    exact ⟨h0.trans (arr5 m c), h1.trans (arr6 m c), h2.trans (arr7 m c), h3.trans (arr8 m c), h⟩
  · obtain ⟨h0, h1, h2, h3, h⟩ := h c
    obtain ⟨a0, a1, a2, a3, a4⟩ := hargs c
    refine ⟨h0.trans ((val_main_v31_eq _ _).trans ?_), h1.trans ((val_main_v32_eq _ _ _ _ _).trans ?_),
      h2.trans ((val_main_v33_eq _ _ _).trans ?_), h3.trans ((val_main_v34_eq _ _ _).trans ?_), h⟩
    · rw [a1, a2]; exact ref31 _ _
    · rw [a0, a1, a2, a3, a4]; exact ref32 _ _ _ _ _
    · rw [a1, a2, a3]; exact ref33 _ _ _
    · rw [a1, a2, a4]; exact ref34 _ _ _

end Cert.AdamOutRefIdeal.Product
end
-- ==== Proof.AdamBranch.lean ====
module

public import proofs.«01_k».proof.Defs
public import proofs.«01_k».proof.Proof.Adam
public import proofs.«01_k».proof.Proof.Gen.AdamBranchIdeal.Value
public import proofs.«01_k».proof.Proof.Gen.AdamBranchRefIdeal.Read
public import proofs.«01_k».proof.Proof.Gen.AdamBranchRefIdeal.Run
public import Idealize.ShloMosaic.Lib.IdealHost
public import Idealize.ShloMosaic.Adequacy
public import Idealize.ShloMosaic.Init

/-!
# The optimiser's step of `w_branch_out`

The kernel takes the layers one after the other, each in 3 tiles of 64 rows; a point sums the shares of its own layer.
-/

@[expose] public section

set_option maxRecDepth 16384

noncomputable section

open Idealize.ShloMosaic Idealize.ShloMosaic.TcCoe Idealize.SL.Sem Product Adam

namespace Cert.AdamBranchIdeal.Product

open Cert.AdamBranchIdeal Cert.AdamBranchIdeal.Gen

/-- The blocks' indices. -/
theorem idx : ∀ t : Fin cfg0.N, win0_0.index t = ![t.val, 0] ∧ win0_1.index t = ![0, t.val % 3, 0] ∧ win0_2.index t = ![0, t.val % 3, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, win0_0.index t = ![t.val, 0] ∧ win0_1.index t = ![0, t.val % 3, 0] ∧ win0_2.index t = ![0, t.val % 3, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0])

/-- A point's layer. -/
def lyr (t : Fin cfg0.N) : Fin 2 := ⟨t.val / 3, by have := lt_of_lt_of_eq t.isLt N_0; omega⟩
/-- A tile's row, in its layer. -/
def at' (t : Fin cfg0.N) (r : Fin 64) : Fin 192 := ⟨t.val % 3 * 64 + r.val, by omega⟩
/-- A tile's row, in the joined matrix. -/
def joint (t : Fin cfg0.N) (r : Fin 64) : Fin 384 := ⟨t.val * 64 + r.val, by have := lt_of_lt_of_eq t.isLt N_0; omega⟩

/-- The joined matrix at a tile's row. -/
theorem flat_tile (f : Lay 192 1024) (t : Fin cfg0.N) (r : Fin 64) (j : Fin 1024) :
    flat (N := 384) rfl f (ix2 (joint t r) j) = f (lyr t) (at' t r) j := by
  refine flat_at _ _ _ _ _ _ ?_
  have := lt_of_lt_of_eq t.isLt N_0
  show t.val * 64 + r.val = t.val / 3 * 192 + (t.val % 3 * 64 + r.val)
  omega

variable (m : (ℓ : Loc nD τ sig) → Buf (Elt Ideal) ℓ)

/-- The weight. -/
abbrev W (c : Dev nD) : Ten 2 192 1024 := m ((c : Thread nD τ).loc main_arg0)
/-- The first layer's shares. -/
abbrev C0 (c : Dev nD) : Ten 4 192 1024 := m ((c : Thread nD τ).loc main_arg1)
/-- The second layer's shares. -/
abbrev C1 (c : Dev nD) : Ten 4 192 1024 := m ((c : Thread nD τ).loc main_arg2)
/-- The first moments. -/
abbrev M (c : Dev nD) : Ten 2 192 1024 := m ((c : Thread nD τ).loc main_arg3)
/-- The second moments. -/
abbrev S (c : Dev nD) : Ten 2 192 1024 := m ((c : Thread nD τ).loc main_arg4)

/-- The weight as the call gets it: its layers joined. -/
theorem V_v0 (c : Dev nD) : V m c main_v0 = flat (N := 384) rfl (lay (W m c)) := by
  show StableHlo.after hostOps0 (fun b => m (c, b)) main_v0 = _
  unfold hostOps0
  after_results_simp
  funext y
  idx_vars y
  pointwise
  rfl

/-- The first moments as the call gets them. -/
theorem V_v1 (c : Dev nD) : V m c main_v1 = flat (N := 384) rfl (lay (M m c)) := by
  show StableHlo.after hostOps0 (fun b => m (c, b)) main_v1 = _
  unfold hostOps0
  after_results_simp
  funext y
  idx_vars y
  pointwise
  rfl

/-- The second moments as the call gets them. -/
theorem V_v2 (c : Dev nD) : V m c main_v2 = flat (N := 384) rfl (lay (S m c)) := by
  show StableHlo.after hostOps0 (fun b => m (c, b)) main_v2 = _
  unfold hostOps0
  after_results_simp
  funext y
  idx_vars y
  pointwise
  rfl

/-- A point's rows of the weight. -/
theorem blk0 (c : Dev nD) (t : Fin cfg0.N) (r : Fin 64) (j : Fin 1024) : iblk m c 0 t (ix2 r j) = lay (W m c) (lyr t) (at' t r) j := by
  obtain ⟨e, -⟩ := idx t
  blk_simp [iblk]
  exact (congrFun (V_v0 m c) _).trans ((congrArg (flat (N := 384) rfl _) (by blk_ext [e, ix2, joint] : _ = ix2 (joint t r) j)).trans
    (flat_tile _ t r j))

/-- A point's rows of the first moments. -/
theorem blk3 (c : Dev nD) (t : Fin cfg0.N) (r : Fin 64) (j : Fin 1024) : iblk m c 3 t (ix2 r j) = lay (M m c) (lyr t) (at' t r) j := by
  obtain ⟨-, -, -, e, -⟩ := idx t
  blk_simp [iblk]
  exact (congrFun (V_v1 m c) _).trans ((congrArg (flat (N := 384) rfl _) (by blk_ext [e, ix2, joint] : _ = ix2 (joint t r) j)).trans
    (flat_tile _ t r j))

/-- A point's rows of the second moments. -/
theorem blk4 (c : Dev nD) (t : Fin cfg0.N) (r : Fin 64) (j : Fin 1024) : iblk m c 4 t (ix2 r j) = lay (S m c) (lyr t) (at' t r) j := by
  obtain ⟨-, -, -, -, e, -⟩ := idx t
  blk_simp [iblk]
  exact (congrFun (V_v2 m c) _).trans ((congrArg (flat (N := 384) rfl _) (by blk_ext [e, ix2, joint] : _ = ix2 (joint t r) j)).trans
    (flat_tile _ t r j))

/-- A point's rows of the first layer's shares. -/
theorem blk1 (c : Dev nD) (t : Fin cfg0.N) (k : Fin 4) (r : Fin 64) (j : Fin 1024) :
    iblk m c 1 t (ix3 k r j) = C0 m c (ix3 k (at' t r) j) := by
  obtain ⟨-, e, -⟩ := idx t
  blk_simp [iblk]
  exact (congrFun (V_main_arg1 m c) _).trans (congrArg (C0 m c) (by blk_ext [e, ix3, at']))

/-- A point's rows of the second layer's shares. -/
theorem blk2 (c : Dev nD) (t : Fin cfg0.N) (k : Fin 4) (r : Fin 64) (j : Fin 1024) :
    iblk m c 2 t (ix3 k r j) = C1 m c (ix3 k (at' t r) j) := by
  obtain ⟨-, -, e, -⟩ := idx t
  blk_simp [iblk]
  exact (congrFun (V_main_arg2 m c) _).trans (congrArg (C1 m c) (by blk_ext [e, ix3, at']))

/-- A point of the first layer sums its shares. -/
theorem sumA (c : Dev nD) (t : Fin cfg0.N) (h : t.val < 3) (x : Ten 4 64 1024) (hx : x = iblk m c 1 t) (r : Fin 64) (j : Fin 1024) :
    x (ix3 0 r j) + x (ix3 1 r j) + x (ix3 2 r j) + x (ix3 3 r j)
      = grad (C0 m c) (C1 m c) (lyr t) (at' t r) j := by
  have ht := lt_of_lt_of_eq t.isLt N_0
  subst hx
  rw [blk1, blk1, blk1, blk1]
  exact (four fun k => C0 m c (ix3 k (at' t r) j)).trans (grad_first _ _ _ _ _ (by show t.val / 3 = 0; omega)).symm

/-- A point of the second layer sums its own. -/
theorem sumB (c : Dev nD) (t : Fin cfg0.N) (h : ¬t.val < 3) (x : Ten 4 64 1024) (hx : x = iblk m c 2 t) (r : Fin 64) (j : Fin 1024) :
    x (ix3 0 r j) + x (ix3 1 r j) + x (ix3 2 r j) + x (ix3 3 r j)
      = grad (C0 m c) (C1 m c) (lyr t) (at' t r) j := by
  have ht := lt_of_lt_of_eq t.isLt N_0
  subst hx
  rw [blk2, blk2, blk2, blk2]
  exact (four fun k => C1 m c (ix3 k (at' t r) j)).trans (grad_second _ _ _ _ _ (by show ¬t.val / 3 = 0; omega)).symm

/-- The gradient after the run. -/
theorem arr5 (c : Dev nD) : (dats m 0 c).arrAt 5 cfg0.N = flat (N := 384) rfl (grad (C0 m c) (C1 m c)) := by
  refine (dats m 0 c).arrAt_eq_of_covers 5 _ (by decide +kernel) fun t hf y => ?_
  have ht := lt_of_lt_of_eq t.isLt N_0
  obtain ⟨-, -, -, -, -, e, -⟩ := idx t
  blk_simp
  rw [after0_5]
  idx_vars y
  refine Eq.trans ?_ ((flat_tile _ t y0 y1).symm.trans (congrArg (flat (N := 384) rfl _) (by blk_ext [e, ix2, joint])))
  by_cases h0 : t.val < 3
  · rw [outsAt0_A m c t h0 (by omega)]
    frame_out
    pointwise [k0_pay3]
    exact sumA m c t h0 _ rfl y0 y1
  · rw [outsAt0_B m c t h0 (by omega)]
    frame_out
    pointwise [k0_pay8]
    exact sumB m c t h0 _ rfl y0 y1

/-- The weight's change after the run. -/
theorem arr6 (c : Dev nD) : (dats m 0 c).arrAt 6 cfg0.N = flat (N := 384) rfl (changes (W m c) (C0 m c) (C1 m c) (M m c) (S m c)) := by
  refine (dats m 0 c).arrAt_eq_of_covers 6 _ (by decide +kernel) fun t hf y => ?_
  have ht := lt_of_lt_of_eq t.isLt N_0
  obtain ⟨-, -, -, -, -, -, e, -⟩ := idx t
  blk_simp
  rw [after0_6]
  idx_vars y
  refine Eq.trans ?_ ((flat_tile _ t y0 y1).symm.trans (congrArg (flat (N := 384) rfl _) (by blk_ext [e, ix2, joint])))
  by_cases h0 : t.val < 3
  · rw [outsAt0_A m c t h0 (by omega)]
    frame_out
    pointwise [k0_pay1, k0_pay3, k0_pay4, k0_pay5, k0_pay6, k0_pay7]
    rw [sumA m c t h0 _ rfl, blk0, blk3, blk4]
    rfl
  · rw [outsAt0_B m c t h0 (by omega)]
    frame_out
    pointwise [k0_pay2, k0_pay8, k0_pay9, k0_pay10, k0_pay11, k0_pay12]
    rw [sumB m c t h0 _ rfl, blk0, blk3, blk4]
    rfl

/-- The first moments after the run. -/
theorem arr7 (c : Dev nD) : (dats m 0 c).arrAt 7 cfg0.N = flat (N := 384) rfl (means (C0 m c) (C1 m c) (M m c)) := by
  refine (dats m 0 c).arrAt_eq_of_covers 7 _ (by decide +kernel) fun t hf y => ?_
  have ht := lt_of_lt_of_eq t.isLt N_0
  obtain ⟨-, -, -, -, -, -, -, e, -⟩ := idx t
  blk_simp
  rw [after0_7]
  idx_vars y
  refine Eq.trans ?_ ((flat_tile _ t y0 y1).symm.trans (congrArg (flat (N := 384) rfl _) (by blk_ext [e, ix2, joint])))
  by_cases h0 : t.val < 3
  · rw [outsAt0_A m c t h0 (by omega)]
    frame_out
    pointwise [k0_pay3, k0_pay5]
    rw [sumA m c t h0 _ rfl, blk3]
    rfl
  · rw [outsAt0_B m c t h0 (by omega)]
    frame_out
    pointwise [k0_pay8, k0_pay10]
    rw [sumB m c t h0 _ rfl, blk3]
    rfl

/-- The second moments after the run. -/
theorem arr8 (c : Dev nD) : (dats m 0 c).arrAt 8 cfg0.N = flat (N := 384) rfl (spreads (C0 m c) (C1 m c) (S m c)) := by
  refine (dats m 0 c).arrAt_eq_of_covers 8 _ (by decide +kernel) fun t hf y => ?_
  have ht := lt_of_lt_of_eq t.isLt N_0
  obtain ⟨-, -, -, -, -, -, -, -, e⟩ := idx t
  blk_simp
  rw [after0_8]
  idx_vars y
  refine Eq.trans ?_ ((flat_tile _ t y0 y1).symm.trans (congrArg (flat (N := 384) rfl _) (by blk_ext [e, ix2, joint])))
  by_cases h0 : t.val < 3
  · rw [outsAt0_A m c t h0 (by omega)]
    frame_out
    pointwise [k0_pay3, k0_pay6]
    rw [sumA m c t h0 _ rfl, blk4]
    rfl
  · rw [outsAt0_B m c t h0 (by omega)]
    frame_out
    pointwise [k0_pay8, k0_pay11]
    rw [sumB m c t h0 _ rfl, blk4]
    rfl

end Cert.AdamBranchIdeal.Product

namespace Cert.AdamBranchRefIdeal.Product

open Cert.AdamBranchRefIdeal Cert.AdamBranchRefIdeal.Read

variable (w : Ten 2 192 1024) (c d : Ten 4 192 1024) (m v : Ten 2 192 1024)

/-- The reference's gradient. -/
theorem ref6 (l : Fin 2) (p : Fin 192) (j : Fin 1024) : val_main_v6 (F := Ideal) c d (ix3 l p j) = grad c d l p j := by
  unfold val_main_v6
  by_cases h : l.val = 0
  · refine (concatenate_pair_apply_left (t := S2x192x1024) (s₁ := S1x192x1024) (s₂ := S1x192x1024) 0 _ _ _ (ix3 l p j) rfl (ix3 0 p j)
      (fun b => ?_)).trans ?_
    · match b with
      | ⟨0, _⟩ => exact h.symm
      | ⟨1, _⟩ => rfl
      | ⟨2, _⟩ => rfl
    · pointwise [val_main_v4, val_main_v1, val_main_v0, val_main_cst]
      exact (grad_first _ _ _ _ _ h).symm
  · refine (concatenate_pair_apply_right (t := S2x192x1024) (s₁ := S1x192x1024) (s₂ := S1x192x1024) 0 _ _ _ (ix3 l p j) rfl rfl (ix3 0 p j)
      (fun b hb => ?_) ?_).trans ?_
    · match b with
      | ⟨0, _⟩ => exact absurd rfl hb
      | ⟨1, _⟩ => rfl
      | ⟨2, _⟩ => rfl
    · show 0 + 1 = l.val
      omega
    · pointwise [val_main_v5, val_main_v3, val_main_v2, val_main_cst_0]
      exact (grad_second _ _ _ _ _ h).symm

/-- The reference's first moments, layer by layer. -/
theorem ref11 (l : Fin 2) (p : Fin 192) (j : Fin 1024) : val_main_v11 (F := Ideal) c d m (ix3 l p j) = means c d m l p j := by
  pointwise [val_main_v11, val_main_v10, val_main_v9, val_main_cst_2, val_main_v8, val_main_v7, val_main_cst_1]
  rw [ref6]
  rfl

/-- The reference's second moments, layer by layer. -/
theorem ref17 (l : Fin 2) (p : Fin 192) (j : Fin 1024) : val_main_v17 (F := Ideal) c d v (ix3 l p j) = spreads c d v l p j := by
  pointwise [val_main_v17, val_main_v16, val_main_v15, val_main_cst_4, val_main_v14, val_main_v13, val_main_v12, val_main_cst_3]
  rw [ref6]
  rfl

/-- The reference's change, layer by layer. -/
theorem ref30 (l : Fin 2) (p : Fin 192) (j : Fin 1024) :
    val_main_v30 (F := Ideal) w c d m v (ix3 l p j) = changes w c d m v l p j := by
  pointwise [val_main_v30, val_main_v29, val_main_cst_9, val_main_v28, val_main_v27, val_main_v26, val_main_cst_8, val_main_v25,
    val_main_v24, val_main_v23, val_main_cst_7, val_main_v22, val_main_v21, val_main_v20, val_main_cst_6, val_main_v19,
    val_main_v18, val_main_cst_5]
  rw [ref11, ref17]
  rfl

/-- The reference's gradient, its layers joined. -/
theorem ref31 : val_main_v31 (F := Ideal) c d = flat (N := 384) rfl (grad c d) := by
  funext y
  idx_vars y
  pointwise [val_main_v31]
  exact ref6 _ _ _ _ _

/-- The reference's changes. -/
theorem ref32 : val_main_v32 (F := Ideal) w c d m v = flat (N := 384) rfl (changes w c d m v) := by
  funext y
  idx_vars y
  pointwise [val_main_v32]
  exact ref30 _ _ _ _ _ _ _ _

/-- The reference's first moments. -/
theorem ref33 : val_main_v33 (F := Ideal) c d m = flat (N := 384) rfl (means c d m) := by
  funext y
  idx_vars y
  pointwise [val_main_v33]
  exact ref11 _ _ _ _ _ _

/-- The reference's second moments. -/
theorem ref34 : val_main_v34 (F := Ideal) c d v = flat (N := 384) rfl (spreads c d v) := by
  funext y
  idx_vars y
  pointwise [val_main_v34]
  exact ref17 _ _ _ _ _ _

/-- The reference leaves its arguments, and has no semaphore. -/
theorem frame : Cert.quiescent_AdamBranchRefIdeal (hAdamBranchRefIdeal := Gen.facts) := fun m g _ =>
  (θ_run _ _ _).mono (fun r h => ⟨fun c => (h c).2.2.2.2, sem_eq_zero_of_no_sems (by decide) r.2⟩) (Value.run (F := Ideal) m g)

/-- The kernel's step is the reference's. -/
theorem algebraic : Cert.algebraic_AdamBranchIdeal_AdamBranchRefIdeal (hAdamBranchIdeal := Cert.AdamBranchIdeal.Gen.facts)
    (hAdamBranchRefIdeal := Gen.facts) := by
  intro m g m' g' _ hargs
  open Cert.AdamBranchIdeal.Product in
  refine ⟨fun c => flat (N := 384) rfl (grad (C0 m c) (C1 m c)),
    fun c => flat (N := 384) rfl (changes (W m c) (C0 m c) (C1 m c) (M m c) (S m c)),
    fun c => flat (N := 384) rfl (means (C0 m c) (C1 m c) (M m c)),
    fun c => flat (N := 384) rfl (spreads (C0 m c) (C1 m c) (S m c)),
    (θ_run _ _ _).mono (fun r h c => ?_) (Cert.AdamBranchIdeal.Value.run_blocks (F := Ideal) m g),
    (θ_run _ _ _).mono (fun r h c => ?_) (Value.run (F := Ideal) m' g')⟩
  · obtain ⟨h0, h1, h2, h3, h⟩ := h c
    exact ⟨h0.trans (arr5 m c), h1.trans (arr6 m c), h2.trans (arr7 m c), h3.trans (arr8 m c), h⟩
  · obtain ⟨h0, h1, h2, h3, h⟩ := h c
    obtain ⟨a0, a1, a2, a3, a4⟩ := hargs c
    refine ⟨h0.trans ((val_main_v31_eq _ _).trans ?_), h1.trans ((val_main_v32_eq _ _ _ _ _).trans ?_),
      h2.trans ((val_main_v33_eq _ _ _).trans ?_), h3.trans ((val_main_v34_eq _ _ _).trans ?_), h⟩
    · rw [a1, a2]; exact ref31 _ _
    · rw [a0, a1, a2, a3, a4]; exact ref32 _ _ _ _ _
    · rw [a1, a2, a3]; exact ref33 _ _ _
    · rw [a1, a2, a4]; exact ref34 _ _ _

end Cert.AdamBranchRefIdeal.Product
end
-- ==== Proof.AdamKv.lean ====
module

public import proofs.«01_k».proof.Defs
public import proofs.«01_k».proof.Proof.Adam
public import proofs.«01_k».proof.Proof.Gen.AdamKvIdeal.Value
public import proofs.«01_k».proof.Proof.Gen.AdamKvRefIdeal.Read
public import proofs.«01_k».proof.Proof.Gen.AdamKvRefIdeal.Run
public import Idealize.ShloMosaic.Lib.IdealHost
public import Idealize.ShloMosaic.Adequacy
public import Idealize.ShloMosaic.Init

/-!
# The optimiser's step of `mla_w_kv_up`

The kernel takes the layers one after the other; a point sums the shares of its own layer.
-/

@[expose] public section

set_option maxRecDepth 16384

noncomputable section

open Idealize.ShloMosaic Idealize.ShloMosaic.TcCoe Idealize.SL.Sem Product Adam

namespace Cert.AdamKvIdeal.Product

open Cert.AdamKvIdeal Cert.AdamKvIdeal.Gen

/-- The blocks' indices. -/
theorem idx : ∀ t : Fin cfg0.N, win0_0.index t = ![t.val, 0] ∧ win0_1.index t = ![0, 0, 0] ∧ win0_2.index t = ![0, 0, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, win0_0.index t = ![t.val, 0] ∧ win0_1.index t = ![0, 0, 0] ∧ win0_2.index t = ![0, 0, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0])

/-- A point's layer. -/
def lyr (t : Fin cfg0.N) : Fin 2 := ⟨t.val, by have := lt_of_lt_of_eq t.isLt N_0; omega⟩
/-- A tile's row, in its layer. -/
def at' (t : Fin cfg0.N) (r : Fin 128) : Fin 128 := ⟨r.val, by omega⟩
/-- A tile's row, in the joined matrix. -/
def joint (t : Fin cfg0.N) (r : Fin 128) : Fin 256 := ⟨t.val * 128 + r.val, by have := lt_of_lt_of_eq t.isLt N_0; omega⟩

/-- The joined matrix at a tile's row. -/
theorem flat_tile (f : Lay 128 128) (t : Fin cfg0.N) (r : Fin 128) (j : Fin 128) :
    flat (N := 256) rfl f (ix2 (joint t r) j) = f (lyr t) (at' t r) j := by
  refine flat_at _ _ _ _ _ _ ?_
  have := lt_of_lt_of_eq t.isLt N_0
  show t.val * 128 + r.val = t.val * 128 + (r.val)
  omega

variable (m : (ℓ : Loc nD τ sig) → Buf (Elt Ideal) ℓ)

/-- The weight. -/
abbrev W (c : Dev nD) : Ten 2 128 128 := m ((c : Thread nD τ).loc main_arg0)
/-- The first layer's shares. -/
abbrev C0 (c : Dev nD) : Ten 4 128 128 := m ((c : Thread nD τ).loc main_arg1)
/-- The second layer's shares. -/
abbrev C1 (c : Dev nD) : Ten 4 128 128 := m ((c : Thread nD τ).loc main_arg2)
/-- The first moments. -/
abbrev M (c : Dev nD) : Ten 2 128 128 := m ((c : Thread nD τ).loc main_arg3)
/-- The second moments. -/
abbrev S (c : Dev nD) : Ten 2 128 128 := m ((c : Thread nD τ).loc main_arg4)

/-- The weight as the call gets it: its layers joined. -/
theorem V_v0 (c : Dev nD) : V m c main_v0 = flat (N := 256) rfl (lay (W m c)) := by
  show StableHlo.after hostOps0 (fun b => m (c, b)) main_v0 = _
  unfold hostOps0
  after_results_simp
  funext y
  idx_vars y
  pointwise
  rfl

/-- The first moments as the call gets them. -/
theorem V_v1 (c : Dev nD) : V m c main_v1 = flat (N := 256) rfl (lay (M m c)) := by
  show StableHlo.after hostOps0 (fun b => m (c, b)) main_v1 = _
  unfold hostOps0
  after_results_simp
  funext y
  idx_vars y
  pointwise
  rfl

/-- The second moments as the call gets them. -/
theorem V_v2 (c : Dev nD) : V m c main_v2 = flat (N := 256) rfl (lay (S m c)) := by
  show StableHlo.after hostOps0 (fun b => m (c, b)) main_v2 = _
  unfold hostOps0
  after_results_simp
  funext y
  idx_vars y
  pointwise
  rfl

/-- A point's rows of the weight. -/
theorem blk0 (c : Dev nD) (t : Fin cfg0.N) (r : Fin 128) (j : Fin 128) : iblk m c 0 t (ix2 r j) = lay (W m c) (lyr t) (at' t r) j := by
  obtain ⟨e, -⟩ := idx t
  blk_simp [iblk]
  exact (congrFun (V_v0 m c) _).trans ((congrArg (flat (N := 256) rfl _) (by blk_ext [e, ix2, joint] : _ = ix2 (joint t r) j)).trans
    (flat_tile _ t r j))

/-- A point's rows of the first moments. -/
theorem blk3 (c : Dev nD) (t : Fin cfg0.N) (r : Fin 128) (j : Fin 128) : iblk m c 3 t (ix2 r j) = lay (M m c) (lyr t) (at' t r) j := by
  obtain ⟨-, -, -, e, -⟩ := idx t
  blk_simp [iblk]
  exact (congrFun (V_v1 m c) _).trans ((congrArg (flat (N := 256) rfl _) (by blk_ext [e, ix2, joint] : _ = ix2 (joint t r) j)).trans
    (flat_tile _ t r j))

/-- A point's rows of the second moments. -/
theorem blk4 (c : Dev nD) (t : Fin cfg0.N) (r : Fin 128) (j : Fin 128) : iblk m c 4 t (ix2 r j) = lay (S m c) (lyr t) (at' t r) j := by
  obtain ⟨-, -, -, -, e, -⟩ := idx t
  blk_simp [iblk]
  exact (congrFun (V_v2 m c) _).trans ((congrArg (flat (N := 256) rfl _) (by blk_ext [e, ix2, joint] : _ = ix2 (joint t r) j)).trans
    (flat_tile _ t r j))

/-- A point's rows of the first layer's shares. -/
theorem blk1 (c : Dev nD) (t : Fin cfg0.N) (k : Fin 4) (r : Fin 128) (j : Fin 128) :
    iblk m c 1 t (ix3 k r j) = C0 m c (ix3 k (at' t r) j) := by
  obtain ⟨-, e, -⟩ := idx t
  blk_simp [iblk]
  exact (congrFun (V_main_arg1 m c) _).trans (congrArg (C0 m c) (by blk_ext [e, ix3, at']))

/-- A point's rows of the second layer's shares. -/
theorem blk2 (c : Dev nD) (t : Fin cfg0.N) (k : Fin 4) (r : Fin 128) (j : Fin 128) :
    iblk m c 2 t (ix3 k r j) = C1 m c (ix3 k (at' t r) j) := by
  obtain ⟨-, -, e, -⟩ := idx t
  blk_simp [iblk]
  exact (congrFun (V_main_arg2 m c) _).trans (congrArg (C1 m c) (by blk_ext [e, ix3, at']))

/-- A point of the first layer sums its shares. -/
theorem sumA (c : Dev nD) (t : Fin cfg0.N) (h : t.val % 2 = 0) (x : Ten 4 128 128) (hx : x = iblk m c 1 t) (r : Fin 128) (j : Fin 128) :
    x (ix3 0 r j) + x (ix3 1 r j) + x (ix3 2 r j) + x (ix3 3 r j)
      = grad (C0 m c) (C1 m c) (lyr t) (at' t r) j := by
  have ht := lt_of_lt_of_eq t.isLt N_0
  subst hx
  rw [blk1, blk1, blk1, blk1]
  exact (four fun k => C0 m c (ix3 k (at' t r) j)).trans (grad_first _ _ _ _ _ (by show t.val = 0; omega)).symm

/-- A point of the second layer sums its own. -/
theorem sumB (c : Dev nD) (t : Fin cfg0.N) (h : ¬t.val % 2 = 0) (x : Ten 4 128 128) (hx : x = iblk m c 2 t) (r : Fin 128) (j : Fin 128) :
    x (ix3 0 r j) + x (ix3 1 r j) + x (ix3 2 r j) + x (ix3 3 r j)
      = grad (C0 m c) (C1 m c) (lyr t) (at' t r) j := by
  have ht := lt_of_lt_of_eq t.isLt N_0
  subst hx
  rw [blk2, blk2, blk2, blk2]
  exact (four fun k => C1 m c (ix3 k (at' t r) j)).trans (grad_second _ _ _ _ _ (by show ¬t.val = 0; omega)).symm

/-- The gradient after the run. -/
theorem arr5 (c : Dev nD) : (dats m 0 c).arrAt 5 cfg0.N = flat (N := 256) rfl (grad (C0 m c) (C1 m c)) := by
  refine (dats m 0 c).arrAt_eq_of_covers 5 _ (by decide +kernel) fun t hf y => ?_
  have ht := lt_of_lt_of_eq t.isLt N_0
  obtain ⟨-, -, -, -, -, e, -⟩ := idx t
  blk_simp
  rw [after0_5]
  idx_vars y
  refine Eq.trans ?_ ((flat_tile _ t y0 y1).symm.trans (congrArg (flat (N := 256) rfl _) (by blk_ext [e, ix2, joint])))
  by_cases h0 : t.val % 2 = 0
  · rw [outsAt0_A m c t h0 (by omega)]
    frame_out
    pointwise [k0_pay3]
    exact sumA m c t h0 _ rfl y0 y1
  · rw [outsAt0_B m c t h0 (by omega)]
    frame_out
    pointwise [k0_pay8]
    exact sumB m c t h0 _ rfl y0 y1

/-- The weight's change after the run. -/
theorem arr6 (c : Dev nD) : (dats m 0 c).arrAt 6 cfg0.N = flat (N := 256) rfl (changes (W m c) (C0 m c) (C1 m c) (M m c) (S m c)) := by
  refine (dats m 0 c).arrAt_eq_of_covers 6 _ (by decide +kernel) fun t hf y => ?_
  have ht := lt_of_lt_of_eq t.isLt N_0
  obtain ⟨-, -, -, -, -, -, e, -⟩ := idx t
  blk_simp
  rw [after0_6]
  idx_vars y
  refine Eq.trans ?_ ((flat_tile _ t y0 y1).symm.trans (congrArg (flat (N := 256) rfl _) (by blk_ext [e, ix2, joint])))
  by_cases h0 : t.val % 2 = 0
  · rw [outsAt0_A m c t h0 (by omega)]
    frame_out
    pointwise [k0_pay1, k0_pay3, k0_pay4, k0_pay5, k0_pay6, k0_pay7]
    rw [sumA m c t h0 _ rfl, blk0, blk3, blk4]
    rfl
  · rw [outsAt0_B m c t h0 (by omega)]
    frame_out
    pointwise [k0_pay2, k0_pay8, k0_pay9, k0_pay10, k0_pay11, k0_pay12]
    rw [sumB m c t h0 _ rfl, blk0, blk3, blk4]
    rfl

/-- The first moments after the run. -/
theorem arr7 (c : Dev nD) : (dats m 0 c).arrAt 7 cfg0.N = flat (N := 256) rfl (means (C0 m c) (C1 m c) (M m c)) := by
  refine (dats m 0 c).arrAt_eq_of_covers 7 _ (by decide +kernel) fun t hf y => ?_
  have ht := lt_of_lt_of_eq t.isLt N_0
  obtain ⟨-, -, -, -, -, -, -, e, -⟩ := idx t
  blk_simp
  rw [after0_7]
  idx_vars y
  refine Eq.trans ?_ ((flat_tile _ t y0 y1).symm.trans (congrArg (flat (N := 256) rfl _) (by blk_ext [e, ix2, joint])))
  by_cases h0 : t.val % 2 = 0
  · rw [outsAt0_A m c t h0 (by omega)]
    frame_out
    pointwise [k0_pay3, k0_pay5]
    rw [sumA m c t h0 _ rfl, blk3]
    rfl
  · rw [outsAt0_B m c t h0 (by omega)]
    frame_out
    pointwise [k0_pay8, k0_pay10]
    rw [sumB m c t h0 _ rfl, blk3]
    rfl

/-- The second moments after the run. -/
theorem arr8 (c : Dev nD) : (dats m 0 c).arrAt 8 cfg0.N = flat (N := 256) rfl (spreads (C0 m c) (C1 m c) (S m c)) := by
  refine (dats m 0 c).arrAt_eq_of_covers 8 _ (by decide +kernel) fun t hf y => ?_
  have ht := lt_of_lt_of_eq t.isLt N_0
  obtain ⟨-, -, -, -, -, -, -, -, e⟩ := idx t
  blk_simp
  rw [after0_8]
  idx_vars y
  refine Eq.trans ?_ ((flat_tile _ t y0 y1).symm.trans (congrArg (flat (N := 256) rfl _) (by blk_ext [e, ix2, joint])))
  by_cases h0 : t.val % 2 = 0
  · rw [outsAt0_A m c t h0 (by omega)]
    frame_out
    pointwise [k0_pay3, k0_pay6]
    rw [sumA m c t h0 _ rfl, blk4]
    rfl
  · rw [outsAt0_B m c t h0 (by omega)]
    frame_out
    pointwise [k0_pay8, k0_pay11]
    rw [sumB m c t h0 _ rfl, blk4]
    rfl

end Cert.AdamKvIdeal.Product

namespace Cert.AdamKvRefIdeal.Product

open Cert.AdamKvRefIdeal Cert.AdamKvRefIdeal.Read

variable (w : Ten 2 128 128) (c d : Ten 4 128 128) (m v : Ten 2 128 128)

/-- The reference's gradient. -/
theorem ref6 (l : Fin 2) (p : Fin 128) (j : Fin 128) : val_main_v6 (F := Ideal) c d (ix3 l p j) = grad c d l p j := by
  unfold val_main_v6
  by_cases h : l.val = 0
  · refine (concatenate_pair_apply_left (t := S2x128x128) (s₁ := S1x128x128) (s₂ := S1x128x128) 0 _ _ _ (ix3 l p j) rfl (ix3 0 p j)
      (fun b => ?_)).trans ?_
    · match b with
      | ⟨0, _⟩ => exact h.symm
      | ⟨1, _⟩ => rfl
      | ⟨2, _⟩ => rfl
    · pointwise [val_main_v4, val_main_v1, val_main_v0, val_main_cst]
      exact (grad_first _ _ _ _ _ h).symm
  · refine (concatenate_pair_apply_right (t := S2x128x128) (s₁ := S1x128x128) (s₂ := S1x128x128) 0 _ _ _ (ix3 l p j) rfl rfl (ix3 0 p j)
      (fun b hb => ?_) ?_).trans ?_
    · match b with
      | ⟨0, _⟩ => exact absurd rfl hb
      | ⟨1, _⟩ => rfl
      | ⟨2, _⟩ => rfl
    · show 0 + 1 = l.val
      omega
    · pointwise [val_main_v5, val_main_v3, val_main_v2, val_main_cst_0]
      exact (grad_second _ _ _ _ _ h).symm

/-- The reference's first moments, layer by layer. -/
theorem ref11 (l : Fin 2) (p : Fin 128) (j : Fin 128) : val_main_v11 (F := Ideal) c d m (ix3 l p j) = means c d m l p j := by
  pointwise [val_main_v11, val_main_v10, val_main_v9, val_main_cst_2, val_main_v8, val_main_v7, val_main_cst_1]
  rw [ref6]
  rfl

/-- The reference's second moments, layer by layer. -/
theorem ref17 (l : Fin 2) (p : Fin 128) (j : Fin 128) : val_main_v17 (F := Ideal) c d v (ix3 l p j) = spreads c d v l p j := by
  pointwise [val_main_v17, val_main_v16, val_main_v15, val_main_cst_4, val_main_v14, val_main_v13, val_main_v12, val_main_cst_3]
  rw [ref6]
  rfl

/-- The reference's change, layer by layer. -/
theorem ref30 (l : Fin 2) (p : Fin 128) (j : Fin 128) :
    val_main_v30 (F := Ideal) w c d m v (ix3 l p j) = changes w c d m v l p j := by
  pointwise [val_main_v30, val_main_v29, val_main_cst_9, val_main_v28, val_main_v27, val_main_v26, val_main_cst_8, val_main_v25,
    val_main_v24, val_main_v23, val_main_cst_7, val_main_v22, val_main_v21, val_main_v20, val_main_cst_6, val_main_v19,
    val_main_v18, val_main_cst_5]
  rw [ref11, ref17]
  rfl

/-- The reference's gradient, its layers joined. -/
theorem ref31 : val_main_v31 (F := Ideal) c d = flat (N := 256) rfl (grad c d) := by
  funext y
  idx_vars y
  pointwise [val_main_v31]
  exact ref6 _ _ _ _ _

/-- The reference's changes. -/
theorem ref32 : val_main_v32 (F := Ideal) w c d m v = flat (N := 256) rfl (changes w c d m v) := by
  funext y
  idx_vars y
  pointwise [val_main_v32]
  exact ref30 _ _ _ _ _ _ _ _

/-- The reference's first moments. -/
theorem ref33 : val_main_v33 (F := Ideal) c d m = flat (N := 256) rfl (means c d m) := by
  funext y
  idx_vars y
  pointwise [val_main_v33]
  exact ref11 _ _ _ _ _ _

/-- The reference's second moments. -/
theorem ref34 : val_main_v34 (F := Ideal) c d v = flat (N := 256) rfl (spreads c d v) := by
  funext y
  idx_vars y
  pointwise [val_main_v34]
  exact ref17 _ _ _ _ _ _

/-- The reference leaves its arguments, and has no semaphore. -/
theorem frame : Cert.quiescent_AdamKvRefIdeal (hAdamKvRefIdeal := Gen.facts) := fun m g _ =>
  (θ_run _ _ _).mono (fun r h => ⟨fun c => (h c).2.2.2.2, sem_eq_zero_of_no_sems (by decide) r.2⟩) (Value.run (F := Ideal) m g)

/-- The kernel's step is the reference's. -/
theorem algebraic : Cert.algebraic_AdamKvIdeal_AdamKvRefIdeal (hAdamKvIdeal := Cert.AdamKvIdeal.Gen.facts)
    (hAdamKvRefIdeal := Gen.facts) := by
  intro m g m' g' _ hargs
  open Cert.AdamKvIdeal.Product in
  refine ⟨fun c => flat (N := 256) rfl (grad (C0 m c) (C1 m c)),
    fun c => flat (N := 256) rfl (changes (W m c) (C0 m c) (C1 m c) (M m c) (S m c)),
    fun c => flat (N := 256) rfl (means (C0 m c) (C1 m c) (M m c)),
    fun c => flat (N := 256) rfl (spreads (C0 m c) (C1 m c) (S m c)),
    (θ_run _ _ _).mono (fun r h c => ?_) (Cert.AdamKvIdeal.Value.run_blocks (F := Ideal) m g),
    (θ_run _ _ _).mono (fun r h c => ?_) (Value.run (F := Ideal) m' g')⟩
  · obtain ⟨h0, h1, h2, h3, h⟩ := h c
    exact ⟨h0.trans (arr5 m c), h1.trans (arr6 m c), h2.trans (arr7 m c), h3.trans (arr8 m c), h⟩
  · obtain ⟨h0, h1, h2, h3, h⟩ := h c
    obtain ⟨a0, a1, a2, a3, a4⟩ := hargs c
    refine ⟨h0.trans ((val_main_v31_eq _ _).trans ?_), h1.trans ((val_main_v32_eq _ _ _ _ _).trans ?_),
      h2.trans ((val_main_v33_eq _ _ _).trans ?_), h3.trans ((val_main_v34_eq _ _ _).trans ?_), h⟩
    · rw [a1, a2]; exact ref31 _ _
    · rw [a0, a1, a2, a3, a4]; exact ref32 _ _ _ _ _
    · rw [a1, a2, a3]; exact ref33 _ _ _
    · rw [a1, a2, a4]; exact ref34 _ _ _

end Cert.AdamKvRefIdeal.Product
end
-- ==== Proof.AdamGlu.lean ====
module

public import proofs.«01_k».proof.Defs
public import proofs.«01_k».proof.Proof.Adam
public import proofs.«01_k».proof.Proof.Gen.AdamGluIdeal.Value
public import proofs.«01_k».proof.Proof.Gen.AdamGluRefIdeal.Read
public import proofs.«01_k».proof.Proof.Gen.AdamGluRefIdeal.Run
public import Idealize.ShloMosaic.Lib.IdealHost
public import Idealize.ShloMosaic.Adequacy
public import Idealize.ShloMosaic.Init

/-!
# The optimiser's step of `s5_w_glu`

The kernel takes the layers one after the other; a point sums the shares of its own layer.
-/

@[expose] public section

set_option maxRecDepth 16384

noncomputable section

open Idealize.ShloMosaic Idealize.ShloMosaic.TcCoe Idealize.SL.Sem Product Adam

namespace Cert.AdamGluIdeal.Product

open Cert.AdamGluIdeal Cert.AdamGluIdeal.Gen

/-- The blocks' indices. -/
theorem idx : ∀ t : Fin cfg0.N, win0_0.index t = ![t.val, 0] ∧ win0_1.index t = ![0, 0, 0] ∧ win0_2.index t = ![0, 0, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] :=
  (by decide +kernel : ∀ t : Fin grid0.N, win0_0.index t = ![t.val, 0] ∧ win0_1.index t = ![0, 0, 0] ∧ win0_2.index t = ![0, 0, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0])

/-- A point's layer. -/
def lyr (t : Fin cfg0.N) : Fin 2 := ⟨t.val, by have := lt_of_lt_of_eq t.isLt N_0; omega⟩
/-- A tile's row, in its layer. -/
def at' (t : Fin cfg0.N) (r : Fin 64) : Fin 64 := ⟨r.val, by omega⟩
/-- A tile's row, in the joined matrix. -/
def joint (t : Fin cfg0.N) (r : Fin 64) : Fin 128 := ⟨t.val * 64 + r.val, by have := lt_of_lt_of_eq t.isLt N_0; omega⟩

/-- The joined matrix at a tile's row. -/
theorem flat_tile (f : Lay 64 512) (t : Fin cfg0.N) (r : Fin 64) (j : Fin 512) :
    flat (N := 128) rfl f (ix2 (joint t r) j) = f (lyr t) (at' t r) j := by
  refine flat_at _ _ _ _ _ _ ?_
  have := lt_of_lt_of_eq t.isLt N_0
  show t.val * 64 + r.val = t.val * 64 + (r.val)
  omega

variable (m : (ℓ : Loc nD τ sig) → Buf (Elt Ideal) ℓ)

/-- The weight. -/
abbrev W (c : Dev nD) : Ten 2 64 512 := m ((c : Thread nD τ).loc main_arg0)
/-- The first layer's shares. -/
abbrev C0 (c : Dev nD) : Ten 4 64 512 := m ((c : Thread nD τ).loc main_arg1)
/-- The second layer's shares. -/
abbrev C1 (c : Dev nD) : Ten 4 64 512 := m ((c : Thread nD τ).loc main_arg2)
/-- The first moments. -/
abbrev M (c : Dev nD) : Ten 2 64 512 := m ((c : Thread nD τ).loc main_arg3)
/-- The second moments. -/
abbrev S (c : Dev nD) : Ten 2 64 512 := m ((c : Thread nD τ).loc main_arg4)

/-- The weight as the call gets it: its layers joined. -/
theorem V_v0 (c : Dev nD) : V m c main_v0 = flat (N := 128) rfl (lay (W m c)) := by
  show StableHlo.after hostOps0 (fun b => m (c, b)) main_v0 = _
  unfold hostOps0
  after_results_simp
  funext y
  idx_vars y
  pointwise
  rfl

/-- The first moments as the call gets them. -/
theorem V_v1 (c : Dev nD) : V m c main_v1 = flat (N := 128) rfl (lay (M m c)) := by
  show StableHlo.after hostOps0 (fun b => m (c, b)) main_v1 = _
  unfold hostOps0
  after_results_simp
  funext y
  idx_vars y
  pointwise
  rfl

/-- The second moments as the call gets them. -/
theorem V_v2 (c : Dev nD) : V m c main_v2 = flat (N := 128) rfl (lay (S m c)) := by
  show StableHlo.after hostOps0 (fun b => m (c, b)) main_v2 = _
  unfold hostOps0
  after_results_simp
  funext y
  idx_vars y
  pointwise
  rfl

/-- A point's rows of the weight. -/
theorem blk0 (c : Dev nD) (t : Fin cfg0.N) (r : Fin 64) (j : Fin 512) : iblk m c 0 t (ix2 r j) = lay (W m c) (lyr t) (at' t r) j := by
  obtain ⟨e, -⟩ := idx t
  blk_simp [iblk]
  exact (congrFun (V_v0 m c) _).trans ((congrArg (flat (N := 128) rfl _) (by blk_ext [e, ix2, joint] : _ = ix2 (joint t r) j)).trans
    (flat_tile _ t r j))

/-- A point's rows of the first moments. -/
theorem blk3 (c : Dev nD) (t : Fin cfg0.N) (r : Fin 64) (j : Fin 512) : iblk m c 3 t (ix2 r j) = lay (M m c) (lyr t) (at' t r) j := by
  obtain ⟨-, -, -, e, -⟩ := idx t
  blk_simp [iblk]
  exact (congrFun (V_v1 m c) _).trans ((congrArg (flat (N := 128) rfl _) (by blk_ext [e, ix2, joint] : _ = ix2 (joint t r) j)).trans
    (flat_tile _ t r j))

/-- A point's rows of the second moments. -/
theorem blk4 (c : Dev nD) (t : Fin cfg0.N) (r : Fin 64) (j : Fin 512) : iblk m c 4 t (ix2 r j) = lay (S m c) (lyr t) (at' t r) j := by
  obtain ⟨-, -, -, -, e, -⟩ := idx t
  blk_simp [iblk]
  exact (congrFun (V_v2 m c) _).trans ((congrArg (flat (N := 128) rfl _) (by blk_ext [e, ix2, joint] : _ = ix2 (joint t r) j)).trans
    (flat_tile _ t r j))

/-- A point's rows of the first layer's shares. -/
theorem blk1 (c : Dev nD) (t : Fin cfg0.N) (k : Fin 4) (r : Fin 64) (j : Fin 512) :
    iblk m c 1 t (ix3 k r j) = C0 m c (ix3 k (at' t r) j) := by
  obtain ⟨-, e, -⟩ := idx t
  blk_simp [iblk]
  exact (congrFun (V_main_arg1 m c) _).trans (congrArg (C0 m c) (by blk_ext [e, ix3, at']))

/-- A point's rows of the second layer's shares. -/
theorem blk2 (c : Dev nD) (t : Fin cfg0.N) (k : Fin 4) (r : Fin 64) (j : Fin 512) :
    iblk m c 2 t (ix3 k r j) = C1 m c (ix3 k (at' t r) j) := by
  obtain ⟨-, -, e, -⟩ := idx t
  blk_simp [iblk]
  exact (congrFun (V_main_arg2 m c) _).trans (congrArg (C1 m c) (by blk_ext [e, ix3, at']))

/-- A point of the first layer sums its shares. -/
theorem sumA (c : Dev nD) (t : Fin cfg0.N) (h : t.val % 2 = 0) (x : Ten 4 64 512) (hx : x = iblk m c 1 t) (r : Fin 64) (j : Fin 512) :
    x (ix3 0 r j) + x (ix3 1 r j) + x (ix3 2 r j) + x (ix3 3 r j)
      = grad (C0 m c) (C1 m c) (lyr t) (at' t r) j := by
  have ht := lt_of_lt_of_eq t.isLt N_0
  subst hx
  rw [blk1, blk1, blk1, blk1]
  exact (four fun k => C0 m c (ix3 k (at' t r) j)).trans (grad_first _ _ _ _ _ (by show t.val = 0; omega)).symm

/-- A point of the second layer sums its own. -/
theorem sumB (c : Dev nD) (t : Fin cfg0.N) (h : ¬t.val % 2 = 0) (x : Ten 4 64 512) (hx : x = iblk m c 2 t) (r : Fin 64) (j : Fin 512) :
    x (ix3 0 r j) + x (ix3 1 r j) + x (ix3 2 r j) + x (ix3 3 r j)
      = grad (C0 m c) (C1 m c) (lyr t) (at' t r) j := by
  have ht := lt_of_lt_of_eq t.isLt N_0
  subst hx
  rw [blk2, blk2, blk2, blk2]
  exact (four fun k => C1 m c (ix3 k (at' t r) j)).trans (grad_second _ _ _ _ _ (by show ¬t.val = 0; omega)).symm

/-- The gradient after the run. -/
theorem arr5 (c : Dev nD) : (dats m 0 c).arrAt 5 cfg0.N = flat (N := 128) rfl (grad (C0 m c) (C1 m c)) := by
  refine (dats m 0 c).arrAt_eq_of_covers 5 _ (by decide +kernel) fun t hf y => ?_
  have ht := lt_of_lt_of_eq t.isLt N_0
  obtain ⟨-, -, -, -, -, e, -⟩ := idx t
  blk_simp
  rw [after0_5]
  idx_vars y
  refine Eq.trans ?_ ((flat_tile _ t y0 y1).symm.trans (congrArg (flat (N := 128) rfl _) (by blk_ext [e, ix2, joint])))
  by_cases h0 : t.val % 2 = 0
  · rw [outsAt0_A m c t h0 (by omega)]
    frame_out
    pointwise [k0_pay3]
    exact sumA m c t h0 _ rfl y0 y1
  · rw [outsAt0_B m c t h0 (by omega)]
    frame_out
    pointwise [k0_pay8]
    exact sumB m c t h0 _ rfl y0 y1

/-- The weight's change after the run. -/
theorem arr6 (c : Dev nD) : (dats m 0 c).arrAt 6 cfg0.N = flat (N := 128) rfl (changes (W m c) (C0 m c) (C1 m c) (M m c) (S m c)) := by
  refine (dats m 0 c).arrAt_eq_of_covers 6 _ (by decide +kernel) fun t hf y => ?_
  have ht := lt_of_lt_of_eq t.isLt N_0
  obtain ⟨-, -, -, -, -, -, e, -⟩ := idx t
  blk_simp
  rw [after0_6]
  idx_vars y
  refine Eq.trans ?_ ((flat_tile _ t y0 y1).symm.trans (congrArg (flat (N := 128) rfl _) (by blk_ext [e, ix2, joint])))
  by_cases h0 : t.val % 2 = 0
  · rw [outsAt0_A m c t h0 (by omega)]
    frame_out
    pointwise [k0_pay1, k0_pay3, k0_pay4, k0_pay5, k0_pay6, k0_pay7]
    rw [sumA m c t h0 _ rfl, blk0, blk3, blk4]
    rfl
  · rw [outsAt0_B m c t h0 (by omega)]
    frame_out
    pointwise [k0_pay2, k0_pay8, k0_pay9, k0_pay10, k0_pay11, k0_pay12]
    rw [sumB m c t h0 _ rfl, blk0, blk3, blk4]
    rfl

/-- The first moments after the run. -/
theorem arr7 (c : Dev nD) : (dats m 0 c).arrAt 7 cfg0.N = flat (N := 128) rfl (means (C0 m c) (C1 m c) (M m c)) := by
  refine (dats m 0 c).arrAt_eq_of_covers 7 _ (by decide +kernel) fun t hf y => ?_
  have ht := lt_of_lt_of_eq t.isLt N_0
  obtain ⟨-, -, -, -, -, -, -, e, -⟩ := idx t
  blk_simp
  rw [after0_7]
  idx_vars y
  refine Eq.trans ?_ ((flat_tile _ t y0 y1).symm.trans (congrArg (flat (N := 128) rfl _) (by blk_ext [e, ix2, joint])))
  by_cases h0 : t.val % 2 = 0
  · rw [outsAt0_A m c t h0 (by omega)]
    frame_out
    pointwise [k0_pay3, k0_pay5]
    rw [sumA m c t h0 _ rfl, blk3]
    rfl
  · rw [outsAt0_B m c t h0 (by omega)]
    frame_out
    pointwise [k0_pay8, k0_pay10]
    rw [sumB m c t h0 _ rfl, blk3]
    rfl

/-- The second moments after the run. -/
theorem arr8 (c : Dev nD) : (dats m 0 c).arrAt 8 cfg0.N = flat (N := 128) rfl (spreads (C0 m c) (C1 m c) (S m c)) := by
  refine (dats m 0 c).arrAt_eq_of_covers 8 _ (by decide +kernel) fun t hf y => ?_
  have ht := lt_of_lt_of_eq t.isLt N_0
  obtain ⟨-, -, -, -, -, -, -, -, e⟩ := idx t
  blk_simp
  rw [after0_8]
  idx_vars y
  refine Eq.trans ?_ ((flat_tile _ t y0 y1).symm.trans (congrArg (flat (N := 128) rfl _) (by blk_ext [e, ix2, joint])))
  by_cases h0 : t.val % 2 = 0
  · rw [outsAt0_A m c t h0 (by omega)]
    frame_out
    pointwise [k0_pay3, k0_pay6]
    rw [sumA m c t h0 _ rfl, blk4]
    rfl
  · rw [outsAt0_B m c t h0 (by omega)]
    frame_out
    pointwise [k0_pay8, k0_pay11]
    rw [sumB m c t h0 _ rfl, blk4]
    rfl

end Cert.AdamGluIdeal.Product

namespace Cert.AdamGluRefIdeal.Product

open Cert.AdamGluRefIdeal Cert.AdamGluRefIdeal.Read

variable (w : Ten 2 64 512) (c d : Ten 4 64 512) (m v : Ten 2 64 512)

/-- The reference's gradient. -/
theorem ref6 (l : Fin 2) (p : Fin 64) (j : Fin 512) : val_main_v6 (F := Ideal) c d (ix3 l p j) = grad c d l p j := by
  unfold val_main_v6
  by_cases h : l.val = 0
  · refine (concatenate_pair_apply_left (t := S2x64x512) (s₁ := S1x64x512) (s₂ := S1x64x512) 0 _ _ _ (ix3 l p j) rfl (ix3 0 p j)
      (fun b => ?_)).trans ?_
    · match b with
      | ⟨0, _⟩ => exact h.symm
      | ⟨1, _⟩ => rfl
      | ⟨2, _⟩ => rfl
    · pointwise [val_main_v4, val_main_v1, val_main_v0, val_main_cst]
      exact (grad_first _ _ _ _ _ h).symm
  · refine (concatenate_pair_apply_right (t := S2x64x512) (s₁ := S1x64x512) (s₂ := S1x64x512) 0 _ _ _ (ix3 l p j) rfl rfl (ix3 0 p j)
      (fun b hb => ?_) ?_).trans ?_
    · match b with
      | ⟨0, _⟩ => exact absurd rfl hb
      | ⟨1, _⟩ => rfl
      | ⟨2, _⟩ => rfl
    · show 0 + 1 = l.val
      omega
    · pointwise [val_main_v5, val_main_v3, val_main_v2, val_main_cst_0]
      exact (grad_second _ _ _ _ _ h).symm

/-- The reference's first moments, layer by layer. -/
theorem ref11 (l : Fin 2) (p : Fin 64) (j : Fin 512) : val_main_v11 (F := Ideal) c d m (ix3 l p j) = means c d m l p j := by
  pointwise [val_main_v11, val_main_v10, val_main_v9, val_main_cst_2, val_main_v8, val_main_v7, val_main_cst_1]
  rw [ref6]
  rfl

/-- The reference's second moments, layer by layer. -/
theorem ref17 (l : Fin 2) (p : Fin 64) (j : Fin 512) : val_main_v17 (F := Ideal) c d v (ix3 l p j) = spreads c d v l p j := by
  pointwise [val_main_v17, val_main_v16, val_main_v15, val_main_cst_4, val_main_v14, val_main_v13, val_main_v12, val_main_cst_3]
  rw [ref6]
  rfl

/-- The reference's change, layer by layer. -/
theorem ref30 (l : Fin 2) (p : Fin 64) (j : Fin 512) :
    val_main_v30 (F := Ideal) w c d m v (ix3 l p j) = changes w c d m v l p j := by
  pointwise [val_main_v30, val_main_v29, val_main_cst_9, val_main_v28, val_main_v27, val_main_v26, val_main_cst_8, val_main_v25,
    val_main_v24, val_main_v23, val_main_cst_7, val_main_v22, val_main_v21, val_main_v20, val_main_cst_6, val_main_v19,
    val_main_v18, val_main_cst_5]
  rw [ref11, ref17]
  rfl

/-- The reference's gradient, its layers joined. -/
theorem ref31 : val_main_v31 (F := Ideal) c d = flat (N := 128) rfl (grad c d) := by
  funext y
  idx_vars y
  pointwise [val_main_v31]
  exact ref6 _ _ _ _ _

/-- The reference's changes. -/
theorem ref32 : val_main_v32 (F := Ideal) w c d m v = flat (N := 128) rfl (changes w c d m v) := by
  funext y
  idx_vars y
  pointwise [val_main_v32]
  exact ref30 _ _ _ _ _ _ _ _

/-- The reference's first moments. -/
theorem ref33 : val_main_v33 (F := Ideal) c d m = flat (N := 128) rfl (means c d m) := by
  funext y
  idx_vars y
  pointwise [val_main_v33]
  exact ref11 _ _ _ _ _ _

/-- The reference's second moments. -/
theorem ref34 : val_main_v34 (F := Ideal) c d v = flat (N := 128) rfl (spreads c d v) := by
  funext y
  idx_vars y
  pointwise [val_main_v34]
  exact ref17 _ _ _ _ _ _

/-- The reference leaves its arguments, and has no semaphore. -/
theorem frame : Cert.quiescent_AdamGluRefIdeal (hAdamGluRefIdeal := Gen.facts) := fun m g _ =>
  (θ_run _ _ _).mono (fun r h => ⟨fun c => (h c).2.2.2.2, sem_eq_zero_of_no_sems (by decide) r.2⟩) (Value.run (F := Ideal) m g)

/-- The kernel's step is the reference's. -/
theorem algebraic : Cert.algebraic_AdamGluIdeal_AdamGluRefIdeal (hAdamGluIdeal := Cert.AdamGluIdeal.Gen.facts)
    (hAdamGluRefIdeal := Gen.facts) := by
  intro m g m' g' _ hargs
  open Cert.AdamGluIdeal.Product in
  refine ⟨fun c => flat (N := 128) rfl (grad (C0 m c) (C1 m c)),
    fun c => flat (N := 128) rfl (changes (W m c) (C0 m c) (C1 m c) (M m c) (S m c)),
    fun c => flat (N := 128) rfl (means (C0 m c) (C1 m c) (M m c)),
    fun c => flat (N := 128) rfl (spreads (C0 m c) (C1 m c) (S m c)),
    (θ_run _ _ _).mono (fun r h c => ?_) (Cert.AdamGluIdeal.Value.run_blocks (F := Ideal) m g),
    (θ_run _ _ _).mono (fun r h c => ?_) (Value.run (F := Ideal) m' g')⟩
  · obtain ⟨h0, h1, h2, h3, h⟩ := h c
    exact ⟨h0.trans (arr5 m c), h1.trans (arr6 m c), h2.trans (arr7 m c), h3.trans (arr8 m c), h⟩
  · obtain ⟨h0, h1, h2, h3, h⟩ := h c
    obtain ⟨a0, a1, a2, a3, a4⟩ := hargs c
    refine ⟨h0.trans ((val_main_v31_eq _ _).trans ?_), h1.trans ((val_main_v32_eq _ _ _ _ _).trans ?_),
      h2.trans ((val_main_v33_eq _ _ _).trans ?_), h3.trans ((val_main_v34_eq _ _ _).trans ?_), h⟩
    · rw [a1, a2]; exact ref31 _ _
    · rw [a0, a1, a2, a3, a4]; exact ref32 _ _ _ _ _
    · rw [a1, a2, a3]; exact ref33 _ _ _
    · rw [a1, a2, a4]; exact ref34 _ _ _

end Cert.AdamGluRefIdeal.Product
end
-- ==== Proof.Loss.lean ====
module

public import proofs.«01_k».proof.Defs
public import proofs.«01_k».proof.Proof.Products
public import proofs.«01_k».proof.Proof.Gen.LossIdeal.Value
public import proofs.«01_k».proof.Proof.Gen.LossRefIdeal.Read
public import proofs.«01_k».proof.Proof.Gen.LossRefIdeal.Run
public import Idealize.ShloMosaic.Lib.IdealHost
public import Idealize.ShloMosaic.Adequacy
public import Idealize.ShloMosaic.Init

/-!
# The loss and its gradient

The loss is half the sum, over the tokens, of the mean square of a token's error.  The kernel halves each tile's sum and
adds the halves; a mean square is not negative, so that this is half the whole sum whatever the errors.
-/

@[expose] public section

set_option maxRecDepth 16384

noncomputable section

open Idealize.ShloMosaic Idealize.ShloMosaic.TcCoe Idealize.SL.Sem Product

namespace Loss

/-- The number of features. -/
abbrev feats : EReal := Ideal.ofBits .f32 0x44800000#32
/-- A half. -/
abbrev half : EReal := Ideal.ofBits .f32 0x3F000000#32

/-- As a number. -/
theorem feats_eq : feats = ((1024 : ℝ) : EReal) := by
  simp [feats, Ideal.ofBits, Ideal.ieee, -EReal.coe_mul]; norm_num
/-- As a number. -/
theorem half_eq : half = ((1 / 2 : ℝ) : EReal) := by
  simp [half, Ideal.ofBits, Ideal.ieee, -EReal.coe_mul]; norm_num
/-- Two, as a number. -/
theorem two_eq : Ideal.ofBits .f32 0x40000000#32 = ((2 : ℝ) : EReal) := by
  simp [Ideal.ofBits, Ideal.ieee, -EReal.coe_mul]; norm_num

/-- A quotient by the number of features is a product with its inverse. -/
theorem div_feats (v : EReal) : Ideal.div v feats = v * ((1 / 1024 : ℝ) : EReal) := by
  rw [feats_eq]
  unfold Ideal.div
  rw [if_neg (by norm_num), ← EReal.coe_inv]
  norm_num

/-- The mean square of a token's error. -/
def ms (a b : Fin 1024 → EReal) : EReal := Ideal.div (∑ k, (a k - b k) * (a k - b k)) feats

/-- It is not negative. -/
theorem ms_nonneg (a b : Fin 1024 → EReal) : 0 ≤ ms a b := by
  unfold ms
  rw [div_feats]
  exact EReal.mul_nonneg (Finset.sum_nonneg fun k _ => EReal.mul_nonneg_iff.mpr ((le_total 0 _).imp (fun h => ⟨h, h⟩) fun h => ⟨h, h⟩))
    (by norm_num)

/-- A factor that is not negative goes into a sum of such terms. -/
theorem mul_sum {ι : Type*} (s : Finset ι) (c : EReal) (f : ι → EReal) (h : ∀ i, 0 ≤ f i) :
    c * ∑ i ∈ s, f i = ∑ i ∈ s, c * f i := by
  classical
  induction s using Finset.induction_on with
  | empty => simp
  | insert a s ha ih =>
    rw [Finset.sum_insert ha, Finset.sum_insert ha, EReal.left_distrib_of_nonneg (h a) (Finset.sum_nonneg fun i _ => h i), ih]

/-- Row `r`'s part of the loss. -/
def part {n : ℕ} (y z : Mat n 1024) (r : Fin n) : EReal := half * ms (row y r) (row z r)
/-- The loss of `n` tokens. -/
def loss {n : ℕ} (y z : Mat n 1024) : Mat 1 1 := fun _ => ∑ r, part y z r

/-- Half the sum is the sum of the halves. -/
theorem half_sum {n : ℕ} (y z : Mat n 1024) : half * ∑ r, ms (row y r) (row z r) = ∑ r, part y z r :=
  mul_sum _ _ _ fun _ => ms_nonneg _ _

/-- The loss's gradient. -/
def grad {n : ℕ} (y z : Mat n 1024) : Mat n 1024 := fun i => Ideal.div (y i - z i) feats

/-- The gradient by the chain rule, factor by factor. -/
theorem chain (e : EReal) : Ideal.div half feats * (Ideal.ofBits .f32 0x40000000#32 * e)
    = Ideal.div e feats := by
  rw [div_feats, div_feats, half_eq, two_eq, ← mul_assoc, ← EReal.coe_mul, ← EReal.coe_mul, mul_comm e]
  norm_num

end Loss

open Loss

namespace Cert.LossIdeal.Product

open Cert.LossIdeal Cert.LossIdeal.Gen

/-- What a later point leaves of the loss. -/
theorem later (x z : FVec Ideal S256x1024 .f32) (v : FVec Ideal S1x1 .f32) (y : S1x1.Idx) :
    k0_pay4 (F := Ideal) x z v y = v y + loss x z y := by
  idx_vars y
  pointwise [k0_pay4, k0_pay2]
  exact congrArg (v _ + ·) (half_sum x z)

/-- What the first point leaves of it. -/
theorem first (x z : FVec Ideal S256x1024 .f32) (y : S1x1.Idx) : k0_pay4 (F := Ideal) x z (k0_pay1 (F := Ideal)) y = loss x z y := by
  rw [later]
  pointwise [k0_pay1]

/-- A tile's gradient. -/
theorem tile (x z : FVec Ideal S256x1024 .f32) (r : Fin 256) (j : Fin 1024) : k0_pay3 (F := Ideal) x z (ix2 r j) = grad x z (ix2 r j) := by
  pointwise [k0_pay3, k0_pay2]
  rfl

/-- The blocks' indices. -/
theorem idx : ∀ t : Fin cfg0.N, win0_0.index t = ![t.val, 0] ∧ win0_1.index t = ![t.val, 0] ∧ win0_2.index t = ![t.val, 0]
    ∧ win0_3.index t = ![0, 0] :=
  (by decide +kernel : ∀ t : Fin grid0.N, win0_0.index t = ![t.val, 0] ∧ win0_1.index t = ![t.val, 0] ∧ win0_2.index t = ![t.val, 0]
    ∧ win0_3.index t = ![0, 0])

variable (m : (ℓ : Loc nD τ sig) → Buf (Elt Ideal) ℓ)

/-- A point's rows of the output. -/
theorem blk0 (c : Dev nD) (t : Fin cfg0.N) (r : Fin 256) (p : t.val * 256 + r.val < 2048) (k : Fin 1024) :
    iblk m c 0 t (ix2 r k) = m ((c : Thread nD τ).loc main_arg0) (ix2 ⟨t.val * 256 + r.val, p⟩ k) := by
  obtain ⟨e, -⟩ := idx t
  blk_simp [iblk]
  exact (congrFun (V_main_arg0 m c) _).trans (congrArg (m ((c : Thread nD τ).loc main_arg0)) (by blk_ext [e, ix2]))

/-- A point's rows of the target. -/
theorem blk1 (c : Dev nD) (t : Fin cfg0.N) (r : Fin 256) (p : t.val * 256 + r.val < 2048) (k : Fin 1024) :
    iblk m c 1 t (ix2 r k) = m ((c : Thread nD τ).loc main_arg1) (ix2 ⟨t.val * 256 + r.val, p⟩ k) := by
  obtain ⟨-, e, -⟩ := idx t
  blk_simp [iblk]
  exact (congrFun (V_main_arg1 m c) _).trans (congrArg (m ((c : Thread nD τ).loc main_arg1)) (by blk_ext [e, ix2]))

/-- A tile's gradient is the whole arrays' on its rows. -/
theorem tile_at (c : Dev nD) (t : Fin cfg0.N) (r : Fin 256) (p : t.val * 256 + r.val < 2048) (j : Fin 1024) :
    k0_pay3 (F := Ideal) (iblk m c 0 t) (iblk m c 1 t) (ix2 r j)
      = grad (n := 2048) (m ((c : Thread nD τ).loc main_arg0)) (m ((c : Thread nD τ).loc main_arg1)) (ix2 ⟨t.val * 256 + r.val, p⟩ j) := by
  refine (tile _ _ r j).trans ?_
  unfold grad
  rw [blk0 m c t r p, blk1 m c t r p]

/-- The gradient after the run. -/
theorem arr2 (c : Dev nD) : (dats m 0 c).arrAt 2 cfg0.N
    = grad (n := 2048) (m ((c : Thread nD τ).loc main_arg0)) (m ((c : Thread nD τ).loc main_arg1)) := by
  refine (dats m 0 c).arrAt_eq_of_covers 2 _ (by decide +kernel) fun t hf y => ?_
  obtain ⟨-, -, e, -⟩ := idx t
  have ht : t.val < 8 := lt_of_lt_of_eq t.isLt N_0
  blk_simp
  rw [after0_2]
  idx_vars y
  refine Eq.trans ?_ ((tile_at m c t y0 (by omega) y1).trans (congrArg (grad _ _) (by blk_ext [e, ix2])))
  by_cases h0 : t.val % 8 = 0
  · rw [outsAt0_A m c t h0]
    frame_out
  · rw [outsAt0_B m c t h0]
    frame_out

/-- The loss after the run. -/
theorem arr3 (c : Dev nD) : (dats m 0 c).arrAt 3 cfg0.N
    = loss (n := 2048) (m ((c : Thread nD τ).loc main_arg0)) (m ((c : Thread nD τ).loc main_arg1)) := by
  refine (dats m 0 c).arrAt_eq_of_covers 3 _ (by decide +kernel) fun t hf y => ?_
  obtain ⟨-, -, -, e⟩ := idx t
  have ht : t.val < 8 := lt_of_lt_of_eq t.isLt N_0
  have h7 := (flush0_3 t).mp hf
  blk_simp
  rw [after0_3]
  refine sum_run (J := 8) (fun u h => (outsAt0 m c u h).2) (fun t l _ => part (n := 256) (iblk m c 0 t) (iblk m c 1 t) l)
    (fun r _ => part (n := 2048) _ _ r)
    (fun t h y => by rw [outsAt0_A m c t h]; frame_out; exact first _ _ _)
    (fun t h y => by rw [outsAt0_B m c t h]; frame_out; exact later _ _ _ _)
    t h7 y y rfl rfl (fun s l hl => congrArg (half * ·) (congrArg₂ ms (funext fun k => ?_) (funext fun k => ?_)))
  · exact (blk0 m c _ l (by dsimp only; omega) k).trans
      (congrArg (m ((c : Thread nD τ).loc main_arg0)) (by blk_ext [ix2]))
  · exact (blk1 m c _ l (by dsimp only; omega) k).trans
      (congrArg (m ((c : Thread nD τ).loc main_arg1)) (by blk_ext [ix2]))

end Cert.LossIdeal.Product

namespace Cert.LossRefIdeal.Product

open Cert.LossRefIdeal Cert.LossRefIdeal.Read Cert.LossIdeal.Product

/-- The reference's loss. -/
theorem ref0 (x z : FVec Ideal S2048x1024 .f32) : val_main_v15 (F := Ideal) x z = loss x z := by
  funext y
  idx_vars y
  rw [← val_main_v15_eq]
  pointwise
  exact half_sum x z

/-- The reference's gradient. -/
theorem ref1 (x z : FVec Ideal S2048x1024 .f32) : val_main_v14 (F := Ideal) x z = grad x z := by
  funext y
  idx_vars y
  rw [← val_main_v14_eq]
  pointwise
  exact chain _

/-- The reference leaves its arguments, and has no semaphore. -/
theorem frame : Cert.quiescent_LossRefIdeal (hLossRefIdeal := Gen.facts) := fun m g _ =>
  (θ_run _ _ _).mono (fun r h => ⟨fun c => (h c).2.2, sem_eq_zero_of_no_sems (by decide) r.2⟩) (Value.run (F := Ideal) m g)

/-- The kernel's loss and gradient are the reference's. -/
theorem algebraic : Cert.algebraic_LossIdeal_LossRefIdeal (hLossIdeal := Cert.LossIdeal.Gen.facts)
    (hLossRefIdeal := Gen.facts) :=
  fun m g m' g' _ hargs => ⟨fun c => _, fun c => _,
    (θ_run _ _ _).mono (fun r h c => ⟨(h c).2.1.trans (arr3 m c), (h c).1.trans (arr2 m c), (h c).2.2⟩)
      (Cert.LossIdeal.Value.run_blocks (F := Ideal) m g),
    (θ_run _ _ _).mono (fun r h c => ⟨(h c).1.trans ((val_main_v15_eq _ _).trans (by rw [(hargs c).1, (hargs c).2]; exact ref0 _ _)),
      (h c).2.1.trans ((val_main_v14_eq _ _).trans (by rw [(hargs c).1, (hargs c).2]; exact ref1 _ _)), (h c).2.2⟩)
      (Value.run (F := Ideal) m' g')⟩

end Cert.LossRefIdeal.Product
end
-- ==== Proof.SumSmall.lean ====
module

public import proofs.«01_k».proof.Defs
public import proofs.«01_k».proof.Proof.Products
public import proofs.«01_k».proof.Proof.Gen.SumSmallIdeal.Value
public import proofs.«01_k».proof.Proof.Gen.SumSmallRefIdeal.Read
public import proofs.«01_k».proof.Proof.Gen.SumSmallRefIdeal.Run
public import Idealize.ShloMosaic.Lib.IdealHost
public import Idealize.ShloMosaic.Adequacy
public import Idealize.ShloMosaic.Init

/-!
# The sum of the devices' shares of the small weights' gradients

The kernel adds the eight devices' shares one after the other, 256 rows at a point.
-/

@[expose] public section

set_option maxRecDepth 16384

noncomputable section

open Idealize.ShloMosaic Idealize.ShloMosaic.TcCoe Idealize.SL.Sem Product

namespace Cert.SumSmallIdeal.Product

open Cert.SumSmallIdeal Cert.SumSmallIdeal.Gen

/-- Eight devices' arrays of `r` rows. -/
abbrev Shares (r : ℕ) := (⟨3, ![8, r, 128]⟩ : Shape).Idx → EReal

/-- The devices' shares, summed. -/
def total {r : ℕ} (x : Shares r) : Mat r 128 := fun i => ∑ k, x (ix3 k (i 0) (i 1))

/-- A tile's sum. -/
theorem tile (x : FVec Ideal S8x256x128 .f32) (r : Fin 256) (j : Fin 128) : out0_1 (F := Ideal) x (ix2 r j) = total x (ix2 r j) := by
  unfold out0_1
  frame_out
  pointwise [k0_pay1]
  exact (Fin.sum_univ_eight fun k => x (ix3 k r j)).symm

/-- The blocks' indices. -/
theorem idx : ∀ t : Fin cfg0.N, win0_0.index t = ![0, t.val, 0] ∧ win0_1.index t = ![t.val, 0] :=
  (by decide +kernel : ∀ t : Fin grid0.N, win0_0.index t = ![0, t.val, 0] ∧ win0_1.index t = ![t.val, 0])

variable (m : (ℓ : Loc nD τ sig) → Buf (Elt Ideal) ℓ)

/-- The devices' shares. -/
abbrev X (c : Dev nD) : Shares 2304 := m ((c : Thread nD τ).loc main_arg0)

/-- A point's rows of the shares. -/
theorem blk0 (c : Dev nD) (t : Fin cfg0.N) (k : Fin 8) (r : Fin 256) (p : t.val * 256 + r.val < 2304) (j : Fin 128) :
    iblk m c 0 t (ix3 k r j) = X m c (ix3 k ⟨t.val * 256 + r.val, p⟩ j) := by
  obtain ⟨e, -⟩ := idx t
  blk_simp [iblk]
  exact (congrFun (V_main_arg0 m c) _).trans (congrArg (X m c) (by blk_ext [e, ix3]))

/-- A tile's sum is the whole arrays' on its rows. -/
theorem tile_at (c : Dev nD) (t : Fin cfg0.N) (r : Fin 256) (p : t.val * 256 + r.val < 2304) (j : Fin 128) :
    out0_1 (F := Ideal) (iblk m c 0 t) (ix2 r j) = total (X m c) (ix2 ⟨t.val * 256 + r.val, p⟩ j) :=
  (tile _ r j).trans (Finset.sum_congr rfl fun k _ => blk0 m c t k r p j)

/-- The array after the run is the sum of the shares. -/
theorem arr (c : Dev nD) : (dats m 0 c).arrAt 1 cfg0.N = total (X m c) := by
  refine (dats m 0 c).arrAt_eq_of_covers 1 _ (by decide +kernel) fun t hf y => ?_
  obtain ⟨-, e⟩ := idx t
  have ht : t.val < 9 := lt_of_lt_of_eq t.isLt N_0
  blk_simp
  rw [after0_1]
  idx_vars y
  exact (tile_at m c t y0 (by omega) y1).trans (congrArg (total _) (by blk_ext [e, ix2]))

end Cert.SumSmallIdeal.Product

namespace Cert.SumSmallRefIdeal.Product

open Cert.SumSmallRefIdeal Cert.SumSmallRefIdeal.Read Cert.SumSmallIdeal.Product

/-- The reference's sum. -/
theorem ref (x : FVec Ideal S8x2304x128 .f32) : val_main_v0 (F := Ideal) x = total x := by
  funext y
  idx_vars y
  rw [← val_main_v0_eq]
  pointwise
  rfl

/-- The reference leaves its argument, and has no semaphore. -/
theorem frame : Cert.quiescent_SumSmallRefIdeal (hSumSmallRefIdeal := Gen.facts) := fun m g _ =>
  (θ_run _ _ _).mono (fun r h => ⟨fun c => (h c).2, sem_eq_zero_of_no_sems (by decide) r.2⟩) (Value.run (F := Ideal) m g)

/-- The kernel's sum is the reference's. -/
theorem algebraic : Cert.algebraic_SumSmallIdeal_SumSmallRefIdeal (hSumSmallIdeal := Cert.SumSmallIdeal.Gen.facts)
    (hSumSmallRefIdeal := Gen.facts) :=
  fun m g m' g' _ hargs => ⟨fun c => _,
    (θ_run _ _ _).mono (fun r h c => ⟨(h c).1.trans (arr m c), (h c).2⟩) (Cert.SumSmallIdeal.Value.run_blocks (F := Ideal) m g),
    (θ_run _ _ _).mono (fun r h c => ⟨(h c).1.trans ((val_main_v0_eq _).trans (by rw [hargs c]; exact ref _)), (h c).2⟩)
      (Value.run (F := Ideal) m' g')⟩

end Cert.SumSmallRefIdeal.Product
end
-- ==== Proof.GateY.lean ====
module

public import proofs.«01_k».proof.Proof.GateMath
public import proofs.«01_k».proof.Proof.Gen.KernelIdeal.Value
public import Idealize.ShloMosaic.Lib.Pipeline.ValueKit
public import Idealize.ShloMosaic.Lib.Pipeline.ReadBack

/-!
# What one tile of the kernel computes: the assembled mixer outputs and the payloads

The arrays here are one grid point's tiles of 256 rows.  Each stored value of the kernel's body, read at an index, is a
formula of `Proof/GateMath.lean` at that row.
-/

@[expose] public section

set_option maxRecDepth 16384

noncomputable section

open Idealize.ShloMosaic Idealize.ShloMosaic.TcCoe Idealize.SL.Sem Gate

namespace Cert.KernelIdeal.Gate

open Cert.KernelIdeal Cert.KernelIdeal.Gen

variable (X0 X1 : FVec Ideal S8x256x64 .f32) (X2 : FVec Ideal S256x512 .f32) (X3 : FVec Ideal S256x4608 .f32)
  (W : FVec Ideal S1536x1024 .bf16) (T : FVec Ideal S1024x1024 .bf16) (D : FVec Ideal S256x1024 .f32)

/-! ## The three mixers' outputs side by side -/

/-- Reading a whole buffer after several stores is the stores' canonical contents. -/
theorem readCov_whole {Val : EltTy → Type} [∀ e, Nonempty (Val e)] {σ : RefSig} {κ : Kind} {sp : Space} {S : Shape} {e : EltTy}
    (v : View σ κ sp S e) (L : List (View.Piece Val S e)) {off : Fin S.rank → ℕ}
    (inb : ∀ a, off a + S.size a ≤ S.size a) (h : ∀ a, off a = 0) :
    v.readCov L (Rect.unit off S.size inb).toLoadRect = View.canon L := by
  rw [View.readCov_eq_canon']
  exact View.ld_unit_lit inb (View.canon L) h

/-- The three branches' inputs in one matrix, 512 columns each. -/
def YV : FVec Ideal S256x1536 .f32 := joined (n := 256) X0 X1 X2

/-- Its column `512 b + c`. -/
theorem YV_at (r : Fin 256) (k : Fin 1536) (b : Fin 3) (c : Fin 512) (h : k.val = 512 * b.val + c.val) :
    YV X0 X1 X2 (ix2 r k) = yRow (n := 256) X0 X1 X2 b r c := joined_at X0 X1 X2 r k b c h

/-- A column of the first branch. -/
theorem YV_0 (i : S256x1536.Idx) (h : Fin 8) (r : Fin 256) (l : Fin 64) (h0 : (i 0).val = r.val)
    (h1 : (i 1).val = 64 * h.val + l.val) : YV X0 X1 X2 i = X0 (ix3 h r l) := joined_0 X0 X1 X2 i h r l h0 h1

/-- A column of the second branch. -/
theorem YV_1 (i : S256x1536.Idx) (h : Fin 8) (r : Fin 256) (l : Fin 64) (h0 : (i 0).val = r.val)
    (h1 : (i 1).val = 512 + 64 * h.val + l.val) : YV X0 X1 X2 i = X1 (ix3 h r l) := joined_1 X0 X1 X2 i h r l h0 h1

/-- A column of the third branch. -/
theorem YV_2 (i : S256x1536.Idx) (r : Fin 256) (c : Fin 512) (h0 : (i 0).val = r.val)
    (h1 : (i 1).val = 1024 + c.val) : YV X0 X1 X2 i = X2 (ix2 r c) := joined_2 X0 X1 X2 i r c h0 h1

/-- The seventeen stores that assemble the mixers' outputs. -/
def yPieces : List (View.Piece (Elt Ideal) S256x1536 .f32) :=
  [⟨Rect.unit ![0, 1024] ![256, 512] inb_S256x1536_S256x512_0_1024, k0_pay21 (F := Ideal) X2⟩,
   ⟨Rect.unit ![0, 960] ![256, 64] inb_S256x1536_S256x64_0_960, k0_pay20 (F := Ideal) (k0_pay19 (F := Ideal) (View.ld (Val := Elt Ideal) (e' := .f32) X1 (Rect.unit ![7, 0, 0] ![1, 256, 64] inb_S8x256x64_S1x256x64_7_0_0)))⟩,
   ⟨Rect.unit ![0, 448] ![256, 64] inb_S256x1536_S256x64_0_448, k0_pay18 (F := Ideal) (View.ld (Val := Elt Ideal) (e' := .f32) X0 (Rect.unit ![7, 0, 0] ![1, 256, 64] inb_S8x256x64_S1x256x64_7_0_0))⟩,
   ⟨Rect.unit ![0, 896] ![256, 64] inb_S256x1536_S256x64_0_896, k0_pay17 (F := Ideal) (View.ld (Val := Elt Ideal) (e' := .f32) X1 (Rect.unit ![6, 0, 0] ![1, 256, 64] inb_S8x256x64_S1x256x64_6_0_0))⟩,
   ⟨Rect.unit ![0, 384] ![256, 64] inb_S256x1536_S256x64_0_384, k0_pay16 (F := Ideal) (View.ld (Val := Elt Ideal) (e' := .f32) X0 (Rect.unit ![6, 0, 0] ![1, 256, 64] inb_S8x256x64_S1x256x64_6_0_0))⟩,
   ⟨Rect.unit ![0, 832] ![256, 64] inb_S256x1536_S256x64_0_832, k0_pay15 (F := Ideal) (View.ld (Val := Elt Ideal) (e' := .f32) X1 (Rect.unit ![5, 0, 0] ![1, 256, 64] inb_S8x256x64_S1x256x64_5_0_0))⟩,
   ⟨Rect.unit ![0, 320] ![256, 64] inb_S256x1536_S256x64_0_320, k0_pay14 (F := Ideal) (View.ld (Val := Elt Ideal) (e' := .f32) X0 (Rect.unit ![5, 0, 0] ![1, 256, 64] inb_S8x256x64_S1x256x64_5_0_0))⟩,
   ⟨Rect.unit ![0, 768] ![256, 64] inb_S256x1536_S256x64_0_768, k0_pay13 (F := Ideal) (View.ld (Val := Elt Ideal) (e' := .f32) X1 (Rect.unit ![4, 0, 0] ![1, 256, 64] inb_S8x256x64_S1x256x64_4_0_0))⟩,
   ⟨Rect.unit ![0, 256] ![256, 64] inb_S256x1536_S256x64_0_256, k0_pay12 (F := Ideal) (View.ld (Val := Elt Ideal) (e' := .f32) X0 (Rect.unit ![4, 0, 0] ![1, 256, 64] inb_S8x256x64_S1x256x64_4_0_0))⟩,
   ⟨Rect.unit ![0, 704] ![256, 64] inb_S256x1536_S256x64_0_704, k0_pay11 (F := Ideal) (View.ld (Val := Elt Ideal) (e' := .f32) X1 (Rect.unit ![3, 0, 0] ![1, 256, 64] inb_S8x256x64_S1x256x64_3_0_0))⟩,
   ⟨Rect.unit ![0, 192] ![256, 64] inb_S256x1536_S256x64_0_192, k0_pay10 (F := Ideal) (View.ld (Val := Elt Ideal) (e' := .f32) X0 (Rect.unit ![3, 0, 0] ![1, 256, 64] inb_S8x256x64_S1x256x64_3_0_0))⟩,
   ⟨Rect.unit ![0, 640] ![256, 64] inb_S256x1536_S256x64_0_640, k0_pay9 (F := Ideal) (View.ld (Val := Elt Ideal) (e' := .f32) X1 (Rect.unit ![2, 0, 0] ![1, 256, 64] inb_S8x256x64_S1x256x64_2_0_0))⟩,
   ⟨Rect.unit ![0, 128] ![256, 64] inb_S256x1536_S256x64_0_128, k0_pay8 (F := Ideal) (k0_pay7 (F := Ideal) (View.ld (Val := Elt Ideal) (e' := .f32) X0 (Rect.unit ![2, 0, 0] ![1, 256, 64] inb_S8x256x64_S1x256x64_2_0_0)))⟩,
   ⟨Rect.unit ![0, 576] ![256, 64] inb_S256x1536_S256x64_0_576, k0_pay6 (F := Ideal) (View.ld (Val := Elt Ideal) (e' := .f32) X1 (Rect.unit ![1, 0, 0] ![1, 256, 64] inb_S8x256x64_S1x256x64_1_0_0))⟩,
   ⟨Rect.unit ![0, 64] ![256, 64] inb_S256x1536_S256x64_0_64, k0_pay5 (F := Ideal) (View.ld (Val := Elt Ideal) (e' := .f32) X0 (Rect.unit ![1, 0, 0] ![1, 256, 64] inb_S8x256x64_S1x256x64_1_0_0))⟩,
   ⟨Rect.unit ![0, 512] ![256, 64] inb_S256x1536_S256x64_0_512, k0_pay4 (F := Ideal) (View.ld (Val := Elt Ideal) (e' := .f32) X1 (Rect.unit ![0, 0, 0] ![1, 256, 64] inb_S8x256x64_S1x256x64_0_0_0))⟩,
   ⟨Rect.unit ![0, 0] ![256, 64] inb_S256x1536_S256x64_0_0, k0_pay3 (F := Ideal) (View.ld (Val := Elt Ideal) (e' := .f32) X0 (Rect.unit ![0, 0, 0] ![1, 256, 64] inb_S8x256x64_S1x256x64_0_0_0))⟩]

/-- What they leave. -/
theorem canon_yPieces : View.canon (yPieces X0 X1 X2) = YV X0 X1 X2 := by
  funext y
  unfold yPieces
  canon_tiles x h using View.cover_of_tiledBy _ ![256, 64] (by sl_kernel_rfl) y
  case piece0 =>
    rw [YV_2 X0 X1 X2 y (x 0) (x 1) h0 h1]
    idx_vars x
    pointwise! [k0_pay21]
  case piece1 =>
    rw [YV_1 X0 X1 X2 y 7 (x 0) (x 1) h0 (by simpa using h1)]
    idx_vars x
    pointwise! [k0_pay20, k0_pay19]
  case piece2 =>
    rw [YV_0 X0 X1 X2 y 7 (x 0) (x 1) h0 (by simpa using h1)]
    idx_vars x
    pointwise! [k0_pay18]
  case piece3 =>
    rw [YV_1 X0 X1 X2 y 6 (x 0) (x 1) h0 (by simpa using h1)]
    idx_vars x
    pointwise! [k0_pay17]
  case piece4 =>
    rw [YV_0 X0 X1 X2 y 6 (x 0) (x 1) h0 (by simpa using h1)]
    idx_vars x
    pointwise! [k0_pay16]
  case piece5 =>
    rw [YV_1 X0 X1 X2 y 5 (x 0) (x 1) h0 (by simpa using h1)]
    idx_vars x
    pointwise! [k0_pay15]
  case piece6 =>
    rw [YV_0 X0 X1 X2 y 5 (x 0) (x 1) h0 (by simpa using h1)]
    idx_vars x
    pointwise! [k0_pay14]
  case piece7 =>
    rw [YV_1 X0 X1 X2 y 4 (x 0) (x 1) h0 (by simpa using h1)]
    idx_vars x
    pointwise! [k0_pay13]
  case piece8 =>
    rw [YV_0 X0 X1 X2 y 4 (x 0) (x 1) h0 (by simpa using h1)]
    idx_vars x
    pointwise! [k0_pay12]
  case piece9 =>
    rw [YV_1 X0 X1 X2 y 3 (x 0) (x 1) h0 (by simpa using h1)]
    idx_vars x
    pointwise! [k0_pay11]
  case piece10 =>
    rw [YV_0 X0 X1 X2 y 3 (x 0) (x 1) h0 (by simpa using h1)]
    idx_vars x
    pointwise! [k0_pay10]
  case piece11 =>
    rw [YV_1 X0 X1 X2 y 2 (x 0) (x 1) h0 (by simpa using h1)]
    idx_vars x
    pointwise! [k0_pay9]
  case piece12 =>
    rw [YV_0 X0 X1 X2 y 2 (x 0) (x 1) h0 (by simpa using h1)]
    idx_vars x
    pointwise! [k0_pay8, k0_pay7]
  case piece13 =>
    rw [YV_1 X0 X1 X2 y 1 (x 0) (x 1) h0 (by simpa using h1)]
    idx_vars x
    pointwise! [k0_pay6]
  case piece14 =>
    rw [YV_0 X0 X1 X2 y 1 (x 0) (x 1) h0 (by simpa using h1)]
    idx_vars x
    pointwise! [k0_pay5]
  case piece15 =>
    rw [YV_1 X0 X1 X2 y 0 (x 0) (x 1) h0 (by simpa using h1)]
    idx_vars x
    pointwise! [k0_pay4]
  case piece16 =>
    rw [YV_0 X0 X1 X2 y 0 (x 0) (x 1) h0 (by simpa using h1)]
    idx_vars x
    pointwise! [k0_pay3]

end Cert.KernelIdeal.Gate

end

end
-- ==== Proof.GatePay.lean ====
module

public import proofs.«01_k».proof.Proof.GateY

/-!
# The stored values of the kernel's body, read at an index

The products, gates and derivatives of one tile.  `Gv`, `Mv`, `Wv` are the pieces of the segment and of the projection
that the body loads; every value is then the formula of `Proof/GateMath.lean` at the tile's row.
-/

@[expose] public section

set_option maxRecDepth 16384

noncomputable section

open Idealize.ShloMosaic Idealize.ShloMosaic.TcCoe Idealize.SL.Sem Gate

namespace Cert.KernelIdeal.Gate

open Cert.KernelIdeal Cert.KernelIdeal.Gen

variable (X0 X1 : FVec Ideal S8x256x64 .f32) (X2 : FVec Ideal S256x512 .f32) (X3 : FVec Ideal S256x4608 .f32)
  (W : FVec Ideal S1536x1024 .bf16) (T : FVec Ideal S1024x1024 .bf16) (D : FVec Ideal S256x1024 .f32)

/-! ## What the body loads -/

/-- The gate columns of the segment. -/
abbrev Gv : Vec Ideal S256x1536 .f32 :=
  View.ld (Val := Elt Ideal) (e' := .f32) X3 (Rect.unit ![0, 0] ![256, 1536] inb_S256x4608_S256x1536_0_0)

/-- Branch 0's merge-gate columns. -/
abbrev Mv0 : Vec Ideal S256x1024 .f32 :=
  View.ld (Val := Elt Ideal) (e' := .f32) X3 (Rect.unit ![0, 1536] ![256, 1024] inb_S256x4608_S256x1024_0_1536)

/-- Branch 0's block of the projection. -/
abbrev Wv0 : Vec Ideal S512x1024 .bf16 :=
  View.ld (Val := Elt Ideal) (e' := .bf16) W (Rect.unit ![0, 0] ![512, 1024] inb_S1536x1024_S512x1024_0_0)

/-- Branch 1's merge-gate columns. -/
abbrev Mv1 : Vec Ideal S256x1024 .f32 :=
  View.ld (Val := Elt Ideal) (e' := .f32) X3 (Rect.unit ![0, 2560] ![256, 1024] inb_S256x4608_S256x1024_0_2560)

/-- Branch 1's block of the projection. -/
abbrev Wv1 : Vec Ideal S512x1024 .bf16 :=
  View.ld (Val := Elt Ideal) (e' := .bf16) W (Rect.unit ![512, 0] ![512, 1024] inb_S1536x1024_S512x1024_512_0)

/-- Branch 2's merge-gate columns. -/
abbrev Mv2 : Vec Ideal S256x1024 .f32 :=
  View.ld (Val := Elt Ideal) (e' := .f32) X3 (Rect.unit ![0, 3584] ![256, 1024] inb_S256x4608_S256x1024_0_3584)

/-- Branch 2's block of the projection. -/
abbrev Wv2 : Vec Ideal S512x1024 .bf16 :=
  View.ld (Val := Elt Ideal) (e' := .bf16) W (Rect.unit ![1024, 0] ![512, 1024] inb_S1536x1024_S512x1024_1024_0)

/-- A gate column. -/
theorem Gv_at (r : Fin 256) (k : Fin 1536) (b : Fin 3) (c : Fin 512) (h : k.val = 512 * b.val + c.val) :
    Gv X3 (ix2 r k) = gRow (n := 256) X3 b r c := by
  pointwise [Gv]
  unfold gRow
  blk_ext [h]

/-- A merge-gate column. -/
theorem Mv0_at (r : Fin 256) (j : Fin 1024) : Mv0 X3 (ix2 r j) = mRow (n := 256) X3 0 r j := by
  pointwise [Mv0]
  unfold mRow
  blk_ext []

/-- An entry of the block. -/
theorem Wv0_at (c : Fin 512) (j : Fin 1024) : Wv0 W (ix2 c j) = wBlk W 0 c j := by
  pointwise [Wv0]
  unfold wBlk
  blk_ext []

/-- A merge-gate column. -/
theorem Mv1_at (r : Fin 256) (j : Fin 1024) : Mv1 X3 (ix2 r j) = mRow (n := 256) X3 1 r j := by
  pointwise [Mv1]
  unfold mRow
  blk_ext []

/-- An entry of the block. -/
theorem Wv1_at (c : Fin 512) (j : Fin 1024) : Wv1 W (ix2 c j) = wBlk W 1 c j := by
  pointwise [Wv1]
  unfold wBlk
  blk_ext []

/-- A merge-gate column. -/
theorem Mv2_at (r : Fin 256) (j : Fin 1024) : Mv2 X3 (ix2 r j) = mRow (n := 256) X3 2 r j := by
  pointwise [Mv2]
  unfold mRow
  blk_ext []

/-- An entry of the block. -/
theorem Wv2_at (c : Fin 512) (j : Fin 1024) : Wv2 W (ix2 c j) = wBlk W 2 c j := by
  pointwise [Wv2]
  unfold wBlk
  blk_ext []

/-! ## The forward values -/

/-- The gated input. -/
theorem pay_act (r : Fin 256) (k : Fin 1536) (b : Fin 3) (c : Fin 512) (h : k.val = 512 * b.val + c.val) :
    k0_pay25 (F := Ideal) (YV X0 X1 X2) (Gv X3) (ix2 r k) = act (yRow (n := 256) X0 X1 X2 b r) (gRow (n := 256) X3 b r) c := by
  pointwise [k0_pay25, k0_pay24, k0_pay22]
  rw [YV_at X0 X1 X2 r k b c h, Gv_at X3 r k b c h]
  rfl

/-- Branch 0 projected up. -/
theorem pay_out0 (r : Fin 256) (j : Fin 1024) :
    k0_pay26 (F := Ideal) (YV X0 X1 X2) (Gv X3) (Wv0 W) (ix2 r j)
      = out (yRow (n := 256) X0 X1 X2 0 r) (gRow (n := 256) X3 0 r) (wBlk W 0) j := by
  pointwise [k0_pay26]
  unfold out
  refine Finset.sum_congr rfl fun k _ => ?_
  rw [pay_act X0 X1 X2 X3 r _ 0 k (by dsimp; try omega), Wv0_at]

/-- Branch 1 projected up. -/
theorem pay_out1 (r : Fin 256) (j : Fin 1024) :
    k0_pay27 (F := Ideal) (YV X0 X1 X2) (Gv X3) (Wv1 W) (ix2 r j)
      = out (yRow (n := 256) X0 X1 X2 1 r) (gRow (n := 256) X3 1 r) (wBlk W 1) j := by
  pointwise [k0_pay27]
  unfold out
  refine Finset.sum_congr rfl fun k _ => ?_
  rw [pay_act X0 X1 X2 X3 r _ 1 k (by dsimp; try omega), Wv1_at]

/-- Branch 2 projected up. -/
theorem pay_out2 (r : Fin 256) (j : Fin 1024) :
    k0_pay28 (F := Ideal) (YV X0 X1 X2) (Gv X3) (Wv2 W) (ix2 r j)
      = out (yRow (n := 256) X0 X1 X2 2 r) (gRow (n := 256) X3 2 r) (wBlk W 2) j := by
  pointwise [k0_pay28]
  unfold out
  refine Finset.sum_congr rfl fun k _ => ?_
  rw [pay_act X0 X1 X2 X3 r _ 2 k (by dsimp; try omega), Wv2_at]

/-- The gradient of the merged row. -/
theorem pay_u (r : Fin 256) (k : Fin 1024) : k0_pay33 (F := Ideal) D T (ix2 r k) = uRow (n := 256) T D r k := by
  pointwise [k0_pay33]
  rfl

/-- Branch 0's gradient after the projection. -/
theorem pay_do0 (r : Fin 256) (j : Fin 1024) :
    k0_pay38 (F := Ideal) (k0_pay29 (F := Ideal) (Mv0 X3)) D T (ix2 r j) = dOut (mRow (n := 256) X3 0 r) (uRow (n := 256) T D r) j := by
  pointwise [k0_pay38, k0_pay29]
  rw [pay_u, Mv0_at]
  rfl

/-- Branch 0's merge gate's gradient. -/
theorem pay_dm0 (r : Fin 256) (j : Fin 1024) :
    k0_pay39 (F := Ideal) (k0_pay26 (F := Ideal) (YV X0 X1 X2) (Gv X3) (Wv0 W)) (k0_pay29 (F := Ideal) (Mv0 X3)) (Scalar.ofBits .f32 0x3F800000#32) D T (ix2 r j) = dMRow (n := 256) X0 X1 X2 X3 W T D 0 r j := by
  pointwise [k0_pay39, k0_pay29]
  rw [pay_u, Mv0_at, pay_out0]
  rfl

/-- Branch 1's gradient after the projection. -/
theorem pay_do1 (r : Fin 256) (j : Fin 1024) :
    k0_pay36 (F := Ideal) (Mv1 X3) D T (ix2 r j) = dOut (mRow (n := 256) X3 1 r) (uRow (n := 256) T D r) j := by
  pointwise [k0_pay36, k0_pay30]
  rw [pay_u, Mv1_at]
  rfl

/-- Branch 1's merge gate's gradient. -/
theorem pay_dm1 (r : Fin 256) (j : Fin 1024) :
    k0_pay37 (F := Ideal) (k0_pay27 (F := Ideal) (YV X0 X1 X2) (Gv X3) (Wv1 W)) (Mv1 X3) D T (ix2 r j) = dMRow (n := 256) X0 X1 X2 X3 W T D 1 r j := by
  pointwise [k0_pay37, k0_pay30]
  rw [pay_u, Mv1_at, pay_out1]
  rfl

/-- Branch 2's gradient after the projection. -/
theorem pay_do2 (r : Fin 256) (j : Fin 1024) :
    k0_pay34 (F := Ideal) (Mv2 X3) D T (ix2 r j) = dOut (mRow (n := 256) X3 2 r) (uRow (n := 256) T D r) j := by
  pointwise [k0_pay34, k0_pay31]
  rw [pay_u, Mv2_at]
  rfl

/-- Branch 2's merge gate's gradient. -/
theorem pay_dm2 (r : Fin 256) (j : Fin 1024) :
    k0_pay35 (F := Ideal) (k0_pay28 (F := Ideal) (YV X0 X1 X2) (Gv X3) (Wv2 W)) (Mv2 X3) D T (ix2 r j) = dMRow (n := 256) X0 X1 X2 X3 W T D 2 r j := by
  pointwise [k0_pay35, k0_pay31]
  rw [pay_u, Mv2_at, pay_out2]
  rfl

/-- Branch 0's gated input's gradient. -/
theorem pay_da0 (r : Fin 256) (c : Fin 512) :
    k0_pay42 (F := Ideal) (k0_pay38 (F := Ideal) (k0_pay29 (F := Ideal) (Mv0 X3)) D T) (Wv0 W) (ix2 r c)
      = dAct (wBlk W 0) (mRow (n := 256) X3 0 r) (uRow (n := 256) T D r) c := by
  pointwise [k0_pay42]
  unfold dAct
  refine Finset.sum_congr rfl fun j _ => ?_
  rw [pay_do0, Wv0_at]

/-- Branch 1's gated input's gradient. -/
theorem pay_da1 (r : Fin 256) (c : Fin 512) :
    k0_pay45 (F := Ideal) (k0_pay36 (F := Ideal) (Mv1 X3) D T) (Wv1 W) (ix2 r c)
      = dAct (wBlk W 1) (mRow (n := 256) X3 1 r) (uRow (n := 256) T D r) c := by
  pointwise [k0_pay45]
  unfold dAct
  refine Finset.sum_congr rfl fun j _ => ?_
  rw [pay_do1, Wv1_at]

/-- Branch 2's gated input's gradient. -/
theorem pay_da2 (r : Fin 256) (c : Fin 512) :
    k0_pay48 (F := Ideal) (k0_pay34 (F := Ideal) (Mv2 X3) D T) (Wv2 W) (ix2 r c)
      = dAct (wBlk W 2) (mRow (n := 256) X3 2 r) (uRow (n := 256) T D r) c := by
  pointwise [k0_pay48]
  unfold dAct
  refine Finset.sum_congr rfl fun j _ => ?_
  rw [pay_do2, Wv2_at]

/-! ## What the accumulators gain -/

/-- The output projection's accumulator gains the tile's product. -/
theorem pay_t (A : FVec Ideal S1024x1024 .f32) (p q : Fin 1024) :
    k0_pay32 (F := Ideal) (k0_pay26 (F := Ideal) (YV X0 X1 X2) (Gv X3) (Wv0 W)) (k0_pay27 (F := Ideal) (YV X0 X1 X2) (Gv X3) (Wv1 W))
        (k0_pay28 (F := Ideal) (YV X0 X1 X2) (Gv X3) (Wv2 W)) (Mv1 X3) (Mv2 X3) (k0_pay29 (F := Ideal) (Mv0 X3)) D A (ix2 p q)
      = A (ix2 p q) + resT (n := 256) X0 X1 X2 X3 W D (ix2 p q) := by
  pointwise [k0_pay32, k0_pay29, k0_pay30, k0_pay31]
  unfold resT
  congr 1
  refine Finset.sum_congr rfl fun r _ => ?_
  rw [pay_out0, pay_out1, pay_out2, Mv0_at, Mv1_at, Mv2_at]
  rfl

/-- The branches' projection's accumulator gains branch 0's block of the tile's product. -/
theorem pay_w0 (A : FVec Ideal S512x1024 .f32) (c : Fin 512) (j : Fin 1024) (i : Fin 1536) (h : i.val = 512 * 0 + c.val) :
    k0_pay41 (F := Ideal) (k0_pay38 (F := Ideal) (k0_pay29 (F := Ideal) (Mv0 X3)) D T) A (k0_pay40 (F := Ideal) (k0_pay25 (F := Ideal) (YV X0 X1 X2) (Gv X3))) (ix2 c j)
      = A (ix2 c j) + resW (n := 256) X0 X1 X2 X3 T D (ix2 i j) := by
  pointwise [k0_pay41, k0_pay40]
  rw [resW_block (n := 256) X0 X1 X2 X3 T D i j 0 c (by dsimp; omega)]
  congr 1
  refine Finset.sum_congr rfl fun r _ => ?_
  rw [pay_act X0 X1 X2 X3 r _ 0 c (by dsimp; try omega), pay_do0]

/-- The branches' projection's accumulator gains branch 1's block of the tile's product. -/
theorem pay_w1 (A : FVec Ideal S512x1024 .f32) (c : Fin 512) (j : Fin 1024) (i : Fin 1536) (h : i.val = 512 * 1 + c.val) :
    k0_pay44 (F := Ideal) (k0_pay25 (F := Ideal) (YV X0 X1 X2) (Gv X3)) (k0_pay36 (F := Ideal) (Mv1 X3) D T) A (ix2 c j)
      = A (ix2 c j) + resW (n := 256) X0 X1 X2 X3 T D (ix2 i j) := by
  pointwise [k0_pay44]
  rw [resW_block (n := 256) X0 X1 X2 X3 T D i j 1 c (by dsimp; omega)]
  congr 1
  refine Finset.sum_congr rfl fun r _ => ?_
  rw [pay_act X0 X1 X2 X3 r _ 1 c (by dsimp; try omega), pay_do1]

/-- The branches' projection's accumulator gains branch 2's block of the tile's product. -/
theorem pay_w2 (A : FVec Ideal S512x1024 .f32) (c : Fin 512) (j : Fin 1024) (i : Fin 1536) (h : i.val = 512 * 2 + c.val) :
    k0_pay47 (F := Ideal) (k0_pay25 (F := Ideal) (YV X0 X1 X2) (Gv X3)) (k0_pay34 (F := Ideal) (Mv2 X3) D T) A (ix2 c j)
      = A (ix2 c j) + resW (n := 256) X0 X1 X2 X3 T D (ix2 i j) := by
  pointwise [k0_pay47]
  rw [resW_block (n := 256) X0 X1 X2 X3 T D i j 2 c (by dsimp; omega)]
  congr 1
  refine Finset.sum_congr rfl fun r _ => ?_
  rw [pay_act X0 X1 X2 X3 r _ 2 c (by dsimp; try omega), pay_do2]

/-! ## The gradients of the inputs -/

/-- The gated inputs' gradients in one matrix, 512 columns each. -/
def DA : FVec Ideal S256x1536 .f32 := fun i =>
  dAct (wBlk W ⟨(i 1).val / 512, by
    have h : (i 1).val < 1536 := (i 1).isLt
    omega⟩) (mRow (n := 256) X3 ⟨(i 1).val / 512, by
    have h : (i 1).val < 1536 := (i 1).isLt
    omega⟩ (i 0)) (uRow (n := 256) T D (i 0)) ⟨(i 1).val % 512, by omega⟩

/-- Its column `512 b + c`. -/
theorem DA_at (r : Fin 256) (k : Fin 1536) (b : Fin 3) (c : Fin 512) (h : k.val = 512 * b.val + c.val) :
    DA X3 W T D (ix2 r k) = dAct (wBlk W b) (mRow (n := 256) X3 b r) (uRow (n := 256) T D r) c := by
  have hk : ((ix2 r k) 1 : ℕ) = 512 * b.val + c.val := h
  have e : ∀ p, (⟨((ix2 r k) 1 : ℕ) / 512, p⟩ : Fin 3) = b := fun p => Fin.ext (by show ((ix2 r k) 1 : ℕ) / 512 = _; omega)
  have e' : ∀ p, (⟨((ix2 r k) 1 : ℕ) % 512, p⟩ : Fin 512) = c := fun p => Fin.ext (by show ((ix2 r k) 1 : ℕ) % 512 = _; omega)
  unfold DA
  simp only [e, e']
  rfl

/-- The three stores that assemble them. -/
def aPieces : List (View.Piece (Elt Ideal) S256x1536 .f32) :=
  [⟨Rect.unit ![0, 1024] ![256, 512] inb_S256x1536_S256x512_0_1024, k0_pay48 (F := Ideal) (k0_pay34 (F := Ideal) (Mv2 X3) D T) (Wv2 W)⟩,
   ⟨Rect.unit ![0, 512] ![256, 512] inb_S256x1536_S256x512_0_512, k0_pay45 (F := Ideal) (k0_pay36 (F := Ideal) (Mv1 X3) D T) (Wv1 W)⟩,
   ⟨Rect.unit ![0, 0] ![256, 512] inb_S256x1536_S256x512_0_0, k0_pay42 (F := Ideal) (k0_pay38 (F := Ideal) (k0_pay29 (F := Ideal) (Mv0 X3)) D T) (Wv0 W)⟩]

/-- What they leave. -/
theorem canon_aPieces : View.canon (aPieces X3 W T D) = DA X3 W T D := by
  funext y
  unfold aPieces
  idx_vars y
  canon_tiles x h
  case piece0 =>
    have e0 : y0 = x 0 := Fin.ext h0
    rw [DA_at X3 W T D y0 y1 2 (x 1) (by dsimp at h1 ⊢; omega), e0]
    idx_vars x
    exact pay_da2 X3 W T D x0 x1
  case piece1 =>
    have e0 : y0 = x 0 := Fin.ext h0
    rw [DA_at X3 W T D y0 y1 1 (x 1) (by dsimp at h1 ⊢; omega), e0]
    idx_vars x
    exact pay_da1 X3 W T D x0 x1
  case piece2 =>
    have e0 : y0 = x 0 := Fin.ext h0
    rw [DA_at X3 W T D y0 y1 0 (x 1) (by dsimp at h1 ⊢; omega), e0]
    idx_vars x
    exact pay_da0 X3 W T D x0 x1

/-- The gradient of the mixers' outputs. -/
theorem pay_dy (r : Fin 256) (k : Fin 1536) (b : Fin 3) (c : Fin 512) (h : k.val = 512 * b.val + c.val) :
    k0_pay49 (F := Ideal) (k0_pay24 (F := Ideal) (Gv X3)) (DA X3 W T D) (ix2 r k) = dYRow (n := 256) X3 W T D b r c := by
  pointwise [k0_pay49, k0_pay24, k0_pay22]
  rw [DA_at X3 W T D r k b c h, Gv_at X3 r k b c h]
  rfl

/-- The gradient of the branch gates. -/
theorem pay_dg (r : Fin 256) (k : Fin 1536) (b : Fin 3) (c : Fin 512) (h : k.val = 512 * b.val + c.val) :
    k0_pay50 (F := Ideal) (YV X0 X1 X2) (Gv X3) (k0_pay22 (F := Ideal) (Gv X3)) (k0_pay23 (F := Ideal) (Gv X3)) (DA X3 W T D) (ix2 r k)
      = dGRow (n := 256) X0 X1 X2 X3 W T D b r c := by
  pointwise [k0_pay50, k0_pay23, k0_pay22]
  rw [DA_at X3 W T D r k b c h, Gv_at X3 r k b c h, YV_at X0 X1 X2 r k b c h]
  rfl

end Cert.KernelIdeal.Gate

end

end
-- ==== Proof.GateTile.lean ====
module

public import proofs.«01_k».proof.Proof.GatePay

/-!
# What one tile's stores leave

The stores of one grid point into each window and accumulator, and what they leave there: the gradients of
`Proof/GateMath.lean` on the tile's 256 rows.
-/

@[expose] public section

set_option maxRecDepth 16384

noncomputable section

open Idealize.ShloMosaic Idealize.ShloMosaic.TcCoe Idealize.SL.Sem Gate

namespace Cert.KernelIdeal.Gate

open Cert.KernelIdeal Cert.KernelIdeal.Gen

variable (X0 X1 : FVec Ideal S8x256x64 .f32) (X2 : FVec Ideal S256x512 .f32) (X3 : FVec Ideal S256x4608 .f32)
  (W : FVec Ideal S1536x1024 .bf16) (T : FVec Ideal S1024x1024 .bf16) (D : FVec Ideal S256x1024 .f32)

/-- Earlier stores do not show where later ones cover. -/
theorem canon_append_of_cover {Val : EltTy → Type} [∀ e, Nonempty (Val e)] {S : Shape} {e : EltTy}
    (L' L : List (View.Piece Val S e)) (y : S.Idx) (h : ∃ p ∈ L, y ∈ p.1.set) :
    View.canon (L ++ L') y = View.canon L y := by
  induction L with
  | nil => obtain ⟨p, hp, _⟩ := h; simp at hp
  | cons p L ih =>
    by_cases hm : y ∈ p.1.set
    · obtain ⟨r, w⟩ := p
      obtain ⟨x, rfl⟩ : ∃ x, r.emb x = y := r.exists_idx_of_mem hm
      rw [List.cons_append, View.canon_cons_emb, View.canon_cons_emb]
    · rw [List.cons_append, View.canon_cons_of_not_mem _ _ hm, View.canon_cons_of_not_mem _ _ hm]
      obtain ⟨q, hq, hy⟩ := h
      rcases List.mem_cons.mp hq with rfl | hq
      · exact absurd hy hm
      · exact ih ⟨q, hq, hy⟩

/-- The assembled inputs, read back whole. -/
theorem ycov :
    (View.whole cc0_scratch0).readCov (Val := Elt Ideal) (yPieces X0 X1 X2)
      (Rect.unit ![0, 0] ![256, 1536] inb_S256x1536_S256x1536_0_0).toLoadRect = YV X0 X1 X2 :=
  (readCov_whole _ _ inb_S256x1536_S256x1536_0_0 (by decide)).trans (canon_yPieces X0 X1 X2)

/-- The assembled gradients, read back whole. -/
theorem acov :
    (View.whole cc0_scratch1).readCov (Val := Elt Ideal) (aPieces X3 W T D)
      (Rect.unit ![0, 0] ![256, 1536] inb_S256x1536_S256x1536_0_0).toLoadRect = DA X3 W T D :=
  (readCov_whole _ _ inb_S256x1536_S256x1536_0_0 (by decide)).trans (canon_aPieces X3 W T D)

/-- The gradient of the mixers' outputs, all branches. -/
abbrev DYv : FVec Ideal S256x1536 .f32 := k0_pay49 (F := Ideal) (k0_pay24 (F := Ideal) (Gv X3)) (DA X3 W T D)

/-- The stores into branch 0's gradient. -/
def pieces7 : List (View.Piece (Elt Ideal) S8x256x64 .f32) :=
  [⟨Rect.unit ![7, 0, 0] ![1, 256, 64] inb_S8x256x64_S1x256x64_7_0_0, k0_pay67 (F := Ideal) (DYv X3 W T D)⟩,
   ⟨Rect.unit ![6, 0, 0] ![1, 256, 64] inb_S8x256x64_S1x256x64_6_0_0, k0_pay65 (F := Ideal) (DYv X3 W T D)⟩,
   ⟨Rect.unit ![5, 0, 0] ![1, 256, 64] inb_S8x256x64_S1x256x64_5_0_0, k0_pay63 (F := Ideal) (DYv X3 W T D)⟩,
   ⟨Rect.unit ![4, 0, 0] ![1, 256, 64] inb_S8x256x64_S1x256x64_4_0_0, k0_pay61 (F := Ideal) (DYv X3 W T D)⟩,
   ⟨Rect.unit ![3, 0, 0] ![1, 256, 64] inb_S8x256x64_S1x256x64_3_0_0, k0_pay59 (F := Ideal) (DYv X3 W T D)⟩,
   ⟨Rect.unit ![2, 0, 0] ![1, 256, 64] inb_S8x256x64_S1x256x64_2_0_0, k0_pay57 (F := Ideal) (DYv X3 W T D)⟩,
   ⟨Rect.unit ![1, 0, 0] ![1, 256, 64] inb_S8x256x64_S1x256x64_1_0_0, k0_pay55 (F := Ideal) (DYv X3 W T D)⟩,
   ⟨Rect.unit ![0, 0, 0] ![1, 256, 64] inb_S8x256x64_S1x256x64_0_0_0, k0_pay52 (F := Ideal) (k0_pay24 (F := Ideal) (Gv X3)) (DA X3 W T D)⟩]

/-- What they leave. -/
theorem canon7 : View.canon (pieces7 X3 W T D) = resHead (n := 256) X3 W T D 0 := by
  funext y
  unfold pieces7
  idx_vars y
  canon_tiles x h
  case piece0 =>
    idx_vars x
    pointwise [k0_pay67]
    refine (pay_dy X3 W T D _ _ 0 ⟨448 + x2.val, by omega⟩ (by dsimp; try omega)).trans ?_
    unfold resHead
    congr 1
    · exact Fin.ext (by dsimp [ix3] at h1 ⊢; omega)
    · exact Fin.ext (by dsimp [ix3] at h0 h2 ⊢; omega)
  case piece1 =>
    idx_vars x
    pointwise [k0_pay65]
    refine (pay_dy X3 W T D _ _ 0 ⟨384 + x2.val, by omega⟩ (by dsimp; try omega)).trans ?_
    unfold resHead
    congr 1
    · exact Fin.ext (by dsimp [ix3] at h1 ⊢; omega)
    · exact Fin.ext (by dsimp [ix3] at h0 h2 ⊢; omega)
  case piece2 =>
    idx_vars x
    pointwise [k0_pay63]
    refine (pay_dy X3 W T D _ _ 0 ⟨320 + x2.val, by omega⟩ (by dsimp; try omega)).trans ?_
    unfold resHead
    congr 1
    · exact Fin.ext (by dsimp [ix3] at h1 ⊢; omega)
    · exact Fin.ext (by dsimp [ix3] at h0 h2 ⊢; omega)
  case piece3 =>
    idx_vars x
    pointwise [k0_pay61]
    refine (pay_dy X3 W T D _ _ 0 ⟨256 + x2.val, by omega⟩ (by dsimp; try omega)).trans ?_
    unfold resHead
    congr 1
    · exact Fin.ext (by dsimp [ix3] at h1 ⊢; omega)
    · exact Fin.ext (by dsimp [ix3] at h0 h2 ⊢; omega)
  case piece4 =>
    idx_vars x
    pointwise [k0_pay59]
    refine (pay_dy X3 W T D _ _ 0 ⟨192 + x2.val, by omega⟩ (by dsimp; try omega)).trans ?_
    unfold resHead
    congr 1
    · exact Fin.ext (by dsimp [ix3] at h1 ⊢; omega)
    · exact Fin.ext (by dsimp [ix3] at h0 h2 ⊢; omega)
  case piece5 =>
    idx_vars x
    pointwise [k0_pay57]
    refine (pay_dy X3 W T D _ _ 0 ⟨128 + x2.val, by omega⟩ (by dsimp; try omega)).trans ?_
    unfold resHead
    congr 1
    · exact Fin.ext (by dsimp [ix3] at h1 ⊢; omega)
    · exact Fin.ext (by dsimp [ix3] at h0 h2 ⊢; omega)
  case piece6 =>
    idx_vars x
    pointwise [k0_pay55]
    refine (pay_dy X3 W T D _ _ 0 ⟨64 + x2.val, by omega⟩ (by dsimp; try omega)).trans ?_
    unfold resHead
    congr 1
    · exact Fin.ext (by dsimp [ix3] at h1 ⊢; omega)
    · exact Fin.ext (by dsimp [ix3] at h0 h2 ⊢; omega)
  case piece7 =>
    idx_vars x
    pointwise [k0_pay52]
    refine (pay_dy X3 W T D _ _ 0 ⟨0 + x2.val, by omega⟩ (by dsimp; try omega)).trans ?_
    unfold resHead
    congr 1
    · exact Fin.ext (by dsimp [ix3] at h1 ⊢; omega)
    · exact Fin.ext (by dsimp [ix3] at h0 h2 ⊢; omega)

/-- The stores into branch 1's gradient. -/
def pieces8 : List (View.Piece (Elt Ideal) S8x256x64 .f32) :=
  [⟨Rect.unit ![7, 0, 0] ![1, 256, 64] inb_S8x256x64_S1x256x64_7_0_0, k0_pay68 (F := Ideal) (DYv X3 W T D)⟩,
   ⟨Rect.unit ![6, 0, 0] ![1, 256, 64] inb_S8x256x64_S1x256x64_6_0_0, k0_pay66 (F := Ideal) (DYv X3 W T D)⟩,
   ⟨Rect.unit ![5, 0, 0] ![1, 256, 64] inb_S8x256x64_S1x256x64_5_0_0, k0_pay64 (F := Ideal) (DYv X3 W T D)⟩,
   ⟨Rect.unit ![4, 0, 0] ![1, 256, 64] inb_S8x256x64_S1x256x64_4_0_0, k0_pay62 (F := Ideal) (DYv X3 W T D)⟩,
   ⟨Rect.unit ![3, 0, 0] ![1, 256, 64] inb_S8x256x64_S1x256x64_3_0_0, k0_pay60 (F := Ideal) (DYv X3 W T D)⟩,
   ⟨Rect.unit ![2, 0, 0] ![1, 256, 64] inb_S8x256x64_S1x256x64_2_0_0, k0_pay58 (F := Ideal) (DYv X3 W T D)⟩,
   ⟨Rect.unit ![1, 0, 0] ![1, 256, 64] inb_S8x256x64_S1x256x64_1_0_0, k0_pay56 (F := Ideal) (DYv X3 W T D)⟩,
   ⟨Rect.unit ![0, 0, 0] ![1, 256, 64] inb_S8x256x64_S1x256x64_0_0_0, k0_pay54 (F := Ideal) (k0_pay53 (F := Ideal) (k0_pay24 (F := Ideal) (Gv X3)) (DA X3 W T D))⟩]

/-- What they leave. -/
theorem canon8 : View.canon (pieces8 X3 W T D) = resHead (n := 256) X3 W T D 1 := by
  funext y
  unfold pieces8
  idx_vars y
  canon_tiles x h
  case piece0 =>
    idx_vars x
    pointwise [k0_pay68]
    refine (pay_dy X3 W T D _ _ 1 ⟨448 + x2.val, by omega⟩ (by dsimp; try omega)).trans ?_
    unfold resHead
    congr 1
    · exact Fin.ext (by dsimp [ix3] at h1 ⊢; omega)
    · exact Fin.ext (by dsimp [ix3] at h0 h2 ⊢; omega)
  case piece1 =>
    idx_vars x
    pointwise [k0_pay66]
    refine (pay_dy X3 W T D _ _ 1 ⟨384 + x2.val, by omega⟩ (by dsimp; try omega)).trans ?_
    unfold resHead
    congr 1
    · exact Fin.ext (by dsimp [ix3] at h1 ⊢; omega)
    · exact Fin.ext (by dsimp [ix3] at h0 h2 ⊢; omega)
  case piece2 =>
    idx_vars x
    pointwise [k0_pay64]
    refine (pay_dy X3 W T D _ _ 1 ⟨320 + x2.val, by omega⟩ (by dsimp; try omega)).trans ?_
    unfold resHead
    congr 1
    · exact Fin.ext (by dsimp [ix3] at h1 ⊢; omega)
    · exact Fin.ext (by dsimp [ix3] at h0 h2 ⊢; omega)
  case piece3 =>
    idx_vars x
    pointwise [k0_pay62]
    refine (pay_dy X3 W T D _ _ 1 ⟨256 + x2.val, by omega⟩ (by dsimp; try omega)).trans ?_
    unfold resHead
    congr 1
    · exact Fin.ext (by dsimp [ix3] at h1 ⊢; omega)
    · exact Fin.ext (by dsimp [ix3] at h0 h2 ⊢; omega)
  case piece4 =>
    idx_vars x
    pointwise [k0_pay60]
    refine (pay_dy X3 W T D _ _ 1 ⟨192 + x2.val, by omega⟩ (by dsimp; try omega)).trans ?_
    unfold resHead
    congr 1
    · exact Fin.ext (by dsimp [ix3] at h1 ⊢; omega)
    · exact Fin.ext (by dsimp [ix3] at h0 h2 ⊢; omega)
  case piece5 =>
    idx_vars x
    pointwise [k0_pay58]
    refine (pay_dy X3 W T D _ _ 1 ⟨128 + x2.val, by omega⟩ (by dsimp; try omega)).trans ?_
    unfold resHead
    congr 1
    · exact Fin.ext (by dsimp [ix3] at h1 ⊢; omega)
    · exact Fin.ext (by dsimp [ix3] at h0 h2 ⊢; omega)
  case piece6 =>
    idx_vars x
    pointwise [k0_pay56]
    refine (pay_dy X3 W T D _ _ 1 ⟨64 + x2.val, by omega⟩ (by dsimp; try omega)).trans ?_
    unfold resHead
    congr 1
    · exact Fin.ext (by dsimp [ix3] at h1 ⊢; omega)
    · exact Fin.ext (by dsimp [ix3] at h0 h2 ⊢; omega)
  case piece7 =>
    idx_vars x
    pointwise [k0_pay54, k0_pay53]
    refine (pay_dy X3 W T D _ _ 1 ⟨0 + x2.val, by omega⟩ (by dsimp; try omega)).trans ?_
    unfold resHead
    congr 1
    · exact Fin.ext (by dsimp [ix3] at h1 ⊢; omega)
    · exact Fin.ext (by dsimp [ix3] at h0 h2 ⊢; omega)

/-- The store into the state-space branch's gradient. -/
theorem canon9 : k0_pay51 (F := Ideal) (k0_pay24 (F := Ideal) (Gv X3)) (DA X3 W T D) = resS5 (n := 256) X3 W T D := by
  funext y
  idx_vars y
  pointwise [k0_pay51]
  exact pay_dy X3 W T D _ _ 2 y1 (by dsimp; try omega)

/-- The stores into the gates' gradient. -/
def pieces10 : List (View.Piece (Elt Ideal) S256x4608 .bf16) :=
  [⟨Rect.unit ![0, 0] ![256, 1536] inb_S256x4608_S256x1536_0_0,
      k0_pay50 (F := Ideal) (YV X0 X1 X2) (Gv X3) (k0_pay22 (F := Ideal) (Gv X3)) (k0_pay23 (F := Ideal) (Gv X3)) (DA X3 W T D)⟩,
   ⟨Rect.unit ![0, 3584] ![256, 1024] inb_S256x4608_S256x1024_0_3584,
      k0_pay46 (F := Ideal) (k0_pay35 (F := Ideal) (k0_pay28 (F := Ideal) (YV X0 X1 X2) (Gv X3) (Wv2 W)) (Mv2 X3) D T)⟩,
   ⟨Rect.unit ![0, 2560] ![256, 1024] inb_S256x4608_S256x1024_0_2560,
      k0_pay43 (F := Ideal) (k0_pay37 (F := Ideal) (k0_pay27 (F := Ideal) (YV X0 X1 X2) (Gv X3) (Wv1 W)) (Mv1 X3) D T)⟩,
   ⟨Rect.unit ![0, 1536] ![256, 1024] inb_S256x4608_S256x1024_0_1536,
      k0_pay39 (F := Ideal) (k0_pay26 (F := Ideal) (YV X0 X1 X2) (Gv X3) (Wv0 W)) (k0_pay29 (F := Ideal) (Mv0 X3)) (FloatOps.ofBits .f32 0x3F800000#32) D T⟩]

/-- What they leave. -/
theorem canon10 : View.canon (pieces10 X0 X1 X2 X3 W T D) = resSeg (n := 256) X0 X1 X2 X3 W T D := by
  funext y
  unfold pieces10
  idx_vars y
  canon_tiles x h using View.cover_of_tiledBy _ ![256, 512] (by sl_kernel_rfl) (ix2 y0 y1)
  case piece0 =>
    idx_vars x
    have e0 : y0 = x0 := Fin.ext h0
    have e1 : y1.val = x1.val := h1
    rw [pay_dg X0 X1 X2 X3 W T D x0 x1 ⟨x1.val / 512, by omega⟩ ⟨x1.val % 512, by omega⟩ (by dsimp; omega),
      resSeg_gate (n := 256) X0 X1 X2 X3 W T D y0 y1 ⟨x1.val / 512, by omega⟩ ⟨x1.val % 512, by omega⟩ (by dsimp; omega), e0]
  case piece1 =>
    idx_vars x
    have e0 : y0 = x0 := Fin.ext h0
    have e1 : y1.val = 3584 + x1.val := h1
    rw [resSeg_mix (n := 256) X0 X1 X2 X3 W T D y0 y1 2 x1 (by dsimp; omega), e0]
    pointwise [k0_pay46]
    exact pay_dm2 X0 X1 X2 X3 W T D x0 x1
  case piece2 =>
    idx_vars x
    have e0 : y0 = x0 := Fin.ext h0
    have e1 : y1.val = 2560 + x1.val := h1
    rw [resSeg_mix (n := 256) X0 X1 X2 X3 W T D y0 y1 1 x1 (by dsimp; omega), e0]
    pointwise [k0_pay43]
    exact pay_dm1 X0 X1 X2 X3 W T D x0 x1
  case piece3 =>
    idx_vars x
    have e0 : y0 = x0 := Fin.ext h0
    have e1 : y1.val = 1536 + x1.val := h1
    rw [resSeg_mix (n := 256) X0 X1 X2 X3 W T D y0 y1 0 x1 (by dsimp; omega), e0]
    exact pay_dm0 X0 X1 X2 X3 W T D x0 x1

/-- The stores into the branches' projection's accumulator, over its contents `A`. -/
def piecesW (A : FVec Ideal S1536x1024 .f32) : List (View.Piece (Elt Ideal) S1536x1024 .f32) :=
  [⟨Rect.unit ![1024, 0] ![512, 1024] inb_S1536x1024_S512x1024_1024_0,
      k0_pay47 (F := Ideal) (k0_pay25 (F := Ideal) (YV X0 X1 X2) (Gv X3)) (k0_pay34 (F := Ideal) (Mv2 X3) D T)
        (View.ld (Val := Elt Ideal) (e' := .f32) A (Rect.unit ![1024, 0] ![512, 1024] inb_S1536x1024_S512x1024_1024_0))⟩,
   ⟨Rect.unit ![512, 0] ![512, 1024] inb_S1536x1024_S512x1024_512_0,
      k0_pay44 (F := Ideal) (k0_pay25 (F := Ideal) (YV X0 X1 X2) (Gv X3)) (k0_pay36 (F := Ideal) (Mv1 X3) D T)
        (View.ld (Val := Elt Ideal) (e' := .f32) A (Rect.unit ![512, 0] ![512, 1024] inb_S1536x1024_S512x1024_512_0))⟩,
   ⟨Rect.unit ![0, 0] ![512, 1024] inb_S1536x1024_S512x1024_0_0,
      k0_pay41 (F := Ideal) (k0_pay38 (F := Ideal) (k0_pay29 (F := Ideal) (Mv0 X3)) D T)
        (View.ld (Val := Elt Ideal) (e' := .f32) A (Rect.unit ![0, 0] ![512, 1024] inb_S1536x1024_S512x1024_0_0))
        (k0_pay40 (F := Ideal) (k0_pay25 (F := Ideal) (YV X0 X1 X2) (Gv X3)))⟩]

/-- They cover it. -/
theorem cover_piecesW (A : FVec Ideal S1536x1024 .f32) (y : S1536x1024.Idx) :
    ∃ p ∈ piecesW X0 X1 X2 X3 T D A, y ∈ p.1.set :=
  View.cover_of_tiledBy (piecesW X0 X1 X2 X3 T D A) ![512, 1024] (by sl_kernel_rfl) y

/-- What they leave. -/
theorem canonW (A : FVec Ideal S1536x1024 .f32) :
    View.canon (piecesW X0 X1 X2 X3 T D A) = fun y => A y + resW (n := 256) X0 X1 X2 X3 T D y := by
  funext y
  have hc := cover_piecesW X0 X1 X2 X3 T D A y
  unfold piecesW at hc ⊢
  idx_vars y
  canon_tiles x h using hc
  case piece0 =>
    idx_vars x
    have e1 : y1 = x1 := Fin.ext h1
    have e0 : y0.val = 512 * 2 + x0.val := h0
    rw [pay_w2 X0 X1 X2 X3 T D _ x0 x1 y0 e0, e1]
    congr 1
    pointwise
    blk_ext [e0]
  case piece1 =>
    idx_vars x
    have e1 : y1 = x1 := Fin.ext h1
    have e0 : y0.val = 512 * 1 + x0.val := h0
    rw [pay_w1 X0 X1 X2 X3 T D _ x0 x1 y0 e0, e1]
    congr 1
    pointwise
    blk_ext [e0]
  case piece2 =>
    idx_vars x
    have e1 : y1 = x1 := Fin.ext h1
    have e0 : y0.val = 512 * 0 + x0.val := by have e : y0.val = x0.val := h0; omega
    rw [pay_w0 X0 X1 X2 X3 T D _ x0 x1 y0 e0, e1]
    congr 1
    pointwise
    blk_ext [e0]

/-- The store into the output projection's accumulator, over its contents `A`. -/
abbrev storeT (A : FVec Ideal S1024x1024 .f32) : FVec Ideal S1024x1024 .f32 :=
  k0_pay32 (F := Ideal) (k0_pay26 (F := Ideal) (YV X0 X1 X2) (Gv X3) (Wv0 W)) (k0_pay27 (F := Ideal) (YV X0 X1 X2) (Gv X3) (Wv1 W))
    (k0_pay28 (F := Ideal) (YV X0 X1 X2) (Gv X3) (Wv2 W)) (Mv1 X3) (Mv2 X3) (k0_pay29 (F := Ideal) (Mv0 X3)) D A

/-- What it leaves. -/
theorem canonT (A : FVec Ideal S1024x1024 .f32) :
    storeT X0 X1 X2 X3 W D A = fun y => A y + resT (n := 256) X0 X1 X2 X3 W D y := by
  funext y
  idx_vars y
  exact pay_t X0 X1 X2 X3 W D A y0 y1

/-- The accumulators start at zero. -/
theorem zeroW (y : S1536x1024.Idx) : k0_pay1 (F := Ideal) y = 0 := by
  idx_vars y
  pointwise! [k0_pay1]

/-- And so does the other. -/
theorem zeroT (y : S1024x1024.Idx) : k0_pay2 (F := Ideal) y = 0 := by
  idx_vars y
  pointwise! [k0_pay2]

/-- The same stores after the accumulator is zeroed. -/
def piecesW0 : List (View.Piece (Elt Ideal) S1536x1024 .f32) :=
  [⟨Rect.unit ![1024, 0] ![512, 1024] inb_S1536x1024_S512x1024_1024_0,
      k0_pay47 (F := Ideal) (k0_pay25 (F := Ideal) (YV X0 X1 X2) (Gv X3)) (k0_pay34 (F := Ideal) (Mv2 X3) D T)
        (View.ld (Val := Elt Ideal) (e' := .f32) (k0_pay1 (F := Ideal)) (Rect.unit ![1024, 0] ![512, 1024] inb_S1536x1024_S512x1024_1024_0))⟩,
   ⟨Rect.unit ![512, 0] ![512, 1024] inb_S1536x1024_S512x1024_512_0,
      k0_pay44 (F := Ideal) (k0_pay25 (F := Ideal) (YV X0 X1 X2) (Gv X3)) (k0_pay36 (F := Ideal) (Mv1 X3) D T)
        (View.ld (Val := Elt Ideal) (e' := .f32) (k0_pay1 (F := Ideal)) (Rect.unit ![512, 0] ![512, 1024] inb_S1536x1024_S512x1024_512_0))⟩,
   ⟨Rect.unit ![0, 0] ![512, 1024] inb_S1536x1024_S512x1024_0_0,
      k0_pay41 (F := Ideal) (k0_pay38 (F := Ideal) (k0_pay29 (F := Ideal) (Mv0 X3)) D T)
        (View.ld (Val := Elt Ideal) (e' := .f32) (k0_pay1 (F := Ideal)) (Rect.unit ![0, 0] ![512, 1024] inb_S1536x1024_S512x1024_0_0))
        (k0_pay40 (F := Ideal) (k0_pay25 (F := Ideal) (YV X0 X1 X2) (Gv X3)))⟩,
   ⟨Rect.unit ![0, 0] ![1536, 1024] inb_S1536x1024_S1536x1024_0_0, k0_pay1 (F := Ideal)⟩]

/-- What they leave. -/
theorem canonW0 : View.canon (piecesW0 X0 X1 X2 X3 T D) = resW (n := 256) X0 X1 X2 X3 T D := by
  funext y
  have e : piecesW0 X0 X1 X2 X3 T D = piecesW X0 X1 X2 X3 T D (k0_pay1 (F := Ideal))
      ++ [⟨Rect.unit ![0, 0] ![1536, 1024] inb_S1536x1024_S1536x1024_0_0, k0_pay1 (F := Ideal)⟩] := by
    unfold piecesW0 piecesW
    rfl
  rw [e, canon_append_of_cover _ _ y (cover_piecesW X0 X1 X2 X3 T D _ y), canonW]
  dsimp only
  rw [zeroW, zero_add]

/-- The accumulator after its stores, copied out to the result. -/
theorem copyW (A : FVec Ideal S1536x1024 .f32) (f : (View.whole main_v2_4).ty.Contents (Elt Ideal))
    (g : (View.whole cc0_scratch2).ty.Contents (Elt Ideal)) :
    View.write (Elt Ideal) (View.whole main_v2_4) f
      (ReadAs.same.apply (View.read (Elt Ideal) (View.whole cc0_scratch2)
        ((View.whole cc0_scratch2).writes (Elt Ideal) g (piecesW X0 X1 X2 X3 T D A)))) Finset.univ
      = fun y => A y + resW (n := 256) X0 X1 X2 X3 T D y := by
  rw [View.read_writes_eq_canon _ _ _ (cover_piecesW X0 X1 X2 X3 T D A), canonW]
  exact View.write_whole_univ _ _ _

/-- The same for the output projection. -/
theorem copyT (A : FVec Ideal S1024x1024 .f32) (f : (View.whole main_v2_5).ty.Contents (Elt Ideal))
    (g : (View.whole cc0_scratch3).ty.Contents (Elt Ideal)) :
    View.write (Elt Ideal) (View.whole main_v2_5) f
      (ReadAs.same.apply (View.read (Elt Ideal) (View.whole cc0_scratch3)
        ((View.whole cc0_scratch3).writes (Elt Ideal) g
          [⟨Rect.unit ![0, 0] ![1024, 1024] inb_S1024x1024_S1024x1024_0_0, storeT X0 X1 X2 X3 W D A⟩]))) Finset.univ
      = fun y => A y + resT (n := 256) X0 X1 X2 X3 W D y := by
  rw [View.read_writes_eq_canon _ _ _ (fun y => View.cover_of_tiledBy _ ![1024, 1024] (by sl_kernel_rfl) y)]
  erw [View.canon_cons_unit_lit _ _ _ (by decide)]
  rw [canonT]
  exact View.write_whole_univ _ _ _

end Cert.KernelIdeal.Gate

end

end
-- ==== Proof.GateWin.lean ====
module

public import proofs.«01_k».proof.Proof.GateTile

/-!
# What a grid point leaves in each window

The body runs in three cases (first point, middle, last); in each the windows hold the gradients of the point's tile.
-/

@[expose] public section

set_option maxRecDepth 16384

noncomputable section

open Idealize.ShloMosaic Idealize.ShloMosaic.TcCoe Idealize.SL.Sem Gate
open Idealize.ShloMosaic.Pipeline (Dat)

namespace Cert.KernelIdeal.Gate

open Cert.KernelIdeal Cert.KernelIdeal.Gen Cert.KernelIdeal.Value

variable (m : (ℓ : Loc nD τ sig) → Buf (Elt Ideal) ℓ)

attribute [local irreducible] View.readCov

/-- The latent-attention branch's gradient on the point's tile. -/
theorem win7 (c : Dev nD) (t : Fin cfg0.N) :
    (outsAt0 m c t.val t.isLt).1 = resHead (n := 256) (iblk m c 3 t) (iblk m c 4 t) (iblk m c 5 t) (iblk m c 6 t) 0 := by
  have hN : t.val < 8 := lt_of_lt_of_eq t.isLt N_0
  have ha := acov (iblk m c 3 t) (iblk m c 4 t) (iblk m c 5 t) (iblk m c 6 t)
  unfold aPieces at ha
  funext y
  by_cases h0 : t.val % 8 = 0
  · have h1 : ¬t.val % 8 = 7 := by omega
    rw [outsAt0_A m c t h0 h1]
    dsimp only
    frame_open
    simp (disch := decide) only [↓ View.readCov_skip, ↓ View.readCov_cons_toLoadRect, ↓ View.readCov_fill]
    frame_out
    try simp only [read_unread_whole]
    first | rw [ha] | erw [ha]
    exact congrFun (canon7 (iblk m c 3 t) (iblk m c 4 t) (iblk m c 5 t) (iblk m c 6 t)) y
  by_cases h1 : t.val % 8 = 7
  · rw [outsAt0_C m c t h0 h1]
    dsimp only
    frame_open
    simp (disch := decide) only [↓ View.readCov_skip, ↓ View.readCov_cons_toLoadRect, ↓ View.readCov_fill]
    frame_out
    try simp only [read_unread_whole]
    first | rw [ha] | erw [ha]
    exact congrFun (canon7 (iblk m c 3 t) (iblk m c 4 t) (iblk m c 5 t) (iblk m c 6 t)) y
  · rw [outsAt0_B m c t h0 h1]
    dsimp only
    frame_open
    simp (disch := decide) only [↓ View.readCov_skip, ↓ View.readCov_cons_toLoadRect, ↓ View.readCov_fill]
    frame_out
    try simp only [read_unread_whole]
    first | rw [ha] | erw [ha]
    exact congrFun (canon7 (iblk m c 3 t) (iblk m c 4 t) (iblk m c 5 t) (iblk m c 6 t)) y

/-- The forgetting-attention branch's gradient on the point's tile. -/
theorem win8 (c : Dev nD) (t : Fin cfg0.N) :
    (outsAt0 m c t.val t.isLt).2.1 = resHead (n := 256) (iblk m c 3 t) (iblk m c 4 t) (iblk m c 5 t) (iblk m c 6 t) 1 := by
  have hN : t.val < 8 := lt_of_lt_of_eq t.isLt N_0
  have ha := acov (iblk m c 3 t) (iblk m c 4 t) (iblk m c 5 t) (iblk m c 6 t)
  unfold aPieces at ha
  funext y
  by_cases h0 : t.val % 8 = 0
  · have h1 : ¬t.val % 8 = 7 := by omega
    rw [outsAt0_A m c t h0 h1]
    dsimp only
    frame_open
    simp (disch := decide) only [↓ View.readCov_skip, ↓ View.readCov_cons_toLoadRect, ↓ View.readCov_fill]
    frame_out
    try simp only [read_unread_whole]
    first | rw [ha] | erw [ha]
    exact congrFun (canon8 (iblk m c 3 t) (iblk m c 4 t) (iblk m c 5 t) (iblk m c 6 t)) y
  by_cases h1 : t.val % 8 = 7
  · rw [outsAt0_C m c t h0 h1]
    dsimp only
    frame_open
    simp (disch := decide) only [↓ View.readCov_skip, ↓ View.readCov_cons_toLoadRect, ↓ View.readCov_fill]
    frame_out
    try simp only [read_unread_whole]
    first | rw [ha] | erw [ha]
    exact congrFun (canon8 (iblk m c 3 t) (iblk m c 4 t) (iblk m c 5 t) (iblk m c 6 t)) y
  · rw [outsAt0_B m c t h0 h1]
    dsimp only
    frame_open
    simp (disch := decide) only [↓ View.readCov_skip, ↓ View.readCov_cons_toLoadRect, ↓ View.readCov_fill]
    frame_out
    try simp only [read_unread_whole]
    first | rw [ha] | erw [ha]
    exact congrFun (canon8 (iblk m c 3 t) (iblk m c 4 t) (iblk m c 5 t) (iblk m c 6 t)) y

/-- The state-space branch's gradient on the point's tile. -/
theorem win9 (c : Dev nD) (t : Fin cfg0.N) :
    (outsAt0 m c t.val t.isLt).2.2.1 = resS5 (n := 256) (iblk m c 3 t) (iblk m c 4 t) (iblk m c 5 t) (iblk m c 6 t) := by
  have hN : t.val < 8 := lt_of_lt_of_eq t.isLt N_0
  have ha := acov (iblk m c 3 t) (iblk m c 4 t) (iblk m c 5 t) (iblk m c 6 t)
  unfold aPieces at ha
  funext y
  by_cases h0 : t.val % 8 = 0
  · have h1 : ¬t.val % 8 = 7 := by omega
    rw [outsAt0_A m c t h0 h1]
    dsimp only
    frame_open
    simp (disch := decide) only [↓ View.readCov_skip, ↓ View.readCov_cons_toLoadRect, ↓ View.readCov_fill]
    frame_out
    try simp only [read_unread_whole]
    first | rw [ha] | erw [ha]
    exact congrFun (canon9 (iblk m c 3 t) (iblk m c 4 t) (iblk m c 5 t) (iblk m c 6 t)) y
  by_cases h1 : t.val % 8 = 7
  · rw [outsAt0_C m c t h0 h1]
    dsimp only
    frame_open
    simp (disch := decide) only [↓ View.readCov_skip, ↓ View.readCov_cons_toLoadRect, ↓ View.readCov_fill]
    frame_out
    try simp only [read_unread_whole]
    first | rw [ha] | erw [ha]
    exact congrFun (canon9 (iblk m c 3 t) (iblk m c 4 t) (iblk m c 5 t) (iblk m c 6 t)) y
  · rw [outsAt0_B m c t h0 h1]
    dsimp only
    frame_open
    simp (disch := decide) only [↓ View.readCov_skip, ↓ View.readCov_cons_toLoadRect, ↓ View.readCov_fill]
    frame_out
    try simp only [read_unread_whole]
    first | rw [ha] | erw [ha]
    exact congrFun (canon9 (iblk m c 3 t) (iblk m c 4 t) (iblk m c 5 t) (iblk m c 6 t)) y

/-- The gates' gradient on the point's tile. -/
theorem win10 (c : Dev nD) (t : Fin cfg0.N) :
    (outsAt0 m c t.val t.isLt).2.2.2.1 = resSeg (n := 256) (iblk m c 0 t) (iblk m c 1 t) (iblk m c 2 t) (iblk m c 3 t) (iblk m c 4 t) (iblk m c 5 t) (iblk m c 6 t) := by
  have hN : t.val < 8 := lt_of_lt_of_eq t.isLt N_0
  have hy := ycov (iblk m c 0 t) (iblk m c 1 t) (iblk m c 2 t)
  unfold yPieces at hy
  have ha := acov (iblk m c 3 t) (iblk m c 4 t) (iblk m c 5 t) (iblk m c 6 t)
  unfold aPieces at ha
  funext y
  by_cases h0 : t.val % 8 = 0
  · have h1 : ¬t.val % 8 = 7 := by omega
    rw [outsAt0_A m c t h0 h1]
    dsimp only
    frame_open
    simp (disch := decide) only [↓ View.readCov_skip, ↓ View.readCov_cons_toLoadRect, ↓ View.readCov_fill]
    frame_out
    try simp only [read_unread_whole]
    first | rw [hy] | erw [hy]
    first | rw [ha] | erw [ha]
    exact congrFun (canon10 (iblk m c 0 t) (iblk m c 1 t) (iblk m c 2 t) (iblk m c 3 t) (iblk m c 4 t) (iblk m c 5 t) (iblk m c 6 t)) y
  by_cases h1 : t.val % 8 = 7
  · rw [outsAt0_C m c t h0 h1]
    dsimp only
    frame_open
    simp (disch := decide) only [↓ View.readCov_skip, ↓ View.readCov_cons_toLoadRect, ↓ View.readCov_fill]
    frame_out
    try simp only [read_unread_whole]
    first | rw [hy] | erw [hy]
    first | rw [ha] | erw [ha]
    exact congrFun (canon10 (iblk m c 0 t) (iblk m c 1 t) (iblk m c 2 t) (iblk m c 3 t) (iblk m c 4 t) (iblk m c 5 t) (iblk m c 6 t)) y
  · rw [outsAt0_B m c t h0 h1]
    dsimp only
    frame_open
    simp (disch := decide) only [↓ View.readCov_skip, ↓ View.readCov_cons_toLoadRect, ↓ View.readCov_fill]
    frame_out
    try simp only [read_unread_whole]
    first | rw [hy] | erw [hy]
    first | rw [ha] | erw [ha]
    exact congrFun (canon10 (iblk m c 0 t) (iblk m c 1 t) (iblk m c 2 t) (iblk m c 3 t) (iblk m c 4 t) (iblk m c 5 t) (iblk m c 6 t)) y

end Cert.KernelIdeal.Gate

end

end
-- ==== Proof.GateAcc.lean ====
module

public import proofs.«01_k».proof.Proof.GateTile

/-!
# The two accumulators after each grid point

The first point sets them to its tile's products, a later point adds its own, and the last point copies them out.
-/

@[expose] public section

set_option maxRecDepth 16384

noncomputable section

open Idealize.ShloMosaic Idealize.ShloMosaic.TcCoe Idealize.SL.Sem Gate
open Idealize.ShloMosaic.Pipeline (Dat)

namespace Cert.KernelIdeal.Gate

open Cert.KernelIdeal Cert.KernelIdeal.Gen Cert.KernelIdeal.Value

variable (m : (ℓ : Loc nD τ sig) → Buf (Elt Ideal) ℓ)

attribute [local irreducible] View.readCov

/-- The branches' projection's accumulator after the first point. -/
theorem accW_first (c : Dev nD) (t : Fin cfg0.N) (h0 : t.val % 8 = 0) :
    (outsAt0 m c t.val t.isLt).2.2.2.2.1 = resW (n := 256) (iblk m c 0 t) (iblk m c 1 t) (iblk m c 2 t) (iblk m c 3 t) (iblk m c 5 t) (iblk m c 6 t) := by
  have h1 : ¬t.val % 8 = 7 := by omega
  have hy := ycov (iblk m c 0 t) (iblk m c 1 t) (iblk m c 2 t)
  unfold yPieces at hy
  funext y
  rw [outsAt0_A m c t h0 h1]
  dsimp only
  frame_open
  simp (disch := decide) only [↓ View.readCov_skip, ↓ View.readCov_cons_toLoadRect, ↓ View.readCov_fill]
  frame_out
  try simp only [read_unread_whole]
  rw [hy]
  exact congrFun (canonW0 (iblk m c 0 t) (iblk m c 1 t) (iblk m c 2 t) (iblk m c 3 t) (iblk m c 5 t) (iblk m c 6 t)) y

/-- The branches' projection's accumulator after a later point. -/
theorem accW_next (c : Dev nD) (t : Fin cfg0.N) (h0 : ¬t.val % 8 = 0) :
    (outsAt0 m c t.val t.isLt).2.2.2.2.1
      = fun y => (outsAt0 m c (t.val - 1) (Nat.lt_of_le_of_lt (Nat.sub_le _ _) t.isLt)).2.2.2.2.1 y + resW (n := 256) (iblk m c 0 t) (iblk m c 1 t) (iblk m c 2 t) (iblk m c 3 t) (iblk m c 5 t) (iblk m c 6 t) y := by
  have hy := ycov (iblk m c 0 t) (iblk m c 1 t) (iblk m c 2 t)
  unfold yPieces at hy
  funext y
  by_cases h1 : t.val % 8 = 7
  · rw [outsAt0_C m c t h0 h1]
    dsimp only
    frame_open
    simp (disch := decide) only [↓ View.readCov_skip, ↓ View.readCov_cons_toLoadRect, ↓ View.readCov_fill]
    frame_out
    try simp only [read_unread_whole]
    rw [hy]
    exact congrFun (canonW (iblk m c 0 t) (iblk m c 1 t) (iblk m c 2 t) (iblk m c 3 t) (iblk m c 5 t) (iblk m c 6 t) _) y
  · rw [outsAt0_B m c t h0 h1]
    dsimp only
    frame_open
    simp (disch := decide) only [↓ View.readCov_skip, ↓ View.readCov_cons_toLoadRect, ↓ View.readCov_fill]
    frame_out
    try simp only [read_unread_whole]
    rw [hy]
    exact congrFun (canonW (iblk m c 0 t) (iblk m c 1 t) (iblk m c 2 t) (iblk m c 3 t) (iblk m c 5 t) (iblk m c 6 t) _) y

/-- The output projection's accumulator after the first point. -/
theorem accT_first (c : Dev nD) (t : Fin cfg0.N) (h0 : t.val % 8 = 0) :
    (outsAt0 m c t.val t.isLt).2.2.2.2.2.1 = resT (n := 256) (iblk m c 0 t) (iblk m c 1 t) (iblk m c 2 t) (iblk m c 3 t) (iblk m c 4 t) (iblk m c 6 t) := by
  have h1 : ¬t.val % 8 = 7 := by omega
  have hy := ycov (iblk m c 0 t) (iblk m c 1 t) (iblk m c 2 t)
  unfold yPieces at hy
  funext y
  rw [outsAt0_A m c t h0 h1]
  dsimp only
  frame_open
  simp (disch := decide) only [↓ View.readCov_skip, ↓ View.readCov_cons_toLoadRect, ↓ View.readCov_fill]
  frame_out
  try simp only [read_unread_whole]
  rw [hy]
  refine (congrFun (canonT (iblk m c 0 t) (iblk m c 1 t) (iblk m c 2 t) (iblk m c 3 t) (iblk m c 4 t) (iblk m c 6 t) (k0_pay2 (F := Ideal))) y).trans ?_
  show k0_pay2 (F := Ideal) y + _ = _
  rw [zeroT, zero_add]

/-- The output projection's accumulator after a later point. -/
theorem accT_next (c : Dev nD) (t : Fin cfg0.N) (h0 : ¬t.val % 8 = 0) :
    (outsAt0 m c t.val t.isLt).2.2.2.2.2.1
      = fun y => (outsAt0 m c (t.val - 1) (Nat.lt_of_le_of_lt (Nat.sub_le _ _) t.isLt)).2.2.2.2.2.1 y + resT (n := 256) (iblk m c 0 t) (iblk m c 1 t) (iblk m c 2 t) (iblk m c 3 t) (iblk m c 4 t) (iblk m c 6 t) y := by
  have hy := ycov (iblk m c 0 t) (iblk m c 1 t) (iblk m c 2 t)
  unfold yPieces at hy
  funext y
  by_cases h1 : t.val % 8 = 7
  · rw [outsAt0_C m c t h0 h1]
    dsimp only
    frame_open
    simp (disch := decide) only [↓ View.readCov_skip, ↓ View.readCov_cons_toLoadRect, ↓ View.readCov_fill]
    frame_out
    try simp only [read_unread_whole]
    rw [hy]
    exact congrFun (canonT (iblk m c 0 t) (iblk m c 1 t) (iblk m c 2 t) (iblk m c 3 t) (iblk m c 4 t) (iblk m c 6 t) _) y
  · rw [outsAt0_B m c t h0 h1]
    dsimp only
    frame_open
    simp (disch := decide) only [↓ View.readCov_skip, ↓ View.readCov_cons_toLoadRect, ↓ View.readCov_fill]
    frame_out
    try simp only [read_unread_whole]
    rw [hy]
    exact congrFun (canonT (iblk m c 0 t) (iblk m c 1 t) (iblk m c 2 t) (iblk m c 3 t) (iblk m c 4 t) (iblk m c 6 t) _) y

/-- The last point copies the branches' projection's accumulator out. -/
theorem outW (c : Dev nD) (t : Fin cfg0.N) (h1 : t.val % 8 = 7) :
    (outsAt0 m c t.val t.isLt).2.2.2.2.2.2.1
      = fun y => (outsAt0 m c (t.val - 1) (Nat.lt_of_le_of_lt (Nat.sub_le _ _) t.isLt)).2.2.2.2.1 y + resW (n := 256) (iblk m c 0 t) (iblk m c 1 t) (iblk m c 2 t) (iblk m c 3 t) (iblk m c 5 t) (iblk m c 6 t) y := by
  have h0 : ¬t.val % 8 = 0 := by omega
  have hy := ycov (iblk m c 0 t) (iblk m c 1 t) (iblk m c 2 t)
  unfold yPieces at hy
  generalize hR : (fun y => _) = R
  rw [outsAt0_C m c t h0 h1]
  dsimp only
  frame_open
  unfold hbw0_C_0
  try simp (disch := decide) only [↓ View.readCov_skip, ↓ View.readCov_cons_toLoadRect, ↓ View.readCov_fill]
  try simp only [read_unread_whole]
  try frame_out
  rw [hy]
  subst hR
  refine (copyW (iblk m c 0 t) (iblk m c 1 t) (iblk m c 2 t) (iblk m c 3 t) (iblk m c 5 t) (iblk m c 6 t) _ _ _).trans ?_
  funext y
  refine congrArg₂ (HAdd.hAdd (α := EReal) (β := EReal) (γ := EReal)) ?_ rfl
  exact congrFun (read_unread_whole (Val := Elt Ideal) cc0_scratch2 _ _) y

/-- The last point copies the output projection's accumulator out. -/
theorem outT (c : Dev nD) (t : Fin cfg0.N) (h1 : t.val % 8 = 7) :
    (outsAt0 m c t.val t.isLt).2.2.2.2.2.2.2
      = fun y => (outsAt0 m c (t.val - 1) (Nat.lt_of_le_of_lt (Nat.sub_le _ _) t.isLt)).2.2.2.2.2.1 y + resT (n := 256) (iblk m c 0 t) (iblk m c 1 t) (iblk m c 2 t) (iblk m c 3 t) (iblk m c 4 t) (iblk m c 6 t) y := by
  have h0 : ¬t.val % 8 = 0 := by omega
  have hy := ycov (iblk m c 0 t) (iblk m c 1 t) (iblk m c 2 t)
  unfold yPieces at hy
  generalize hR : (fun y => _) = R
  rw [outsAt0_C m c t h0 h1]
  dsimp only
  frame_open
  unfold hbw0_C_1
  try simp (disch := decide) only [↓ View.readCov_skip, ↓ View.readCov_cons_toLoadRect, ↓ View.readCov_fill]
  try simp only [read_unread_whole]
  try frame_out
  rw [hy]
  subst hR
  refine (copyT (iblk m c 0 t) (iblk m c 1 t) (iblk m c 2 t) (iblk m c 3 t) (iblk m c 4 t) (iblk m c 6 t) _ _ _).trans ?_
  funext y
  refine congrArg₂ (HAdd.hAdd (α := EReal) (β := EReal) (γ := EReal)) ?_ rfl
  exact congrFun (read_unread_whole (Val := Elt Ideal) cc0_scratch3 _ _) y

end Cert.KernelIdeal.Gate

end

end
-- ==== Proof.GateArrays.lean ====
module

public import proofs.«01_k».proof.Proof.GateWin
public import proofs.«01_k».proof.Proof.GateAcc
public import proofs.«01_k».proof.Proof.GateRows

/-!
# The six results as whole arrays

Grid point `t` reads rows `256 t …` of the row-wise arrays and the whole weights.  So the four tiled results are the
gradient's arrays, and the two accumulated ones, written at the last point, are the sums over all rows.
-/

@[expose] public section

set_option maxRecDepth 16384

noncomputable section

open Idealize.ShloMosaic Idealize.ShloMosaic.TcCoe Idealize.SL.Sem Gate
open Idealize.ShloMosaic.Pipeline (Dat)

namespace Cert.KernelIdeal.Gate

open Cert.KernelIdeal Cert.KernelIdeal.Gen Cert.KernelIdeal.Value

variable (m : (ℓ : Loc nD τ sig) → Buf (Elt Ideal) ℓ)

/-! ## The arguments, and the blocks of a point -/

/-- The latent-attention outputs. -/
abbrev A0 (c : Dev nD) : Heads 2048 := m ((c : Thread nD τ).loc main_arg0)
/-- The forgetting-attention outputs. -/
abbrev A1 (c : Dev nD) : Heads 2048 := m ((c : Thread nD τ).loc main_arg1)
/-- The state-space outputs. -/
abbrev A2 (c : Dev nD) : Mat 2048 512 := m ((c : Thread nD τ).loc main_arg2)
/-- The gates. -/
abbrev A3 (c : Dev nD) : Mat 2048 4608 := m ((c : Thread nD τ).loc main_arg3)
/-- The branches' projection. -/
abbrev A4 (c : Dev nD) : Mat 1536 1024 := m ((c : Thread nD τ).loc main_arg4)
/-- The output projection. -/
abbrev A5 (c : Dev nD) : Mat 1024 1024 := m ((c : Thread nD τ).loc main_arg5)
/-- The cotangent. -/
abbrev A6 (c : Dev nD) : Mat 2048 1024 := m ((c : Thread nD τ).loc main_arg6)

/-- The head-major arrays' block index at a point. -/
theorem idxH : ∀ t : Fin cfg0.N, win0_0.index t = ![0, t.val, 0] ∧ win0_1.index t = ![0, t.val, 0]
    ∧ win0_7.index t = ![0, t.val, 0] ∧ win0_8.index t = ![0, t.val, 0] :=
  (by decide +kernel : ∀ t : Fin grid0.N, win0_0.index t = ![0, t.val, 0] ∧ win0_1.index t = ![0, t.val, 0]
    ∧ win0_7.index t = ![0, t.val, 0] ∧ win0_8.index t = ![0, t.val, 0])

/-- The matrices' block index at a point. -/
theorem idxM : ∀ t : Fin cfg0.N, win0_2.index t = ![t.val, 0] ∧ win0_3.index t = ![t.val, 0]
    ∧ win0_6.index t = ![t.val, 0] ∧ win0_9.index t = ![t.val, 0] ∧ win0_10.index t = ![t.val, 0]
    ∧ win0_4.index t = ![0, 0] ∧ win0_5.index t = ![0, 0] :=
  (by decide +kernel : ∀ t : Fin grid0.N, win0_2.index t = ![t.val, 0] ∧ win0_3.index t = ![t.val, 0]
    ∧ win0_6.index t = ![t.val, 0] ∧ win0_9.index t = ![t.val, 0] ∧ win0_10.index t = ![t.val, 0]
    ∧ win0_4.index t = ![0, 0] ∧ win0_5.index t = ![0, 0])

/-- The branches' projection, cast by the host, is the argument itself. -/
theorem V_v0 (c : Dev nD) : V m c main_v0 = A4 m c := by
  show StableHlo.after hostOps0 (fun b => m (c, b)) main_v0 = _
  unfold hostOps0
  after_results_simp
  rfl

/-- The output projection, cast by the host, is the argument itself. -/
theorem V_v1 (c : Dev nD) : V m c main_v1 = A5 m c := by
  show StableHlo.after hostOps0 (fun b => m (c, b)) main_v1 = _
  unfold hostOps0
  after_results_simp
  rfl

/-- A point's block of the branches' projection is the whole of it. -/
theorem blk4 (c : Dev nD) (t : Fin cfg0.N) : iblk m c 4 t = A4 m c := by
  obtain ⟨-, -, -, -, -, e4, -⟩ := idxM t
  funext y
  blk_simp [iblk]
  show V m c main_v0 _ = _
  rw [V_v0]
  exact congrArg (A4 m c) (by blk_ext [e4])

/-- A point's block of the output projection is the whole of it. -/
theorem blk5 (c : Dev nD) (t : Fin cfg0.N) : iblk m c 5 t = A5 m c := by
  obtain ⟨-, -, -, -, -, -, e5⟩ := idxM t
  funext y
  blk_simp [iblk]
  show V m c main_v1 _ = _
  rw [V_v1]
  exact congrArg (A5 m c) (by blk_ext [e5])

/-- Row `r` of a point's blocks is row `256 t + r` of the arrays. -/
theorem same (c : Dev nD) (t : Fin cfg0.N) (r : Fin 256) (p : 256 * t.val + r.val < 2048) :
    Same (n := 256) (N := 2048) (iblk m c 0 t) (iblk m c 1 t) (iblk m c 2 t) (iblk m c 3 t) (iblk m c 6 t)
      (A0 m c) (A1 m c) (A2 m c) (A3 m c) (A6 m c) r ⟨256 * t.val + r.val, p⟩ := by
  obtain ⟨e0, e1, -, -⟩ := idxH t
  obtain ⟨e2, e3, e6, -, -, -, -⟩ := idxM t
  constructor
  · intro h l
    blk_simp [iblk]
    show V m c main_arg0 _ = _
    rw [V_main_arg0]
    exact congrArg (A0 m c) (by blk_ext [e0, ix3])
  · intro h l
    blk_simp [iblk]
    show V m c main_arg1 _ = _
    rw [V_main_arg1]
    exact congrArg (A1 m c) (by blk_ext [e1, ix3])
  · intro k
    blk_simp [iblk]
    show V m c main_arg2 _ = _
    rw [V_main_arg2]
    exact congrArg (A2 m c) (by blk_ext [e2, ix2])
  · intro k
    blk_simp [iblk]
    show V m c main_arg3 _ = _
    rw [V_main_arg3]
    exact congrArg (A3 m c) (by blk_ext [e3, ix2])
  · intro k
    blk_simp [iblk]
    show V m c main_arg6 _ = _
    rw [V_main_arg6]
    exact congrArg (A6 m c) (by blk_ext [e6, ix2])

/-! ## The tiled results -/

/-- The latent-attention branch's gradient. -/
theorem arr7 (c : Dev nD) : (dats m 0 c).arrAt 7 cfg0.N = resHead (n := 2048) (A3 m c) (A4 m c) (A5 m c) (A6 m c) 0 := by
  refine (dats m 0 c).arrAt_eq_of_covers 7 _ (by decide +kernel) fun t hf y => ?_
  obtain ⟨-, -, e, -⟩ := idxH t
  have ht : t.val < 8 := lt_of_lt_of_eq t.isLt N_0
  blk_simp
  rw [after0_7, win7, blk4, blk5]
  idx_vars y
  refine ((same m c t y1 (by omega)).head (A4 m c) (A5 m c) 0 y0 y2).trans ?_
  exact congrArg (resHead (n := 2048) (A3 m c) (A4 m c) (A5 m c) (A6 m c) 0) (by blk_ext [e, ix3])

/-- The forgetting-attention branch's gradient. -/
theorem arr8 (c : Dev nD) : (dats m 0 c).arrAt 8 cfg0.N = resHead (n := 2048) (A3 m c) (A4 m c) (A5 m c) (A6 m c) 1 := by
  refine (dats m 0 c).arrAt_eq_of_covers 8 _ (by decide +kernel) fun t hf y => ?_
  obtain ⟨-, -, -, e⟩ := idxH t
  have ht : t.val < 8 := lt_of_lt_of_eq t.isLt N_0
  blk_simp
  rw [after0_8, win8, blk4, blk5]
  idx_vars y
  refine ((same m c t y1 (by omega)).head (A4 m c) (A5 m c) 1 y0 y2).trans ?_
  exact congrArg (resHead (n := 2048) (A3 m c) (A4 m c) (A5 m c) (A6 m c) 1) (by blk_ext [e, ix3])

/-- The state-space branch's gradient. -/
theorem arr9 (c : Dev nD) : (dats m 0 c).arrAt 9 cfg0.N = resS5 (n := 2048) (A3 m c) (A4 m c) (A5 m c) (A6 m c) := by
  refine (dats m 0 c).arrAt_eq_of_covers 9 _ (by decide +kernel) fun t hf y => ?_
  obtain ⟨-, -, -, e, -⟩ := idxM t
  have ht : t.val < 8 := lt_of_lt_of_eq t.isLt N_0
  blk_simp
  rw [after0_9, win9, blk4, blk5]
  idx_vars y
  refine ((same m c t y0 (by omega)).s5 (A4 m c) (A5 m c) y1).trans ?_
  exact congrArg (resS5 (n := 2048) (A3 m c) (A4 m c) (A5 m c) (A6 m c)) (by blk_ext [e, ix2])

/-- The gates' gradient. -/
theorem arr10 (c : Dev nD) : (dats m 0 c).arrAt 10 cfg0.N
    = resSeg (n := 2048) (A0 m c) (A1 m c) (A2 m c) (A3 m c) (A4 m c) (A5 m c) (A6 m c) := by
  refine (dats m 0 c).arrAt_eq_of_covers 10 _ (by decide +kernel) fun t hf y => ?_
  obtain ⟨-, -, -, -, e, -⟩ := idxM t
  have ht : t.val < 8 := lt_of_lt_of_eq t.isLt N_0
  blk_simp
  rw [after0_10, win10, blk4, blk5]
  idx_vars y
  refine ((same m c t y0 (by omega)).seg (A4 m c) (A5 m c) y1).trans ?_
  exact congrArg (resSeg (n := 2048) (A0 m c) (A1 m c) (A2 m c) (A3 m c) (A4 m c) (A5 m c) (A6 m c)) (by blk_ext [e, ix2])

/-! ## The accumulated results -/

/-- A point's share of the branches' projection's gradient. -/
def shareW (c : Dev nD) (t : Fin cfg0.N) (y : S1536x1024.Idx) : EReal :=
  resW (n := 256) (iblk m c 0 t) (iblk m c 1 t) (iblk m c 2 t) (iblk m c 3 t) (iblk m c 5 t) (iblk m c 6 t) y

/-- A point's share of the output projection's gradient. -/
def shareT (c : Dev nD) (t : Fin cfg0.N) (y : S1024x1024.Idx) : EReal :=
  resT (n := 256) (iblk m c 0 t) (iblk m c 1 t) (iblk m c 2 t) (iblk m c 3 t) (iblk m c 4 t) (iblk m c 6 t) y

/-- After point `k` the first accumulator holds the shares of the points so far. -/
theorem heldW (c : Dev nD) : ∀ (k : ℕ) (hk : k < cfg0.N),
    (outsAt0 m c k hk).2.2.2.2.1 = fun y => ∑ s : Fin (k + 1), shareW m c ⟨s.val, by omega⟩ y := by
  have hN : cfg0.N = 8 := N_0
  intro k
  induction k with
  | zero =>
    intro hk
    rw [accW_first m c ⟨0, hk⟩ rfl]
    funext y
    rw [Fin.sum_univ_one]
    rfl
  | succ k ih =>
    intro hk
    have e := accW_next m c ⟨k + 1, hk⟩ (by show ¬(k + 1) % 8 = 0; omega)
    refine e.trans ?_
    funext y
    rw [Fin.sum_univ_castSucc]
    refine congrArg₂ (HAdd.hAdd (α := EReal) (β := EReal) (γ := EReal)) ?_ rfl
    exact congrFun (ih (by omega)) y

/-- After point `k` the second accumulator holds the shares of the points so far. -/
theorem heldT (c : Dev nD) : ∀ (k : ℕ) (hk : k < cfg0.N),
    (outsAt0 m c k hk).2.2.2.2.2.1 = fun y => ∑ s : Fin (k + 1), shareT m c ⟨s.val, by omega⟩ y := by
  have hN : cfg0.N = 8 := N_0
  intro k
  induction k with
  | zero =>
    intro hk
    rw [accT_first m c ⟨0, hk⟩ rfl]
    funext y
    rw [Fin.sum_univ_one]
    rfl
  | succ k ih =>
    intro hk
    have e := accT_next m c ⟨k + 1, hk⟩ (by show ¬(k + 1) % 8 = 0; omega)
    refine e.trans ?_
    funext y
    rw [Fin.sum_univ_castSucc]
    refine congrArg₂ (HAdd.hAdd (α := EReal) (β := EReal) (γ := EReal)) ?_ rfl
    exact congrFun (ih (by omega)) y

/-- The eight points' shares of the branches' projection's gradient add up to the whole. -/
theorem totalW (c : Dev nD) (k : ℕ) (hk : k < cfg0.N) (e : k = 7) :
    (fun y : S1536x1024.Idx => ∑ s : Fin (k + 1), shareW m c ⟨s.val, by omega⟩ y)
      = resW (n := 2048) (A0 m c) (A1 m c) (A2 m c) (A3 m c) (A5 m c) (A6 m c) := by
  subst e
  have hN : cfg0.N = 8 := N_0
  funext y
  refine Eq.trans ?_ (sum_resW (fun t => iblk m c 0 ⟨t.val, by omega⟩) (fun t => iblk m c 1 ⟨t.val, by omega⟩)
    (fun t => iblk m c 2 ⟨t.val, by omega⟩) (fun t => iblk m c 3 ⟨t.val, by omega⟩) (fun t => iblk m c 6 ⟨t.val, by omega⟩)
    (A0 m c) (A1 m c) (A2 m c) (A3 m c) (A6 m c) (fun t r p => same m c ⟨t.val, by omega⟩ r p) (A5 m c) y)
  refine Finset.sum_congr rfl fun t _ => ?_
  unfold shareW
  rw [blk5]

/-- The branches' projection's gradient, as the last point leaves it. -/
theorem arrW (c : Dev nD) (k : ℕ) (hk : k < cfg0.N) (e : k = 7) : (outsAt0 m c k hk).2.2.2.2.2.2.1
    = resW (n := 2048) (A0 m c) (A1 m c) (A2 m c) (A3 m c) (A5 m c) (A6 m c) := by
  refine (outW m c ⟨k, hk⟩ (by show k % 8 = 7; omega)).trans ?_
  refine (accW_next m c ⟨k, hk⟩ (by show ¬k % 8 = 0; omega)).symm.trans ?_
  exact (heldW m c k hk).trans (totalW m c k hk e)

/-- The eight points' shares of the output projection's gradient add up to the whole. -/
theorem totalT (c : Dev nD) (k : ℕ) (hk : k < cfg0.N) (e : k = 7) :
    (fun y : S1024x1024.Idx => ∑ s : Fin (k + 1), shareT m c ⟨s.val, by omega⟩ y)
      = resT (n := 2048) (A0 m c) (A1 m c) (A2 m c) (A3 m c) (A4 m c) (A6 m c) := by
  subst e
  have hN : cfg0.N = 8 := N_0
  funext y
  refine Eq.trans ?_ (sum_resT (fun t => iblk m c 0 ⟨t.val, by omega⟩) (fun t => iblk m c 1 ⟨t.val, by omega⟩)
    (fun t => iblk m c 2 ⟨t.val, by omega⟩) (fun t => iblk m c 3 ⟨t.val, by omega⟩) (fun t => iblk m c 6 ⟨t.val, by omega⟩)
    (A0 m c) (A1 m c) (A2 m c) (A3 m c) (A6 m c) (fun t r p => same m c ⟨t.val, by omega⟩ r p) (A4 m c) y)
  refine Finset.sum_congr rfl fun t _ => ?_
  unfold shareT
  rw [blk4]

/-- The output projection's gradient, as the last point leaves it. -/
theorem arrT (c : Dev nD) (k : ℕ) (hk : k < cfg0.N) (e : k = 7) : (outsAt0 m c k hk).2.2.2.2.2.2.2
    = resT (n := 2048) (A0 m c) (A1 m c) (A2 m c) (A3 m c) (A4 m c) (A6 m c) := by
  refine (outT m c ⟨k, hk⟩ (by show k % 8 = 7; omega)).trans ?_
  refine (accT_next m c ⟨k, hk⟩ (by show ¬k % 8 = 0; omega)).symm.trans ?_
  exact (heldT m c k hk).trans (totalT m c k hk e)

end Cert.KernelIdeal.Gate

end

end
-- ==== Proof.Dwin.lean ====
module

public import proofs.«01_k».proof.Defs
public import proofs.«01_k».proof.Proof.Products
public import proofs.«01_k».proof.Proof.Gen.Dwin3Ideal.Value
public import proofs.«01_k».proof.Proof.Gen.Dwin3RefIdeal.Read
public import proofs.«01_k».proof.Proof.Gen.Dwin3RefIdeal.Run
public import proofs.«01_k».proof.Proof.Gen.Dwin1Ideal.Value
public import proofs.«01_k».proof.Proof.Gen.Dwin1RefIdeal.Read
public import proofs.«01_k».proof.Proof.Gen.Dwin1RefIdeal.Run
public import proofs.«01_k».proof.Proof.Gen.Dwin0Ideal.Value
public import proofs.«01_k».proof.Proof.Gen.Dwin0RefIdeal.Read
public import proofs.«01_k».proof.Proof.Gen.Dwin0RefIdeal.Run
public import proofs.«01_k».proof.Proof.Gen.Dwin2Ideal.Value
public import proofs.«01_k».proof.Proof.Gen.Dwin2RefIdeal.Read
public import proofs.«01_k».proof.Proof.Gen.Dwin2RefIdeal.Run
public import Idealize.ShloMosaic.Lib.IdealHost
public import Idealize.ShloMosaic.Adequacy
public import Idealize.ShloMosaic.Init

/-!
# The weights' gradients, `hᵀ · d`

Four calls, one for each segment of the columns.  A call goes over column blocks of 512, and for each in two steps over
the tokens.  What a step computes is the same term in all four, so it is read once.
-/

@[expose] public section

set_option maxRecDepth 16384

noncomputable section

open Idealize.ShloMosaic Idealize.ShloMosaic.TcCoe Idealize.SL.Sem Product

/-! ## The gates' columns: nine column blocks -/

namespace Cert.Dwin3Ideal.Product

open Cert.Dwin3Ideal Cert.Dwin3Ideal.Gen

/-- A first step's block is its product. -/
theorem first (x0 : FVec Ideal S1024x1024 .bf16) (x1 : FVec Ideal S1024x512 .bf16) (y : S1024x512.Idx) :
    k0_pay1 (F := Ideal) x0 x1 y = tn (n := 1024) (k := 1024) (w := 512) x0 x1 y := by
  idx_vars y
  pointwise [k0_pay1]
  rfl

/-- A later step's block is the block before it and its product. -/
theorem later (x0 : FVec Ideal S1024x1024 .bf16) (x1 : FVec Ideal S1024x512 .bf16) (v : FVec Ideal S1024x512 .f32) (y : S1024x512.Idx) :
    k0_pay2 (F := Ideal) x0 x1 v y = v y + tn (n := 1024) (k := 1024) (w := 512) x0 x1 y := by
  pointwise [k0_pay2]
  rw [first]

/-- The blocks' indices. -/
theorem idx : ∀ t : Fin cfg0.N, win0_0.index t = ![t.val % 2, 0] ∧ win0_1.index t = ![t.val % 2, t.val / 2]
    ∧ win0_2.index t = ![0, t.val / 2] :=
  (by decide +kernel : ∀ t : Fin grid0.N, win0_0.index t = ![t.val % 2, 0] ∧ win0_1.index t = ![t.val % 2, t.val / 2]
    ∧ win0_2.index t = ![0, t.val / 2])

variable (m : (ℓ : Loc nD τ sig) → Buf (Elt Ideal) ℓ)

/-- The array after the run is the whole product. -/
theorem arr (c : Dev nD) : (dats m 0 c).arrAt 2 cfg0.N
    = tn (n := 1024) (k := 2048) (w := 4608) (m ((c : Thread nD τ).loc main_arg0)) (m ((c : Thread nD τ).loc main_arg1)) := by
  refine (dats m 0 c).arrAt_eq_of_covers 2 _ (by decide +kernel) fun t hf y => ?_
  have ht : t.val < 18 := lt_of_lt_of_eq t.isLt N_0
  obtain ⟨-, -, e2⟩ := idx t
  blk_simp
  rw [after0_2]
  refine tn_run (J := 2) (fun u h => outsAt0 m c u h) (fun t => iblk m c 0 t) (fun t => iblk m c 1 t) _ _
    (fun t h y => by rw [outsAt0_A m c t h (by omega)]; frame_out; exact first _ _ _)
    (fun t h y => by rw [outsAt0_B m c t h (by omega)]; frame_out; exact later _ _ _ _)
    t ((flush0_2 t).mp hf) y _ rfl (fun s l hl => ?_) (fun s l hl => ?_) <;>
    obtain ⟨e0, e1, -⟩ := idx ⟨2 * (t.val / 2) + s.val, Pipeline.run_point_lt_of_flush t ((flush0_2 t).mp hf) s⟩ <;>
    blk_simp [iblk]
  · exact (congrFun (V_main_arg0 m c) _).trans (congrArg (m ((c : Thread nD τ).loc main_arg0)) (by blk_ext [e0, e2, ix2]))
  · exact (congrFun (V_main_arg1 m c) _).trans (congrArg (m ((c : Thread nD τ).loc main_arg1)) (by blk_ext [e1, e2, ix2]))

end Cert.Dwin3Ideal.Product

namespace Cert.Dwin3RefIdeal.Product

open Cert.Dwin3RefIdeal Cert.Dwin3RefIdeal.Read

/-- The reference's product is the whole product. -/
theorem ref (x0 : FVec Ideal S2048x1024 .bf16) (x1 : FVec Ideal S2048x4608 .bf16) :
    val_main_v3 (F := Ideal) x0 x1 = tn (n := 1024) (k := 2048) (w := 4608) x0 x1 := by
  funext y
  rw [val_main_v3_apply, val_main_v2_apply]
  exact Finset.sum_congr rfl fun k _ => (mul_comm _ _).trans
    (congrArg₂ (HMul.hMul (α := EReal) (β := EReal) (γ := EReal)) (congrArg x0 (by blk_ext [ix2])) (congrArg x1 (by blk_ext [ix2])))

/-- The reference leaves its arguments, and has no semaphore. -/
theorem frame : Cert.quiescent_Dwin3RefIdeal (hDwin3RefIdeal := Gen.facts) := fun m g _ =>
  (θ_run _ _ _).mono (fun r h => ⟨fun c => (h c).2, sem_eq_zero_of_no_sems (by decide) r.2⟩) (Value.run (F := Ideal) m g)

/-- The kernel's product is the reference's. -/
theorem algebraic : Cert.algebraic_Dwin3Ideal_Dwin3RefIdeal (hDwin3Ideal := Cert.Dwin3Ideal.Gen.facts) (hDwin3RefIdeal := Gen.facts) :=
  fun m g m' g' _ hargs => ⟨fun c => _,
    (θ_run _ _ _).mono (fun r h c => ⟨(h c).1.trans (Cert.Dwin3Ideal.Product.arr m c), (h c).2⟩) (Cert.Dwin3Ideal.Value.run_blocks (F := Ideal) m g),
    (θ_run _ _ _).mono (fun r h c => ⟨(h c).1.trans ((val_main_v3_eq _ _).trans (by rw [(hargs c).1, (hargs c).2]; exact ref _ _)), (h c).2⟩)
      (Value.run (F := Ideal) m' g')⟩

end Cert.Dwin3RefIdeal.Product

/-! ## The heads' columns: three column blocks -/

namespace Cert.Dwin1Ideal.Product

open Cert.Dwin1Ideal Cert.Dwin1Ideal.Gen

/-- The blocks' indices. -/
theorem idx : ∀ t : Fin cfg0.N, win0_0.index t = ![t.val % 2, 0] ∧ win0_1.index t = ![t.val % 2, t.val / 2]
    ∧ win0_2.index t = ![0, t.val / 2] :=
  (by decide +kernel : ∀ t : Fin grid0.N, win0_0.index t = ![t.val % 2, 0] ∧ win0_1.index t = ![t.val % 2, t.val / 2]
    ∧ win0_2.index t = ![0, t.val / 2])

variable (m : (ℓ : Loc nD τ sig) → Buf (Elt Ideal) ℓ)

/-- The array after the run is the whole product. -/
theorem arr (c : Dev nD) : (dats m 0 c).arrAt 2 cfg0.N
    = tn (n := 1024) (k := 2048) (w := 1536) (m ((c : Thread nD τ).loc main_arg0)) (m ((c : Thread nD τ).loc main_arg1)) := by
  refine (dats m 0 c).arrAt_eq_of_covers 2 _ (by decide +kernel) fun t hf y => ?_
  have ht : t.val < 6 := lt_of_lt_of_eq t.isLt N_0
  obtain ⟨-, -, e2⟩ := idx t
  blk_simp
  rw [after0_2]
  refine tn_run (J := 2) (fun u h => outsAt0 m c u h) (fun t => iblk m c 0 t) (fun t => iblk m c 1 t) _ _
    (fun t h y => by rw [outsAt0_A m c t h (by omega)]; frame_out; exact Cert.Dwin3Ideal.Product.first _ _ _)
    (fun t h y => by rw [outsAt0_B m c t h (by omega)]; frame_out; exact Cert.Dwin3Ideal.Product.later _ _ _ _)
    t ((flush0_2 t).mp hf) y _ rfl (fun s l hl => ?_) (fun s l hl => ?_) <;>
    obtain ⟨e0, e1, -⟩ := idx ⟨2 * (t.val / 2) + s.val, Pipeline.run_point_lt_of_flush t ((flush0_2 t).mp hf) s⟩ <;>
    blk_simp [iblk]
  · exact (congrFun (V_main_arg0 m c) _).trans (congrArg (m ((c : Thread nD τ).loc main_arg0)) (by blk_ext [e0, e2, ix2]))
  · exact (congrFun (V_main_arg1 m c) _).trans (congrArg (m ((c : Thread nD τ).loc main_arg1)) (by blk_ext [e1, e2, ix2]))

end Cert.Dwin1Ideal.Product

namespace Cert.Dwin1RefIdeal.Product

open Cert.Dwin1RefIdeal Cert.Dwin1RefIdeal.Read

/-- The reference's product is the whole product. -/
theorem ref (x0 : FVec Ideal S2048x1024 .bf16) (x1 : FVec Ideal S2048x1536 .bf16) :
    val_main_v3 (F := Ideal) x0 x1 = tn (n := 1024) (k := 2048) (w := 1536) x0 x1 := by
  funext y
  rw [val_main_v3_apply, val_main_v2_apply]
  exact Finset.sum_congr rfl fun k _ => (mul_comm _ _).trans
    (congrArg₂ (HMul.hMul (α := EReal) (β := EReal) (γ := EReal)) (congrArg x0 (by blk_ext [ix2])) (congrArg x1 (by blk_ext [ix2])))

/-- The reference leaves its arguments, and has no semaphore. -/
theorem frame : Cert.quiescent_Dwin1RefIdeal (hDwin1RefIdeal := Gen.facts) := fun m g _ =>
  (θ_run _ _ _).mono (fun r h => ⟨fun c => (h c).2, sem_eq_zero_of_no_sems (by decide) r.2⟩) (Value.run (F := Ideal) m g)

/-- The kernel's product is the reference's. -/
theorem algebraic : Cert.algebraic_Dwin1Ideal_Dwin1RefIdeal (hDwin1Ideal := Cert.Dwin1Ideal.Gen.facts) (hDwin1RefIdeal := Gen.facts) :=
  fun m g m' g' _ hargs => ⟨fun c => _,
    (θ_run _ _ _).mono (fun r h c => ⟨(h c).1.trans (Cert.Dwin1Ideal.Product.arr m c), (h c).2⟩) (Cert.Dwin1Ideal.Value.run_blocks (F := Ideal) m g),
    (θ_run _ _ _).mono (fun r h c => ⟨(h c).1.trans ((val_main_v3_eq _ _).trans (by rw [(hargs c).1, (hargs c).2]; exact ref _ _)), (h c).2⟩)
      (Value.run (F := Ideal) m' g')⟩

end Cert.Dwin1RefIdeal.Product

/-! ## The latent's columns, of which the last 96 are padding: one column block -/

namespace Cert.Dwin0Ideal.Product

open Cert.Dwin0Ideal Cert.Dwin0Ideal.Gen

/-- The blocks' indices. -/
theorem idx : ∀ t : Fin cfg0.N, win0_0.index t = ![t.val, 0] ∧ win0_1.index t = ![t.val, 0] ∧ win0_2.index t = ![0, 0] :=
  (by decide +kernel : ∀ t : Fin grid0.N, win0_0.index t = ![t.val, 0] ∧ win0_1.index t = ![t.val, 0] ∧ win0_2.index t = ![0, 0])

variable (m : (ℓ : Loc nD τ sig) → Buf (Elt Ideal) ℓ)

/-- The array after the run is the whole product. -/
theorem arr (c : Dev nD) : (dats m 0 c).arrAt 2 cfg0.N
    = tn (n := 1024) (k := 2048) (w := 512) (m ((c : Thread nD τ).loc main_arg0)) (m ((c : Thread nD τ).loc main_arg1)) := by
  refine (dats m 0 c).arrAt_eq_of_covers 2 _ (by decide +kernel) fun t hf y => ?_
  have ht : t.val < 2 := lt_of_lt_of_eq t.isLt N_0
  obtain ⟨-, -, e2⟩ := idx t
  blk_simp
  rw [after0_2]
  refine tn_run (J := 2) (fun u h => outsAt0 m c u h) (fun t => iblk m c 0 t) (fun t => iblk m c 1 t) _ _
    (fun t h y => by rw [outsAt0_A m c t h (by omega)]; frame_out; exact Cert.Dwin3Ideal.Product.first _ _ _)
    (fun t h y => by rw [outsAt0_B m c t h (by omega)]; frame_out; exact Cert.Dwin3Ideal.Product.later _ _ _ _)
    t ((flush0_2 t).mp hf) y _ rfl (fun s l hl => ?_) (fun s l hl => ?_) <;>
    obtain ⟨e0, e1, -⟩ := idx ⟨2 * (t.val / 2) + s.val, Pipeline.run_point_lt_of_flush t ((flush0_2 t).mp hf) s⟩ <;>
    blk_simp [iblk]
  · exact (congrFun (V_main_arg0 m c) _).trans (congrArg (m ((c : Thread nD τ).loc main_arg0)) (by blk_ext [e0, e2, ix2]))
  · exact (congrFun (V_main_arg1 m c) _).trans (congrArg (m ((c : Thread nD τ).loc main_arg1)) (by blk_ext [e1, e2, ix2]))

end Cert.Dwin0Ideal.Product

namespace Cert.Dwin0RefIdeal.Product

open Cert.Dwin0RefIdeal Cert.Dwin0RefIdeal.Read

/-- The reference's product is the whole product. -/
theorem ref (x0 : FVec Ideal S2048x1024 .bf16) (x1 : FVec Ideal S2048x512 .bf16) :
    val_main_v3 (F := Ideal) x0 x1 = tn (n := 1024) (k := 2048) (w := 512) x0 x1 := by
  funext y
  rw [val_main_v3_apply, val_main_v2_apply]
  exact Finset.sum_congr rfl fun k _ => (mul_comm _ _).trans
    (congrArg₂ (HMul.hMul (α := EReal) (β := EReal) (γ := EReal)) (congrArg x0 (by blk_ext [ix2])) (congrArg x1 (by blk_ext [ix2])))

/-- The reference leaves its arguments, and has no semaphore. -/
theorem frame : Cert.quiescent_Dwin0RefIdeal (hDwin0RefIdeal := Gen.facts) := fun m g _ =>
  (θ_run _ _ _).mono (fun r h => ⟨fun c => (h c).2, sem_eq_zero_of_no_sems (by decide) r.2⟩) (Value.run (F := Ideal) m g)

/-- The kernel's product is the reference's. -/
theorem algebraic : Cert.algebraic_Dwin0Ideal_Dwin0RefIdeal (hDwin0Ideal := Cert.Dwin0Ideal.Gen.facts) (hDwin0RefIdeal := Gen.facts) :=
  fun m g m' g' _ hargs => ⟨fun c => _,
    (θ_run _ _ _).mono (fun r h c => ⟨(h c).1.trans (Cert.Dwin0Ideal.Product.arr m c), (h c).2⟩) (Cert.Dwin0Ideal.Value.run_blocks (F := Ideal) m g),
    (θ_run _ _ _).mono (fun r h c => ⟨(h c).1.trans ((val_main_v3_eq _ _).trans (by rw [(hargs c).1, (hargs c).2]; exact ref _ _)), (h c).2⟩)
      (Value.run (F := Ideal) m' g')⟩

end Cert.Dwin0RefIdeal.Product

/-! ## The state space's columns, whose cotangent is float32: one column block -/

namespace Cert.Dwin2Ideal.Product

open Cert.Dwin2Ideal Cert.Dwin2Ideal.Gen

/-- The blocks' indices. -/
theorem idx : ∀ t : Fin cfg0.N, win0_0.index t = ![t.val, 0] ∧ win0_1.index t = ![t.val, 0] ∧ win0_2.index t = ![0, 0] :=
  (by decide +kernel : ∀ t : Fin grid0.N, win0_0.index t = ![t.val, 0] ∧ win0_1.index t = ![t.val, 0] ∧ win0_2.index t = ![0, 0])

variable (m : (ℓ : Loc nD τ sig) → Buf (Elt Ideal) ℓ)

/-- The array after the run is the whole product. -/
theorem arr (c : Dev nD) : (dats m 0 c).arrAt 2 cfg0.N
    = tn (n := 1024) (k := 2048) (w := 512) (m ((c : Thread nD τ).loc main_arg0)) (m ((c : Thread nD τ).loc main_arg1)) := by
  refine (dats m 0 c).arrAt_eq_of_covers 2 _ (by decide +kernel) fun t hf y => ?_
  have ht : t.val < 2 := lt_of_lt_of_eq t.isLt N_0
  obtain ⟨-, -, e2⟩ := idx t
  blk_simp
  rw [after0_2]
  refine tn_run (J := 2) (fun u h => outsAt0 m c u h) (fun t => iblk m c 0 t) (fun t => iblk m c 1 t) _ _
    (fun t h y => by rw [outsAt0_A m c t h (by omega)]; frame_out; exact Cert.Dwin3Ideal.Product.first _ _ _)
    (fun t h y => by rw [outsAt0_B m c t h (by omega)]; frame_out; exact Cert.Dwin3Ideal.Product.later _ _ _ _)
    t ((flush0_2 t).mp hf) y _ rfl (fun s l hl => ?_) (fun s l hl => ?_) <;>
    obtain ⟨e0, e1, -⟩ := idx ⟨2 * (t.val / 2) + s.val, Pipeline.run_point_lt_of_flush t ((flush0_2 t).mp hf) s⟩ <;>
    blk_simp [iblk]
  · exact (congrFun (V_main_arg0 m c) _).trans (congrArg (m ((c : Thread nD τ).loc main_arg0)) (by blk_ext [e0, e2, ix2]))
  · exact (congrFun (V_main_arg1 m c) _).trans (congrArg (m ((c : Thread nD τ).loc main_arg1)) (by blk_ext [e1, e2, ix2]))

end Cert.Dwin2Ideal.Product

namespace Cert.Dwin2RefIdeal.Product

open Cert.Dwin2RefIdeal Cert.Dwin2RefIdeal.Read

/-- The reference's product is the whole product. -/
theorem ref (x0 : FVec Ideal S2048x1024 .bf16) (x1 : FVec Ideal S2048x512 .f32) :
    val_main_v2 (F := Ideal) x0 x1 = tn (n := 1024) (k := 2048) (w := 512) x0 x1 := by
  funext y
  rw [val_main_v2_apply, val_main_v1_apply]
  exact Finset.sum_congr rfl fun k _ => (mul_comm _ _).trans
    (congrArg₂ (HMul.hMul (α := EReal) (β := EReal) (γ := EReal)) (congrArg x0 (by blk_ext [ix2])) (congrArg x1 (by blk_ext [ix2])))

/-- The reference leaves its arguments, and has no semaphore. -/
theorem frame : Cert.quiescent_Dwin2RefIdeal (hDwin2RefIdeal := Gen.facts) := fun m g _ =>
  (θ_run _ _ _).mono (fun r h => ⟨fun c => (h c).2, sem_eq_zero_of_no_sems (by decide) r.2⟩) (Value.run (F := Ideal) m g)

/-- The kernel's product is the reference's. -/
theorem algebraic : Cert.algebraic_Dwin2Ideal_Dwin2RefIdeal (hDwin2Ideal := Cert.Dwin2Ideal.Gen.facts) (hDwin2RefIdeal := Gen.facts) :=
  fun m g m' g' _ hargs => ⟨fun c => _,
    (θ_run _ _ _).mono (fun r h c => ⟨(h c).1.trans (Cert.Dwin2Ideal.Product.arr m c), (h c).2⟩) (Cert.Dwin2Ideal.Value.run_blocks (F := Ideal) m g),
    (θ_run _ _ _).mono (fun r h c => ⟨(h c).1.trans ((val_main_v2_eq _ _).trans (by rw [(hargs c).1, (hargs c).2]; exact ref _ _)), (h c).2⟩)
      (Value.run (F := Ideal) m' g')⟩

end Cert.Dwin2RefIdeal.Product

end
-- ==== Proof.Dh.lean ====
module

public import proofs.«01_k».proof.Defs
public import proofs.«01_k».proof.Proof.Products
public import proofs.«01_k».proof.Proof.Gen.Dh3Ideal.Value
public import proofs.«01_k».proof.Proof.Gen.Dh3RefIdeal.Read
public import proofs.«01_k».proof.Proof.Gen.Dh3RefIdeal.Run
public import proofs.«01_k».proof.Proof.Gen.Dh1Ideal.Value
public import proofs.«01_k».proof.Proof.Gen.Dh1RefIdeal.Read
public import proofs.«01_k».proof.Proof.Gen.Dh1RefIdeal.Run
public import proofs.«01_k».proof.Proof.Gen.Dh0Ideal.Value
public import proofs.«01_k».proof.Proof.Gen.Dh0RefIdeal.Read
public import proofs.«01_k».proof.Proof.Gen.Dh0RefIdeal.Run
public import proofs.«01_k».proof.Proof.Gen.Dh2Ideal.Value
public import proofs.«01_k».proof.Proof.Gen.Dh2RefIdeal.Read
public import proofs.«01_k».proof.Proof.Gen.Dh2RefIdeal.Run
public import Idealize.ShloMosaic.Lib.IdealHost
public import Idealize.ShloMosaic.Adequacy
public import Idealize.ShloMosaic.Init

/-!
# The input's gradients, `d · wᵀ`

Four calls, one for each segment of the columns; all but the first add to what the calls before left.  A call goes over
two row blocks, and for each in steps of 512 columns.  What a step computes is the same term in all four, so it is read
once.
-/

@[expose] public section

set_option maxRecDepth 16384

noncomputable section

open Idealize.ShloMosaic Idealize.ShloMosaic.TcCoe Idealize.SL.Sem Product

/-! ## The gates' columns: nine steps -/

namespace Cert.Dh3Ideal.Product

open Cert.Dh3Ideal Cert.Dh3Ideal.Gen

/-- One step's product. -/
theorem prod (x0 x1 : FVec Ideal S1024x512 .bf16) (y : S1024x1024.Idx) :
    k0_pay1 (F := Ideal) x0 x1 y = nt (n := 1024) (k := 512) (w := 1024) x0 x1 y := by
  idx_vars y
  pointwise [k0_pay1]
  rfl

/-- A first step's block is its product and what is to be added to. -/
theorem first (x0 x1 : FVec Ideal S1024x512 .bf16) (v : FVec Ideal S1024x1024 .f32) (y : S1024x1024.Idx) :
    k0_pay2 (F := Ideal) x0 x1 v y = nt (n := 1024) (k := 512) (w := 1024) x0 x1 y + v y := by
  pointwise [k0_pay2]
  rw [prod]

/-- A later step's block is the block before it and its product. -/
theorem later (x0 x1 : FVec Ideal S1024x512 .bf16) (v : FVec Ideal S1024x1024 .f32) (y : S1024x1024.Idx) :
    k0_pay3 (F := Ideal) x0 x1 v y = v y + nt (n := 1024) (k := 512) (w := 1024) x0 x1 y := by
  pointwise [k0_pay3]
  rw [prod]

/-- The blocks' indices. -/
theorem idx : ∀ t : Fin cfg0.N, win0_0.index t = ![t.val / 9, t.val % 9] ∧ win0_1.index t = ![0, t.val % 9 + 5]
    ∧ win0_2.index t = ![t.val / 9, 0] ∧ win0_3.index t = ![t.val / 9, 0] :=
  (by decide +kernel : ∀ t : Fin grid0.N, win0_0.index t = ![t.val / 9, t.val % 9] ∧ win0_1.index t = ![0, t.val % 9 + 5]
    ∧ win0_2.index t = ![t.val / 9, 0] ∧ win0_3.index t = ![t.val / 9, 0])

variable (m : (ℓ : Loc nD τ sig) → Buf (Elt Ideal) ℓ)

/-- The array after the run is what was to be added to and the whole product. -/
theorem arr (c : Dev nD) : (dats m 0 c).arrAt 3 cfg0.N = onto (n := 2048) (w := 1024) (m ((c : Thread nD τ).loc main_arg2))
    (nt (n := 2048) (k := 4608) (w := 1024) (m ((c : Thread nD τ).loc main_arg0))
      (cols (n := 1024) (v := 7168) (m ((c : Thread nD τ).loc main_arg1)) 2560 4608 (by norm_num))) := by
  refine (dats m 0 c).arrAt_eq_of_covers 3 _ (by decide +kernel) fun t hf y => ?_
  have hN : cfg0.N = 18 := N_0
  have ht : t.val < 18 := lt_of_lt_of_eq t.isLt N_0
  obtain ⟨-, -, -, e3⟩ := idx t
  blk_simp
  rw [after0_3]
  refine nt_run (J := 9) (fun u h => outsAt0 m c u h) (fun t => iblk m c 2 t) (fun t => iblk m c 0 t) (fun t => iblk m c 1 t) _ _ _
    (fun t h y => by rw [outsAt0_A m c t h (by omega)]; frame_out; exact first _ _ _ _)
    (fun t h y => by rw [outsAt0_B m c t h (by omega)]; frame_out; exact later _ _ _ _)
    t ((flush0_3 t).mp hf) y _ rfl ?_ (fun s l hl => ?_) (fun s l hl => ?_)
  · obtain ⟨-, -, e2, -⟩ := idx ⟨9 * (t.val / 9), by omega⟩
    blk_simp [iblk]
    exact (congrFun (V_main_arg2 m c) _).trans (congrArg (m ((c : Thread nD τ).loc main_arg2)) (by blk_ext [e2, e3]))
  · obtain ⟨e0, -⟩ := idx ⟨9 * (t.val / 9) + s.val, by omega⟩
    blk_simp [iblk]
    exact (congrFun (V_main_arg0 m c) _).trans (congrArg (m ((c : Thread nD τ).loc main_arg0)) (by blk_ext [e0, e3, ix2]))
  · obtain ⟨-, e1, -⟩ := idx ⟨9 * (t.val / 9) + s.val, by omega⟩
    blk_simp [iblk]
    exact (congrFun (V_main_arg1 m c) _).trans (congrArg (m ((c : Thread nD τ).loc main_arg1)) (by blk_ext [e1, e3, ix2]))

end Cert.Dh3Ideal.Product

namespace Cert.Dh3RefIdeal.Product

open Cert.Dh3RefIdeal Cert.Dh3RefIdeal.Read

/-- The reference's sum is what was to be added to and the whole product. -/
theorem ref (x0 : FVec Ideal S2048x4608 .bf16) (x1 : FVec Ideal S1024x7168 .bf16) (x2 : FVec Ideal S2048x1024 .f32) :
    val_main_v4 (F := Ideal) x0 x1 x2 = onto (n := 2048) (w := 1024) x2 (nt (n := 2048) (k := 4608) (w := 1024) x0
      (cols (n := 1024) (v := 7168) x1 2560 4608 (by norm_num))) := by
  funext y
  rw [val_main_v4_apply, val_main_v3_apply]
  refine congrArg (HAdd.hAdd (α := EReal) (β := EReal) (γ := EReal) (x2 y)) (Finset.sum_congr rfl fun k _ => ?_)
  rw [val_main_v1_apply]
  exact congrArg₂ (HMul.hMul (α := EReal) (β := EReal) (γ := EReal)) (congrArg x0 (by blk_ext [ix2])) (congrArg x1 (by blk_ext [ix2]))

/-- The reference leaves its arguments, and has no semaphore. -/
theorem frame : Cert.quiescent_Dh3RefIdeal (hDh3RefIdeal := Gen.facts) := fun m g _ =>
  (θ_run _ _ _).mono (fun r h => ⟨fun c => (h c).2, sem_eq_zero_of_no_sems (by decide) r.2⟩) (Value.run (F := Ideal) m g)

/-- The kernel's sum is the reference's. -/
theorem algebraic : Cert.algebraic_Dh3Ideal_Dh3RefIdeal (hDh3Ideal := Cert.Dh3Ideal.Gen.facts) (hDh3RefIdeal := Gen.facts) :=
  fun m g m' g' _ hargs => ⟨fun c => _,
    (θ_run _ _ _).mono (fun r h c => ⟨(h c).1.trans (Cert.Dh3Ideal.Product.arr m c), (h c).2⟩) (Cert.Dh3Ideal.Value.run_blocks (F := Ideal) m g),
    (θ_run _ _ _).mono (fun r h c => ⟨(h c).1.trans ((val_main_v4_eq _ _ _).trans
      (by rw [(hargs c).1, (hargs c).2.1, (hargs c).2.2]; exact ref _ _ _)), (h c).2⟩) (Value.run (F := Ideal) m' g')⟩

end Cert.Dh3RefIdeal.Product

/-! ## The heads' columns: three steps -/

namespace Cert.Dh1Ideal.Product

open Cert.Dh1Ideal Cert.Dh1Ideal.Gen

/-- The blocks' indices. -/
theorem idx : ∀ t : Fin cfg0.N, win0_0.index t = ![t.val / 3, t.val % 3] ∧ win0_1.index t = ![0, t.val % 3 + 1]
    ∧ win0_2.index t = ![t.val / 3, 0] ∧ win0_3.index t = ![t.val / 3, 0] :=
  (by decide +kernel : ∀ t : Fin grid0.N, win0_0.index t = ![t.val / 3, t.val % 3] ∧ win0_1.index t = ![0, t.val % 3 + 1]
    ∧ win0_2.index t = ![t.val / 3, 0] ∧ win0_3.index t = ![t.val / 3, 0])

variable (m : (ℓ : Loc nD τ sig) → Buf (Elt Ideal) ℓ)

/-- The array after the run is what was to be added to and the whole product. -/
theorem arr (c : Dev nD) : (dats m 0 c).arrAt 3 cfg0.N = onto (n := 2048) (w := 1024) (m ((c : Thread nD τ).loc main_arg2))
    (nt (n := 2048) (k := 1536) (w := 1024) (m ((c : Thread nD τ).loc main_arg0))
      (cols (n := 1024) (v := 7168) (m ((c : Thread nD τ).loc main_arg1)) 512 1536 (by norm_num))) := by
  refine (dats m 0 c).arrAt_eq_of_covers 3 _ (by decide +kernel) fun t hf y => ?_
  have hN : cfg0.N = 6 := N_0
  have ht : t.val < 6 := lt_of_lt_of_eq t.isLt N_0
  obtain ⟨-, -, -, e3⟩ := idx t
  blk_simp
  rw [after0_3]
  refine nt_run (J := 3) (fun u h => outsAt0 m c u h) (fun t => iblk m c 2 t) (fun t => iblk m c 0 t) (fun t => iblk m c 1 t) _ _ _
    (fun t h y => by rw [outsAt0_A m c t h (by omega)]; frame_out; exact Cert.Dh3Ideal.Product.first _ _ _ _)
    (fun t h y => by rw [outsAt0_B m c t h (by omega)]; frame_out; exact Cert.Dh3Ideal.Product.later _ _ _ _)
    t ((flush0_3 t).mp hf) y _ rfl ?_ (fun s l hl => ?_) (fun s l hl => ?_)
  · obtain ⟨-, -, e2, -⟩ := idx ⟨3 * (t.val / 3), by omega⟩
    blk_simp [iblk]
    exact (congrFun (V_main_arg2 m c) _).trans (congrArg (m ((c : Thread nD τ).loc main_arg2)) (by blk_ext [e2, e3]))
  · obtain ⟨e0, -⟩ := idx ⟨3 * (t.val / 3) + s.val, by omega⟩
    blk_simp [iblk]
    exact (congrFun (V_main_arg0 m c) _).trans (congrArg (m ((c : Thread nD τ).loc main_arg0)) (by blk_ext [e0, e3, ix2]))
  · obtain ⟨-, e1, -⟩ := idx ⟨3 * (t.val / 3) + s.val, by omega⟩
    blk_simp [iblk]
    exact (congrFun (V_main_arg1 m c) _).trans (congrArg (m ((c : Thread nD τ).loc main_arg1)) (by blk_ext [e1, e3, ix2]))

end Cert.Dh1Ideal.Product

namespace Cert.Dh1RefIdeal.Product

open Cert.Dh1RefIdeal Cert.Dh1RefIdeal.Read

/-- The reference's sum is what was to be added to and the whole product. -/
theorem ref (x0 : FVec Ideal S2048x1536 .bf16) (x1 : FVec Ideal S1024x7168 .bf16) (x2 : FVec Ideal S2048x1024 .f32) :
    val_main_v4 (F := Ideal) x0 x1 x2 = onto (n := 2048) (w := 1024) x2 (nt (n := 2048) (k := 1536) (w := 1024) x0
      (cols (n := 1024) (v := 7168) x1 512 1536 (by norm_num))) := by
  funext y
  rw [val_main_v4_apply, val_main_v3_apply]
  refine congrArg (HAdd.hAdd (α := EReal) (β := EReal) (γ := EReal) (x2 y)) (Finset.sum_congr rfl fun k _ => ?_)
  rw [val_main_v1_apply]
  exact congrArg₂ (HMul.hMul (α := EReal) (β := EReal) (γ := EReal)) (congrArg x0 (by blk_ext [ix2])) (congrArg x1 (by blk_ext [ix2]))

/-- The reference leaves its arguments, and has no semaphore. -/
theorem frame : Cert.quiescent_Dh1RefIdeal (hDh1RefIdeal := Gen.facts) := fun m g _ =>
  (θ_run _ _ _).mono (fun r h => ⟨fun c => (h c).2, sem_eq_zero_of_no_sems (by decide) r.2⟩) (Value.run (F := Ideal) m g)

/-- The kernel's sum is the reference's. -/
theorem algebraic : Cert.algebraic_Dh1Ideal_Dh1RefIdeal (hDh1Ideal := Cert.Dh1Ideal.Gen.facts) (hDh1RefIdeal := Gen.facts) :=
  fun m g m' g' _ hargs => ⟨fun c => _,
    (θ_run _ _ _).mono (fun r h c => ⟨(h c).1.trans (Cert.Dh1Ideal.Product.arr m c), (h c).2⟩) (Cert.Dh1Ideal.Value.run_blocks (F := Ideal) m g),
    (θ_run _ _ _).mono (fun r h c => ⟨(h c).1.trans ((val_main_v4_eq _ _ _).trans
      (by rw [(hargs c).1, (hargs c).2.1, (hargs c).2.2]; exact ref _ _ _)), (h c).2⟩) (Value.run (F := Ideal) m' g')⟩

end Cert.Dh1RefIdeal.Product

/-! ## The latent's columns: one step, and nothing to add to -/

namespace Cert.Dh0Ideal.Product

open Cert.Dh0Ideal Cert.Dh0Ideal.Gen

/-- The blocks' indices. -/
theorem idx : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

variable (m : (ℓ : Loc nD τ sig) → Buf (Elt Ideal) ℓ)

/-- The array after the run is the whole product. -/
theorem arr (c : Dev nD) : (dats m 0 c).arrAt 2 cfg0.N = nt (n := 2048) (k := 512) (w := 1024) (m ((c : Thread nD τ).loc main_arg0))
    (cols (n := 1024) (v := 7168) (m ((c : Thread nD τ).loc main_arg1)) 0 512 (by norm_num)) := by
  refine (dats m 0 c).arrAt_eq_of_covers 2 _ (by decide +kernel) fun t _ y => ?_
  have ht : t.val < 2 := lt_of_lt_of_eq t.isLt N_0
  obtain ⟨e0, e1, e2⟩ := idx t
  blk_simp
  rw [after0_2]
  unfold outsAt0
  frame_out
  refine (Cert.Dh3Ideal.Product.prod _ _ _).trans (nt_congr _ _ _ _ _ _ (fun l => ?_) (fun l => ?_)) <;> blk_simp [iblk]
  · exact (congrFun (V_main_arg0 m c) _).trans (congrArg (m ((c : Thread nD τ).loc main_arg0)) (by blk_ext [e0, e2, ix2]))
  · exact (congrFun (V_main_arg1 m c) _).trans (congrArg (m ((c : Thread nD τ).loc main_arg1)) (by blk_ext [e1, e2, ix2]))

end Cert.Dh0Ideal.Product

namespace Cert.Dh0RefIdeal.Product

open Cert.Dh0RefIdeal Cert.Dh0RefIdeal.Read

/-- The reference's product is the whole product. -/
theorem ref (x0 : FVec Ideal S2048x512 .bf16) (x1 : FVec Ideal S1024x7168 .bf16) :
    val_main_v3 (F := Ideal) x0 x1 = nt (n := 2048) (k := 512) (w := 1024) x0
      (cols (n := 1024) (v := 7168) x1 0 512 (by norm_num)) := by
  funext y
  rw [val_main_v3_apply]
  refine Finset.sum_congr rfl fun k _ => ?_
  rw [val_main_v1_apply]
  exact congrArg₂ (HMul.hMul (α := EReal) (β := EReal) (γ := EReal)) (congrArg x0 (by blk_ext [ix2])) (congrArg x1 (by blk_ext [ix2]))

/-- The reference leaves its arguments, and has no semaphore. -/
theorem frame : Cert.quiescent_Dh0RefIdeal (hDh0RefIdeal := Gen.facts) := fun m g _ =>
  (θ_run _ _ _).mono (fun r h => ⟨fun c => (h c).2, sem_eq_zero_of_no_sems (by decide) r.2⟩) (Value.run (F := Ideal) m g)

/-- The kernel's product is the reference's. -/
theorem algebraic : Cert.algebraic_Dh0Ideal_Dh0RefIdeal (hDh0Ideal := Cert.Dh0Ideal.Gen.facts) (hDh0RefIdeal := Gen.facts) :=
  fun m g m' g' _ hargs => ⟨fun c => _,
    (θ_run _ _ _).mono (fun r h c => ⟨(h c).1.trans (Cert.Dh0Ideal.Product.arr m c), (h c).2⟩) (Cert.Dh0Ideal.Value.run_blocks (F := Ideal) m g),
    (θ_run _ _ _).mono (fun r h c => ⟨(h c).1.trans ((val_main_v3_eq _ _).trans (by rw [(hargs c).1, (hargs c).2]; exact ref _ _)), (h c).2⟩)
      (Value.run (F := Ideal) m' g')⟩

end Cert.Dh0RefIdeal.Product

/-! ## The state space's columns, whose cotangent is float32: one step -/

namespace Cert.Dh2Ideal.Product

open Cert.Dh2Ideal Cert.Dh2Ideal.Gen

/-- The blocks' indices. -/
theorem idx : ∀ t : Fin cfg0.N, win0_0.index t = ![t.val, 0] ∧ win0_1.index t = ![0, 4] ∧ win0_2.index t = ![t.val, 0]
    ∧ win0_3.index t = ![t.val, 0] :=
  (by decide +kernel : ∀ t : Fin grid0.N, win0_0.index t = ![t.val, 0] ∧ win0_1.index t = ![0, 4] ∧ win0_2.index t = ![t.val, 0]
    ∧ win0_3.index t = ![t.val, 0])

variable (m : (ℓ : Loc nD τ sig) → Buf (Elt Ideal) ℓ)

/-- The array after the run is what was to be added to and the whole product. -/
theorem arr (c : Dev nD) : (dats m 0 c).arrAt 3 cfg0.N = onto (n := 2048) (w := 1024) (m ((c : Thread nD τ).loc main_arg2))
    (nt (n := 2048) (k := 512) (w := 1024) (m ((c : Thread nD τ).loc main_arg0))
      (cols (n := 1024) (v := 7168) (m ((c : Thread nD τ).loc main_arg1)) 2048 512 (by norm_num))) := by
  refine (dats m 0 c).arrAt_eq_of_covers 3 _ (by decide +kernel) fun t _ y => ?_
  have ht : t.val < 2 := lt_of_lt_of_eq t.isLt N_0
  obtain ⟨e0, e1, e2, e3⟩ := idx t
  blk_simp
  rw [after0_3]
  unfold outsAt0
  frame_out
  refine (Cert.Dh3Ideal.Product.first _ _ _ _).trans ((add_comm _ _).trans (congrArg₂ (HAdd.hAdd (α := EReal) (β := EReal) (γ := EReal)) ?_
    (nt_congr _ _ _ _ _ _ (fun l => ?_) (fun l => ?_)))) <;> blk_simp [iblk]
  · exact (congrFun (V_main_arg2 m c) _).trans (congrArg (m ((c : Thread nD τ).loc main_arg2)) (by blk_ext [e2, e3]))
  · exact (congrFun (V_main_arg0 m c) _).trans (congrArg (m ((c : Thread nD τ).loc main_arg0)) (by blk_ext [e0, e3, ix2]))
  · exact (congrFun (V_main_arg1 m c) _).trans (congrArg (m ((c : Thread nD τ).loc main_arg1)) (by blk_ext [e1, e3, ix2]))

end Cert.Dh2Ideal.Product

namespace Cert.Dh2RefIdeal.Product

open Cert.Dh2RefIdeal Cert.Dh2RefIdeal.Read

/-- The reference's sum is what was to be added to and the whole product. -/
theorem ref (x0 : FVec Ideal S2048x512 .f32) (x1 : FVec Ideal S1024x7168 .bf16) (x2 : FVec Ideal S2048x1024 .f32) :
    val_main_v3 (F := Ideal) x0 x1 x2 = onto (n := 2048) (w := 1024) x2 (nt (n := 2048) (k := 512) (w := 1024) x0
      (cols (n := 1024) (v := 7168) x1 2048 512 (by norm_num))) := by
  funext y
  rw [val_main_v3_apply, val_main_v2_apply]
  refine congrArg (HAdd.hAdd (α := EReal) (β := EReal) (γ := EReal) (x2 y)) (Finset.sum_congr rfl fun k _ => ?_)
  rw [val_main_v1_apply]
  exact congrArg₂ (HMul.hMul (α := EReal) (β := EReal) (γ := EReal)) (congrArg x0 (by blk_ext [ix2])) (congrArg x1 (by blk_ext [ix2]))

/-- The reference leaves its arguments, and has no semaphore. -/
theorem frame : Cert.quiescent_Dh2RefIdeal (hDh2RefIdeal := Gen.facts) := fun m g _ =>
  (θ_run _ _ _).mono (fun r h => ⟨fun c => (h c).2, sem_eq_zero_of_no_sems (by decide) r.2⟩) (Value.run (F := Ideal) m g)

/-- The kernel's sum is the reference's. -/
theorem algebraic : Cert.algebraic_Dh2Ideal_Dh2RefIdeal (hDh2Ideal := Cert.Dh2Ideal.Gen.facts) (hDh2RefIdeal := Gen.facts) :=
  fun m g m' g' _ hargs => ⟨fun c => _,
    (θ_run _ _ _).mono (fun r h c => ⟨(h c).1.trans (Cert.Dh2Ideal.Product.arr m c), (h c).2⟩) (Cert.Dh2Ideal.Value.run_blocks (F := Ideal) m g),
    (θ_run _ _ _).mono (fun r h c => ⟨(h c).1.trans ((val_main_v3_eq _ _ _).trans
      (by rw [(hargs c).1, (hargs c).2.1, (hargs c).2.2]; exact ref _ _ _)), (h c).2⟩) (Value.run (F := Ideal) m' g')⟩

end Cert.Dh2RefIdeal.Product

end
-- ==== Proof.Proj.lean ====
module

public import proofs.«01_k».proof.Defs
public import proofs.«01_k».proof.Proof.Products
public import proofs.«01_k».proof.Proof.Gen.Proj3Ideal.Value
public import proofs.«01_k».proof.Proof.Gen.Proj3RefIdeal.Read
public import proofs.«01_k».proof.Proof.Gen.Proj3RefIdeal.Run
public import proofs.«01_k».proof.Proof.Gen.Proj1Ideal.Value
public import proofs.«01_k».proof.Proof.Gen.Proj1RefIdeal.Read
public import proofs.«01_k».proof.Proof.Gen.Proj1RefIdeal.Run
public import proofs.«01_k».proof.Proof.Gen.Proj0Ideal.Value
public import proofs.«01_k».proof.Proof.Gen.Proj0RefIdeal.Read
public import proofs.«01_k».proof.Proof.Gen.Proj0RefIdeal.Run
public import proofs.«01_k».proof.Proof.Gen.Proj2Ideal.Value
public import proofs.«01_k».proof.Proof.Gen.Proj2RefIdeal.Read
public import proofs.«01_k».proof.Proof.Gen.Proj2RefIdeal.Run
public import Idealize.ShloMosaic.Lib.IdealHost
public import Idealize.ShloMosaic.Adequacy
public import Idealize.ShloMosaic.Init

/-!
# The projections, `h · w`

Four calls, one for each segment of the columns.  A call goes over two row blocks and over column blocks of 512, and
computes each block in one step.  What a step computes is the same term in all four, so it is read once.
-/

@[expose] public section

set_option maxRecDepth 16384

noncomputable section

open Idealize.ShloMosaic Idealize.ShloMosaic.TcCoe Idealize.SL.Sem Product

/-! ## The gates' columns: nine column blocks -/

namespace Cert.Proj3Ideal.Product

open Cert.Proj3Ideal Cert.Proj3Ideal.Gen

/-- One block's product. -/
theorem prod (x0 : FVec Ideal S1024x1024 .bf16) (x1 : FVec Ideal S1024x512 .bf16) (y : S1024x512.Idx) :
    k0_pay1 (F := Ideal) x0 x1 y = nn (n := 1024) (k := 1024) (w := 512) x0 x1 y := by
  idx_vars y
  pointwise [k0_pay1]
  rfl

/-- The blocks' indices. -/
theorem idx : ∀ t : Fin cfg0.N, win0_0.index t = ![t.val / 9, 0] ∧ win0_1.index t = ![0, t.val % 9 + 5]
    ∧ win0_2.index t = ![t.val / 9, t.val % 9] :=
  (by decide +kernel : ∀ t : Fin grid0.N, win0_0.index t = ![t.val / 9, 0] ∧ win0_1.index t = ![0, t.val % 9 + 5]
    ∧ win0_2.index t = ![t.val / 9, t.val % 9])

variable (m : (ℓ : Loc nD τ sig) → Buf (Elt Ideal) ℓ)

/-- The array after the run is the whole product. -/
theorem arr (c : Dev nD) : (dats m 0 c).arrAt 2 cfg0.N = nn (n := 2048) (k := 1024) (w := 4608) (m ((c : Thread nD τ).loc main_arg0))
    (cols (n := 1024) (v := 7168) (m ((c : Thread nD τ).loc main_arg1)) 2560 4608 (by norm_num)) := by
  refine (dats m 0 c).arrAt_eq_of_covers 2 _ (by decide +kernel) fun t _ y => ?_
  have ht : t.val < 18 := lt_of_lt_of_eq t.isLt N_0
  obtain ⟨e0, e1, e2⟩ := idx t
  blk_simp
  rw [after0_2]
  unfold outsAt0
  frame_out
  refine (prod _ _ _).trans (nn_congr _ _ _ _ _ _ (fun l => ?_) (fun l => ?_)) <;> blk_simp [iblk]
  · exact (congrFun (V_main_arg0 m c) _).trans (congrArg (m ((c : Thread nD τ).loc main_arg0)) (by blk_ext [e0, e2, ix2]))
  · exact (congrFun (V_main_arg1 m c) _).trans (congrArg (m ((c : Thread nD τ).loc main_arg1)) (by blk_ext [e1, e2, ix2]))

end Cert.Proj3Ideal.Product

namespace Cert.Proj3RefIdeal.Product

open Cert.Proj3RefIdeal Cert.Proj3RefIdeal.Read

/-- The reference's product is the whole product. -/
theorem ref (x0 : FVec Ideal S2048x1024 .bf16) (x1 : FVec Ideal S1024x7168 .bf16) :
    val_main_v3 (F := Ideal) x0 x1 = nn (n := 2048) (k := 1024) (w := 4608) x0
      (cols (n := 1024) (v := 7168) x1 2560 4608 (by norm_num)) := by
  funext y
  rw [val_main_v3_apply]
  refine Finset.sum_congr rfl fun k _ => ?_
  rw [val_main_v2_apply]
  exact congrArg₂ (HMul.hMul (α := EReal) (β := EReal) (γ := EReal)) (congrArg x0 (by blk_ext [ix2])) (congrArg x1 (by blk_ext [ix2]))

/-- The reference leaves its arguments, and has no semaphore. -/
theorem frame : Cert.quiescent_Proj3RefIdeal (hProj3RefIdeal := Gen.facts) := fun m g _ =>
  (θ_run _ _ _).mono (fun r h => ⟨fun c => (h c).2, sem_eq_zero_of_no_sems (by decide) r.2⟩) (Value.run (F := Ideal) m g)

/-- The kernel's product is the reference's. -/
theorem algebraic : Cert.algebraic_Proj3Ideal_Proj3RefIdeal (hProj3Ideal := Cert.Proj3Ideal.Gen.facts) (hProj3RefIdeal := Gen.facts) :=
  fun m g m' g' _ hargs => ⟨fun c => _,
    (θ_run _ _ _).mono (fun r h c => ⟨(h c).1.trans (Cert.Proj3Ideal.Product.arr m c), (h c).2⟩) (Cert.Proj3Ideal.Value.run_blocks (F := Ideal) m g),
    (θ_run _ _ _).mono (fun r h c => ⟨(h c).1.trans ((val_main_v3_eq _ _).trans (by rw [(hargs c).1, (hargs c).2]; exact ref _ _)), (h c).2⟩)
      (Value.run (F := Ideal) m' g')⟩

end Cert.Proj3RefIdeal.Product

/-! ## The heads' columns: three column blocks -/

namespace Cert.Proj1Ideal.Product

open Cert.Proj1Ideal Cert.Proj1Ideal.Gen

/-- The blocks' indices. -/
theorem idx : ∀ t : Fin cfg0.N, win0_0.index t = ![t.val / 3, 0] ∧ win0_1.index t = ![0, t.val % 3 + 1]
    ∧ win0_2.index t = ![t.val / 3, t.val % 3] :=
  (by decide +kernel : ∀ t : Fin grid0.N, win0_0.index t = ![t.val / 3, 0] ∧ win0_1.index t = ![0, t.val % 3 + 1]
    ∧ win0_2.index t = ![t.val / 3, t.val % 3])

variable (m : (ℓ : Loc nD τ sig) → Buf (Elt Ideal) ℓ)

/-- The array after the run is the whole product. -/
theorem arr (c : Dev nD) : (dats m 0 c).arrAt 2 cfg0.N = nn (n := 2048) (k := 1024) (w := 1536) (m ((c : Thread nD τ).loc main_arg0))
    (cols (n := 1024) (v := 7168) (m ((c : Thread nD τ).loc main_arg1)) 512 1536 (by norm_num)) := by
  refine (dats m 0 c).arrAt_eq_of_covers 2 _ (by decide +kernel) fun t _ y => ?_
  have ht : t.val < 6 := lt_of_lt_of_eq t.isLt N_0
  obtain ⟨e0, e1, e2⟩ := idx t
  blk_simp
  rw [after0_2]
  unfold outsAt0
  frame_out
  refine (Cert.Proj3Ideal.Product.prod _ _ _).trans (nn_congr _ _ _ _ _ _ (fun l => ?_) (fun l => ?_)) <;> blk_simp [iblk]
  · exact (congrFun (V_main_arg0 m c) _).trans (congrArg (m ((c : Thread nD τ).loc main_arg0)) (by blk_ext [e0, e2, ix2]))
  · exact (congrFun (V_main_arg1 m c) _).trans (congrArg (m ((c : Thread nD τ).loc main_arg1)) (by blk_ext [e1, e2, ix2]))

end Cert.Proj1Ideal.Product

namespace Cert.Proj1RefIdeal.Product

open Cert.Proj1RefIdeal Cert.Proj1RefIdeal.Read

/-- The reference's product is the whole product. -/
theorem ref (x0 : FVec Ideal S2048x1024 .bf16) (x1 : FVec Ideal S1024x7168 .bf16) :
    val_main_v3 (F := Ideal) x0 x1 = nn (n := 2048) (k := 1024) (w := 1536) x0
      (cols (n := 1024) (v := 7168) x1 512 1536 (by norm_num)) := by
  funext y
  rw [val_main_v3_apply]
  refine Finset.sum_congr rfl fun k _ => ?_
  rw [val_main_v2_apply]
  exact congrArg₂ (HMul.hMul (α := EReal) (β := EReal) (γ := EReal)) (congrArg x0 (by blk_ext [ix2])) (congrArg x1 (by blk_ext [ix2]))

/-- The reference leaves its arguments, and has no semaphore. -/
theorem frame : Cert.quiescent_Proj1RefIdeal (hProj1RefIdeal := Gen.facts) := fun m g _ =>
  (θ_run _ _ _).mono (fun r h => ⟨fun c => (h c).2, sem_eq_zero_of_no_sems (by decide) r.2⟩) (Value.run (F := Ideal) m g)

/-- The kernel's product is the reference's. -/
theorem algebraic : Cert.algebraic_Proj1Ideal_Proj1RefIdeal (hProj1Ideal := Cert.Proj1Ideal.Gen.facts) (hProj1RefIdeal := Gen.facts) :=
  fun m g m' g' _ hargs => ⟨fun c => _,
    (θ_run _ _ _).mono (fun r h c => ⟨(h c).1.trans (Cert.Proj1Ideal.Product.arr m c), (h c).2⟩) (Cert.Proj1Ideal.Value.run_blocks (F := Ideal) m g),
    (θ_run _ _ _).mono (fun r h c => ⟨(h c).1.trans ((val_main_v3_eq _ _).trans (by rw [(hargs c).1, (hargs c).2]; exact ref _ _)), (h c).2⟩)
      (Value.run (F := Ideal) m' g')⟩

end Cert.Proj1RefIdeal.Product

/-! ## The latent's columns, of which the last 96 are padding: one column block -/

namespace Cert.Proj0Ideal.Product

open Cert.Proj0Ideal Cert.Proj0Ideal.Gen

/-- The blocks' indices. -/
theorem idx : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

variable (m : (ℓ : Loc nD τ sig) → Buf (Elt Ideal) ℓ)

/-- The array after the run is the whole product. -/
theorem arr (c : Dev nD) : (dats m 0 c).arrAt 2 cfg0.N = nn (n := 2048) (k := 1024) (w := 512) (m ((c : Thread nD τ).loc main_arg0))
    (cols (n := 1024) (v := 7168) (m ((c : Thread nD τ).loc main_arg1)) 0 512 (by norm_num)) := by
  refine (dats m 0 c).arrAt_eq_of_covers 2 _ (by decide +kernel) fun t _ y => ?_
  have ht : t.val < 2 := lt_of_lt_of_eq t.isLt N_0
  obtain ⟨e0, e1, e2⟩ := idx t
  blk_simp
  rw [after0_2]
  unfold outsAt0
  frame_out
  refine (Cert.Proj3Ideal.Product.prod _ _ _).trans (nn_congr _ _ _ _ _ _ (fun l => ?_) (fun l => ?_)) <;> blk_simp [iblk]
  · exact (congrFun (V_main_arg0 m c) _).trans (congrArg (m ((c : Thread nD τ).loc main_arg0)) (by blk_ext [e0, e2, ix2]))
  · exact (congrFun (V_main_arg1 m c) _).trans (congrArg (m ((c : Thread nD τ).loc main_arg1)) (by blk_ext [e1, e2, ix2]))

end Cert.Proj0Ideal.Product

namespace Cert.Proj0RefIdeal.Product

open Cert.Proj0RefIdeal Cert.Proj0RefIdeal.Read

/-- The reference's product is the whole product. -/
theorem ref (x0 : FVec Ideal S2048x1024 .bf16) (x1 : FVec Ideal S1024x7168 .bf16) :
    val_main_v3 (F := Ideal) x0 x1 = nn (n := 2048) (k := 1024) (w := 512) x0
      (cols (n := 1024) (v := 7168) x1 0 512 (by norm_num)) := by
  funext y
  rw [val_main_v3_apply]
  refine Finset.sum_congr rfl fun k _ => ?_
  rw [val_main_v2_apply]
  exact congrArg₂ (HMul.hMul (α := EReal) (β := EReal) (γ := EReal)) (congrArg x0 (by blk_ext [ix2])) (congrArg x1 (by blk_ext [ix2]))

/-- The reference leaves its arguments, and has no semaphore. -/
theorem frame : Cert.quiescent_Proj0RefIdeal (hProj0RefIdeal := Gen.facts) := fun m g _ =>
  (θ_run _ _ _).mono (fun r h => ⟨fun c => (h c).2, sem_eq_zero_of_no_sems (by decide) r.2⟩) (Value.run (F := Ideal) m g)

/-- The kernel's product is the reference's. -/
theorem algebraic : Cert.algebraic_Proj0Ideal_Proj0RefIdeal (hProj0Ideal := Cert.Proj0Ideal.Gen.facts) (hProj0RefIdeal := Gen.facts) :=
  fun m g m' g' _ hargs => ⟨fun c => _,
    (θ_run _ _ _).mono (fun r h c => ⟨(h c).1.trans (Cert.Proj0Ideal.Product.arr m c), (h c).2⟩) (Cert.Proj0Ideal.Value.run_blocks (F := Ideal) m g),
    (θ_run _ _ _).mono (fun r h c => ⟨(h c).1.trans ((val_main_v3_eq _ _).trans (by rw [(hargs c).1, (hargs c).2]; exact ref _ _)), (h c).2⟩)
      (Value.run (F := Ideal) m' g')⟩

end Cert.Proj0RefIdeal.Product

/-! ## The state space's columns: one column block -/

namespace Cert.Proj2Ideal.Product

open Cert.Proj2Ideal Cert.Proj2Ideal.Gen

/-- The blocks' indices. -/
theorem idx : ∀ t : Fin cfg0.N, win0_0.index t = ![t.val, 0] ∧ win0_1.index t = ![0, 4] ∧ win0_2.index t = ![t.val, 0] :=
  (by decide +kernel : ∀ t : Fin grid0.N, win0_0.index t = ![t.val, 0] ∧ win0_1.index t = ![0, 4] ∧ win0_2.index t = ![t.val, 0])

variable (m : (ℓ : Loc nD τ sig) → Buf (Elt Ideal) ℓ)

/-- The array after the run is the whole product. -/
theorem arr (c : Dev nD) : (dats m 0 c).arrAt 2 cfg0.N = nn (n := 2048) (k := 1024) (w := 512) (m ((c : Thread nD τ).loc main_arg0))
    (cols (n := 1024) (v := 7168) (m ((c : Thread nD τ).loc main_arg1)) 2048 512 (by norm_num)) := by
  refine (dats m 0 c).arrAt_eq_of_covers 2 _ (by decide +kernel) fun t _ y => ?_
  have ht : t.val < 2 := lt_of_lt_of_eq t.isLt N_0
  obtain ⟨e0, e1, e2⟩ := idx t
  blk_simp
  rw [after0_2]
  unfold outsAt0
  frame_out
  refine (Cert.Proj3Ideal.Product.prod _ _ _).trans (nn_congr _ _ _ _ _ _ (fun l => ?_) (fun l => ?_)) <;> blk_simp [iblk]
  · exact (congrFun (V_main_arg0 m c) _).trans (congrArg (m ((c : Thread nD τ).loc main_arg0)) (by blk_ext [e0, e2, ix2]))
  · exact (congrFun (V_main_arg1 m c) _).trans (congrArg (m ((c : Thread nD τ).loc main_arg1)) (by blk_ext [e1, e2, ix2]))

end Cert.Proj2Ideal.Product

namespace Cert.Proj2RefIdeal.Product

open Cert.Proj2RefIdeal Cert.Proj2RefIdeal.Read

/-- The reference's product is the whole product. -/
theorem ref (x0 : FVec Ideal S2048x1024 .bf16) (x1 : FVec Ideal S1024x7168 .bf16) :
    val_main_v3 (F := Ideal) x0 x1 = nn (n := 2048) (k := 1024) (w := 512) x0
      (cols (n := 1024) (v := 7168) x1 2048 512 (by norm_num)) := by
  funext y
  rw [val_main_v3_apply]
  refine Finset.sum_congr rfl fun k _ => ?_
  rw [val_main_v2_apply]
  exact congrArg₂ (HMul.hMul (α := EReal) (β := EReal) (γ := EReal)) (congrArg x0 (by blk_ext [ix2])) (congrArg x1 (by blk_ext [ix2]))

/-- The reference leaves its arguments, and has no semaphore. -/
theorem frame : Cert.quiescent_Proj2RefIdeal (hProj2RefIdeal := Gen.facts) := fun m g _ =>
  (θ_run _ _ _).mono (fun r h => ⟨fun c => (h c).2, sem_eq_zero_of_no_sems (by decide) r.2⟩) (Value.run (F := Ideal) m g)

/-- The kernel's product is the reference's. -/
theorem algebraic : Cert.algebraic_Proj2Ideal_Proj2RefIdeal (hProj2Ideal := Cert.Proj2Ideal.Gen.facts) (hProj2RefIdeal := Gen.facts) :=
  fun m g m' g' _ hargs => ⟨fun c => _,
    (θ_run _ _ _).mono (fun r h c => ⟨(h c).1.trans (Cert.Proj2Ideal.Product.arr m c), (h c).2⟩) (Cert.Proj2Ideal.Value.run_blocks (F := Ideal) m g),
    (θ_run _ _ _).mono (fun r h c => ⟨(h c).1.trans ((val_main_v3_eq _ _).trans (by rw [(hargs c).1, (hargs c).2]; exact ref _ _)), (h c).2⟩)
      (Value.run (F := Ideal) m' g')⟩

end Cert.Proj2RefIdeal.Product

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Dwin3
public import proofs.«01_k».proof.Proof.Gen.Dwin3.Skeleton
public import proofs.«01_k».proof.Proof.Gen.Dwin3.Launch
public import proofs.«01_k».proof.Proof.Gen.Dwin3.Points
public import proofs.«01_k».proof.Proof.Gen.Dwin3.Frame
public import proofs.«01_k».proof.Proof.Gen.Dwin3Ideal
public import proofs.«01_k».proof.Proof.Gen.Dwin3Ideal.Skeleton
public import proofs.«01_k».proof.Proof.Gen.Dwin3Ideal.Launch
public import proofs.«01_k».proof.Proof.Gen.Dwin3Ideal.Points
public import proofs.«01_k».proof.Proof.Gen.Dwin3Ideal.Frame
public import proofs.«01_k».proof.Proof.Gen.Dwin3Ideal.Value
public import proofs.«01_k».proof.Proof.Gen.Dwin3RefIdeal.Run
public import proofs.«01_k».proof.Proof.Gen.Dwin3RefIdeal.Read
public import proofs.«01_k».proof.Proof.Gen.Dwin3RefIdeal
public import proofs.«01_k».proof.Proof.Gen.Dwin1
public import proofs.«01_k».proof.Proof.Gen.Dwin1.Skeleton
public import proofs.«01_k».proof.Proof.Gen.Dwin1.Launch
public import proofs.«01_k».proof.Proof.Gen.Dwin1.Points
public import proofs.«01_k».proof.Proof.Gen.Dwin1.Frame
public import proofs.«01_k».proof.Proof.Gen.Dwin1Ideal
public import proofs.«01_k».proof.Proof.Gen.Dwin1Ideal.Skeleton
public import proofs.«01_k».proof.Proof.Gen.Dwin1Ideal.Launch
public import proofs.«01_k».proof.Proof.Gen.Dwin1Ideal.Points
public import proofs.«01_k».proof.Proof.Gen.Dwin1Ideal.Frame
public import proofs.«01_k».proof.Proof.Gen.Dwin1Ideal.Value
public import proofs.«01_k».proof.Proof.Gen.Dwin1RefIdeal.Run
public import proofs.«01_k».proof.Proof.Gen.Dwin1RefIdeal.Read
public import proofs.«01_k».proof.Proof.Gen.Dwin1RefIdeal
public import proofs.«01_k».proof.Proof.Gen.Dwin0
public import proofs.«01_k».proof.Proof.Gen.Dwin0.Skeleton
public import proofs.«01_k».proof.Proof.Gen.Dwin0.Launch
public import proofs.«01_k».proof.Proof.Gen.Dwin0.Points
public import proofs.«01_k».proof.Proof.Gen.Dwin0.Frame
public import proofs.«01_k».proof.Proof.Gen.Dwin0Ideal
public import proofs.«01_k».proof.Proof.Gen.Dwin0Ideal.Skeleton
public import proofs.«01_k».proof.Proof.Gen.Dwin0Ideal.Launch
public import proofs.«01_k».proof.Proof.Gen.Dwin0Ideal.Points
public import proofs.«01_k».proof.Proof.Gen.Dwin0Ideal.Frame
public import proofs.«01_k».proof.Proof.Gen.Dwin0Ideal.Value
public import proofs.«01_k».proof.Proof.Gen.Dwin0RefIdeal.Run
public import proofs.«01_k».proof.Proof.Gen.Dwin0RefIdeal.Read
public import proofs.«01_k».proof.Proof.Gen.Dwin0RefIdeal
public import proofs.«01_k».proof.Proof.Gen.Dwin2
public import proofs.«01_k».proof.Proof.Gen.Dwin2.Skeleton
public import proofs.«01_k».proof.Proof.Gen.Dwin2.Launch
public import proofs.«01_k».proof.Proof.Gen.Dwin2.Points
public import proofs.«01_k».proof.Proof.Gen.Dwin2.Frame
public import proofs.«01_k».proof.Proof.Gen.Dwin2Ideal
public import proofs.«01_k».proof.Proof.Gen.Dwin2Ideal.Skeleton
public import proofs.«01_k».proof.Proof.Gen.Dwin2Ideal.Launch
public import proofs.«01_k».proof.Proof.Gen.Dwin2Ideal.Points
public import proofs.«01_k».proof.Proof.Gen.Dwin2Ideal.Frame
public import proofs.«01_k».proof.Proof.Gen.Dwin2Ideal.Value
public import proofs.«01_k».proof.Proof.Gen.Dwin2RefIdeal.Run
public import proofs.«01_k».proof.Proof.Gen.Dwin2RefIdeal.Read
public import proofs.«01_k».proof.Proof.Gen.Dwin2RefIdeal
public import proofs.«01_k».proof.Proof.Gen.Dh3
public import proofs.«01_k».proof.Proof.Gen.Dh3.Skeleton
public import proofs.«01_k».proof.Proof.Gen.Dh3.Launch
public import proofs.«01_k».proof.Proof.Gen.Dh3.Points
public import proofs.«01_k».proof.Proof.Gen.Dh3.Frame
public import proofs.«01_k».proof.Proof.Gen.Dh3Ideal
public import proofs.«01_k».proof.Proof.Gen.Dh3Ideal.Skeleton
public import proofs.«01_k».proof.Proof.Gen.Dh3Ideal.Launch
public import proofs.«01_k».proof.Proof.Gen.Dh3Ideal.Points
public import proofs.«01_k».proof.Proof.Gen.Dh3Ideal.Frame
public import proofs.«01_k».proof.Proof.Gen.Dh3Ideal.Value
public import proofs.«01_k».proof.Proof.Gen.Dh3RefIdeal.Run
public import proofs.«01_k».proof.Proof.Gen.Dh3RefIdeal.Read
public import proofs.«01_k».proof.Proof.Gen.Dh3RefIdeal
public import proofs.«01_k».proof.Proof.Gen.Dh1
public import proofs.«01_k».proof.Proof.Gen.Dh1.Skeleton
public import proofs.«01_k».proof.Proof.Gen.Dh1.Launch
public import proofs.«01_k».proof.Proof.Gen.Dh1.Points
public import proofs.«01_k».proof.Proof.Gen.Dh1.Frame
public import proofs.«01_k».proof.Proof.Gen.Dh1Ideal
public import proofs.«01_k».proof.Proof.Gen.Dh1Ideal.Skeleton
public import proofs.«01_k».proof.Proof.Gen.Dh1Ideal.Launch
public import proofs.«01_k».proof.Proof.Gen.Dh1Ideal.Points
public import proofs.«01_k».proof.Proof.Gen.Dh1Ideal.Frame
public import proofs.«01_k».proof.Proof.Gen.Dh1Ideal.Value
public import proofs.«01_k».proof.Proof.Gen.Dh1RefIdeal.Run
public import proofs.«01_k».proof.Proof.Gen.Dh1RefIdeal.Read
public import proofs.«01_k».proof.Proof.Gen.Dh1RefIdeal
public import proofs.«01_k».proof.Proof.Gen.Dh0
public import proofs.«01_k».proof.Proof.Gen.Dh0.Skeleton
public import proofs.«01_k».proof.Proof.Gen.Dh0.Launch
public import proofs.«01_k».proof.Proof.Gen.Dh0.Points
public import proofs.«01_k».proof.Proof.Gen.Dh0.Frame
public import proofs.«01_k».proof.Proof.Gen.Dh0Ideal
public import proofs.«01_k».proof.Proof.Gen.Dh0Ideal.Skeleton
public import proofs.«01_k».proof.Proof.Gen.Dh0Ideal.Launch
public import proofs.«01_k».proof.Proof.Gen.Dh0Ideal.Points
public import proofs.«01_k».proof.Proof.Gen.Dh0Ideal.Frame
public import proofs.«01_k».proof.Proof.Gen.Dh0Ideal.Value
public import proofs.«01_k».proof.Proof.Gen.Dh0RefIdeal.Run
public import proofs.«01_k».proof.Proof.Gen.Dh0RefIdeal.Read
public import proofs.«01_k».proof.Proof.Gen.Dh0RefIdeal
public import proofs.«01_k».proof.Proof.Gen.Dh2
public import proofs.«01_k».proof.Proof.Gen.Dh2.Skeleton
public import proofs.«01_k».proof.Proof.Gen.Dh2.Launch
public import proofs.«01_k».proof.Proof.Gen.Dh2.Points
public import proofs.«01_k».proof.Proof.Gen.Dh2.Frame
public import proofs.«01_k».proof.Proof.Gen.Dh2Ideal
public import proofs.«01_k».proof.Proof.Gen.Dh2Ideal.Skeleton
public import proofs.«01_k».proof.Proof.Gen.Dh2Ideal.Launch
public import proofs.«01_k».proof.Proof.Gen.Dh2Ideal.Points
public import proofs.«01_k».proof.Proof.Gen.Dh2Ideal.Frame
public import proofs.«01_k».proof.Proof.Gen.Dh2Ideal.Value
public import proofs.«01_k».proof.Proof.Gen.Dh2RefIdeal.Run
public import proofs.«01_k».proof.Proof.Gen.Dh2RefIdeal.Read
public import proofs.«01_k».proof.Proof.Gen.Dh2RefIdeal
public import proofs.«01_k».proof.Proof.Gen.Proj3
public import proofs.«01_k».proof.Proof.Gen.Proj3.Skeleton
public import proofs.«01_k».proof.Proof.Gen.Proj3.Launch
public import proofs.«01_k».proof.Proof.Gen.Proj3.Points
public import proofs.«01_k».proof.Proof.Gen.Proj3.Frame
public import proofs.«01_k».proof.Proof.Gen.Proj3Ideal
public import proofs.«01_k».proof.Proof.Gen.Proj3Ideal.Skeleton
public import proofs.«01_k».proof.Proof.Gen.Proj3Ideal.Launch
public import proofs.«01_k».proof.Proof.Gen.Proj3Ideal.Points
public import proofs.«01_k».proof.Proof.Gen.Proj3Ideal.Frame
public import proofs.«01_k».proof.Proof.Gen.Proj3Ideal.Value
public import proofs.«01_k».proof.Proof.Gen.Proj3RefIdeal.Run
public import proofs.«01_k».proof.Proof.Gen.Proj3RefIdeal.Read
public import proofs.«01_k».proof.Proof.Gen.Proj3RefIdeal
public import proofs.«01_k».proof.Proof.Gen.Proj1
public import proofs.«01_k».proof.Proof.Gen.Proj1.Skeleton
public import proofs.«01_k».proof.Proof.Gen.Proj1.Launch
public import proofs.«01_k».proof.Proof.Gen.Proj1.Points
public import proofs.«01_k».proof.Proof.Gen.Proj1.Frame
public import proofs.«01_k».proof.Proof.Gen.Proj1Ideal
public import proofs.«01_k».proof.Proof.Gen.Proj1Ideal.Skeleton
public import proofs.«01_k».proof.Proof.Gen.Proj1Ideal.Launch
public import proofs.«01_k».proof.Proof.Gen.Proj1Ideal.Points
public import proofs.«01_k».proof.Proof.Gen.Proj1Ideal.Frame
public import proofs.«01_k».proof.Proof.Gen.Proj1Ideal.Value
public import proofs.«01_k».proof.Proof.Gen.Proj1RefIdeal.Run
public import proofs.«01_k».proof.Proof.Gen.Proj1RefIdeal.Read
public import proofs.«01_k».proof.Proof.Gen.Proj1RefIdeal
public import proofs.«01_k».proof.Proof.Gen.Proj0
public import proofs.«01_k».proof.Proof.Gen.Proj0.Skeleton
public import proofs.«01_k».proof.Proof.Gen.Proj0.Launch
public import proofs.«01_k».proof.Proof.Gen.Proj0.Points
public import proofs.«01_k».proof.Proof.Gen.Proj0.Frame
public import proofs.«01_k».proof.Proof.Gen.Proj0Ideal
public import proofs.«01_k».proof.Proof.Gen.Proj0Ideal.Skeleton
public import proofs.«01_k».proof.Proof.Gen.Proj0Ideal.Launch
public import proofs.«01_k».proof.Proof.Gen.Proj0Ideal.Points
public import proofs.«01_k».proof.Proof.Gen.Proj0Ideal.Frame
public import proofs.«01_k».proof.Proof.Gen.Proj0Ideal.Value
public import proofs.«01_k».proof.Proof.Gen.Proj0RefIdeal.Run
public import proofs.«01_k».proof.Proof.Gen.Proj0RefIdeal.Read
public import proofs.«01_k».proof.Proof.Gen.Proj0RefIdeal
public import proofs.«01_k».proof.Proof.Gen.Proj2
public import proofs.«01_k».proof.Proof.Gen.Proj2.Skeleton
public import proofs.«01_k».proof.Proof.Gen.Proj2.Launch
public import proofs.«01_k».proof.Proof.Gen.Proj2.Points
public import proofs.«01_k».proof.Proof.Gen.Proj2.Frame
public import proofs.«01_k».proof.Proof.Gen.Proj2Ideal
public import proofs.«01_k».proof.Proof.Gen.Proj2Ideal.Skeleton
public import proofs.«01_k».proof.Proof.Gen.Proj2Ideal.Launch
public import proofs.«01_k».proof.Proof.Gen.Proj2Ideal.Points
public import proofs.«01_k».proof.Proof.Gen.Proj2Ideal.Frame
public import proofs.«01_k».proof.Proof.Gen.Proj2Ideal.Value
public import proofs.«01_k».proof.Proof.Gen.Proj2RefIdeal.Run
public import proofs.«01_k».proof.Proof.Gen.Proj2RefIdeal.Read
public import proofs.«01_k».proof.Proof.Gen.Proj2RefIdeal
public import proofs.«01_k».proof.Proof.Gen.NormBwd
public import proofs.«01_k».proof.Proof.Gen.NormBwd.Skeleton
public import proofs.«01_k».proof.Proof.Gen.NormBwd.Launch
public import proofs.«01_k».proof.Proof.Gen.NormBwd.Points
public import proofs.«01_k».proof.Proof.Gen.NormBwd.Frame
public import proofs.«01_k».proof.Proof.Gen.NormBwdIdeal
public import proofs.«01_k».proof.Proof.Gen.NormBwdIdeal.Skeleton
public import proofs.«01_k».proof.Proof.Gen.NormBwdIdeal.Launch
public import proofs.«01_k».proof.Proof.Gen.NormBwdIdeal.Points
public import proofs.«01_k».proof.Proof.Gen.NormBwdIdeal.Frame
public import proofs.«01_k».proof.Proof.Gen.NormBwdIdeal.Value
public import proofs.«01_k».proof.Proof.Gen.NormBwdRefIdeal.Run
public import proofs.«01_k».proof.Proof.Gen.NormBwdRefIdeal.Read
public import proofs.«01_k».proof.Proof.Gen.NormBwdRefIdeal
public import proofs.«01_k».proof.Proof.Gen.NormFwd
public import proofs.«01_k».proof.Proof.Gen.NormFwd.Skeleton
public import proofs.«01_k».proof.Proof.Gen.NormFwd.Launch
public import proofs.«01_k».proof.Proof.Gen.NormFwd.Points
public import proofs.«01_k».proof.Proof.Gen.NormFwd.Frame
public import proofs.«01_k».proof.Proof.Gen.NormFwdIdeal
public import proofs.«01_k».proof.Proof.Gen.NormFwdIdeal.Skeleton
public import proofs.«01_k».proof.Proof.Gen.NormFwdIdeal.Launch
public import proofs.«01_k».proof.Proof.Gen.NormFwdIdeal.Points
public import proofs.«01_k».proof.Proof.Gen.NormFwdIdeal.Frame
public import proofs.«01_k».proof.Proof.Gen.NormFwdIdeal.Value
public import proofs.«01_k».proof.Proof.Gen.NormFwdRefIdeal.Run
public import proofs.«01_k».proof.Proof.Gen.NormFwdRefIdeal.Read
public import proofs.«01_k».proof.Proof.Gen.NormFwdRefIdeal
public import proofs.«01_k».proof.Proof.Gen.GateFwd
public import proofs.«01_k».proof.Proof.Gen.GateFwd.Skeleton
public import proofs.«01_k».proof.Proof.Gen.GateFwd.Launch
public import proofs.«01_k».proof.Proof.Gen.GateFwd.Points
public import proofs.«01_k».proof.Proof.Gen.GateFwd.Frame
public import proofs.«01_k».proof.Proof.Gen.GateFwdIdeal
public import proofs.«01_k».proof.Proof.Gen.GateFwdIdeal.Skeleton
public import proofs.«01_k».proof.Proof.Gen.GateFwdIdeal.Launch
public import proofs.«01_k».proof.Proof.Gen.GateFwdIdeal.Points
public import proofs.«01_k».proof.Proof.Gen.GateFwdIdeal.Frame
public import proofs.«01_k».proof.Proof.Gen.GateFwdIdeal.Value
public import proofs.«01_k».proof.Proof.Gen.GateFwdRefIdeal.Run
public import proofs.«01_k».proof.Proof.Gen.GateFwdRefIdeal.Read
public import proofs.«01_k».proof.Proof.Gen.GateFwdRefIdeal
public import proofs.«01_k».proof.Proof.Gen.PostBwd
public import proofs.«01_k».proof.Proof.Gen.PostBwd.Skeleton
public import proofs.«01_k».proof.Proof.Gen.PostBwd.Launch
public import proofs.«01_k».proof.Proof.Gen.PostBwd.Points
public import proofs.«01_k».proof.Proof.Gen.PostBwd.Frame
public import proofs.«01_k».proof.Proof.Gen.PostBwdIdeal
public import proofs.«01_k».proof.Proof.Gen.PostBwdIdeal.Skeleton
public import proofs.«01_k».proof.Proof.Gen.PostBwdIdeal.Launch
public import proofs.«01_k».proof.Proof.Gen.PostBwdIdeal.Points
public import proofs.«01_k».proof.Proof.Gen.PostBwdIdeal.Frame
public import proofs.«01_k».proof.Proof.Gen.PostBwdIdeal.Value
public import proofs.«01_k».proof.Proof.Gen.PostBwdRefIdeal.Run
public import proofs.«01_k».proof.Proof.Gen.PostBwdRefIdeal.Read
public import proofs.«01_k».proof.Proof.Gen.PostBwdRefIdeal
public import proofs.«01_k».proof.Proof.Gen.PostFwd
public import proofs.«01_k».proof.Proof.Gen.PostFwd.Skeleton
public import proofs.«01_k».proof.Proof.Gen.PostFwd.Launch
public import proofs.«01_k».proof.Proof.Gen.PostFwd.Points
public import proofs.«01_k».proof.Proof.Gen.PostFwd.Frame
public import proofs.«01_k».proof.Proof.Gen.PostFwdIdeal
public import proofs.«01_k».proof.Proof.Gen.PostFwdIdeal.Skeleton
public import proofs.«01_k».proof.Proof.Gen.PostFwdIdeal.Launch
public import proofs.«01_k».proof.Proof.Gen.PostFwdIdeal.Points
public import proofs.«01_k».proof.Proof.Gen.PostFwdIdeal.Frame
public import proofs.«01_k».proof.Proof.Gen.PostFwdIdeal.Value
public import proofs.«01_k».proof.Proof.Gen.PostFwdRefIdeal.Run
public import proofs.«01_k».proof.Proof.Gen.PostFwdRefIdeal.Read
public import proofs.«01_k».proof.Proof.Gen.PostFwdRefIdeal
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutIdeal.Value
public import proofs.«01_k».proof.Proof.Gen.AdamOutRefIdeal.Run
public import proofs.«01_k».proof.Proof.Gen.AdamOutRefIdeal.Read
public import proofs.«01_k».proof.Proof.Gen.AdamOutRefIdeal
public import proofs.«01_k».proof.Proof.Gen.AdamBranch
public import proofs.«01_k».proof.Proof.Gen.AdamBranch.Skeleton
public import proofs.«01_k».proof.Proof.Gen.AdamBranch.Launch
public import proofs.«01_k».proof.Proof.Gen.AdamBranch.Points
public import proofs.«01_k».proof.Proof.Gen.AdamBranch.Frame
public import proofs.«01_k».proof.Proof.Gen.AdamBranchIdeal
public import proofs.«01_k».proof.Proof.Gen.AdamBranchIdeal.Skeleton
public import proofs.«01_k».proof.Proof.Gen.AdamBranchIdeal.Launch
public import proofs.«01_k».proof.Proof.Gen.AdamBranchIdeal.Points
public import proofs.«01_k».proof.Proof.Gen.AdamBranchIdeal.Frame
public import proofs.«01_k».proof.Proof.Gen.AdamBranchIdeal.Value
public import proofs.«01_k».proof.Proof.Gen.AdamBranchRefIdeal.Run
public import proofs.«01_k».proof.Proof.Gen.AdamBranchRefIdeal.Read
public import proofs.«01_k».proof.Proof.Gen.AdamBranchRefIdeal
public import proofs.«01_k».proof.Proof.Gen.AdamKv
public import proofs.«01_k».proof.Proof.Gen.AdamKv.Skeleton
public import proofs.«01_k».proof.Proof.Gen.AdamKv.Launch
public import proofs.«01_k».proof.Proof.Gen.AdamKv.Points
public import proofs.«01_k».proof.Proof.Gen.AdamKv.Frame
public import proofs.«01_k».proof.Proof.Gen.AdamKvIdeal
public import proofs.«01_k».proof.Proof.Gen.AdamKvIdeal.Skeleton
public import proofs.«01_k».proof.Proof.Gen.AdamKvIdeal.Launch
public import proofs.«01_k».proof.Proof.Gen.AdamKvIdeal.Points
public import proofs.«01_k».proof.Proof.Gen.AdamKvIdeal.Frame
public import proofs.«01_k».proof.Proof.Gen.AdamKvIdeal.Value
public import proofs.«01_k».proof.Proof.Gen.AdamKvRefIdeal.Run
public import proofs.«01_k».proof.Proof.Gen.AdamKvRefIdeal.Read
public import proofs.«01_k».proof.Proof.Gen.AdamKvRefIdeal
public import proofs.«01_k».proof.Proof.Gen.AdamGlu
public import proofs.«01_k».proof.Proof.Gen.AdamGlu.Skeleton
public import proofs.«01_k».proof.Proof.Gen.AdamGlu.Launch
public import proofs.«01_k».proof.Proof.Gen.AdamGlu.Points
public import proofs.«01_k».proof.Proof.Gen.AdamGlu.Frame
public import proofs.«01_k».proof.Proof.Gen.AdamGluIdeal
public import proofs.«01_k».proof.Proof.Gen.AdamGluIdeal.Skeleton
public import proofs.«01_k».proof.Proof.Gen.AdamGluIdeal.Launch
public import proofs.«01_k».proof.Proof.Gen.AdamGluIdeal.Points
public import proofs.«01_k».proof.Proof.Gen.AdamGluIdeal.Frame
public import proofs.«01_k».proof.Proof.Gen.AdamGluIdeal.Value
public import proofs.«01_k».proof.Proof.Gen.AdamGluRefIdeal.Run
public import proofs.«01_k».proof.Proof.Gen.AdamGluRefIdeal.Read
public import proofs.«01_k».proof.Proof.Gen.AdamGluRefIdeal
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossIdeal.Value
public import proofs.«01_k».proof.Proof.Gen.LossRefIdeal.Run
public import proofs.«01_k».proof.Proof.Gen.LossRefIdeal.Read
public import proofs.«01_k».proof.Proof.Gen.LossRefIdeal
public import proofs.«01_k».proof.Proof.Gen.SumSmall
public import proofs.«01_k».proof.Proof.Gen.SumSmall.Skeleton
public import proofs.«01_k».proof.Proof.Gen.SumSmall.Launch
public import proofs.«01_k».proof.Proof.Gen.SumSmall.Points
public import proofs.«01_k».proof.Proof.Gen.SumSmall.Frame
public import proofs.«01_k».proof.Proof.Gen.SumSmallIdeal
public import proofs.«01_k».proof.Proof.Gen.SumSmallIdeal.Skeleton
public import proofs.«01_k».proof.Proof.Gen.SumSmallIdeal.Launch
public import proofs.«01_k».proof.Proof.Gen.SumSmallIdeal.Points
public import proofs.«01_k».proof.Proof.Gen.SumSmallIdeal.Frame
public import proofs.«01_k».proof.Proof.Gen.SumSmallIdeal.Value
public import proofs.«01_k».proof.Proof.Gen.SumSmallRefIdeal.Run
public import proofs.«01_k».proof.Proof.Gen.SumSmallRefIdeal.Read
public import proofs.«01_k».proof.Proof.Gen.SumSmallRefIdeal
public import proofs.«01_k».proof.Proof.Norm
public import proofs.«01_k».proof.Proof.Post
public import proofs.«01_k».proof.Proof.GateFwd
public import proofs.«01_k».proof.Proof.AdamOut
public import proofs.«01_k».proof.Proof.AdamBranch
public import proofs.«01_k».proof.Proof.AdamKv
public import proofs.«01_k».proof.Proof.AdamGlu
public import proofs.«01_k».proof.Proof.Loss
public import proofs.«01_k».proof.Proof.SumSmall
public import proofs.«01_k».proof.Proof.GateArrays
public import proofs.«01_k».proof.Proof.GateRef
public import proofs.«01_k».proof.Proof.Dwin
public import proofs.«01_k».proof.Proof.Dh
public import proofs.«01_k».proof.Proof.Proj
public import Idealize.ShloMosaic.Adequacy
public import Idealize.ShloMosaic.Init

@[expose] public section

noncomputable section

namespace Cert.Proof

open Idealize.ShloMosaic Idealize.SL.Sem Cert.Kernel

/-- The kernel's six results are the reference's: both are the gradient's arrays of the arguments. -/
theorem algebraic : Cert.algebraic_KernelIdeal_ReferenceIdeal (hKernelIdeal := Cert.KernelIdeal.Gen.facts)
    (hReferenceIdeal := Cert.ReferenceIdeal.Gen.facts) := by
  intro m g m' g' _ hargs
  open Cert.KernelIdeal.Gate in
  refine ⟨fun c => Gate.resHead (n := 2048) (A3 m c) (A4 m c) (A5 m c) (A6 m c) 0,
    fun c => Gate.resHead (n := 2048) (A3 m c) (A4 m c) (A5 m c) (A6 m c) 1,
    fun c => Gate.resS5 (n := 2048) (A3 m c) (A4 m c) (A5 m c) (A6 m c),
    fun c => Gate.resSeg (n := 2048) (A0 m c) (A1 m c) (A2 m c) (A3 m c) (A4 m c) (A5 m c) (A6 m c),
    fun c => Gate.resW (n := 2048) (A0 m c) (A1 m c) (A2 m c) (A3 m c) (A5 m c) (A6 m c),
    fun c => Gate.resT (n := 2048) (A0 m c) (A1 m c) (A2 m c) (A3 m c) (A4 m c) (A6 m c),
    (θ_run (Cert.KernelIdeal.defs (F := Ideal)) _ _).mono (fun r h c => ?_) (Cert.KernelIdeal.Value.run_blocks (F := Ideal) m g),
    (θ_run (Cert.ReferenceIdeal.defs (F := Ideal)) _ _).mono (fun r h c => ?_) (Cert.ReferenceIdeal.Value.run (F := Ideal) m' g')⟩
  · obtain ⟨h0, h1, h2, h3, a0, a1, a2, a3, a4, a5, a6, h4, h5⟩ := h c
    exact ⟨h0.trans (Cert.KernelIdeal.Gate.arr7 m c), h1.trans (Cert.KernelIdeal.Gate.arr8 m c),
      h2.trans (Cert.KernelIdeal.Gate.arr9 m c), h3.trans (Cert.KernelIdeal.Gate.arr10 m c),
      h4.trans (Cert.KernelIdeal.Gate.arrW m c _ _ rfl), h5.trans (Cert.KernelIdeal.Gate.arrT m c _ _ rfl),
      a0, a1, a2, a3, a4, a5, a6⟩
  · obtain ⟨h0, h1, h2, h3, h4, h5, a⟩ := h c
    obtain ⟨e0, e1, e2, e3, e4, e5, e6⟩ := hargs c
    refine ⟨?_, ?_, ?_, ?_, ?_, ?_, a⟩
    · refine h0.trans ((Cert.ReferenceIdeal.Read.val_main_v87_eq _ _ _ _).trans ?_)
      rw [e3, e4, e5, e6]
      exact Cert.ReferenceIdeal.Gate.res0 _ _ _ _
    · refine h1.trans ((Cert.ReferenceIdeal.Read.val_main_v89_eq _ _ _ _).trans ?_)
      rw [e3, e4, e5, e6]
      exact Cert.ReferenceIdeal.Gate.res1 _ _ _ _
    · refine h2.trans ((Cert.ReferenceIdeal.Read.val_main_v71_eq _ _ _ _).trans ?_)
      rw [e3, e4, e5, e6]
      exact Cert.ReferenceIdeal.Gate.res2 _ _ _ _
    · refine h3.trans ((Cert.ReferenceIdeal.Read.val_main_v91_eq m' c).trans ?_)
      rw [e0, e1, e2, e3, e4, e5, e6]
      exact Cert.ReferenceIdeal.Gate.res3 _ _ _ _ _ _ _
    · refine h4.trans ((Cert.ReferenceIdeal.Read.val_main_v85_eq _ _ _ _ _ _).trans ?_)
      rw [e0, e1, e2, e3, e5, e6]
      exact Cert.ReferenceIdeal.Gate.res4 _ _ _ _ _ _
    · refine h5.trans ((Cert.ReferenceIdeal.Read.val_main_v56_eq _ _ _ _ _ _).trans ?_)
      rw [e0, e1, e2, e3, e4, e6]
      exact Cert.ReferenceIdeal.Gate.res5 _ _ _ _ _ _

/-- The reference's run leaves its arguments, and it has no semaphore. -/
theorem frameR : Cert.quiescent_ReferenceIdeal (hReferenceIdeal := Cert.ReferenceIdeal.Gen.facts) := fun m g _ =>
  (θ_run (Cert.ReferenceIdeal.defs (F := Ideal)) _ _).mono
    (fun r h => ⟨fun c => (h c).2.2.2.2.2.2, sem_eq_zero_of_no_sems (by decide) r.2⟩)
    (Cert.ReferenceIdeal.Value.run (F := Ideal) m g)

/-- The three frames, the kernel's printing kept, and the value claim. -/
theorem claim : Cert.Claim :=
  ⟨Cert.Kernel.Gen.facts, Cert.KernelIdeal.Gen.facts, Cert.ReferenceIdeal.Gen.facts,
    Cert.Dwin3.Gen.facts, Cert.Dwin3Ideal.Gen.facts, Cert.Dwin3RefIdeal.Gen.facts,
    Cert.Dwin1.Gen.facts, Cert.Dwin1Ideal.Gen.facts, Cert.Dwin1RefIdeal.Gen.facts,
    Cert.Dwin0.Gen.facts, Cert.Dwin0Ideal.Gen.facts, Cert.Dwin0RefIdeal.Gen.facts,
    Cert.Dwin2.Gen.facts, Cert.Dwin2Ideal.Gen.facts, Cert.Dwin2RefIdeal.Gen.facts,
    Cert.Dh3.Gen.facts, Cert.Dh3Ideal.Gen.facts, Cert.Dh3RefIdeal.Gen.facts,
    Cert.Dh1.Gen.facts, Cert.Dh1Ideal.Gen.facts, Cert.Dh1RefIdeal.Gen.facts,
    Cert.Dh0.Gen.facts, Cert.Dh0Ideal.Gen.facts, Cert.Dh0RefIdeal.Gen.facts,
    Cert.Dh2.Gen.facts, Cert.Dh2Ideal.Gen.facts, Cert.Dh2RefIdeal.Gen.facts,
    Cert.Proj3.Gen.facts, Cert.Proj3Ideal.Gen.facts, Cert.Proj3RefIdeal.Gen.facts,
    Cert.Proj1.Gen.facts, Cert.Proj1Ideal.Gen.facts, Cert.Proj1RefIdeal.Gen.facts,
    Cert.Proj0.Gen.facts, Cert.Proj0Ideal.Gen.facts, Cert.Proj0RefIdeal.Gen.facts,
    Cert.Proj2.Gen.facts, Cert.Proj2Ideal.Gen.facts, Cert.Proj2RefIdeal.Gen.facts,
    Cert.NormBwd.Gen.facts, Cert.NormBwdIdeal.Gen.facts, Cert.NormBwdRefIdeal.Gen.facts,
    Cert.NormFwd.Gen.facts, Cert.NormFwdIdeal.Gen.facts, Cert.NormFwdRefIdeal.Gen.facts,
    Cert.GateFwd.Gen.facts, Cert.GateFwdIdeal.Gen.facts, Cert.GateFwdRefIdeal.Gen.facts,
    Cert.PostBwd.Gen.facts, Cert.PostBwdIdeal.Gen.facts, Cert.PostBwdRefIdeal.Gen.facts,
    Cert.PostFwd.Gen.facts, Cert.PostFwdIdeal.Gen.facts, Cert.PostFwdRefIdeal.Gen.facts,
    Cert.AdamOut.Gen.facts, Cert.AdamOutIdeal.Gen.facts, Cert.AdamOutRefIdeal.Gen.facts,
    Cert.AdamBranch.Gen.facts, Cert.AdamBranchIdeal.Gen.facts, Cert.AdamBranchRefIdeal.Gen.facts,
    Cert.AdamKv.Gen.facts, Cert.AdamKvIdeal.Gen.facts, Cert.AdamKvRefIdeal.Gen.facts,
    Cert.AdamGlu.Gen.facts, Cert.AdamGluIdeal.Gen.facts, Cert.AdamGluRefIdeal.Gen.facts,
    Cert.Loss.Gen.facts, Cert.LossIdeal.Gen.facts, Cert.LossRefIdeal.Gen.facts,
    Cert.SumSmall.Gen.facts, Cert.SumSmallIdeal.Gen.facts, Cert.SumSmallRefIdeal.Gen.facts,
    fun m g _ => Cert.Kernel.Gen.frame m g, fun m g _ => Cert.KernelIdeal.Gen.frame m g, frameR,
    fun m g _ => Cert.Dwin3.Gen.frame m g, fun m g _ => Cert.Dwin3Ideal.Gen.frame m g, Cert.Dwin3RefIdeal.Product.frame,
    fun m g _ => Cert.Dwin1.Gen.frame m g, fun m g _ => Cert.Dwin1Ideal.Gen.frame m g, Cert.Dwin1RefIdeal.Product.frame,
    fun m g _ => Cert.Dwin0.Gen.frame m g, fun m g _ => Cert.Dwin0Ideal.Gen.frame m g, Cert.Dwin0RefIdeal.Product.frame,
    fun m g _ => Cert.Dwin2.Gen.frame m g, fun m g _ => Cert.Dwin2Ideal.Gen.frame m g, Cert.Dwin2RefIdeal.Product.frame,
    fun m g _ => Cert.Dh3.Gen.frame m g, fun m g _ => Cert.Dh3Ideal.Gen.frame m g, Cert.Dh3RefIdeal.Product.frame,
    fun m g _ => Cert.Dh1.Gen.frame m g, fun m g _ => Cert.Dh1Ideal.Gen.frame m g, Cert.Dh1RefIdeal.Product.frame,
    fun m g _ => Cert.Dh0.Gen.frame m g, fun m g _ => Cert.Dh0Ideal.Gen.frame m g, Cert.Dh0RefIdeal.Product.frame,
    fun m g _ => Cert.Dh2.Gen.frame m g, fun m g _ => Cert.Dh2Ideal.Gen.frame m g, Cert.Dh2RefIdeal.Product.frame,
    fun m g _ => Cert.Proj3.Gen.frame m g, fun m g _ => Cert.Proj3Ideal.Gen.frame m g, Cert.Proj3RefIdeal.Product.frame,
    fun m g _ => Cert.Proj1.Gen.frame m g, fun m g _ => Cert.Proj1Ideal.Gen.frame m g, Cert.Proj1RefIdeal.Product.frame,
    fun m g _ => Cert.Proj0.Gen.frame m g, fun m g _ => Cert.Proj0Ideal.Gen.frame m g, Cert.Proj0RefIdeal.Product.frame,
    fun m g _ => Cert.Proj2.Gen.frame m g, fun m g _ => Cert.Proj2Ideal.Gen.frame m g, Cert.Proj2RefIdeal.Product.frame,
    fun m g _ => Cert.NormBwd.Gen.frame m g, fun m g _ => Cert.NormBwdIdeal.Gen.frame m g, Cert.NormBwdRefIdeal.Product.frame,
    fun m g _ => Cert.NormFwd.Gen.frame m g, fun m g _ => Cert.NormFwdIdeal.Gen.frame m g, Cert.NormFwdRefIdeal.Product.frame,
    fun m g _ => Cert.GateFwd.Gen.frame m g, fun m g _ => Cert.GateFwdIdeal.Gen.frame m g, Cert.GateFwdRefIdeal.Product.frame,
    fun m g _ => Cert.PostBwd.Gen.frame m g, fun m g _ => Cert.PostBwdIdeal.Gen.frame m g, Cert.PostBwdRefIdeal.Product.frame,
    fun m g _ => Cert.PostFwd.Gen.frame m g, fun m g _ => Cert.PostFwdIdeal.Gen.frame m g, Cert.PostFwdRefIdeal.Product.frame,
    fun m g _ => Cert.AdamOut.Gen.frame m g, fun m g _ => Cert.AdamOutIdeal.Gen.frame m g, Cert.AdamOutRefIdeal.Product.frame,
    fun m g _ => Cert.AdamBranch.Gen.frame m g, fun m g _ => Cert.AdamBranchIdeal.Gen.frame m g, Cert.AdamBranchRefIdeal.Product.frame,
    fun m g _ => Cert.AdamKv.Gen.frame m g, fun m g _ => Cert.AdamKvIdeal.Gen.frame m g, Cert.AdamKvRefIdeal.Product.frame,
    fun m g _ => Cert.AdamGlu.Gen.frame m g, fun m g _ => Cert.AdamGluIdeal.Gen.frame m g, Cert.AdamGluRefIdeal.Product.frame,
    fun m g _ => Cert.Loss.Gen.frame m g, fun m g _ => Cert.LossIdeal.Gen.frame m g, Cert.LossRefIdeal.Product.frame,
    fun m g _ => Cert.SumSmall.Gen.frame m g, fun m g _ => Cert.SumSmallIdeal.Gen.frame m g, Cert.SumSmallRefIdeal.Product.frame,
    trivial, algebraic,
    trivial, Cert.Dwin3RefIdeal.Product.algebraic,
    trivial, Cert.Dwin1RefIdeal.Product.algebraic,
    trivial, Cert.Dwin0RefIdeal.Product.algebraic,
    trivial, Cert.Dwin2RefIdeal.Product.algebraic,
    trivial, Cert.Dh3RefIdeal.Product.algebraic,
    trivial, Cert.Dh1RefIdeal.Product.algebraic,
    trivial, Cert.Dh0RefIdeal.Product.algebraic,
    trivial, Cert.Dh2RefIdeal.Product.algebraic,
    trivial, Cert.Proj3RefIdeal.Product.algebraic,
    trivial, Cert.Proj1RefIdeal.Product.algebraic,
    trivial, Cert.Proj0RefIdeal.Product.algebraic,
    trivial, Cert.Proj2RefIdeal.Product.algebraic,
    trivial, Cert.NormBwdRefIdeal.Product.algebraic,
    trivial, Cert.NormFwdRefIdeal.Product.algebraic,
    trivial, Cert.GateFwdRefIdeal.Product.algebraic,
    trivial, Cert.PostBwdRefIdeal.Product.algebraic,
    trivial, Cert.PostFwdRefIdeal.Product.algebraic,
    trivial, Cert.AdamOutRefIdeal.Product.algebraic,
    trivial, Cert.AdamBranchRefIdeal.Product.algebraic,
    trivial, Cert.AdamKvRefIdeal.Product.algebraic,
    trivial, Cert.AdamGluRefIdeal.Product.algebraic,
    trivial, Cert.LossRefIdeal.Product.algebraic,
    trivial, Cert.SumSmallRefIdeal.Product.algebraic⟩

end Cert.Proof

end
